-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite [hPre_finite : Cert.Pre_finite.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6))).1 = (fun _ => 1#1)
    ∧ (Cert.Pre_finite.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6))).2.1 = (fun _ => 1#1)
    ∧ (Cert.Pre_finite.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6))).2.2.1 = (fun _ => 1#1)
    ∧ (Cert.Pre_finite.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6))).2.2.2.1 = (fun _ => 1#1)
    ∧ (Cert.Pre_finite.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6))).2.2.2.2.1 = (fun _ => 1#1)
    ∧ (Cert.Pre_finite.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6))).2.2.2.2.2 = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite [hPre_finite : Cert.Pre_finite.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6))).1 = (fun _ => 1#1)
    ∧ (Cert.Pre_finite.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6))).2.1 = (fun _ => 1#1)
    ∧ (Cert.Pre_finite.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6))).2.2.1 = (fun _ => 1#1)
    ∧ (Cert.Pre_finite.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6))).2.2.2.1 = (fun _ => 1#1)
    ∧ (Cert.Pre_finite.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6))).2.2.2.2.1 = (fun _ => 1#1)
    ∧ (Cert.Pre_finite.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ r.2.sem = fun _ => 0)

def quiescent_Kernel17Ideal_pre_finite [hKernel17Ideal : Cert.Kernel17Ideal.Facts] [hPre_finite : Cert.Pre_finite.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6))
      ∧ r.2.sem = fun _ => 0)

def quiescent_Reference17Ideal_pre_finite [hReference17Ideal : Cert.Reference17Ideal.Facts] [hPre_finite : Cert.Pre_finite.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v121) = v2 c
          ∧ r.2.mem ((c.tc : Thread Cert.ReferenceIdeal.nD Cert.ReferenceIdeal.τ).loc Cert.ReferenceIdeal.main_v122) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_v29_6) = v1 c
          ∧ r.2.mem ((c.tc : Thread Cert.Reference2Ideal.nD Cert.Reference2Ideal.τ).loc Cert.Reference2Ideal.main_v60) = v2 c
          ∧ r.2.mem ((c.tc : Thread Cert.Reference2Ideal.nD Cert.Reference2Ideal.τ).loc Cert.Reference2Ideal.main_v61) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v31)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v31) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v47) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v29_0)) (v1 : (c : Dev Cert.Kernel12Ideal.nD) → Buf (Elt Ideal) ((c.tc : Thread Cert.Kernel12Ideal.nD Cert.Kernel12Ideal.τ).loc Cert.Kernel12Ideal.main_v29_1)) (v2 : (c : Dev Cert.Kernel12Ideal.nD) → Buf (Elt Ideal) ((c.tc : Thread Cert.Kernel12Ideal.nD Cert.Kernel12Ideal.τ).loc Cert.Kernel12Ideal.main_v29_2)) (v3 : (c : Dev Cert.Kernel12Ideal.nD) → Buf (Elt Ideal) ((c.tc : Thread Cert.Kernel12Ideal.nD Cert.Kernel12Ideal.τ).loc Cert.Kernel12Ideal.main_v29_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v29_0) = v0 c
          ∧ r.2.mem ((c.tc : Thread Cert.Kernel12Ideal.nD Cert.Kernel12Ideal.τ).loc Cert.Kernel12Ideal.main_v29_1) = v1 c
          ∧ r.2.mem ((c.tc : Thread Cert.Kernel12Ideal.nD Cert.Kernel12Ideal.τ).loc Cert.Kernel12Ideal.main_v29_2) = v2 c
          ∧ r.2.mem ((c.tc : Thread Cert.Kernel12Ideal.nD Cert.Kernel12Ideal.τ).loc Cert.Kernel12Ideal.main_v29_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v22) = v0 c
          ∧ r.2.mem ((c.tc : Thread Cert.Reference12Ideal.nD Cert.Reference12Ideal.τ).loc Cert.Reference12Ideal.main_v37) = v1 c
          ∧ r.2.mem ((c.tc : Thread Cert.Reference12Ideal.nD Cert.Reference12Ideal.τ).loc Cert.Reference12Ideal.main_v72) = v2 c
          ∧ r.2.mem ((c.tc : Thread Cert.Reference12Ideal.nD Cert.Reference12Ideal.τ).loc Cert.Reference12Ideal.main_v73) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v29) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v2_0)) (v1 : (c : Dev Cert.Kernel14Ideal.nD) → Buf (Elt Ideal) ((c.tc : Thread Cert.Kernel14Ideal.nD Cert.Kernel14Ideal.τ).loc Cert.Kernel14Ideal.main_v2_1)) (v2 : (c : Dev Cert.Kernel14Ideal.nD) → Buf (Elt Ideal) ((c.tc : Thread Cert.Kernel14Ideal.nD Cert.Kernel14Ideal.τ).loc Cert.Kernel14Ideal.main_v2_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2_0) = v0 c
          ∧ r.2.mem ((c.tc : Thread Cert.Kernel14Ideal.nD Cert.Kernel14Ideal.τ).loc Cert.Kernel14Ideal.main_v2_1) = v1 c
          ∧ r.2.mem ((c.tc : Thread Cert.Kernel14Ideal.nD Cert.Kernel14Ideal.τ).loc Cert.Kernel14Ideal.main_v2_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v30) = v0 c
          ∧ r.2.mem ((c.tc : Thread Cert.Reference14Ideal.nD Cert.Reference14Ideal.τ).loc Cert.Reference14Ideal.main_v31) = v1 c
          ∧ r.2.mem ((c.tc : Thread Cert.Reference14Ideal.nD Cert.Reference14Ideal.τ).loc Cert.Reference14Ideal.main_v3) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v20) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v20) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal_pre_finite [hKernel17Ideal : Cert.Kernel17Ideal.Facts] [hReference17Ideal : Cert.Reference17Ideal.Facts] [hPre_finite : Cert.Pre_finite.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)) →
    ∃ (v0 : (c : Dev Cert.Kernel17Ideal.nD) → Buf (Elt Ideal) ((c.tc : Thread Cert.Kernel17Ideal.nD Cert.Kernel17Ideal.τ).loc Cert.Kernel17Ideal.main_v8)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v8) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v53) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_finite (hKernel17Ideal := hKernel17Ideal) (hPre_finite := hPre_finite)
    ∧ quiescent_Reference17Ideal (hReference17Ideal := hReference17Ideal)
    ∧ quiescent_Reference17Ideal_pre_finite (hReference17Ideal := hReference17Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_finite (hKernel17Ideal := hKernel17Ideal) (hReference17Ideal := hReference17Ideal) (hPre_finite := hPre_finite)
-- ==== Pre_finite.lean ====
abbrev S32x10240x192 : Shape := ⟨3, ![32, 10240, 192]⟩
abbrev S1x32x1024x512 : Shape := ⟨4, ![1, 32, 1024, 512]⟩
abbrev S1x32x1024x64 : Shape := ⟨4, ![1, 32, 1024, 64]⟩
abbrev S10240x512 : Shape := ⟨2, ![10240, 512]⟩
abbrev S10240x64 : Shape := ⟨2, ![10240, 64]⟩
abbrev S1x512x32x128 : Shape := ⟨4, ![1, 512, 32, 128]⟩
abbrev S_ : Shape := ⟨0, ![]⟩

class Facts : Prop where
  bitsLt_bf16_f32 : FTy.bits .bf16 < FTy.bits .f32
  bcast_S_S32x10240x192 : S_.BroadcastsInDim S32x10240x192 (![] : Fin 0 → Fin S32x10240x192.rank)
  bcast_S_S1x32x1024x512 : S_.BroadcastsInDim S1x32x1024x512 (![] : Fin 0 → Fin S1x32x1024x512.rank)
  bcast_S_S1x32x1024x64 : S_.BroadcastsInDim S1x32x1024x64 (![] : Fin 0 → Fin S1x32x1024x64.rank)
  bcast_S_S10240x512 : S_.BroadcastsInDim S10240x512 (![] : Fin 0 → Fin S10240x512.rank)
  bcast_S_S10240x64 : S_.BroadcastsInDim S10240x64 (![] : Fin 0 → Fin S10240x64.rank)
  bcast_S_S1x512x32x128 : S_.BroadcastsInDim S1x512x32x128 (![] : Fin 0 → Fin S1x512x32x128.rank)

variable [Facts]

def fn_part1 {F : FTy → Type} [FloatOps F] (main_v3 : IVec S32x10240x192 1) (main_v6 : IVec S1x32x1024x512 1) (main_v9 : IVec S1x32x1024x64 1) (main_v12 : IVec S10240x512 1) (main_v15 : IVec S10240x64 1) (main_v16 : FVec F S1x512x32x128 .f32) (main_v17 : FVec F S1x512x32x128 .f32) : IVec S32x10240x192 1 × IVec S1x32x1024x512 1 × IVec S1x32x1024x64 1 × IVec S10240x512 1 × IVec S10240x64 1 × IVec S1x512x32x128 1 :=
  let main_v18 : IVec S1x512x32x128 1 := cmpf .olt main_v16 main_v17
  (main_v3, main_v6, main_v9, main_v12, main_v15, main_v18)

def fn {F : FTy → Type} [FloatOps F] (main_arg0 : FVec F S32x10240x192 .bf16) (main_arg1 : FVec F S1x32x1024x512 .f32) (main_arg2 : FVec F S1x32x1024x64 .f32) (main_arg3 : FVec F S10240x512 .f32) (main_arg4 : FVec F S10240x64 .f32) (main_arg5 : FVec F S1x512x32x128 .f32) (main_arg6 : FVec F S1x512x32x128 .f32) : IVec S32x10240x192 1 × IVec S1x32x1024x512 1 × IVec S1x32x1024x64 1 × IVec S10240x512 1 × IVec S10240x64 1 × IVec S1x512x32x128 1 :=
  let main_v0 : FVec F S32x10240x192 .f32 := (extf .f32 · bitsLt_bf16_f32) main_arg0
  let main_v1 : FVec F S32x10240x192 .f32 := Host.absf main_v0
  let main_cst : FVec F S_ .f32 := constant S_ .f32 0x7F800000#32
  let main_v2 : FVec F S32x10240x192 .f32 := broadcastInDim S32x10240x192 ![] bcast_S_S32x10240x192 main_cst
  let main_v3 : IVec S32x10240x192 1 := cmpf .olt main_v1 main_v2
  let main_v4 : FVec F S1x32x1024x512 .f32 := Host.absf main_arg1
  let main_cst_0 : FVec F S_ .f32 := constant S_ .f32 0x7F800000#32
  let main_v5 : FVec F S1x32x1024x512 .f32 := broadcastInDim S1x32x1024x512 ![] bcast_S_S1x32x1024x512 main_cst_0
  let main_v6 : IVec S1x32x1024x512 1 := cmpf .olt main_v4 main_v5
  let main_v7 : FVec F S1x32x1024x64 .f32 := Host.absf main_arg2
  let main_cst_1 : FVec F S_ .f32 := constant S_ .f32 0x7F800000#32
  let main_v8 : FVec F S1x32x1024x64 .f32 := broadcastInDim S1x32x1024x64 ![] bcast_S_S1x32x1024x64 main_cst_1
  let main_v9 : IVec S1x32x1024x64 1 := cmpf .olt main_v7 main_v8
  let main_v10 : FVec F S10240x512 .f32 := Host.absf main_arg3
  let main_cst_2 : FVec F S_ .f32 := constant S_ .f32 0x7F800000#32
  let main_v11 : FVec F S10240x512 .f32 := broadcastInDim S10240x512 ![] bcast_S_S10240x512 main_cst_2
  let main_v12 : IVec S10240x512 1 := cmpf .olt main_v10 main_v11
  let main_v13 : FVec F S10240x64 .f32 := Host.absf main_arg4
  let main_cst_3 : FVec F S_ .f32 := constant S_ .f32 0x7F800000#32
  let main_v14 : FVec F S10240x64 .f32 := broadcastInDim S10240x64 ![] bcast_S_S10240x64 main_cst_3
  let main_v15 : IVec S10240x64 1 := cmpf .olt main_v13 main_v14
  let main_v16 : FVec F S1x512x32x128 .f32 := Host.absf main_arg5
  let main_cst_4 : FVec F S_ .f32 := constant S_ .f32 0x7F800000#32
  let main_v17 : FVec F S1x512x32x128 .f32 := broadcastInDim S1x512x32x128 ![] bcast_S_S1x512x32x128 main_cst_4
  fn_part1 (F := F) main_v3 main_v6 main_v9 main_v12 main_v15 main_v16 main_v17
-- ==== Kernel.lean ====
abbrev S10240x12288 : Shape := ⟨2, ![10240, 12288]⟩
abbrev S10240x16 : Shape := ⟨2, ![10240, 16]⟩
abbrev S1x4096 : Shape := ⟨2, ![1, 4096]⟩
abbrev S1x32x8x256x512 : Shape := ⟨5, ![1, 32, 8, 256, 512]⟩
abbrev S1x32x8x256 : Shape := ⟨4, ![1, 32, 8, 256]⟩
abbrev S1x32x8 : Shape := ⟨3, ![1, 32, 8]⟩
abbrev S32x8x256x512 : Shape := ⟨4, ![32, 8, 256, 512]⟩
abbrev S32x8x256 : Shape := ⟨3, ![32, 8, 256]⟩
abbrev S32x8x1x256 : Shape := ⟨4, ![32, 8, 1, 256]⟩
abbrev S32x8 : Shape := ⟨2, ![32, 8]⟩
abbrev S32x8x1x1 : Shape := ⟨4, ![32, 8, 1, 1]⟩
abbrev S2048x4096 : Shape := ⟨2, ![2048, 4096]⟩
abbrev S64x2048 : Shape := ⟨2, ![64, 2048]⟩
abbrev S64x4096 : Shape := ⟨2, ![64, 4096]⟩
abbrev S64x16 : Shape := ⟨2, ![64, 16]⟩
abbrev S1x8x256x512 : Shape := ⟨4, ![1, 8, 256, 512]⟩
abbrev S1x8x1x256 : Shape := ⟨4, ![1, 8, 1, 256]⟩
abbrev S1x8x1x1 : Shape := ⟨4, ![1, 8, 1, 1]⟩
abbrev S64x256 : Shape := ⟨2, ![64, 256]⟩
abbrev S64x512 : Shape := ⟨2, ![64, 512]⟩
abbrev S64x1 : Shape := ⟨2, ![64, 1]⟩
abbrev S1x512 : Shape := ⟨2, ![1, 512]⟩
abbrev S1x1x256x512 : Shape := ⟨4, ![1, 1, 256, 512]⟩
abbrev S256x512 : Shape := ⟨2, ![256, 512]⟩
abbrev S1x1x1x256 : Shape := ⟨4, ![1, 1, 1, 256]⟩
abbrev S1x256 : Shape := ⟨2, ![1, 256]⟩
abbrev S1x1x1x1 : Shape := ⟨4, ![1, 1, 1, 1]⟩
abbrev S1x1 : Shape := ⟨2, ![1, 1]⟩
abbrev S64x64 : Shape := ⟨2, ![64, 64]⟩
abbrev S64 : Shape := ⟨1, ![64]⟩
abbrev S1x64 : Shape := ⟨2, ![1, 64]⟩
abbrev S1 : Shape := ⟨1, ![1]⟩
abbrev S256x64 : Shape := ⟨2, ![256, 64]⟩
abbrev S256 : Shape := ⟨1, ![256]⟩

abbrev nBuf : Space → Nat
  | .hbm => 15
  | .vmem => 25
  | .smem => 0
  | _ => 0

abbrev bufTy : (tb : Table) → Fin (tcTables nBuf tb) → BufTy
  | .hbm, ⟨0, _⟩ => ⟨S10240x12288, .bf16⟩
  | .hbm, ⟨1, _⟩ => ⟨S10240x16, .f32⟩
  | .hbm, ⟨2, _⟩ => ⟨S1x4096, .f32⟩
  | .hbm, ⟨3, _⟩ => ⟨S1x32x8x256x512, .f32⟩
  | .hbm, ⟨4, _⟩ => ⟨S1x32x8x256, .f32⟩
  | .hbm, ⟨5, _⟩ => ⟨S1x32x8, .f32⟩
  | .hbm, ⟨6, _⟩ => ⟨S32x8x256x512, .f32⟩
  | .hbm, ⟨7, _⟩ => ⟨S32x8x256, .f32⟩
  | .hbm, ⟨8, _⟩ => ⟨S32x8x1x256, .f32⟩
  | .hbm, ⟨9, _⟩ => ⟨S32x8, .f32⟩
  | .hbm, ⟨10, _⟩ => ⟨S32x8x1x1, .f32⟩
  | .hbm, ⟨11, _⟩ => ⟨S2048x4096, .bf16⟩
  | .hbm, ⟨12, _⟩ => ⟨S32x8x256x512, .f32⟩
  | .hbm, ⟨13, _⟩ => ⟨S32x8x1x256, .f32⟩
  | .hbm, ⟨14, _⟩ => ⟨S32x8x1x1, .f32⟩
  | .local _ .vmem, ⟨0, _⟩ => ⟨S64x2048, .bf16⟩
  | .local _ .vmem, ⟨1, _⟩ => ⟨S64x2048, .bf16⟩
  | .local _ .vmem, ⟨2, _⟩ => ⟨S64x2048, .bf16⟩
  | .local _ .vmem, ⟨3, _⟩ => ⟨S64x2048, .bf16⟩
  | .local _ .vmem, ⟨4, _⟩ => ⟨S64x4096, .bf16⟩
  | .local _ .vmem, ⟨5, _⟩ => ⟨S64x4096, .bf16⟩
  | .local _ .vmem, ⟨6, _⟩ => ⟨S64x4096, .bf16⟩
  | .local _ .vmem, ⟨7, _⟩ => ⟨S64x4096, .bf16⟩
  | .local _ .vmem, ⟨8, _⟩ => ⟨S64x16, .f32⟩
  | .local _ .vmem, ⟨9, _⟩ => ⟨S64x16, .f32⟩
  | .local _ .vmem, ⟨10, _⟩ => ⟨S1x4096, .f32⟩
  | .local _ .vmem, ⟨11, _⟩ => ⟨S1x8x256x512, .f32⟩
  | .local _ .vmem, ⟨12, _⟩ => ⟨S1x8x256x512, .f32⟩
  | .local _ .vmem, ⟨13, _⟩ => ⟨S1x8x1x256, .f32⟩
  | .local _ .vmem, ⟨14, _⟩ => ⟨S1x8x1x256, .f32⟩
  | .local _ .vmem, ⟨15, _⟩ => ⟨S1x8x1x1, .f32⟩
  | .local _ .vmem, ⟨16, _⟩ => ⟨S1x8x1x1, .f32⟩
  | .local _ .vmem, ⟨17, _⟩ => ⟨S64x4096, .bf16⟩
  | .local _ .vmem, ⟨18, _⟩ => ⟨S64x4096, .bf16⟩
  | .local _ .vmem, ⟨19, _⟩ => ⟨S1x8x256x512, .f32⟩
  | .local _ .vmem, ⟨20, _⟩ => ⟨S1x8x256x512, .f32⟩
  | .local _ .vmem, ⟨21, _⟩ => ⟨S1x8x1x256, .f32⟩
  | .local _ .vmem, ⟨22, _⟩ => ⟨S1x8x1x256, .f32⟩
  | .local _ .vmem, ⟨23, _⟩ => ⟨S1x8x1x1, .f32⟩
  | .local _ .vmem, ⟨24, _⟩ => ⟨S1x8x1x1, .f32⟩
  | _, _ => ⟨S10240x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg1
  let c1_i32_0 : BitVec 32 := 1#32
  let c0_i32 : BitVec 32 := 0#32
  ![v2.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg1
  let c1_i32_0 : BitVec 32 := 1#32
  let c0_i32 : BitVec 32 := 0#32
  ![v2.toNat, c1_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg1
  let c2_i32 : BitVec 32 := 2#32
  let c0_i32 : BitVec 32 := 0#32
  ![v2.toNat, c2_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg1
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S64x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x8x1x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S10240x12288 : Shape := ⟨2, ![10240, 12288]⟩
abbrev S10240x16 : Shape := ⟨2, ![10240, 16]⟩
abbrev S1x4096 : Shape := ⟨2, ![1, 4096]⟩
abbrev S1x32x8x256x512 : Shape := ⟨5, ![1, 32, 8, 256, 512]⟩
abbrev S1x32x8x256 : Shape := ⟨4, ![1, 32, 8, 256]⟩
abbrev S1x32x8 : Shape := ⟨3, ![1, 32, 8]⟩
abbrev S2048x12288 : Shape := ⟨2, ![2048, 12288]⟩
abbrev S2048x16 : Shape := ⟨2, ![2048, 16]⟩
abbrev S32x64x12288 : Shape := ⟨3, ![32, 64, 12288]⟩
abbrev S32x64x16 : Shape := ⟨3, ![32, 64, 16]⟩
abbrev S32x64x2048 : Shape := ⟨3, ![32, 64, 2048]⟩
abbrev S32x64x8x256 : Shape := ⟨4, ![32, 64, 8, 256]⟩
abbrev S_ : Shape := ⟨0, ![]⟩
abbrev S32x64x4096 : Shape := ⟨3, ![32, 64, 4096]⟩
abbrev S32x64x8x512 : Shape := ⟨4, ![32, 64, 8, 512]⟩
abbrev S32x64x8 : Shape := ⟨3, ![32, 64, 8]⟩
abbrev S32x8x256x512 : Shape := ⟨4, ![32, 8, 256, 512]⟩
abbrev S32x8x256 : Shape := ⟨3, ![32, 8, 256]⟩
abbrev S32x8 : Shape := ⟨2, ![32, 8]⟩
abbrev S32x1x8 : Shape := ⟨3, ![32, 1, 8]⟩
abbrev S64x64 : Shape := ⟨2, ![64, 64]⟩
abbrev S1x64x64x1 : Shape := ⟨4, ![1, 64, 64, 1]⟩
abbrev S32x64x1x8 : Shape := ⟨4, ![32, 64, 1, 8]⟩
abbrev S32x1x64x8 : Shape := ⟨4, ![32, 1, 64, 8]⟩
abbrev S32x64x64x8 : Shape := ⟨4, ![32, 64, 64, 8]⟩
abbrev S32x8x64x64 : Shape := ⟨4, ![32, 8, 64, 64]⟩
abbrev S32x8x512x64 : Shape := ⟨4, ![32, 8, 512, 64]⟩
abbrev S32x64x8x1 : Shape := ⟨4, ![32, 64, 8, 1]⟩
abbrev S32x8x64 : Shape := ⟨3, ![32, 8, 64]⟩
abbrev S32x8x1x1 : Shape := ⟨4, ![32, 8, 1, 1]⟩
abbrev S32x8x1 : Shape := ⟨3, ![32, 8, 1]⟩
abbrev S2048x4096 : Shape := ⟨2, ![2048, 4096]⟩
abbrev S8x512 : Shape := ⟨2, ![8, 512]⟩
abbrev S1x1x8x512 : Shape := ⟨4, ![1, 1, 8, 512]⟩
abbrev S32x8x1x256 : Shape := ⟨4, ![32, 8, 1, 256]⟩

abbrev nBuf : Space → Nat
  | .hbm => 153
  | .vmem => 0
  | .smem => 0
  | _ => 0

abbrev hbmTy0_0 (i : Nat) : BufTy := match i % 128 with
  | 0 => ⟨S10240x12288, .bf16⟩
  | 1 => ⟨S10240x16, .f32⟩
  | 2 => ⟨S1x4096, .f32⟩
  | 3 => ⟨S1x32x8x256x512, .f32⟩
  | 4 => ⟨S1x32x8x256, .f32⟩
  | 5 => ⟨S1x32x8, .f32⟩
  | 6 => ⟨S2048x12288, .bf16⟩
  | 7 => ⟨S2048x16, .f32⟩
  | 8 => ⟨S2048x12288, .f32⟩
  | 9 => ⟨S32x64x12288, .f32⟩
  | 10 => ⟨S32x64x16, .f32⟩
  | 11 => ⟨S32x64x2048, .f32⟩
  | 12 => ⟨S32x64x8x256, .f32⟩
  | 13 => ⟨S_, .f32⟩
  | 14 => ⟨S32x64x8x256, .f32⟩
  | 15 => ⟨S32x64x8x256, .f32⟩
  | 16 => ⟨S32x64x2048, .f32⟩
  | 17 => ⟨S32x64x8x256, .f32⟩
  | 18 => ⟨S32x64x4096, .f32⟩
  | 19 => ⟨S32x64x8x512, .f32⟩
  | 20 => ⟨S32x64x8, .f32⟩
  | 21 => ⟨S32x64x8, .f32⟩
  | 22 => ⟨S32x8x256x512, .f32⟩
  | 23 => ⟨S32x8x256, .f32⟩
  | 24 => ⟨S32x8, .f32⟩
  | 25 => ⟨S_, .f32⟩
  | 26 => ⟨S_, .f32⟩
  | 27 => ⟨S32x64x8, .f32⟩
  | 28 => ⟨S32x1x8, .f32⟩
  | 29 => ⟨S32x64x8, .f32⟩
  | 30 => ⟨S32x64x8, .f32⟩
  | 31 => ⟨S_, .i1⟩
  | 32 => ⟨S64x64, .i1⟩
  | 33 => ⟨S64x64, .i32⟩
  | 34 => ⟨S_, .i32⟩
  | 35 => ⟨S64x64, .i32⟩
  | 36 => ⟨S64x64, .i32⟩
  | 37 => ⟨S64x64, .i32⟩
  | 38 => ⟨S64x64, .i1⟩
  | 39 => ⟨S_, .i1⟩
  | 40 => ⟨S64x64, .i1⟩
  | 41 => ⟨S64x64, .i1⟩
  | 42 => ⟨S1x64x64x1, .i1⟩
  | 43 => ⟨S32x64x1x8, .f32⟩
  | 44 => ⟨S32x1x64x8, .f32⟩
  | 45 => ⟨S32x64x64x8, .f32⟩
  | 46 => ⟨S32x64x64x8, .f32⟩
  | 47 => ⟨S32x64x64x8, .f32⟩
  | 48 => ⟨S32x1x64x8, .f32⟩
  | 49 => ⟨S32x64x64x8, .f32⟩
  | 50 => ⟨S32x64x64x8, .f32⟩
  | 51 => ⟨S_, .f32⟩
  | 52 => ⟨S_, .f32⟩
  | 53 => ⟨S32x64x64x8, .i1⟩
  | 54 => ⟨S32x64x64x8, .f32⟩
  | 55 => ⟨S32x64x64x8, .f32⟩
  | 56 => ⟨S_, .f32⟩
  | 57 => ⟨S32x64x8, .f32⟩
  | 58 => ⟨S32x64x8, .f32⟩
  | 59 => ⟨S32x64x8, .f32⟩
  | 60 => ⟨S32x64x8, .f32⟩
  | 61 => ⟨S32x64x1x8, .f32⟩
  | 62 => ⟨S32x64x64x8, .f32⟩
  | 63 => ⟨S32x64x64x8, .f32⟩
  | 64 => ⟨S32x64x64x8, .f32⟩
  | 65 => ⟨S32x8x64x64, .f32⟩
  | 66 => ⟨S32x64x64x8, .f32⟩
  | 67 => ⟨S32x64x64x8, .f32⟩
  | 68 => ⟨S32x8x512x64, .f32⟩
  | 69 => ⟨S32x64x8x512, .f32⟩
  | 70 => ⟨S32x64x8x1, .f32⟩
  | 71 => ⟨S32x8x512x64, .f32⟩
  | 72 => ⟨S32x64x8x512, .f32⟩
  | 73 => ⟨S32x64x8x512, .f32⟩
  | 74 => ⟨S32x64x8x512, .f32⟩
  | 75 => ⟨S32x64x8x512, .f32⟩
  | 76 => ⟨S_, .f32⟩
  | 77 => ⟨S32x64x8, .f32⟩
  | 78 => ⟨S32x8x64, .f32⟩
  | 79 => ⟨S32x64x8, .f32⟩
  | 80 => ⟨S32x64x8, .f32⟩
  | 81 => ⟨S32x64x8, .f32⟩
  | 82 => ⟨S32x64x8, .f32⟩
  | 83 => ⟨S32x64x8, .f32⟩
  | 84 => ⟨S32x64x8, .f32⟩
  | 85 => ⟨S32x64x8, .f32⟩
  | 86 => ⟨S32x64x8x1, .f32⟩
  | 87 => ⟨S32x64x8x512, .f32⟩
  | 88 => ⟨S32x64x8x512, .f32⟩
  | 89 => ⟨S32x1x8, .f32⟩
  | 90 => ⟨S32x8, .f32⟩
  | 91 => ⟨S32x1x8, .f32⟩
  | 92 => ⟨S32x8, .f32⟩
  | 93 => ⟨S32x8, .f32⟩
  | 94 => ⟨S32x8, .f32⟩
  | 95 => ⟨S32x8, .f32⟩
  | 96 => ⟨S32x1x8, .f32⟩
  | 97 => ⟨S32x64x8, .f32⟩
  | 98 => ⟨S32x64x8, .f32⟩
  | 99 => ⟨S32x64x8, .f32⟩
  | 100 => ⟨S32x1x8, .f32⟩
  | 101 => ⟨S32x64x8, .f32⟩
  | 102 => ⟨S32x64x8, .f32⟩
  | 103 => ⟨S32x64x8, .f32⟩
  | 104 => ⟨S32x64x8x1, .f32⟩
  | 105 => ⟨S32x64x8x256, .f32⟩
  | 106 => ⟨S32x64x8x256, .f32⟩
  | 107 => ⟨S32x8x1x1, .f32⟩
  | 108 => ⟨S32x8x256x512, .f32⟩
  | 109 => ⟨S32x8x256x512, .f32⟩
  | 110 => ⟨S32x8x256x512, .f32⟩
  | 111 => ⟨S32x8x256x512, .f32⟩
  | 112 => ⟨S32x8x1, .f32⟩
  | 113 => ⟨S32x8x256, .f32⟩
  | 114 => ⟨S32x8x256, .f32⟩
  | 115 => ⟨S_, .f32⟩
  | 116 => ⟨S32x8x256, .f32⟩
  | 117 => ⟨S32x8x256, .f32⟩
  | 118 => ⟨S2048x12288, .bf16⟩
  | 119 => ⟨S2048x4096, .bf16⟩
  | 120 => ⟨S2048x4096, .f32⟩
  | 121 => ⟨S32x64x4096, .f32⟩
  | 122 => ⟨S8x512, .f32⟩
  | 123 => ⟨S32x64x8x512, .f32⟩
  | 124 => ⟨S_, .f32⟩
  | 125 => ⟨S32x64x8, .f32⟩
  | 126 => ⟨S32x64x8x1, .f32⟩
  | 127 => ⟨S_, .f32⟩
  | _ => ⟨S10240x12288, .bf16⟩

abbrev hbmTy0_1 (i : Nat) : BufTy := match i % 128 with
  | 0 => ⟨S32x64x8x1, .f32⟩
  | 1 => ⟨S32x64x8x1, .f32⟩
  | 2 => ⟨S_, .f32⟩
  | 3 => ⟨S32x64x8x1, .f32⟩
  | 4 => ⟨S32x64x8x1, .f32⟩
  | 5 => ⟨S32x64x8x1, .f32⟩
  | 6 => ⟨S32x64x8x512, .f32⟩
  | 7 => ⟨S32x64x8x512, .f32⟩
  | 8 => ⟨S1x1x8x512, .f32⟩
  | 9 => ⟨S32x64x8x512, .f32⟩
  | 10 => ⟨S32x64x8x512, .f32⟩
  | 11 => ⟨S32x64x4096, .f32⟩
  | 12 => ⟨S32x64x4096, .f32⟩
  | 13 => ⟨S_, .f32⟩
  | 14 => ⟨S32x64x4096, .f32⟩
  | 15 => ⟨S32x64x4096, .f32⟩
  | 16 => ⟨S_, .f32⟩
  | 17 => ⟨S32x64x4096, .f32⟩
  | 18 => ⟨S32x64x4096, .f32⟩
  | 19 => ⟨S32x64x8x512, .f32⟩
  | 20 => ⟨S32x64x8x512, .f32⟩
  | 21 => ⟨S2048x4096, .f32⟩
  | 22 => ⟨S2048x4096, .bf16⟩
  | 23 => ⟨S32x8x1x256, .f32⟩
  | 24 => ⟨S32x8x1x1, .f32⟩
  | _ => ⟨S10240x12288, .bf16⟩

abbrev hbmTy (i : Nat) : BufTy := match i / 128 with
  | 0 => hbmTy0_0 i
  | 1 => hbmTy0_1 i
  | _ => ⟨S10240x12288, .bf16⟩

abbrev bufTy : (tb : Table) → Fin (tcTables nBuf tb) → BufTy
  | .hbm, ⟨i, _⟩ => hbmTy i
  | _, _ => ⟨S10240x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_call0_cst : Ref sig .tc := ⟨.hbm, 25, rfl⟩
abbrev main_call0_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_v22 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_0 : Ref sig .tc := ⟨.hbm, 39, rfl⟩
abbrev main_call1_v5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_0 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v33 : Ref sig .tc := ⟨.hbm, 55, rfl⟩
abbrev main_cst_1 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_2 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_3 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_4 : Ref sig .tc := ⟨.hbm, 124, rfl⟩
abbrev main_v99 : Ref sig .tc := ⟨.hbm, 125, rfl⟩
abbrev main_v100 : Ref sig .tc := ⟨.hbm, 126, rfl⟩
abbrev main_cst_5 : Ref sig .tc := ⟨.hbm, 127, rfl⟩
abbrev main_v101 : Ref sig .tc := ⟨.hbm, 128, rfl⟩
abbrev main_v102 : Ref sig .tc := ⟨.hbm, 129, rfl⟩
abbrev main_cst_6 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_7 : Ref sig .tc := ⟨.hbm, 141, rfl⟩
abbrev main_v113 : Ref sig .tc := ⟨.hbm, 142, rfl⟩
abbrev main_v114 : Ref sig .tc := ⟨.hbm, 143, rfl⟩
abbrev main_cst_8 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩

abbrev nD : Nat := 1
abbrev τ : Topo := Topo.v7x

variable {F : FTy → Type} [FloatOps F]
-- ==== Kernel2.lean ====
abbrev S10240x12288 : Shape := ⟨2, ![10240, 12288]⟩
abbrev S10240x16 : Shape := ⟨2, ![10240, 16]⟩
abbrev S1x4096 : Shape := ⟨2, ![1, 4096]⟩
abbrev S8192x4096 : Shape := ⟨2, ![8192, 4096]⟩
abbrev S4x8x256x512 : Shape := ⟨4, ![4, 8, 256, 512]⟩
abbrev S4x8x1x256 : Shape := ⟨4, ![4, 8, 1, 256]⟩
abbrev S4x8x1x1 : Shape := ⟨4, ![4, 8, 1, 1]⟩
abbrev S64x2048 : Shape := ⟨2, ![64, 2048]⟩
abbrev S64x4096 : Shape := ⟨2, ![64, 4096]⟩
abbrev S64x16 : Shape := ⟨2, ![64, 16]⟩
abbrev S1x8x256x512 : Shape := ⟨4, ![1, 8, 256, 512]⟩
abbrev S1x8x1x256 : Shape := ⟨4, ![1, 8, 1, 256]⟩
abbrev S1x8x1x1 : Shape := ⟨4, ![1, 8, 1, 1]⟩
abbrev S64x256 : Shape := ⟨2, ![64, 256]⟩
abbrev S64x512 : Shape := ⟨2, ![64, 512]⟩
abbrev S64x1 : Shape := ⟨2, ![64, 1]⟩
abbrev S1x512 : Shape := ⟨2, ![1, 512]⟩
abbrev S1x1x256x512 : Shape := ⟨4, ![1, 1, 256, 512]⟩
abbrev S256x512 : Shape := ⟨2, ![256, 512]⟩
abbrev S1x1x1x256 : Shape := ⟨4, ![1, 1, 1, 256]⟩
abbrev S1x256 : Shape := ⟨2, ![1, 256]⟩
abbrev S1x1x1x1 : Shape := ⟨4, ![1, 1, 1, 1]⟩
abbrev S1x1 : Shape := ⟨2, ![1, 1]⟩
abbrev S64x64 : Shape := ⟨2, ![64, 64]⟩
abbrev S64 : Shape := ⟨1, ![64]⟩
abbrev S1x64 : Shape := ⟨2, ![1, 64]⟩
abbrev S1 : Shape := ⟨1, ![1]⟩
abbrev S256x64 : Shape := ⟨2, ![256, 64]⟩
abbrev S256 : Shape := ⟨1, ![256]⟩

abbrev nBuf : Space → Nat
  | .hbm => 7
  | .vmem => 19
  | .smem => 0
  | _ => 0

abbrev bufTy : (tb : Table) → Fin (tcTables nBuf tb) → BufTy
  | .hbm, ⟨0, _⟩ => ⟨S10240x12288, .bf16⟩
  | .hbm, ⟨1, _⟩ => ⟨S10240x16, .f32⟩
  | .hbm, ⟨2, _⟩ => ⟨S1x4096, .f32⟩
  | .hbm, ⟨3, _⟩ => ⟨S8192x4096, .bf16⟩
  | .hbm, ⟨4, _⟩ => ⟨S4x8x256x512, .f32⟩
  | .hbm, ⟨5, _⟩ => ⟨S4x8x1x256, .f32⟩
  | .hbm, ⟨6, _⟩ => ⟨S4x8x1x1, .f32⟩
  | .local _ .vmem, ⟨0, _⟩ => ⟨S64x2048, .bf16⟩
  | .local _ .vmem, ⟨1, _⟩ => ⟨S64x2048, .bf16⟩
  | .local _ .vmem, ⟨2, _⟩ => ⟨S64x2048, .bf16⟩
  | .local _ .vmem, ⟨3, _⟩ => ⟨S64x2048, .bf16⟩
  | .local _ .vmem, ⟨4, _⟩ => ⟨S64x4096, .bf16⟩
  | .local _ .vmem, ⟨5, _⟩ => ⟨S64x4096, .bf16⟩
  | .local _ .vmem, ⟨6, _⟩ => ⟨S64x4096, .bf16⟩
  | .local _ .vmem, ⟨7, _⟩ => ⟨S64x4096, .bf16⟩
  | .local _ .vmem, ⟨8, _⟩ => ⟨S64x16, .f32⟩
  | .local _ .vmem, ⟨9, _⟩ => ⟨S64x16, .f32⟩
  | .local _ .vmem, ⟨10, _⟩ => ⟨S1x4096, .f32⟩
  | .local _ .vmem, ⟨11, _⟩ => ⟨S64x4096, .bf16⟩
  | .local _ .vmem, ⟨12, _⟩ => ⟨S64x4096, .bf16⟩
  | .local _ .vmem, ⟨13, _⟩ => ⟨S1x8x256x512, .f32⟩
  | .local _ .vmem, ⟨14, _⟩ => ⟨S1x8x256x512, .f32⟩
  | .local _ .vmem, ⟨15, _⟩ => ⟨S1x8x1x256, .f32⟩
  | .local _ .vmem, ⟨16, _⟩ => ⟨S1x8x1x256, .f32⟩
  | .local _ .vmem, ⟨17, _⟩ => ⟨S1x8x1x1, .f32⟩
  | .local _ .vmem, ⟨18, _⟩ => ⟨S1x8x1x1, .f32⟩
  | _, _ => ⟨S10240x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S10240x12288 : Shape := ⟨2, ![10240, 12288]⟩
abbrev S10240x16 : Shape := ⟨2, ![10240, 16]⟩
abbrev S1x4096 : Shape := ⟨2, ![1, 4096]⟩
abbrev S8192x12288 : Shape := ⟨2, ![8192, 12288]⟩
abbrev S8192x16 : Shape := ⟨2, ![8192, 16]⟩
abbrev S4x2048x12288 : Shape := ⟨3, ![4, 2048, 12288]⟩
abbrev S4x2048x16 : Shape := ⟨3, ![4, 2048, 16]⟩
abbrev S4x2048x2048 : Shape := ⟨3, ![4, 2048, 2048]⟩
abbrev S4x2048x8x256 : Shape := ⟨4, ![4, 2048, 8, 256]⟩
abbrev S_ : Shape := ⟨0, ![]⟩
abbrev S4x2048x4096 : Shape := ⟨3, ![4, 2048, 4096]⟩
abbrev S4x2048x8x512 : Shape := ⟨4, ![4, 2048, 8, 512]⟩
abbrev S4x2048x8 : Shape := ⟨3, ![4, 2048, 8]⟩
abbrev S4x8x256x512 : Shape := ⟨4, ![4, 8, 256, 512]⟩
abbrev S4x8x256 : Shape := ⟨3, ![4, 8, 256]⟩
abbrev S4x8 : Shape := ⟨2, ![4, 8]⟩
abbrev S4x32x64x8x256 : Shape := ⟨5, ![4, 32, 64, 8, 256]⟩
abbrev S32x4x64x8x256 : Shape := ⟨5, ![32, 4, 64, 8, 256]⟩
abbrev S4x32x64x8x512 : Shape := ⟨5, ![4, 32, 64, 8, 512]⟩
abbrev S32x4x64x8x512 : Shape := ⟨5, ![32, 4, 64, 8, 512]⟩
abbrev S4x32x64x8 : Shape := ⟨4, ![4, 32, 64, 8]⟩
abbrev S32x4x64x8 : Shape := ⟨4, ![32, 4, 64, 8]⟩
abbrev S1x4x64x8x256 : Shape := ⟨5, ![1, 4, 64, 8, 256]⟩
abbrev S4x64x8x256 : Shape := ⟨4, ![4, 64, 8, 256]⟩
abbrev S1x4x64x8x512 : Shape := ⟨5, ![1, 4, 64, 8, 512]⟩
abbrev S4x64x8x512 : Shape := ⟨4, ![4, 64, 8, 512]⟩
abbrev S1x4x64x8 : Shape := ⟨4, ![1, 4, 64, 8]⟩
abbrev S4x64x8 : Shape := ⟨3, ![4, 64, 8]⟩
abbrev S4x1x8 : Shape := ⟨3, ![4, 1, 8]⟩
abbrev S64x64 : Shape := ⟨2, ![64, 64]⟩
abbrev S1x64x64x1 : Shape := ⟨4, ![1, 64, 64, 1]⟩
abbrev S4x64x1x8 : Shape := ⟨4, ![4, 64, 1, 8]⟩
abbrev S4x1x64x8 : Shape := ⟨4, ![4, 1, 64, 8]⟩
abbrev S4x64x64x8 : Shape := ⟨4, ![4, 64, 64, 8]⟩
abbrev S4x8x64x64 : Shape := ⟨4, ![4, 8, 64, 64]⟩
abbrev S4x8x512x64 : Shape := ⟨4, ![4, 8, 512, 64]⟩
abbrev S4x64x8x1 : Shape := ⟨4, ![4, 64, 8, 1]⟩
abbrev S4x8x64 : Shape := ⟨3, ![4, 8, 64]⟩
abbrev S4x8x1x1 : Shape := ⟨4, ![4, 8, 1, 1]⟩
abbrev S4x8x1 : Shape := ⟨3, ![4, 8, 1]⟩
abbrev S8192x4096 : Shape := ⟨2, ![8192, 4096]⟩
abbrev S8x512 : Shape := ⟨2, ![8, 512]⟩
abbrev S4x2048x8x1 : Shape := ⟨4, ![4, 2048, 8, 1]⟩
abbrev S1x1x8x512 : Shape := ⟨4, ![1, 1, 8, 512]⟩
abbrev S4x8x1x256 : Shape := ⟨4, ![4, 8, 1, 256]⟩

abbrev nBuf : Space → Nat
  | .hbm => 216
  | .vmem => 0
  | .smem => 0
  | _ => 0

abbrev hbmTy0_0 (i : Nat) : BufTy := match i % 128 with
  | 0 => ⟨S10240x12288, .bf16⟩
  | 1 => ⟨S10240x16, .f32⟩
  | 2 => ⟨S1x4096, .f32⟩
  | 3 => ⟨S8192x12288, .bf16⟩
  | 4 => ⟨S8192x16, .f32⟩
  | 5 => ⟨S8192x12288, .f32⟩
  | 6 => ⟨S4x2048x12288, .f32⟩
  | 7 => ⟨S4x2048x16, .f32⟩
  | 8 => ⟨S4x2048x2048, .f32⟩
  | 9 => ⟨S4x2048x8x256, .f32⟩
  | 10 => ⟨S_, .f32⟩
  | 11 => ⟨S4x2048x8x256, .f32⟩
  | 12 => ⟨S4x2048x8x256, .f32⟩
  | 13 => ⟨S4x2048x2048, .f32⟩
  | 14 => ⟨S4x2048x8x256, .f32⟩
  | 15 => ⟨S4x2048x4096, .f32⟩
  | 16 => ⟨S4x2048x8x512, .f32⟩
  | 17 => ⟨S4x2048x8, .f32⟩
  | 18 => ⟨S4x2048x8, .f32⟩
  | 19 => ⟨S_, .f32⟩
  | 20 => ⟨S4x8x256x512, .f32⟩
  | 21 => ⟨S_, .f32⟩
  | 22 => ⟨S4x8x256, .f32⟩
  | 23 => ⟨S_, .f32⟩
  | 24 => ⟨S4x8, .f32⟩
  | 25 => ⟨S4x32x64x8x256, .f32⟩
  | 26 => ⟨S32x4x64x8x256, .f32⟩
  | 27 => ⟨S4x32x64x8x256, .f32⟩
  | 28 => ⟨S32x4x64x8x256, .f32⟩
  | 29 => ⟨S4x32x64x8x512, .f32⟩
  | 30 => ⟨S32x4x64x8x512, .f32⟩
  | 31 => ⟨S4x32x64x8, .f32⟩
  | 32 => ⟨S32x4x64x8, .f32⟩
  | 33 => ⟨S4x32x64x8, .f32⟩
  | 34 => ⟨S32x4x64x8, .f32⟩
  | 35 => ⟨S_, .f32⟩
  | 36 => ⟨S32x4x64x8x512, .f32⟩
  | 37 => ⟨S_, .i32⟩
  | 38 => ⟨S32x4x64x8x256, .f32⟩
  | 39 => ⟨S32x4x64x8x256, .f32⟩
  | 40 => ⟨S32x4x64x8x512, .f32⟩
  | 41 => ⟨S32x4x64x8, .f32⟩
  | 42 => ⟨S32x4x64x8, .f32⟩
  | 43 => ⟨S_, .i32⟩
  | 44 => ⟨S4x8x256x512, .f32⟩
  | 45 => ⟨S4x8x256, .f32⟩
  | 46 => ⟨S4x8, .f32⟩
  | 47 => ⟨S32x4x64x8x512, .f32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S1x4x64x8x256, .f32⟩
  | 55 => ⟨S4x64x8x256, .f32⟩
  | 56 => ⟨S_, .i32⟩
  | 57 => ⟨S_, .i32⟩
  | 58 => ⟨S_, .i32⟩
  | 59 => ⟨S_, .i32⟩
  | 60 => ⟨S1x4x64x8x256, .f32⟩
  | 61 => ⟨S4x64x8x256, .f32⟩
  | 62 => ⟨S_, .i32⟩
  | 63 => ⟨S_, .i32⟩
  | 64 => ⟨S_, .i32⟩
  | 65 => ⟨S_, .i32⟩
  | 66 => ⟨S1x4x64x8x512, .f32⟩
  | 67 => ⟨S4x64x8x512, .f32⟩
  | 68 => ⟨S_, .i32⟩
  | 69 => ⟨S_, .i32⟩
  | 70 => ⟨S_, .i32⟩
  | 71 => ⟨S1x4x64x8, .f32⟩
  | 72 => ⟨S4x64x8, .f32⟩
  | 73 => ⟨S_, .i32⟩
  | 74 => ⟨S_, .i32⟩
  | 75 => ⟨S_, .i32⟩
  | 76 => ⟨S1x4x64x8, .f32⟩
  | 77 => ⟨S4x64x8, .f32⟩
  | 78 => ⟨S_, .f32⟩
  | 79 => ⟨S_, .f32⟩
  | 80 => ⟨S4x64x8, .f32⟩
  | 81 => ⟨S4x1x8, .f32⟩
  | 82 => ⟨S4x64x8, .f32⟩
  | 83 => ⟨S4x64x8, .f32⟩
  | 84 => ⟨S_, .i1⟩
  | 85 => ⟨S64x64, .i1⟩
  | 86 => ⟨S64x64, .i32⟩
  | 87 => ⟨S_, .i32⟩
  | 88 => ⟨S64x64, .i32⟩
  | 89 => ⟨S64x64, .i32⟩
  | 90 => ⟨S64x64, .i32⟩
  | 91 => ⟨S64x64, .i1⟩
  | 92 => ⟨S_, .i1⟩
  | 93 => ⟨S64x64, .i1⟩
  | 94 => ⟨S64x64, .i1⟩
  | 95 => ⟨S1x64x64x1, .i1⟩
  | 96 => ⟨S4x64x1x8, .f32⟩
  | 97 => ⟨S4x1x64x8, .f32⟩
  | 98 => ⟨S4x64x64x8, .f32⟩
  | 99 => ⟨S4x64x64x8, .f32⟩
  | 100 => ⟨S4x64x64x8, .f32⟩
  | 101 => ⟨S4x1x64x8, .f32⟩
  | 102 => ⟨S4x64x64x8, .f32⟩
  | 103 => ⟨S4x64x64x8, .f32⟩
  | 104 => ⟨S_, .f32⟩
  | 105 => ⟨S_, .f32⟩
  | 106 => ⟨S4x64x64x8, .i1⟩
  | 107 => ⟨S4x64x64x8, .f32⟩
  | 108 => ⟨S4x64x64x8, .f32⟩
  | 109 => ⟨S_, .f32⟩
  | 110 => ⟨S4x64x8, .f32⟩
  | 111 => ⟨S4x64x8, .f32⟩
  | 112 => ⟨S4x64x8, .f32⟩
  | 113 => ⟨S4x64x8, .f32⟩
  | 114 => ⟨S4x64x1x8, .f32⟩
  | 115 => ⟨S4x64x64x8, .f32⟩
  | 116 => ⟨S4x64x64x8, .f32⟩
  | 117 => ⟨S4x64x64x8, .f32⟩
  | 118 => ⟨S4x8x64x64, .f32⟩
  | 119 => ⟨S4x64x64x8, .f32⟩
  | 120 => ⟨S4x64x64x8, .f32⟩
  | 121 => ⟨S4x8x512x64, .f32⟩
  | 122 => ⟨S4x64x8x512, .f32⟩
  | 123 => ⟨S4x64x8x1, .f32⟩
  | 124 => ⟨S4x8x512x64, .f32⟩
  | 125 => ⟨S4x64x8x512, .f32⟩
  | 126 => ⟨S4x64x8x512, .f32⟩
  | 127 => ⟨S4x64x8x512, .f32⟩
  | _ => ⟨S10240x12288, .bf16⟩

abbrev hbmTy0_1 (i : Nat) : BufTy := match i % 128 with
  | 0 => ⟨S4x64x8x512, .f32⟩
  | 1 => ⟨S_, .f32⟩
  | 2 => ⟨S4x64x8, .f32⟩
  | 3 => ⟨S4x8x64, .f32⟩
  | 4 => ⟨S4x64x8, .f32⟩
  | 5 => ⟨S4x64x8, .f32⟩
  | 6 => ⟨S4x64x8, .f32⟩
  | 7 => ⟨S4x64x8, .f32⟩
  | 8 => ⟨S4x64x8, .f32⟩
  | 9 => ⟨S4x64x8, .f32⟩
  | 10 => ⟨S4x64x8, .f32⟩
  | 11 => ⟨S4x64x8x1, .f32⟩
  | 12 => ⟨S4x64x8x512, .f32⟩
  | 13 => ⟨S4x64x8x512, .f32⟩
  | 14 => ⟨S4x1x8, .f32⟩
  | 15 => ⟨S4x8, .f32⟩
  | 16 => ⟨S4x1x8, .f32⟩
  | 17 => ⟨S4x8, .f32⟩
  | 18 => ⟨S4x8, .f32⟩
  | 19 => ⟨S4x8, .f32⟩
  | 20 => ⟨S4x8, .f32⟩
  | 21 => ⟨S4x1x8, .f32⟩
  | 22 => ⟨S4x64x8, .f32⟩
  | 23 => ⟨S4x64x8, .f32⟩
  | 24 => ⟨S4x64x8, .f32⟩
  | 25 => ⟨S4x1x8, .f32⟩
  | 26 => ⟨S4x64x8, .f32⟩
  | 27 => ⟨S4x64x8, .f32⟩
  | 28 => ⟨S4x64x8, .f32⟩
  | 29 => ⟨S4x64x8x1, .f32⟩
  | 30 => ⟨S4x64x8x256, .f32⟩
  | 31 => ⟨S4x64x8x256, .f32⟩
  | 32 => ⟨S4x8x1x1, .f32⟩
  | 33 => ⟨S4x8x256x512, .f32⟩
  | 34 => ⟨S4x8x256x512, .f32⟩
  | 35 => ⟨S4x8x256x512, .f32⟩
  | 36 => ⟨S4x8x256x512, .f32⟩
  | 37 => ⟨S4x8x1, .f32⟩
  | 38 => ⟨S4x8x256, .f32⟩
  | 39 => ⟨S4x8x256, .f32⟩
  | 40 => ⟨S_, .f32⟩
  | 41 => ⟨S4x8x256, .f32⟩
  | 42 => ⟨S4x8x256, .f32⟩
  | 43 => ⟨S1x4x64x8x512, .f32⟩
  | 44 => ⟨S_, .i32⟩
  | 45 => ⟨S_, .i32⟩
  | 46 => ⟨S_, .i32⟩
  | 47 => ⟨S_, .i32⟩
  | 48 => ⟨S32x4x64x8x512, .f32⟩
  | 49 => ⟨S_, .i32⟩
  | 50 => ⟨S_, .i32⟩
  | 51 => ⟨S4x32x64x8x512, .f32⟩
  | 52 => ⟨S4x2048x8x512, .f32⟩
  | 53 => ⟨S8192x12288, .bf16⟩
  | 54 => ⟨S8192x4096, .bf16⟩
  | 55 => ⟨S8192x4096, .f32⟩
  | 56 => ⟨S4x2048x4096, .f32⟩
  | 57 => ⟨S8x512, .f32⟩
  | 58 => ⟨S4x2048x8x512, .f32⟩
  | 59 => ⟨S_, .f32⟩
  | 60 => ⟨S4x2048x8, .f32⟩
  | 61 => ⟨S4x2048x8x1, .f32⟩
  | 62 => ⟨S_, .f32⟩
  | 63 => ⟨S4x2048x8x1, .f32⟩
  | 64 => ⟨S4x2048x8x1, .f32⟩
  | 65 => ⟨S_, .f32⟩
  | 66 => ⟨S4x2048x8x1, .f32⟩
  | 67 => ⟨S4x2048x8x1, .f32⟩
  | 68 => ⟨S4x2048x8x1, .f32⟩
  | 69 => ⟨S4x2048x8x512, .f32⟩
  | 70 => ⟨S4x2048x8x512, .f32⟩
  | 71 => ⟨S1x1x8x512, .f32⟩
  | 72 => ⟨S4x2048x8x512, .f32⟩
  | 73 => ⟨S4x2048x8x512, .f32⟩
  | 74 => ⟨S4x2048x4096, .f32⟩
  | 75 => ⟨S4x2048x4096, .f32⟩
  | 76 => ⟨S_, .f32⟩
  | 77 => ⟨S4x2048x4096, .f32⟩
  | 78 => ⟨S4x2048x4096, .f32⟩
  | 79 => ⟨S_, .f32⟩
  | 80 => ⟨S4x2048x4096, .f32⟩
  | 81 => ⟨S4x2048x4096, .f32⟩
  | 82 => ⟨S4x2048x8x512, .f32⟩
  | 83 => ⟨S4x2048x8x512, .f32⟩
  | 84 => ⟨S8192x4096, .f32⟩
  | 85 => ⟨S8192x4096, .bf16⟩
  | 86 => ⟨S4x8x1x256, .f32⟩
  | 87 => ⟨S4x8x1x1, .f32⟩
  | _ => ⟨S10240x12288, .bf16⟩

abbrev hbmTy (i : Nat) : BufTy := match i / 128 with
  | 0 => hbmTy0_0 i
  | 1 => hbmTy0_1 i
  | _ => ⟨S10240x12288, .bf16⟩

abbrev bufTy : (tb : Table) → Fin (tcTables nBuf tb) → BufTy
  | .hbm, ⟨i, _⟩ => hbmTy i
  | _, _ => ⟨S10240x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_c : Ref sig .tc := ⟨.hbm, 37, rfl⟩
abbrev main_v29_0 : Ref sig .tc := ⟨.hbm, 38, rfl⟩
abbrev main_v29_1 : Ref sig .tc := ⟨.hbm, 39, rfl⟩
abbrev main_v29_2 : Ref sig .tc := ⟨.hbm, 40, rfl⟩
abbrev main_v29_3 : Ref sig .tc := ⟨.hbm, 41, rfl⟩
abbrev main_v29_4 : Ref sig .tc := ⟨.hbm, 42, rfl⟩
abbrev main_v29_5 : Ref sig .tc := ⟨.hbm, 43, rfl⟩
abbrev main_v29_6 : Ref sig .tc := ⟨.hbm, 44, rfl⟩
abbrev main_v29_7 : Ref sig .tc := ⟨.hbm, 45, rfl⟩
abbrev main_v29_8 : Ref sig .tc := ⟨.hbm, 46, rfl⟩
abbrev main_v29_9 : Ref sig .tc := ⟨.hbm, 47, rfl⟩
abbrev main_while0c_c_18 : Ref sig .tc := ⟨.hbm, 48, rfl⟩
abbrev main_while0c_v62 : Ref sig .tc := ⟨.hbm, 49, rfl⟩
abbrev main_while0b_call0_c : Ref sig .tc := ⟨.hbm, 50, rfl⟩
abbrev main_while0b_call0_c_0 : Ref sig .tc := ⟨.hbm, 51, rfl⟩
abbrev main_while0b_call0_c_1 : Ref sig .tc := ⟨.hbm, 52, rfl⟩
abbrev main_while0b_call0_c_2 : Ref sig .tc := ⟨.hbm, 53, rfl⟩
abbrev main_while0b_call0_v0 : Ref sig .tc := ⟨.hbm, 54, rfl⟩
abbrev main_while0b_v62 : Ref sig .tc := ⟨.hbm, 55, rfl⟩
abbrev main_while0b_call1_c : Ref sig .tc := ⟨.hbm, 56, rfl⟩
abbrev main_while0b_call1_c_0 : Ref sig .tc := ⟨.hbm, 57, rfl⟩
abbrev main_while0b_call1_c_1 : Ref sig .tc := ⟨.hbm, 58, rfl⟩
abbrev main_while0b_call1_c_2 : Ref sig .tc := ⟨.hbm, 59, rfl⟩
abbrev main_while0b_call1_v0 : Ref sig .tc := ⟨.hbm, 60, rfl⟩
abbrev main_while0b_v63 : Ref sig .tc := ⟨.hbm, 61, rfl⟩
abbrev main_while0b_call2_c : Ref sig .tc := ⟨.hbm, 62, rfl⟩
abbrev main_while0b_call2_c_0 : Ref sig .tc := ⟨.hbm, 63, rfl⟩
abbrev main_while0b_call2_c_1 : Ref sig .tc := ⟨.hbm, 64, rfl⟩
abbrev main_while0b_call2_c_2 : Ref sig .tc := ⟨.hbm, 65, rfl⟩
abbrev main_while0b_call2_v0 : Ref sig .tc := ⟨.hbm, 66, rfl⟩
abbrev main_while0b_v64 : Ref sig .tc := ⟨.hbm, 67, rfl⟩
abbrev main_while0b_call3_c : Ref sig .tc := ⟨.hbm, 68, rfl⟩
abbrev main_while0b_call3_c_0 : Ref sig .tc := ⟨.hbm, 69, rfl⟩
abbrev main_while0b_call3_c_1 : Ref sig .tc := ⟨.hbm, 70, rfl⟩
abbrev main_while0b_call3_v0 : Ref sig .tc := ⟨.hbm, 71, rfl⟩
abbrev main_while0b_v65 : Ref sig .tc := ⟨.hbm, 72, rfl⟩
abbrev main_while0b_call4_c : Ref sig .tc := ⟨.hbm, 73, rfl⟩
abbrev main_while0b_call4_c_0 : Ref sig .tc := ⟨.hbm, 74, rfl⟩
abbrev main_while0b_call4_c_1 : Ref sig .tc := ⟨.hbm, 75, rfl⟩
abbrev main_while0b_call4_v0 : Ref sig .tc := ⟨.hbm, 76, rfl⟩
abbrev main_while0b_v66 : Ref sig .tc := ⟨.hbm, 77, rfl⟩
abbrev main_while0b_call5_call0_cst : Ref sig .tc := ⟨.hbm, 78, rfl⟩
abbrev main_while0b_call5_call0_v0 : Ref sig .tc := ⟨.hbm, 79, rfl⟩
abbrev main_while0b_v67 : Ref sig .tc := ⟨.hbm, 80, rfl⟩
abbrev main_while0b_v68 : Ref sig .tc := ⟨.hbm, 81, rfl⟩
abbrev main_while0b_v69 : Ref sig .tc := ⟨.hbm, 82, rfl⟩
abbrev main_while0b_v70 : Ref sig .tc := ⟨.hbm, 83, rfl⟩
abbrev main_while0b_c_18 : Ref sig .tc := ⟨.hbm, 84, rfl⟩
abbrev main_while0b_v71 : Ref sig .tc := ⟨.hbm, 85, rfl⟩
abbrev main_while0b_call6_v0 : Ref sig .tc := ⟨.hbm, 86, rfl⟩
abbrev main_while0b_call6_c : Ref sig .tc := ⟨.hbm, 87, rfl⟩
abbrev main_while0b_call6_v1 : Ref sig .tc := ⟨.hbm, 88, rfl⟩
abbrev main_while0b_call6_v2 : Ref sig .tc := ⟨.hbm, 89, rfl⟩
abbrev main_while0b_call6_v3 : Ref sig .tc := ⟨.hbm, 90, rfl⟩
abbrev main_while0b_call6_v4 : Ref sig .tc := ⟨.hbm, 91, rfl⟩
abbrev main_while0b_call6_c_0 : Ref sig .tc := ⟨.hbm, 92, rfl⟩
abbrev main_while0b_call6_v5 : Ref sig .tc := ⟨.hbm, 93, rfl⟩
abbrev main_while0b_v72 : Ref sig .tc := ⟨.hbm, 94, rfl⟩
abbrev main_while0b_v73 : Ref sig .tc := ⟨.hbm, 95, rfl⟩
abbrev main_while0b_v74 : Ref sig .tc := ⟨.hbm, 96, rfl⟩
abbrev main_while0b_v75 : Ref sig .tc := ⟨.hbm, 97, rfl⟩
abbrev main_while0b_v76 : Ref sig .tc := ⟨.hbm, 98, rfl⟩
abbrev main_while0b_v77 : Ref sig .tc := ⟨.hbm, 99, rfl⟩
abbrev main_while0b_v78 : Ref sig .tc := ⟨.hbm, 100, rfl⟩
abbrev main_while0b_v79 : Ref sig .tc := ⟨.hbm, 101, rfl⟩
abbrev main_while0b_v80 : Ref sig .tc := ⟨.hbm, 102, rfl⟩
abbrev main_while0b_v81 : Ref sig .tc := ⟨.hbm, 103, rfl⟩
abbrev main_while0b_cst_19 : Ref sig .tc := ⟨.hbm, 104, rfl⟩
abbrev main_while0b_call7_v0 : Ref sig .tc := ⟨.hbm, 105, rfl⟩
abbrev main_while0b_call7_v1 : Ref sig .tc := ⟨.hbm, 106, rfl⟩
abbrev main_while0b_call7_v2 : Ref sig .tc := ⟨.hbm, 107, rfl⟩
abbrev main_while0b_v82 : Ref sig .tc := ⟨.hbm, 108, rfl⟩
abbrev main_while0b_cst_20 : Ref sig .tc := ⟨.hbm, 109, rfl⟩
abbrev main_while0b_v83 : Ref sig .tc := ⟨.hbm, 110, rfl⟩
abbrev main_while0b_v84 : Ref sig .tc := ⟨.hbm, 111, rfl⟩
abbrev main_while0b_v85 : Ref sig .tc := ⟨.hbm, 112, rfl⟩
abbrev main_while0b_v86 : Ref sig .tc := ⟨.hbm, 113, rfl⟩
abbrev main_while0b_v87 : Ref sig .tc := ⟨.hbm, 114, rfl⟩
abbrev main_while0b_v88 : Ref sig .tc := ⟨.hbm, 115, rfl⟩
abbrev main_while0b_v89 : Ref sig .tc := ⟨.hbm, 116, rfl⟩
abbrev main_while0b_v90 : Ref sig .tc := ⟨.hbm, 117, rfl⟩
abbrev main_while0b_v91 : Ref sig .tc := ⟨.hbm, 118, rfl⟩
abbrev main_while0b_v92 : Ref sig .tc := ⟨.hbm, 119, rfl⟩
abbrev main_while0b_v93 : Ref sig .tc := ⟨.hbm, 120, rfl⟩
abbrev main_while0b_v94 : Ref sig .tc := ⟨.hbm, 121, rfl⟩
abbrev main_while0b_v95 : Ref sig .tc := ⟨.hbm, 122, rfl⟩
abbrev main_while0b_v96 : Ref sig .tc := ⟨.hbm, 123, rfl⟩
abbrev main_while0b_v97 : Ref sig .tc := ⟨.hbm, 124, rfl⟩
abbrev main_while0b_v98 : Ref sig .tc := ⟨.hbm, 125, rfl⟩
abbrev main_while0b_v99 : Ref sig .tc := ⟨.hbm, 126, rfl⟩
abbrev main_while0b_v100 : Ref sig .tc := ⟨.hbm, 127, rfl⟩
abbrev main_while0b_v101 : Ref sig .tc := ⟨.hbm, 128, rfl⟩
abbrev main_while0b_cst_21 : Ref sig .tc := ⟨.hbm, 129, rfl⟩
abbrev main_while0b_v102 : Ref sig .tc := ⟨.hbm, 130, rfl⟩
abbrev main_while0b_v103 : Ref sig .tc := ⟨.hbm, 131, rfl⟩
abbrev main_while0b_v104 : Ref sig .tc := ⟨.hbm, 132, rfl⟩
abbrev main_while0b_v105 : Ref sig .tc := ⟨.hbm, 133, rfl⟩
abbrev main_while0b_v106 : Ref sig .tc := ⟨.hbm, 134, rfl⟩
abbrev main_while0b_v107 : Ref sig .tc := ⟨.hbm, 135, rfl⟩
abbrev main_while0b_v108 : Ref sig .tc := ⟨.hbm, 136, rfl⟩
abbrev main_while0b_v109 : Ref sig .tc := ⟨.hbm, 137, rfl⟩
abbrev main_while0b_v110 : Ref sig .tc := ⟨.hbm, 138, rfl⟩
abbrev main_while0b_v111 : Ref sig .tc := ⟨.hbm, 139, rfl⟩
abbrev main_while0b_v112 : Ref sig .tc := ⟨.hbm, 140, rfl⟩
abbrev main_while0b_v113 : Ref sig .tc := ⟨.hbm, 141, rfl⟩
abbrev main_while0b_v114 : Ref sig .tc := ⟨.hbm, 142, rfl⟩
abbrev main_while0b_v115 : Ref sig .tc := ⟨.hbm, 143, rfl⟩
abbrev main_while0b_v116 : Ref sig .tc := ⟨.hbm, 144, rfl⟩
abbrev main_while0b_v117 : Ref sig .tc := ⟨.hbm, 145, rfl⟩
abbrev main_while0b_v118 : Ref sig .tc := ⟨.hbm, 146, rfl⟩
abbrev main_while0b_v119 : Ref sig .tc := ⟨.hbm, 147, rfl⟩
abbrev main_while0b_v120 : Ref sig .tc := ⟨.hbm, 148, rfl⟩
abbrev main_while0b_v121 : Ref sig .tc := ⟨.hbm, 149, rfl⟩
abbrev main_while0b_v122 : Ref sig .tc := ⟨.hbm, 150, rfl⟩
abbrev main_while0b_v123 : Ref sig .tc := ⟨.hbm, 151, rfl⟩
abbrev main_while0b_v124 : Ref sig .tc := ⟨.hbm, 152, rfl⟩
abbrev main_while0b_v125 : Ref sig .tc := ⟨.hbm, 153, rfl⟩
abbrev main_while0b_v126 : Ref sig .tc := ⟨.hbm, 154, rfl⟩
abbrev main_while0b_v127 : Ref sig .tc := ⟨.hbm, 155, rfl⟩
abbrev main_while0b_v128 : Ref sig .tc := ⟨.hbm, 156, rfl⟩
abbrev main_while0b_v129 : Ref sig .tc := ⟨.hbm, 157, rfl⟩
abbrev main_while0b_v130 : Ref sig .tc := ⟨.hbm, 158, rfl⟩
abbrev main_while0b_v131 : Ref sig .tc := ⟨.hbm, 159, rfl⟩
abbrev main_while0b_v132 : Ref sig .tc := ⟨.hbm, 160, rfl⟩
abbrev main_while0b_v133 : Ref sig .tc := ⟨.hbm, 161, rfl⟩
abbrev main_while0b_v134 : Ref sig .tc := ⟨.hbm, 162, rfl⟩
abbrev main_while0b_v135 : Ref sig .tc := ⟨.hbm, 163, rfl⟩
abbrev main_while0b_v136 : Ref sig .tc := ⟨.hbm, 164, rfl⟩
abbrev main_while0b_v137 : Ref sig .tc := ⟨.hbm, 165, rfl⟩
abbrev main_while0b_v138 : Ref sig .tc := ⟨.hbm, 166, rfl⟩
abbrev main_while0b_v139 : Ref sig .tc := ⟨.hbm, 167, rfl⟩
abbrev main_while0b_cst_22 : Ref sig .tc := ⟨.hbm, 168, rfl⟩
abbrev main_while0b_v140 : Ref sig .tc := ⟨.hbm, 169, rfl⟩
abbrev main_while0b_v141 : Ref sig .tc := ⟨.hbm, 170, rfl⟩
abbrev main_while0b_call8_v0 : Ref sig .tc := ⟨.hbm, 171, rfl⟩
abbrev main_while0b_call8_c : Ref sig .tc := ⟨.hbm, 172, rfl⟩
abbrev main_while0b_call8_c_0 : Ref sig .tc := ⟨.hbm, 173, rfl⟩
abbrev main_while0b_call8_c_1 : Ref sig .tc := ⟨.hbm, 174, rfl⟩
abbrev main_while0b_call8_c_2 : Ref sig .tc := ⟨.hbm, 175, rfl⟩
abbrev main_while0b_v142 : Ref sig .tc := ⟨.hbm, 176, rfl⟩
abbrev main_while0b_c_23 : Ref sig .tc := ⟨.hbm, 177, rfl⟩
abbrev main_while0b_v143 : Ref sig .tc := ⟨.hbm, 178, rfl⟩
abbrev main_v30 : Ref sig .tc := ⟨.hbm, 179, rfl⟩
abbrev main_v31 : Ref sig .tc := ⟨.hbm, 180, rfl⟩
abbrev main_v32 : Ref sig .tc := ⟨.hbm, 181, rfl⟩
abbrev main_v33 : Ref sig .tc := ⟨.hbm, 182, rfl⟩
abbrev main_v34 : Ref sig .tc := ⟨.hbm, 183, rfl⟩
abbrev main_v35 : Ref sig .tc := ⟨.hbm, 184, rfl⟩
abbrev main_v36 : Ref sig .tc := ⟨.hbm, 185, rfl⟩
abbrev main_v37 : Ref sig .tc := ⟨.hbm, 186, rfl⟩
abbrev main_cst_4 : Ref sig .tc := ⟨.hbm, 187, rfl⟩
abbrev main_v38 : Ref sig .tc := ⟨.hbm, 188, rfl⟩
abbrev main_v39 : Ref sig .tc := ⟨.hbm, 189, rfl⟩
abbrev main_cst_5 : Ref sig .tc := ⟨.hbm, 190, rfl⟩
abbrev main_v40 : Ref sig .tc := ⟨.hbm, 191, rfl⟩
abbrev main_v41 : Ref sig .tc := ⟨.hbm, 192, rfl⟩
abbrev main_cst_6 : Ref sig .tc := ⟨.hbm, 193, rfl⟩
abbrev main_v42 : Ref sig .tc := ⟨.hbm, 194, rfl⟩
abbrev main_v43 : Ref sig .tc := ⟨.hbm, 195, rfl⟩
abbrev main_v44 : Ref sig .tc := ⟨.hbm, 196, rfl⟩
abbrev main_v45 : Ref sig .tc := ⟨.hbm, 197, rfl⟩
abbrev main_v46 : Ref sig .tc := ⟨.hbm, 198, rfl⟩
abbrev main_v47 : Ref sig .tc := ⟨.hbm, 199, rfl⟩
abbrev main_v48 : Ref sig .tc := ⟨.hbm, 200, rfl⟩
abbrev main_v49 : Ref sig .tc := ⟨.hbm, 201, rfl⟩
abbrev main_v50 : Ref sig .tc := ⟨.hbm, 202, rfl⟩
abbrev main_v51 : Ref sig .tc := ⟨.hbm, 203, rfl⟩
abbrev main_cst_7 : Ref sig .tc := ⟨.hbm, 204, rfl⟩
abbrev main_v52 : Ref sig .tc := ⟨.hbm, 205, rfl⟩
abbrev main_v53 : Ref sig .tc := ⟨.hbm, 206, rfl⟩
abbrev main_cst_8 : Ref sig .tc := ⟨.hbm, 207, rfl⟩
abbrev main_v54 : Ref sig .tc := ⟨.hbm, 208, rfl⟩
abbrev main_v55 : Ref sig .tc := ⟨.hbm, 209, rfl⟩
abbrev main_v56 : Ref sig .tc := ⟨.hbm, 210, rfl⟩
abbrev main_v57 : Ref sig .tc := ⟨.hbm, 211, rfl⟩
abbrev main_v58 : Ref sig .tc := ⟨.hbm, 212, rfl⟩
abbrev main_v59 : Ref sig .tc := ⟨.hbm, 213, rfl⟩
abbrev main_v60 : Ref sig .tc := ⟨.hbm, 214, rfl⟩
abbrev main_v61 : Ref sig .tc := ⟨.hbm, 215, rfl⟩

abbrev nD : Nat := 1
abbrev τ : Topo := Topo.v7x

variable {F : FTy → Type} [FloatOps F]

abbrev main_while0_count : Scf.Loop 32 := ⟨0#32, 32#32, 1#32⟩
-- ==== Kernel3.lean ====
abbrev S10240x4096 : Shape := ⟨2, ![10240, 4096]⟩
abbrev S1x4096x22096 : Shape := ⟨3, ![1, 4096, 22096]⟩
abbrev S4096x22096 : Shape := ⟨2, ![4096, 22096]⟩
abbrev S4096x12288 : Shape := ⟨2, ![4096, 12288]⟩
abbrev S10240x12288 : Shape := ⟨2, ![10240, 12288]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S10240x4096, .bf16⟩
  | .hbm, ⟨1, _⟩ => ⟨S1x4096x22096, .f32⟩
  | .hbm, ⟨2, _⟩ => ⟨S4096x22096, .f32⟩
  | .hbm, ⟨3, _⟩ => ⟨S4096x12288, .f32⟩
  | .hbm, ⟨4, _⟩ => ⟨S4096x12288, .bf16⟩
  | .hbm, ⟨5, _⟩ => ⟨S10240x12288, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S10240x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![10, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S10240x4096 : Shape := ⟨2, ![10240, 4096]⟩
abbrev S1x4096x22096 : Shape := ⟨3, ![1, 4096, 22096]⟩
abbrev S1x4096x12288 : Shape := ⟨3, ![1, 4096, 12288]⟩
abbrev S4096x12288 : Shape := ⟨2, ![4096, 12288]⟩
abbrev S10240x12288 : Shape := ⟨2, ![10240, 12288]⟩

abbrev nBuf : Space → Nat
  | .hbm => 7
  | .vmem => 0
  | .smem => 0
  | _ => 0

abbrev bufTy : (tb : Table) → Fin (tcTables nBuf tb) → BufTy
  | .hbm, ⟨0, _⟩ => ⟨S10240x4096, .bf16⟩
  | .hbm, ⟨1, _⟩ => ⟨S1x4096x22096, .f32⟩
  | .hbm, ⟨2, _⟩ => ⟨S10240x4096, .f32⟩
  | .hbm, ⟨3, _⟩ => ⟨S1x4096x12288, .f32⟩
  | .hbm, ⟨4, _⟩ => ⟨S4096x12288, .f32⟩
  | .hbm, ⟨5, _⟩ => ⟨S10240x12288, .f32⟩
  | .hbm, ⟨6, _⟩ => ⟨S10240x12288, .bf16⟩
  | _, _ => ⟨S10240x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S10240x4096 : Shape := ⟨2, ![10240, 4096]⟩
abbrev S1x4096x22096 : Shape := ⟨3, ![1, 4096, 22096]⟩
abbrev S4096x22096 : Shape := ⟨2, ![4096, 22096]⟩
abbrev S4096x8192 : Shape := ⟨2, ![4096, 8192]⟩
abbrev S10240x8192 : Shape := ⟨2, ![10240, 8192]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S10240x4096, .bf16⟩
  | .hbm, ⟨1, _⟩ => ⟨S1x4096x22096, .f32⟩
  | .hbm, ⟨2, _⟩ => ⟨S4096x22096, .f32⟩
  | .hbm, ⟨3, _⟩ => ⟨S4096x8192, .f32⟩
  | .hbm, ⟨4, _⟩ => ⟨S4096x8192, .bf16⟩
  | .hbm, ⟨5, _⟩ => ⟨S10240x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S10240x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![10, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S10240x4096 : Shape := ⟨2, ![10240, 4096]⟩
abbrev S1x4096x22096 : Shape := ⟨3, ![1, 4096, 22096]⟩
abbrev S1x4096x8192 : Shape := ⟨3, ![1, 4096, 8192]⟩
abbrev S4096x8192 : Shape := ⟨2, ![4096, 8192]⟩
abbrev S10240x8192 : Shape := ⟨2, ![10240, 8192]⟩

abbrev nBuf : Space → Nat
  | .hbm => 7
  | .vmem => 0
  | .smem => 0
  | _ => 0

abbrev bufTy : (tb : Table) → Fin (tcTables nBuf tb) → BufTy
  | .hbm, ⟨0, _⟩ => ⟨S10240x4096, .bf16⟩
  | .hbm, ⟨1, _⟩ => ⟨S1x4096x22096, .f32⟩
  | .hbm, ⟨2, _⟩ => ⟨S10240x4096, .f32⟩
  | .hbm, ⟨3, _⟩ => ⟨S1x4096x8192, .f32⟩
  | .hbm, ⟨4, _⟩ => ⟨S4096x8192, .f32⟩
  | .hbm, ⟨5, _⟩ => ⟨S10240x8192, .f32⟩
  | .hbm, ⟨6, _⟩ => ⟨S10240x8192, .bf16⟩
  | _, _ => ⟨S10240x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S10240x4096 : Shape := ⟨2, ![10240, 4096]⟩
abbrev S1x4096x22096 : Shape := ⟨3, ![1, 4096, 22096]⟩
abbrev S4096x22096 : Shape := ⟨2, ![4096, 22096]⟩
abbrev S4096x1600 : Shape := ⟨2, ![4096, 1600]⟩
abbrev S4096x16 : Shape := ⟨2, ![4096, 16]⟩
abbrev S_ : Shape := ⟨0, ![]⟩
abbrev S4096x48 : Shape := ⟨2, ![4096, 48]⟩
abbrev S4096x1664 : Shape := ⟨2, ![4096, 1664]⟩
abbrev S10240x1664 : Shape := ⟨2, ![10240, 1664]⟩
abbrev S512x4096 : Shape := ⟨2, ![512, 4096]⟩
abbrev S512x1664 : Shape := ⟨2, ![512, 1664]⟩

abbrev nBuf : Space → Nat
  | .hbm => 10
  | .vmem => 5
  | .smem => 0
  | _ => 0

abbrev bufTy : (tb : Table) → Fin (tcTables nBuf tb) → BufTy
  | .hbm, ⟨0, _⟩ => ⟨S10240x4096, .bf16⟩
  | .hbm, ⟨1, _⟩ => ⟨S1x4096x22096, .f32⟩
  | .hbm, ⟨2, _⟩ => ⟨S4096x22096, .f32⟩
  | .hbm, ⟨3, _⟩ => ⟨S4096x1600, .f32⟩
  | .hbm, ⟨4, _⟩ => ⟨S4096x16, .f32⟩
  | .hbm, ⟨5, _⟩ => ⟨S_, .f32⟩
  | .hbm, ⟨6, _⟩ => ⟨S4096x48, .f32⟩
  | .hbm, ⟨7, _⟩ => ⟨S4096x1664, .f32⟩
  | .hbm, ⟨8, _⟩ => ⟨S4096x1664, .bf16⟩
  | .hbm, ⟨9, _⟩ => ⟨S10240x1664, .f32⟩
  | .local _ .vmem, ⟨0, _⟩ => ⟨S512x4096, .bf16⟩
  | .local _ .vmem, ⟨1, _⟩ => ⟨S512x4096, .bf16⟩
  | .local _ .vmem, ⟨2, _⟩ => ⟨S4096x1664, .bf16⟩
  | .local _ .vmem, ⟨3, _⟩ => ⟨S512x1664, .f32⟩
  | .local _ .vmem, ⟨4, _⟩ => ⟨S512x1664, .f32⟩
  | _, _ => ⟨S10240x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![20, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S10240x4096 : Shape := ⟨2, ![10240, 4096]⟩
abbrev S1x4096x22096 : Shape := ⟨3, ![1, 4096, 22096]⟩
abbrev S1x4096x1600 : Shape := ⟨3, ![1, 4096, 1600]⟩
abbrev S4096x1600 : Shape := ⟨2, ![4096, 1600]⟩
abbrev S10240x1600 : Shape := ⟨2, ![10240, 1600]⟩
abbrev S1x4096x16 : Shape := ⟨3, ![1, 4096, 16]⟩
abbrev S4096x16 : Shape := ⟨2, ![4096, 16]⟩
abbrev S10240x16 : Shape := ⟨2, ![10240, 16]⟩
abbrev S_ : Shape := ⟨0, ![]⟩
abbrev S10240x48 : Shape := ⟨2, ![10240, 48]⟩
abbrev S10240x1664 : Shape := ⟨2, ![10240, 1664]⟩

abbrev nBuf : Space → Nat
  | .hbm => 12
  | .vmem => 0
  | .smem => 0
  | _ => 0

abbrev bufTy : (tb : Table) → Fin (tcTables nBuf tb) → BufTy
  | .hbm, ⟨0, _⟩ => ⟨S10240x4096, .bf16⟩
  | .hbm, ⟨1, _⟩ => ⟨S1x4096x22096, .f32⟩
  | .hbm, ⟨2, _⟩ => ⟨S10240x4096, .f32⟩
  | .hbm, ⟨3, _⟩ => ⟨S1x4096x1600, .f32⟩
  | .hbm, ⟨4, _⟩ => ⟨S4096x1600, .f32⟩
  | .hbm, ⟨5, _⟩ => ⟨S10240x1600, .f32⟩
  | .hbm, ⟨6, _⟩ => ⟨S1x4096x16, .f32⟩
  | .hbm, ⟨7, _⟩ => ⟨S4096x16, .f32⟩
  | .hbm, ⟨8, _⟩ => ⟨S10240x16, .f32⟩
  | .hbm, ⟨9, _⟩ => ⟨S_, .f32⟩
  | .hbm, ⟨10, _⟩ => ⟨S10240x48, .f32⟩
  | .hbm, ⟨11, _⟩ => ⟨S10240x1664, .f32⟩
  | _, _ => ⟨S10240x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S8192x4096 : Shape := ⟨2, ![8192, 4096]⟩
abbrev S2048x4096 : Shape := ⟨2, ![2048, 4096]⟩
abbrev S1x4096x4096 : Shape := ⟨3, ![1, 4096, 4096]⟩
abbrev S4096x4096 : Shape := ⟨2, ![4096, 4096]⟩
abbrev S10240x4096 : Shape := ⟨2, ![10240, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S2048x4096, .bf16⟩
  | .hbm, ⟨2, _⟩ => ⟨S1x4096x4096, .f32⟩
  | .hbm, ⟨3, _⟩ => ⟨S4096x4096, .f32⟩
  | .hbm, ⟨4, _⟩ => ⟨S4096x4096, .bf16⟩
  | .hbm, ⟨5, _⟩ => ⟨S10240x4096, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S4096x1024, .bf16⟩
  | .local _ .vmem, ⟨5, _⟩ => ⟨S4096x1024, .bf16⟩
  | .local _ .vmem, ⟨6, _⟩ => ⟨S512x1024, .f32⟩
  | .local _ .vmem, ⟨7, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![20, 4, 1], ![false, false, false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.minsi arg0 c15_i32
  let c0_i32 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  ![v1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S8192x4096 : Shape := ⟨2, ![8192, 4096]⟩
abbrev S2048x4096 : Shape := ⟨2, ![2048, 4096]⟩
abbrev S1x4096x4096 : Shape := ⟨3, ![1, 4096, 4096]⟩
abbrev S10240x4096 : Shape := ⟨2, ![10240, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2048x4096, .bf16⟩
  | .hbm, ⟨2, _⟩ => ⟨S1x4096x4096, .f32⟩
  | .hbm, ⟨3, _⟩ => ⟨S10240x4096, .bf16⟩
  | .hbm, ⟨4, _⟩ => ⟨S10240x4096, .f32⟩
  | .hbm, ⟨5, _⟩ => ⟨S4096x4096, .f32⟩
  | .hbm, ⟨6, _⟩ => ⟨S10240x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8192x4096 : Shape := ⟨2, ![8192, 4096]⟩
abbrev S2048x4096 : Shape := ⟨2, ![2048, 4096]⟩
abbrev S1x4096x4096 : Shape := ⟨3, ![1, 4096, 4096]⟩
abbrev S10240x4096 : Shape := ⟨2, ![10240, 4096]⟩
abbrev S10240x8192 : Shape := ⟨2, ![10240, 8192]⟩
abbrev S4096x4096 : Shape := ⟨2, ![4096, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 8
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S2048x4096, .bf16⟩
  | .hbm, ⟨2, _⟩ => ⟨S1x4096x4096, .f32⟩
  | .hbm, ⟨3, _⟩ => ⟨S10240x4096, .f32⟩
  | .hbm, ⟨4, _⟩ => ⟨S10240x8192, .bf16⟩
  | .hbm, ⟨5, _⟩ => ⟨S4096x4096, .f32⟩
  | .hbm, ⟨6, _⟩ => ⟨S4096x4096, .bf16⟩
  | .hbm, ⟨7, _⟩ => ⟨S10240x4096, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S4096x1024, .bf16⟩
  | .local _ .vmem, ⟨5, _⟩ => ⟨S4096x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![20, 4, 1], ![false, false, false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.minsi arg0 c15_i32
  let c0_i32 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  ![v1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference7Ideal.lean ====
abbrev S8192x4096 : Shape := ⟨2, ![8192, 4096]⟩
abbrev S2048x4096 : Shape := ⟨2, ![2048, 4096]⟩
abbrev S1x4096x4096 : Shape := ⟨3, ![1, 4096, 4096]⟩
abbrev S10240x4096 : Shape := ⟨2, ![10240, 4096]⟩
abbrev S10240x8192 : Shape := ⟨2, ![10240, 8192]⟩
abbrev S4096x4096 : Shape := ⟨2, ![4096, 4096]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2048x4096, .bf16⟩
  | .hbm, ⟨2, _⟩ => ⟨S1x4096x4096, .f32⟩
  | .hbm, ⟨3, _⟩ => ⟨S10240x4096, .f32⟩
  | .hbm, ⟨4, _⟩ => ⟨S10240x8192, .bf16⟩
  | .hbm, ⟨5, _⟩ => ⟨S10240x4096, .bf16⟩
  | .hbm, ⟨6, _⟩ => ⟨S10240x4096, .f32⟩
  | .hbm, ⟨7, _⟩ => ⟨S4096x4096, .f32⟩
  | .hbm, ⟨8, _⟩ => ⟨S10240x4096, .f32⟩
  | .hbm, ⟨9, _⟩ => ⟨S10240x4096, .bf16⟩
  | .hbm, ⟨10, _⟩ => ⟨S10240x4096, .f32⟩
  | .hbm, ⟨11, _⟩ => ⟨S10240x4096, .bf16⟩
  | .hbm, ⟨12, _⟩ => ⟨S10240x4096, .f32⟩
  | .hbm, ⟨13, _⟩ => ⟨S10240x4096, .f32⟩
  | .hbm, ⟨14, _⟩ => ⟨S10240x4096, .f32⟩
  | .hbm, ⟨15, _⟩ => ⟨S_, .f32⟩
  | .hbm, ⟨16, _⟩ => ⟨S10240x4096, .f32⟩
  | .hbm, ⟨17, _⟩ => ⟨S10240x4096, .f32⟩
  | .hbm, ⟨18, _⟩ => ⟨S_, .f32⟩
  | .hbm, ⟨19, _⟩ => ⟨S10240x4096, .f32⟩
  | .hbm, ⟨20, _⟩ => ⟨S10240x4096, .f32⟩
  | .hbm, ⟨21, _⟩ => ⟨S10240x4096, .f32⟩
  | .hbm, ⟨22, _⟩ => ⟨S10240x4096, .f32⟩
  | .hbm, ⟨23, _⟩ => ⟨S10240x4096, .f32⟩
  | .hbm, ⟨24, _⟩ => ⟨S_, .f32⟩
  | .hbm, ⟨25, _⟩ => ⟨S10240x4096, .f32⟩
  | .hbm, ⟨26, _⟩ => ⟨S10240x4096, .f32⟩
  | .hbm, ⟨27, _⟩ => ⟨S_, .f32⟩
  | .hbm, ⟨28, _⟩ => ⟨S10240x4096, .f32⟩
  | .hbm, ⟨29, _⟩ => ⟨S10240x4096, .f32⟩
  | .hbm, ⟨30, _⟩ => ⟨S10240x4096, .f32⟩
  | .hbm, ⟨31, _⟩ => ⟨S10240x4096, .f32⟩
  | .hbm, ⟨32, _⟩ => ⟨S10240x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel8.lean ====
abbrev S10240x4096 : Shape := ⟨2, ![10240, 4096]⟩
abbrev S1x4096x4096 : Shape := ⟨3, ![1, 4096, 4096]⟩
abbrev S160x1x24576 : Shape := ⟨3, ![160, 1, 24576]⟩
abbrev S4096x4096 : Shape := ⟨2, ![4096, 4096]⟩
abbrev S512x4096 : Shape := ⟨2, ![512, 4096]⟩
abbrev S4096x1024 : Shape := ⟨2, ![4096, 1024]⟩
abbrev S8x1x1024 : Shape := ⟨3, ![8, 1, 1024]⟩
abbrev S512x1024 : Shape := ⟨2, ![512, 1024]⟩
abbrev S8x64x1024 : Shape := ⟨3, ![8, 64, 1024]⟩

abbrev nBuf : Space → Nat
  | .hbm => 6
  | .vmem => 8
  | .smem => 0
  | _ => 0

abbrev bufTy : (tb : Table) → Fin (tcTables nBuf tb) → BufTy
  | .hbm, ⟨0, _⟩ => ⟨S10240x4096, .bf16⟩
  | .hbm, ⟨1, _⟩ => ⟨S1x4096x4096, .f32⟩
  | .hbm, ⟨2, _⟩ => ⟨S160x1x24576, .f32⟩
  | .hbm, ⟨3, _⟩ => ⟨S4096x4096, .f32⟩
  | .hbm, ⟨4, _⟩ => ⟨S4096x4096, .bf16⟩
  | .hbm, ⟨5, _⟩ => ⟨S10240x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S8x1x1024, .f32⟩
  | .local _ .vmem, ⟨5, _⟩ => ⟨S8x1x1024, .f32⟩
  | .local _ .vmem, ⟨6, _⟩ => ⟨S512x1024, .f32⟩
  | .local _ .vmem, ⟨7, _⟩ => ⟨S512x1024, .f32⟩
  | _, _ => ⟨S10240x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![20, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S10240x4096 : Shape := ⟨2, ![10240, 4096]⟩
abbrev S1x4096x4096 : Shape := ⟨3, ![1, 4096, 4096]⟩
abbrev S160x1x24576 : Shape := ⟨3, ![160, 1, 24576]⟩
abbrev S160x1x4096 : Shape := ⟨3, ![160, 1, 4096]⟩
abbrev S160x4096 : Shape := ⟨2, ![160, 4096]⟩
abbrev S160x64x4096 : Shape := ⟨3, ![160, 64, 4096]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S10240x4096, .bf16⟩
  | .hbm, ⟨1, _⟩ => ⟨S1x4096x4096, .f32⟩
  | .hbm, ⟨2, _⟩ => ⟨S160x1x24576, .f32⟩
  | .hbm, ⟨3, _⟩ => ⟨S160x1x4096, .f32⟩
  | .hbm, ⟨4, _⟩ => ⟨S160x4096, .f32⟩
  | .hbm, ⟨5, _⟩ => ⟨S160x64x4096, .f32⟩
  | .hbm, ⟨6, _⟩ => ⟨S10240x4096, .f32⟩
  | .hbm, ⟨7, _⟩ => ⟨S10240x4096, .f32⟩
  | .hbm, ⟨8, _⟩ => ⟨S4096x4096, .f32⟩
  | .hbm, ⟨9, _⟩ => ⟨S10240x4096, .f32⟩
  | .hbm, ⟨10, _⟩ => ⟨S10240x4096, .f32⟩
  | _, _ => ⟨S10240x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S10240x4096 : Shape := ⟨2, ![10240, 4096]⟩
abbrev S1x4096x2048 : Shape := ⟨3, ![1, 4096, 2048]⟩
abbrev S4096x2048 : Shape := ⟨2, ![4096, 2048]⟩
abbrev S10240x2048 : Shape := ⟨2, ![10240, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S10240x4096, .bf16⟩
  | .hbm, ⟨1, _⟩ => ⟨S1x4096x2048, .f32⟩
  | .hbm, ⟨2, _⟩ => ⟨S4096x2048, .f32⟩
  | .hbm, ⟨3, _⟩ => ⟨S4096x2048, .bf16⟩
  | .hbm, ⟨4, _⟩ => ⟨S10240x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S10240x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![10, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S10240x4096 : Shape := ⟨2, ![10240, 4096]⟩
abbrev S1x4096x2048 : Shape := ⟨3, ![1, 4096, 2048]⟩
abbrev S4096x2048 : Shape := ⟨2, ![4096, 2048]⟩
abbrev S10240x2048 : Shape := ⟨2, ![10240, 2048]⟩

abbrev nBuf : Space → Nat
  | .hbm => 6
  | .vmem => 0
  | .smem => 0
  | _ => 0

abbrev bufTy : (tb : Table) → Fin (tcTables nBuf tb) → BufTy
  | .hbm, ⟨0, _⟩ => ⟨S10240x4096, .bf16⟩
  | .hbm, ⟨1, _⟩ => ⟨S1x4096x2048, .f32⟩
  | .hbm, ⟨2, _⟩ => ⟨S10240x4096, .f32⟩
  | .hbm, ⟨3, _⟩ => ⟨S4096x2048, .f32⟩
  | .hbm, ⟨4, _⟩ => ⟨S10240x2048, .f32⟩
  | .hbm, ⟨5, _⟩ => ⟨S10240x2048, .bf16⟩
  | _, _ => ⟨S10240x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S10240x1024 : Shape := ⟨2, ![10240, 1024]⟩
abbrev S1x1024x32x192 : Shape := ⟨4, ![1, 1024, 32, 192]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S64 : Shape := ⟨1, ![64]⟩
abbrev S_ : Shape := ⟨0, ![]⟩
abbrev S1x64 : Shape := ⟨2, ![1, 64]⟩
abbrev S32x64 : Shape := ⟨2, ![32, 64]⟩
abbrev S10240 : Shape := ⟨1, ![10240]⟩
abbrev S32 : Shape := ⟨1, ![32]⟩
abbrev S10240x1 : Shape := ⟨2, ![10240, 1]⟩
abbrev S1x32 : Shape := ⟨2, ![1, 32]⟩
abbrev S10240x32 : Shape := ⟨2, ![10240, 32]⟩
abbrev S10240x64 : Shape := ⟨2, ![10240, 64]⟩
abbrev S1024x32x192 : Shape := ⟨3, ![1024, 32, 192]⟩
abbrev S32x1024x192 : Shape := ⟨3, ![32, 1024, 192]⟩
abbrev S32x10240x192 : Shape := ⟨3, ![32, 10240, 192]⟩
abbrev S1024x1024 : Shape := ⟨2, ![1024, 1024]⟩
abbrev S4x1024x192 : Shape := ⟨3, ![4, 1024, 192]⟩
abbrev S1024x64 : Shape := ⟨2, ![1024, 64]⟩
abbrev S1x1024x192 : Shape := ⟨3, ![1, 1024, 192]⟩
abbrev S1024x192 : Shape := ⟨2, ![1024, 192]⟩
abbrev S1024x128 : Shape := ⟨2, ![1024, 128]⟩
abbrev S1024x32 : Shape := ⟨2, ![1024, 32]⟩

abbrev nBuf : Space → Nat
  | .hbm => 37
  | .vmem => 10
  | .smem => 0
  | _ => 0

abbrev bufTy : (tb : Table) → Fin (tcTables nBuf tb) → BufTy
  | .hbm, ⟨0, _⟩ => ⟨S10240x1024, .bf16⟩
  | .hbm, ⟨1, _⟩ => ⟨S1x1024x32x192, .f32⟩
  | .hbm, ⟨2, _⟩ => ⟨S2048, .i32⟩
  | .hbm, ⟨3, _⟩ => ⟨S1x2048, .i32⟩
  | .hbm, ⟨4, _⟩ => ⟨S4x2048, .i32⟩
  | .hbm, ⟨5, _⟩ => ⟨S8192, .i32⟩
  | .hbm, ⟨6, _⟩ => ⟨S64, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S1x64, .i32⟩
  | .hbm, ⟨11, _⟩ => ⟨S32x64, .i32⟩
  | .hbm, ⟨12, _⟩ => ⟨S2048, .i32⟩
  | .hbm, ⟨13, _⟩ => ⟨S10240, .i32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S10240, .f32⟩
  | .hbm, ⟨23, _⟩ => ⟨S10240x1, .f32⟩
  | .hbm, ⟨24, _⟩ => ⟨S1x32, .f32⟩
  | .hbm, ⟨25, _⟩ => ⟨S10240x32, .f32⟩
  | .hbm, ⟨26, _⟩ => ⟨S10240x32, .f32⟩
  | .hbm, ⟨27, _⟩ => ⟨S10240x32, .f32⟩
  | .hbm, ⟨28, _⟩ => ⟨S10240x32, .f32⟩
  | .hbm, ⟨29, _⟩ => ⟨S10240x32, .f32⟩
  | .hbm, ⟨30, _⟩ => ⟨S10240x64, .f32⟩
  | .hbm, ⟨31, _⟩ => ⟨S10240x32, .f32⟩
  | .hbm, ⟨32, _⟩ => ⟨S10240x64, .f32⟩
  | .hbm, ⟨33, _⟩ => ⟨S1024x32x192, .f32⟩
  | .hbm, ⟨34, _⟩ => ⟨S32x1024x192, .f32⟩
  | .hbm, ⟨35, _⟩ => ⟨S32x1024x192, .bf16⟩
  | .hbm, ⟨36, _⟩ => ⟨S32x10240x192, .bf16⟩
  | .local _ .vmem, ⟨0, _⟩ => ⟨S1024x1024, .bf16⟩
  | .local _ .vmem, ⟨1, _⟩ => ⟨S1024x1024, .bf16⟩
  | .local _ .vmem, ⟨2, _⟩ => ⟨S4x1024x192, .bf16⟩
  | .local _ .vmem, ⟨3, _⟩ => ⟨S4x1024x192, .bf16⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S4x1024x192, .bf16⟩
  | .local _ .vmem, ⟨9, _⟩ => ⟨S4x1024x192, .bf16⟩
  | _, _ => ⟨S10240x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![10, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x1024x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x1024x192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference10Ideal.lean ====
abbrev S10240x1024 : Shape := ⟨2, ![10240, 1024]⟩
abbrev S1x1024x32x192 : Shape := ⟨4, ![1, 1024, 32, 192]⟩
abbrev S1024x32x192 : Shape := ⟨3, ![1024, 32, 192]⟩
abbrev S10240x32x192 : Shape := ⟨3, ![10240, 32, 192]⟩
abbrev S10240x32x128 : Shape := ⟨3, ![10240, 32, 128]⟩
abbrev S10240x32x64 : Shape := ⟨3, ![10240, 32, 64]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S64 : Shape := ⟨1, ![64]⟩
abbrev S_ : Shape := ⟨0, ![]⟩
abbrev S1x64 : Shape := ⟨2, ![1, 64]⟩
abbrev S32x64 : Shape := ⟨2, ![32, 64]⟩
abbrev S10240 : Shape := ⟨1, ![10240]⟩
abbrev S32 : Shape := ⟨1, ![32]⟩
abbrev S10240x1 : Shape := ⟨2, ![10240, 1]⟩
abbrev S1x32 : Shape := ⟨2, ![1, 32]⟩
abbrev S10240x32 : Shape := ⟨2, ![10240, 32]⟩
abbrev S10240x1x32 : Shape := ⟨3, ![10240, 1, 32]⟩
abbrev S10240x32x32 : Shape := ⟨3, ![10240, 32, 32]⟩
abbrev S32x10240x192 : Shape := ⟨3, ![32, 10240, 192]⟩

abbrev nBuf : Space → Nat
  | .hbm => 53
  | .vmem => 0
  | .smem => 0
  | _ => 0

abbrev bufTy : (tb : Table) → Fin (tcTables nBuf tb) → BufTy
  | .hbm, ⟨0, _⟩ => ⟨S10240x1024, .bf16⟩
  | .hbm, ⟨1, _⟩ => ⟨S1x1024x32x192, .f32⟩
  | .hbm, ⟨2, _⟩ => ⟨S10240x1024, .f32⟩
  | .hbm, ⟨3, _⟩ => ⟨S1024x32x192, .f32⟩
  | .hbm, ⟨4, _⟩ => ⟨S10240x32x192, .f32⟩
  | .hbm, ⟨5, _⟩ => ⟨S10240x32x128, .f32⟩
  | .hbm, ⟨6, _⟩ => ⟨S10240x32x64, .f32⟩
  | .hbm, ⟨7, _⟩ => ⟨S2048, .i32⟩
  | .hbm, ⟨8, _⟩ => ⟨S1x2048, .i32⟩
  | .hbm, ⟨9, _⟩ => ⟨S4x2048, .i32⟩
  | .hbm, ⟨10, _⟩ => ⟨S8192, .i32⟩
  | .hbm, ⟨11, _⟩ => ⟨S64, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S1x64, .i32⟩
  | .hbm, ⟨16, _⟩ => ⟨S32x64, .i32⟩
  | .hbm, ⟨17, _⟩ => ⟨S2048, .i32⟩
  | .hbm, ⟨18, _⟩ => ⟨S10240, .i32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S10240, .f32⟩
  | .hbm, ⟨28, _⟩ => ⟨S10240x1, .f32⟩
  | .hbm, ⟨29, _⟩ => ⟨S1x32, .f32⟩
  | .hbm, ⟨30, _⟩ => ⟨S10240x32, .f32⟩
  | .hbm, ⟨31, _⟩ => ⟨S10240x32, .f32⟩
  | .hbm, ⟨32, _⟩ => ⟨S10240x32, .f32⟩
  | .hbm, ⟨33, _⟩ => ⟨S10240x32, .f32⟩
  | .hbm, ⟨34, _⟩ => ⟨S10240x1x32, .f32⟩
  | .hbm, ⟨35, _⟩ => ⟨S10240x32, .f32⟩
  | .hbm, ⟨36, _⟩ => ⟨S10240x1x32, .f32⟩
  | .hbm, ⟨37, _⟩ => ⟨S10240x32x32, .f32⟩
  | .hbm, ⟨38, _⟩ => ⟨S10240x32x32, .f32⟩
  | .hbm, ⟨39, _⟩ => ⟨S10240x32x32, .f32⟩
  | .hbm, ⟨40, _⟩ => ⟨S10240x32x32, .f32⟩
  | .hbm, ⟨41, _⟩ => ⟨S10240x32x32, .f32⟩
  | .hbm, ⟨42, _⟩ => ⟨S10240x32x32, .f32⟩
  | .hbm, ⟨43, _⟩ => ⟨S10240x32x32, .f32⟩
  | .hbm, ⟨44, _⟩ => ⟨S10240x32x32, .f32⟩
  | .hbm, ⟨45, _⟩ => ⟨S10240x32x32, .f32⟩
  | .hbm, ⟨46, _⟩ => ⟨S10240x32x32, .f32⟩
  | .hbm, ⟨47, _⟩ => ⟨S10240x32x32, .f32⟩
  | .hbm, ⟨48, _⟩ => ⟨S10240x32x32, .f32⟩
  | .hbm, ⟨49, _⟩ => ⟨S10240x32x64, .f32⟩
  | .hbm, ⟨50, _⟩ => ⟨S10240x32x192, .f32⟩
  | .hbm, ⟨51, _⟩ => ⟨S32x10240x192, .f32⟩
  | .hbm, ⟨52, _⟩ => ⟨S32x10240x192, .bf16⟩
  | _, _ => ⟨S10240x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩

abbrev nD : Nat := 1
abbrev τ : Topo := Topo.v7x

variable {F : FTy → Type} [FloatOps F]
-- ==== Kernel11.lean ====
abbrev S48x4096 : Shape := ⟨2, ![48, 4096]⟩
abbrev S1x4096x24576 : Shape := ⟨3, ![1, 4096, 24576]⟩
abbrev S1x24576 : Shape := ⟨2, ![1, 24576]⟩
abbrev S4096x24576 : Shape := ⟨2, ![4096, 24576]⟩
abbrev S48x24576 : Shape := ⟨2, ![48, 24576]⟩
abbrev S4096x512 : Shape := ⟨2, ![4096, 512]⟩
abbrev S1x512 : Shape := ⟨2, ![1, 512]⟩
abbrev S48x512 : Shape := ⟨2, ![48, 512]⟩

abbrev nBuf : Space → Nat
  | .hbm => 5
  | .vmem => 7
  | .smem => 0
  | _ => 0

abbrev bufTy : (tb : Table) → Fin (tcTables nBuf tb) → BufTy
  | .hbm, ⟨0, _⟩ => ⟨S48x4096, .f32⟩
  | .hbm, ⟨1, _⟩ => ⟨S1x4096x24576, .f32⟩
  | .hbm, ⟨2, _⟩ => ⟨S1x24576, .f32⟩
  | .hbm, ⟨3, _⟩ => ⟨S4096x24576, .f32⟩
  | .hbm, ⟨4, _⟩ => ⟨S48x24576, .f32⟩
  | .local _ .vmem, ⟨0, _⟩ => ⟨S48x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S48x512, .f32⟩
  | .local _ .vmem, ⟨6, _⟩ => ⟨S48x512, .f32⟩
  | _, _ => ⟨S48x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 48, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S48x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S48x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S48x4096 : Shape := ⟨2, ![48, 4096]⟩
abbrev S1x4096x24576 : Shape := ⟨3, ![1, 4096, 24576]⟩
abbrev S1x24576 : Shape := ⟨2, ![1, 24576]⟩
abbrev S_ : Shape := ⟨0, ![]⟩
abbrev S4096x24576 : Shape := ⟨2, ![4096, 24576]⟩
abbrev S48x24576 : Shape := ⟨2, ![48, 24576]⟩
abbrev S24576 : Shape := ⟨1, ![24576]⟩

abbrev nBuf : Space → Nat
  | .hbm => 18
  | .vmem => 0
  | .smem => 0
  | _ => 0

abbrev bufTy : (tb : Table) → Fin (tcTables nBuf tb) → BufTy
  | .hbm, ⟨0, _⟩ => ⟨S48x4096, .f32⟩
  | .hbm, ⟨1, _⟩ => ⟨S1x4096x24576, .f32⟩
  | .hbm, ⟨2, _⟩ => ⟨S1x24576, .f32⟩
  | .hbm, ⟨3, _⟩ => ⟨S48x4096, .f32⟩
  | .hbm, ⟨4, _⟩ => ⟨S48x4096, .f32⟩
  | .hbm, ⟨5, _⟩ => ⟨S_, .f32⟩
  | .hbm, ⟨6, _⟩ => ⟨S48x4096, .f32⟩
  | .hbm, ⟨7, _⟩ => ⟨S48x4096, .f32⟩
  | .hbm, ⟨8, _⟩ => ⟨S_, .f32⟩
  | .hbm, ⟨9, _⟩ => ⟨S48x4096, .f32⟩
  | .hbm, ⟨10, _⟩ => ⟨S48x4096, .f32⟩
  | .hbm, ⟨11, _⟩ => ⟨S48x4096, .f32⟩
  | .hbm, ⟨12, _⟩ => ⟨S4096x24576, .f32⟩
  | .hbm, ⟨13, _⟩ => ⟨S48x24576, .f32⟩
  | .hbm, ⟨14, _⟩ => ⟨S24576, .f32⟩
  | .hbm, ⟨15, _⟩ => ⟨S1x24576, .f32⟩
  | .hbm, ⟨16, _⟩ => ⟨S48x24576, .f32⟩
  | .hbm, ⟨17, _⟩ => ⟨S48x24576, .f32⟩
  | _, _ => ⟨S48x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel12.lean ====
abbrev S10240x1664 : Shape := ⟨2, ![10240, 1664]⟩
abbrev S1x1024 : Shape := ⟨2, ![1, 1024]⟩
abbrev S1x512 : Shape := ⟨2, ![1, 512]⟩
abbrev S1x8 : Shape := ⟨2, ![1, 8]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S64 : Shape := ⟨1, ![64]⟩
abbrev S_ : Shape := ⟨0, ![]⟩
abbrev S1x64 : Shape := ⟨2, ![1, 64]⟩
abbrev S32x64 : Shape := ⟨2, ![32, 64]⟩
abbrev S10240 : Shape := ⟨1, ![10240]⟩
abbrev S32 : Shape := ⟨1, ![32]⟩
abbrev S10240x1 : Shape := ⟨2, ![10240, 1]⟩
abbrev S1x32 : Shape := ⟨2, ![1, 32]⟩
abbrev S10240x32 : Shape := ⟨2, ![10240, 32]⟩
abbrev S10240x64 : Shape := ⟨2, ![10240, 64]⟩
abbrev S1x16 : Shape := ⟨2, ![1, 16]⟩
abbrev S10240x1024 : Shape := ⟨2, ![10240, 1024]⟩
abbrev S10240x512 : Shape := ⟨2, ![10240, 512]⟩
abbrev S10240x16 : Shape := ⟨2, ![10240, 16]⟩
abbrev S256x1664 : Shape := ⟨2, ![256, 1664]⟩
abbrev S256x64 : Shape := ⟨2, ![256, 64]⟩
abbrev S256x1024 : Shape := ⟨2, ![256, 1024]⟩
abbrev S256x512 : Shape := ⟨2, ![256, 512]⟩
abbrev S256x16 : Shape := ⟨2, ![256, 16]⟩
abbrev S256 : Shape := ⟨1, ![256]⟩
abbrev S256x1 : Shape := ⟨2, ![256, 1]⟩
abbrev S256x32 : Shape := ⟨2, ![256, 32]⟩

abbrev nBuf : Space → Nat
  | .hbm => 41
  | .vmem => 17
  | .smem => 0
  | _ => 0

abbrev bufTy : (tb : Table) → Fin (tcTables nBuf tb) → BufTy
  | .hbm, ⟨0, _⟩ => ⟨S10240x1664, .f32⟩
  | .hbm, ⟨1, _⟩ => ⟨S1x1024, .f32⟩
  | .hbm, ⟨2, _⟩ => ⟨S1x512, .f32⟩
  | .hbm, ⟨3, _⟩ => ⟨S1x8, .f32⟩
  | .hbm, ⟨4, _⟩ => ⟨S1x8, .f32⟩
  | .hbm, ⟨5, _⟩ => ⟨S2048, .i32⟩
  | .hbm, ⟨6, _⟩ => ⟨S1x2048, .i32⟩
  | .hbm, ⟨7, _⟩ => ⟨S4x2048, .i32⟩
  | .hbm, ⟨8, _⟩ => ⟨S8192, .i32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S1x64, .i32⟩
  | .hbm, ⟨14, _⟩ => ⟨S32x64, .i32⟩
  | .hbm, ⟨15, _⟩ => ⟨S2048, .i32⟩
  | .hbm, ⟨16, _⟩ => ⟨S10240, .i32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S10240, .f32⟩
  | .hbm, ⟨26, _⟩ => ⟨S10240x1, .f32⟩
  | .hbm, ⟨27, _⟩ => ⟨S1x32, .f32⟩
  | .hbm, ⟨28, _⟩ => ⟨S10240x32, .f32⟩
  | .hbm, ⟨29, _⟩ => ⟨S10240x32, .f32⟩
  | .hbm, ⟨30, _⟩ => ⟨S10240x32, .f32⟩
  | .hbm, ⟨31, _⟩ => ⟨S10240x32, .f32⟩
  | .hbm, ⟨32, _⟩ => ⟨S10240x32, .f32⟩
  | .hbm, ⟨33, _⟩ => ⟨S10240x64, .f32⟩
  | .hbm, ⟨34, _⟩ => ⟨S10240x32, .f32⟩
  | .hbm, ⟨35, _⟩ => ⟨S10240x64, .f32⟩
  | .hbm, ⟨36, _⟩ => ⟨S1x16, .f32⟩
  | .hbm, ⟨37, _⟩ => ⟨S10240x1024, .bf16⟩
  | .hbm, ⟨38, _⟩ => ⟨S10240x512, .f32⟩
  | .hbm, ⟨39, _⟩ => ⟨S10240x64, .f32⟩
  | .hbm, ⟨40, _⟩ => ⟨S10240x16, .f32⟩
  | .local _ .vmem, ⟨0, _⟩ => ⟨S256x1664, .f32⟩
  | .local _ .vmem, ⟨1, _⟩ => ⟨S256x1664, .f32⟩
  | .local _ .vmem, ⟨2, _⟩ => ⟨S1x1024, .f32⟩
  | .local _ .vmem, ⟨3, _⟩ => ⟨S1x512, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S1x16, .f32⟩
  | .local _ .vmem, ⟨9, _⟩ => ⟨S256x1024, .bf16⟩
  | .local _ .vmem, ⟨10, _⟩ => ⟨S256x1024, .bf16⟩
  | .local _ .vmem, ⟨11, _⟩ => ⟨S256x512, .f32⟩
  | .local _ .vmem, ⟨12, _⟩ => ⟨S256x512, .f32⟩
  | .local _ .vmem, ⟨13, _⟩ => ⟨S256x64, .f32⟩
  | .local _ .vmem, ⟨14, _⟩ => ⟨S256x64, .f32⟩
  | .local _ .vmem, ⟨15, _⟩ => ⟨S256x16, .f32⟩
  | .local _ .vmem, ⟨16, _⟩ => ⟨S256x16, .f32⟩
  | _, _ => ⟨S10240x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29_0 : Ref sig .tc := ⟨.hbm, 37, rfl⟩
abbrev main_v29_1 : Ref sig .tc := ⟨.hbm, 38, rfl⟩
abbrev main_v29_2 : Ref sig .tc := ⟨.hbm, 39, rfl⟩
abbrev main_v29_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference12Ideal.lean ====
abbrev S10240x1664 : Shape := ⟨2, ![10240, 1664]⟩
abbrev S1x1024 : Shape := ⟨2, ![1, 1024]⟩
abbrev S1x512 : Shape := ⟨2, ![1, 512]⟩
abbrev S1x8 : Shape := ⟨2, ![1, 8]⟩
abbrev S10240x8 : Shape := ⟨2, ![10240, 8]⟩
abbrev S_ : Shape := ⟨0, ![]⟩
abbrev S10240x1024 : Shape := ⟨2, ![10240, 1024]⟩
abbrev S1024 : Shape := ⟨1, ![1024]⟩
abbrev S10240 : Shape := ⟨1, ![10240]⟩
abbrev S10240x1 : Shape := ⟨2, ![10240, 1]⟩
abbrev S10240x512 : Shape := ⟨2, ![10240, 512]⟩
abbrev S512 : Shape := ⟨1, ![512]⟩
abbrev S10240x64 : Shape := ⟨2, ![10240, 64]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S64 : Shape := ⟨1, ![64]⟩
abbrev S1x64 : Shape := ⟨2, ![1, 64]⟩
abbrev S32x64 : Shape := ⟨2, ![32, 64]⟩
abbrev S32 : Shape := ⟨1, ![32]⟩
abbrev S1x32 : Shape := ⟨2, ![1, 32]⟩
abbrev S10240x32 : Shape := ⟨2, ![10240, 32]⟩
abbrev S10240x16 : Shape := ⟨2, ![10240, 16]⟩

abbrev nBuf : Space → Nat
  | .hbm => 103
  | .vmem => 0
  | .smem => 0
  | _ => 0

abbrev bufTy : (tb : Table) → Fin (tcTables nBuf tb) → BufTy
  | .hbm, ⟨0, _⟩ => ⟨S10240x1664, .f32⟩
  | .hbm, ⟨1, _⟩ => ⟨S1x1024, .f32⟩
  | .hbm, ⟨2, _⟩ => ⟨S1x512, .f32⟩
  | .hbm, ⟨3, _⟩ => ⟨S1x8, .f32⟩
  | .hbm, ⟨4, _⟩ => ⟨S1x8, .f32⟩
  | .hbm, ⟨5, _⟩ => ⟨S10240x8, .f32⟩
  | .hbm, ⟨6, _⟩ => ⟨S10240x8, .f32⟩
  | .hbm, ⟨7, _⟩ => ⟨S10240x8, .f32⟩
  | .hbm, ⟨8, _⟩ => ⟨S10240x8, .f32⟩
  | .hbm, ⟨9, _⟩ => ⟨S10240x8, .f32⟩
  | .hbm, ⟨10, _⟩ => ⟨S10240x8, .f32⟩
  | .hbm, ⟨11, _⟩ => ⟨S10240x8, .f32⟩
  | .hbm, ⟨12, _⟩ => ⟨S_, .f32⟩
  | .hbm, ⟨13, _⟩ => ⟨S10240x8, .f32⟩
  | .hbm, ⟨14, _⟩ => ⟨S10240x8, .f32⟩
  | .hbm, ⟨15, _⟩ => ⟨S10240x8, .f32⟩
  | .hbm, ⟨16, _⟩ => ⟨S10240x8, .f32⟩
  | .hbm, ⟨17, _⟩ => ⟨S10240x8, .i1⟩
  | .hbm, ⟨18, _⟩ => ⟨S10240x8, .f32⟩
  | .hbm, ⟨19, _⟩ => ⟨S10240x8, .f32⟩
  | .hbm, ⟨20, _⟩ => ⟨S10240x8, .f32⟩
  | .hbm, ⟨21, _⟩ => ⟨S10240x8, .f32⟩
  | .hbm, ⟨22, _⟩ => ⟨S10240x8, .f32⟩
  | .hbm, ⟨23, _⟩ => ⟨S10240x8, .f32⟩
  | .hbm, ⟨24, _⟩ => ⟨S10240x8, .f32⟩
  | .hbm, ⟨25, _⟩ => ⟨S10240x8, .f32⟩
  | .hbm, ⟨26, _⟩ => ⟨S10240x8, .f32⟩
  | .hbm, ⟨27, _⟩ => ⟨S10240x1024, .f32⟩
  | .hbm, ⟨28, _⟩ => ⟨S1024, .f32⟩
  | .hbm, ⟨29, _⟩ => ⟨S10240x1024, .f32⟩
  | .hbm, ⟨30, _⟩ => ⟨S_, .f32⟩
  | .hbm, ⟨31, _⟩ => ⟨S10240, .f32⟩
  | .hbm, ⟨32, _⟩ => ⟨S10240x1, .f32⟩
  | .hbm, ⟨33, _⟩ => ⟨S_, .f32⟩
  | .hbm, ⟨34, _⟩ => ⟨S10240x1, .f32⟩
  | .hbm, ⟨35, _⟩ => ⟨S10240x1, .f32⟩
  | .hbm, ⟨36, _⟩ => ⟨S_, .f32⟩
  | .hbm, ⟨37, _⟩ => ⟨S10240x1, .f32⟩
  | .hbm, ⟨38, _⟩ => ⟨S10240x1, .f32⟩
  | .hbm, ⟨39, _⟩ => ⟨S10240x1, .f32⟩
  | .hbm, ⟨40, _⟩ => ⟨S10240x1024, .f32⟩
  | .hbm, ⟨41, _⟩ => ⟨S10240x1024, .f32⟩
  | .hbm, ⟨42, _⟩ => ⟨S1x1024, .f32⟩
  | .hbm, ⟨43, _⟩ => ⟨S10240x1024, .f32⟩
  | .hbm, ⟨44, _⟩ => ⟨S10240x1024, .f32⟩
  | .hbm, ⟨45, _⟩ => ⟨S10240x1024, .bf16⟩
  | .hbm, ⟨46, _⟩ => ⟨S10240x512, .f32⟩
  | .hbm, ⟨47, _⟩ => ⟨S512, .f32⟩
  | .hbm, ⟨48, _⟩ => ⟨S10240x512, .f32⟩
  | .hbm, ⟨49, _⟩ => ⟨S_, .f32⟩
  | .hbm, ⟨50, _⟩ => ⟨S10240, .f32⟩
  | .hbm, ⟨51, _⟩ => ⟨S10240x1, .f32⟩
  | .hbm, ⟨52, _⟩ => ⟨S_, .f32⟩
  | .hbm, ⟨53, _⟩ => ⟨S10240x1, .f32⟩
  | .hbm, ⟨54, _⟩ => ⟨S10240x1, .f32⟩
  | .hbm, ⟨55, _⟩ => ⟨S_, .f32⟩
  | .hbm, ⟨56, _⟩ => ⟨S10240x1, .f32⟩
  | .hbm, ⟨57, _⟩ => ⟨S10240x1, .f32⟩
  | .hbm, ⟨58, _⟩ => ⟨S10240x1, .f32⟩
  | .hbm, ⟨59, _⟩ => ⟨S10240x512, .f32⟩
  | .hbm, ⟨60, _⟩ => ⟨S10240x512, .f32⟩
  | .hbm, ⟨61, _⟩ => ⟨S1x512, .f32⟩
  | .hbm, ⟨62, _⟩ => ⟨S10240x512, .f32⟩
  | .hbm, ⟨63, _⟩ => ⟨S10240x512, .f32⟩
  | .hbm, ⟨64, _⟩ => ⟨S10240x64, .f32⟩
  | .hbm, ⟨65, _⟩ => ⟨S2048, .i32⟩
  | .hbm, ⟨66, _⟩ => ⟨S1x2048, .i32⟩
  | .hbm, ⟨67, _⟩ => ⟨S4x2048, .i32⟩
  | .hbm, ⟨68, _⟩ => ⟨S8192, .i32⟩
  | .hbm, ⟨69, _⟩ => ⟨S64, .i32⟩
  | .hbm, ⟨70, _⟩ => ⟨S_, .i32⟩
  | .hbm, ⟨71, _⟩ => ⟨S64, .i32⟩
  | .hbm, ⟨72, _⟩ => ⟨S64, .i32⟩
  | .hbm, ⟨73, _⟩ => ⟨S1x64, .i32⟩
  | .hbm, ⟨74, _⟩ => ⟨S32x64, .i32⟩
  | .hbm, ⟨75, _⟩ => ⟨S2048, .i32⟩
  | .hbm, ⟨76, _⟩ => ⟨S10240, .i32⟩
  | .hbm, ⟨77, _⟩ => ⟨S32, .f32⟩
  | .hbm, ⟨78, _⟩ => ⟨S32, .f32⟩
  | .hbm, ⟨79, _⟩ => ⟨S_, .f32⟩
  | .hbm, ⟨80, _⟩ => ⟨S32, .f32⟩
  | .hbm, ⟨81, _⟩ => ⟨S32, .f32⟩
  | .hbm, ⟨82, _⟩ => ⟨S_, .f32⟩
  | .hbm, ⟨83, _⟩ => ⟨S32, .f32⟩
  | .hbm, ⟨84, _⟩ => ⟨S32, .f32⟩
  | .hbm, ⟨85, _⟩ => ⟨S10240, .f32⟩
  | .hbm, ⟨86, _⟩ => ⟨S10240x1, .f32⟩
  | .hbm, ⟨87, _⟩ => ⟨S1x32, .f32⟩
  | .hbm, ⟨88, _⟩ => ⟨S10240x32, .f32⟩
  | .hbm, ⟨89, _⟩ => ⟨S10240x32, .f32⟩
  | .hbm, ⟨90, _⟩ => ⟨S10240x32, .f32⟩
  | .hbm, ⟨91, _⟩ => ⟨S10240x32, .f32⟩
  | .hbm, ⟨92, _⟩ => ⟨S10240x32, .f32⟩
  | .hbm, ⟨93, _⟩ => ⟨S10240x32, .f32⟩
  | .hbm, ⟨94, _⟩ => ⟨S10240x32, .f32⟩
  | .hbm, ⟨95, _⟩ => ⟨S10240x32, .f32⟩
  | .hbm, ⟨96, _⟩ => ⟨S10240x32, .f32⟩
  | .hbm, ⟨97, _⟩ => ⟨S10240x32, .f32⟩
  | .hbm, ⟨98, _⟩ => ⟨S10240x32, .f32⟩
  | .hbm, ⟨99, _⟩ => ⟨S10240x32, .f32⟩
  | .hbm, ⟨100, _⟩ => ⟨S10240x32, .f32⟩
  | .hbm, ⟨101, _⟩ => ⟨S10240x64, .f32⟩
  | .hbm, ⟨102, _⟩ => ⟨S10240x16, .f32⟩
  | _, _ => ⟨S10240x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_cst_0 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_2 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_5 : Ref sig .tc := ⟨.hbm, 79, rfl⟩
abbrev main_v52 : Ref sig .tc := ⟨.hbm, 80, rfl⟩
abbrev main_v53 : Ref sig .tc := ⟨.hbm, 81, rfl⟩
abbrev main_cst_6 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩

abbrev nD : Nat := 1
abbrev τ : Topo := Topo.v7x

variable {F : FTy → Type} [FloatOps F]
-- ==== Kernel13.lean ====
abbrev S4x2048x4096 : Shape := ⟨3, ![4, 2048, 4096]⟩
abbrev S32x64x4096 : Shape := ⟨3, ![32, 64, 4096]⟩
abbrev S1x4096 : Shape := ⟨2, ![1, 4096]⟩
abbrev S160x1x24576 : Shape := ⟨3, ![160, 1, 24576]⟩
abbrev S8192x4096 : Shape := ⟨2, ![8192, 4096]⟩
abbrev S2048x4096 : Shape := ⟨2, ![2048, 4096]⟩
abbrev S10240x4096 : Shape := ⟨2, ![10240, 4096]⟩
abbrev S256x4096 : Shape := ⟨2, ![256, 4096]⟩
abbrev S4x1x4096 : Shape := ⟨3, ![4, 1, 4096]⟩
abbrev S256 : Shape := ⟨1, ![256]⟩
abbrev S256x1 : Shape := ⟨2, ![256, 1]⟩
abbrev S4x64x4096 : Shape := ⟨3, ![4, 64, 4096]⟩

abbrev nBuf : Space → Nat
  | .hbm => 7
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S32x64x4096, .f32⟩
  | .hbm, ⟨2, _⟩ => ⟨S1x4096, .f32⟩
  | .hbm, ⟨3, _⟩ => ⟨S160x1x24576, .f32⟩
  | .hbm, ⟨4, _⟩ => ⟨S8192x4096, .f32⟩
  | .hbm, ⟨5, _⟩ => ⟨S2048x4096, .f32⟩
  | .hbm, ⟨6, _⟩ => ⟨S10240x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S4x1x4096, .f32⟩
  | .local _ .vmem, ⟨6, _⟩ => ⟨S4x1x4096, .f32⟩
  | .local _ .vmem, ⟨7, _⟩ => ⟨S4x1x4096, .f32⟩
  | .local _ .vmem, ⟨8, _⟩ => ⟨S4x1x4096, .f32⟩
  | .local _ .vmem, ⟨9, _⟩ => ⟨S256x4096, .bf16⟩
  | .local _ .vmem, ⟨10, _⟩ => ⟨S256x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![40], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference13Ideal.lean ====
abbrev S4x2048x4096 : Shape := ⟨3, ![4, 2048, 4096]⟩
abbrev S32x64x4096 : Shape := ⟨3, ![32, 64, 4096]⟩
abbrev S1x4096 : Shape := ⟨2, ![1, 4096]⟩
abbrev S160x1x24576 : Shape := ⟨3, ![160, 1, 24576]⟩
abbrev S8192x4096 : Shape := ⟨2, ![8192, 4096]⟩
abbrev S2048x4096 : Shape := ⟨2, ![2048, 4096]⟩
abbrev S10240x4096 : Shape := ⟨2, ![10240, 4096]⟩
abbrev S4096 : Shape := ⟨1, ![4096]⟩
abbrev S_ : Shape := ⟨0, ![]⟩
abbrev S10240 : Shape := ⟨1, ![10240]⟩
abbrev S10240x1 : Shape := ⟨2, ![10240, 1]⟩
abbrev S160x1x4096 : Shape := ⟨3, ![160, 1, 4096]⟩
abbrev S160x4096 : Shape := ⟨2, ![160, 4096]⟩
abbrev S160x64x4096 : Shape := ⟨3, ![160, 64, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S32x64x4096, .f32⟩
  | .hbm, ⟨2, _⟩ => ⟨S1x4096, .f32⟩
  | .hbm, ⟨3, _⟩ => ⟨S160x1x24576, .f32⟩
  | .hbm, ⟨4, _⟩ => ⟨S8192x4096, .f32⟩
  | .hbm, ⟨5, _⟩ => ⟨S2048x4096, .f32⟩
  | .hbm, ⟨6, _⟩ => ⟨S10240x4096, .f32⟩
  | .hbm, ⟨7, _⟩ => ⟨S4096, .f32⟩
  | .hbm, ⟨8, _⟩ => ⟨S10240x4096, .f32⟩
  | .hbm, ⟨9, _⟩ => ⟨S_, .f32⟩
  | .hbm, ⟨10, _⟩ => ⟨S10240, .f32⟩
  | .hbm, ⟨11, _⟩ => ⟨S10240x1, .f32⟩
  | .hbm, ⟨12, _⟩ => ⟨S_, .f32⟩
  | .hbm, ⟨13, _⟩ => ⟨S10240x1, .f32⟩
  | .hbm, ⟨14, _⟩ => ⟨S10240x1, .f32⟩
  | .hbm, ⟨15, _⟩ => ⟨S_, .f32⟩
  | .hbm, ⟨16, _⟩ => ⟨S10240x1, .f32⟩
  | .hbm, ⟨17, _⟩ => ⟨S10240x1, .f32⟩
  | .hbm, ⟨18, _⟩ => ⟨S10240x1, .f32⟩
  | .hbm, ⟨19, _⟩ => ⟨S10240x4096, .f32⟩
  | .hbm, ⟨20, _⟩ => ⟨S10240x4096, .f32⟩
  | .hbm, ⟨21, _⟩ => ⟨S1x4096, .f32⟩
  | .hbm, ⟨22, _⟩ => ⟨S10240x4096, .f32⟩
  | .hbm, ⟨23, _⟩ => ⟨S10240x4096, .f32⟩
  | .hbm, ⟨24, _⟩ => ⟨S160x1x4096, .f32⟩
  | .hbm, ⟨25, _⟩ => ⟨S160x4096, .f32⟩
  | .hbm, ⟨26, _⟩ => ⟨S160x64x4096, .f32⟩
  | .hbm, ⟨27, _⟩ => ⟨S10240x4096, .f32⟩
  | .hbm, ⟨28, _⟩ => ⟨S_, .f32⟩
  | .hbm, ⟨29, _⟩ => ⟨S10240x4096, .f32⟩
  | .hbm, ⟨30, _⟩ => ⟨S10240x4096, .f32⟩
  | .hbm, ⟨31, _⟩ => ⟨S10240x4096, .f32⟩
  | .hbm, ⟨32, _⟩ => ⟨S160x1x4096, .f32⟩
  | .hbm, ⟨33, _⟩ => ⟨S160x4096, .f32⟩
  | .hbm, ⟨34, _⟩ => ⟨S160x64x4096, .f32⟩
  | .hbm, ⟨35, _⟩ => ⟨S10240x4096, .f32⟩
  | .hbm, ⟨36, _⟩ => ⟨S10240x4096, .f32⟩
  | .hbm, ⟨37, _⟩ => ⟨S10240x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel14.lean ====
abbrev S4x2048x4096 : Shape := ⟨3, ![4, 2048, 4096]⟩
abbrev S32x64x4096 : Shape := ⟨3, ![32, 64, 4096]⟩
abbrev S1x4096 : Shape := ⟨2, ![1, 4096]⟩
abbrev S160x1x24576 : Shape := ⟨3, ![160, 1, 24576]⟩
abbrev S10240x4096 : Shape := ⟨2, ![10240, 4096]⟩
abbrev S8192x4096 : Shape := ⟨2, ![8192, 4096]⟩
abbrev S2048x4096 : Shape := ⟨2, ![2048, 4096]⟩
abbrev S4096x10240 : Shape := ⟨2, ![4096, 10240]⟩
abbrev S256x4096 : Shape := ⟨2, ![256, 4096]⟩
abbrev S4x1x4096 : Shape := ⟨3, ![4, 1, 4096]⟩
abbrev S4096x256 : Shape := ⟨2, ![4096, 256]⟩
abbrev S256 : Shape := ⟨1, ![256]⟩
abbrev S256x1 : Shape := ⟨2, ![256, 1]⟩
abbrev S4x64x4096 : Shape := ⟨3, ![4, 64, 4096]⟩

abbrev nBuf : Space → Nat
  | .hbm => 10
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S32x64x4096, .f32⟩
  | .hbm, ⟨2, _⟩ => ⟨S1x4096, .f32⟩
  | .hbm, ⟨3, _⟩ => ⟨S160x1x24576, .f32⟩
  | .hbm, ⟨4, _⟩ => ⟨S10240x4096, .f32⟩
  | .hbm, ⟨5, _⟩ => ⟨S8192x4096, .f32⟩
  | .hbm, ⟨6, _⟩ => ⟨S2048x4096, .f32⟩
  | .hbm, ⟨7, _⟩ => ⟨S10240x4096, .bf16⟩
  | .hbm, ⟨8, _⟩ => ⟨S4096x10240, .bf16⟩
  | .hbm, ⟨9, _⟩ => ⟨S10240x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S4x1x4096, .f32⟩
  | .local _ .vmem, ⟨6, _⟩ => ⟨S4x1x4096, .f32⟩
  | .local _ .vmem, ⟨7, _⟩ => ⟨S4x1x4096, .f32⟩
  | .local _ .vmem, ⟨8, _⟩ => ⟨S4x1x4096, .f32⟩
  | .local _ .vmem, ⟨9, _⟩ => ⟨S256x4096, .f32⟩
  | .local _ .vmem, ⟨10, _⟩ => ⟨S256x4096, .f32⟩
  | .local _ .vmem, ⟨11, _⟩ => ⟨S256x4096, .bf16⟩
  | .local _ .vmem, ⟨12, _⟩ => ⟨S256x4096, .bf16⟩
  | .local _ .vmem, ⟨13, _⟩ => ⟨S4096x256, .bf16⟩
  | .local _ .vmem, ⟨14, _⟩ => ⟨S4096x256, .bf16⟩
  | .local _ .vmem, ⟨15, _⟩ => ⟨S256x4096, .f32⟩
  | .local _ .vmem, ⟨16, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![40], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_4 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![arg0.toNat, c0_i32.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S4x2048x4096 : Shape := ⟨3, ![4, 2048, 4096]⟩
abbrev S32x64x4096 : Shape := ⟨3, ![32, 64, 4096]⟩
abbrev S1x4096 : Shape := ⟨2, ![1, 4096]⟩
abbrev S160x1x24576 : Shape := ⟨3, ![160, 1, 24576]⟩
abbrev S10240x4096 : Shape := ⟨2, ![10240, 4096]⟩
abbrev S8192x4096 : Shape := ⟨2, ![8192, 4096]⟩
abbrev S2048x4096 : Shape := ⟨2, ![2048, 4096]⟩
abbrev S4096 : Shape := ⟨1, ![4096]⟩
abbrev S_ : Shape := ⟨0, ![]⟩
abbrev S10240 : Shape := ⟨1, ![10240]⟩
abbrev S10240x1 : Shape := ⟨2, ![10240, 1]⟩
abbrev S160x1x4096 : Shape := ⟨3, ![160, 1, 4096]⟩
abbrev S160x4096 : Shape := ⟨2, ![160, 4096]⟩
abbrev S160x64x4096 : Shape := ⟨3, ![160, 64, 4096]⟩
abbrev S4096x10240 : Shape := ⟨2, ![4096, 10240]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S32x64x4096, .f32⟩
  | .hbm, ⟨2, _⟩ => ⟨S1x4096, .f32⟩
  | .hbm, ⟨3, _⟩ => ⟨S160x1x24576, .f32⟩
  | .hbm, ⟨4, _⟩ => ⟨S10240x4096, .f32⟩
  | .hbm, ⟨5, _⟩ => ⟨S8192x4096, .f32⟩
  | .hbm, ⟨6, _⟩ => ⟨S2048x4096, .f32⟩
  | .hbm, ⟨7, _⟩ => ⟨S10240x4096, .f32⟩
  | .hbm, ⟨8, _⟩ => ⟨S10240x4096, .f32⟩
  | .hbm, ⟨9, _⟩ => ⟨S4096, .f32⟩
  | .hbm, ⟨10, _⟩ => ⟨S10240x4096, .f32⟩
  | .hbm, ⟨11, _⟩ => ⟨S_, .f32⟩
  | .hbm, ⟨12, _⟩ => ⟨S10240, .f32⟩
  | .hbm, ⟨13, _⟩ => ⟨S10240x1, .f32⟩
  | .hbm, ⟨14, _⟩ => ⟨S_, .f32⟩
  | .hbm, ⟨15, _⟩ => ⟨S10240x1, .f32⟩
  | .hbm, ⟨16, _⟩ => ⟨S10240x1, .f32⟩
  | .hbm, ⟨17, _⟩ => ⟨S_, .f32⟩
  | .hbm, ⟨18, _⟩ => ⟨S10240x1, .f32⟩
  | .hbm, ⟨19, _⟩ => ⟨S10240x1, .f32⟩
  | .hbm, ⟨20, _⟩ => ⟨S10240x1, .f32⟩
  | .hbm, ⟨21, _⟩ => ⟨S10240x4096, .f32⟩
  | .hbm, ⟨22, _⟩ => ⟨S10240x4096, .f32⟩
  | .hbm, ⟨23, _⟩ => ⟨S1x4096, .f32⟩
  | .hbm, ⟨24, _⟩ => ⟨S10240x4096, .f32⟩
  | .hbm, ⟨25, _⟩ => ⟨S10240x4096, .f32⟩
  | .hbm, ⟨26, _⟩ => ⟨S160x1x4096, .f32⟩
  | .hbm, ⟨27, _⟩ => ⟨S160x4096, .f32⟩
  | .hbm, ⟨28, _⟩ => ⟨S160x64x4096, .f32⟩
  | .hbm, ⟨29, _⟩ => ⟨S10240x4096, .f32⟩
  | .hbm, ⟨30, _⟩ => ⟨S_, .f32⟩
  | .hbm, ⟨31, _⟩ => ⟨S10240x4096, .f32⟩
  | .hbm, ⟨32, _⟩ => ⟨S10240x4096, .f32⟩
  | .hbm, ⟨33, _⟩ => ⟨S10240x4096, .f32⟩
  | .hbm, ⟨34, _⟩ => ⟨S160x1x4096, .f32⟩
  | .hbm, ⟨35, _⟩ => ⟨S160x4096, .f32⟩
  | .hbm, ⟨36, _⟩ => ⟨S160x64x4096, .f32⟩
  | .hbm, ⟨37, _⟩ => ⟨S10240x4096, .f32⟩
  | .hbm, ⟨38, _⟩ => ⟨S10240x4096, .f32⟩
  | .hbm, ⟨39, _⟩ => ⟨S10240x4096, .bf16⟩
  | .hbm, ⟨40, _⟩ => ⟨S4096x10240, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel15.lean ====
abbrev S10240x4096 : Shape := ⟨2, ![10240, 4096]⟩
abbrev S4096x10240 : Shape := ⟨2, ![4096, 10240]⟩
abbrev S160x1x24576 : Shape := ⟨3, ![160, 1, 24576]⟩
abbrev S4096 : Shape := ⟨1, ![4096]⟩
abbrev S1x4096 : Shape := ⟨2, ![1, 4096]⟩
abbrev S8192x4096 : Shape := ⟨2, ![8192, 4096]⟩
abbrev S256x4096 : Shape := ⟨2, ![256, 4096]⟩
abbrev S4096x256 : Shape := ⟨2, ![4096, 256]⟩
abbrev S4x1x4096 : Shape := ⟨3, ![4, 1, 4096]⟩
abbrev S4x64x4096 : Shape := ⟨3, ![4, 64, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S10240x4096, .f32⟩
  | .hbm, ⟨1, _⟩ => ⟨S4096x10240, .f32⟩
  | .hbm, ⟨2, _⟩ => ⟨S160x1x24576, .f32⟩
  | .hbm, ⟨3, _⟩ => ⟨S4096, .f32⟩
  | .hbm, ⟨4, _⟩ => ⟨S1x4096, .f32⟩
  | .hbm, ⟨5, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S4096x256, .f32⟩
  | .local _ .vmem, ⟨3, _⟩ => ⟨S4096x256, .f32⟩
  | .local _ .vmem, ⟨4, _⟩ => ⟨S4x1x4096, .f32⟩
  | .local _ .vmem, ⟨5, _⟩ => ⟨S4x1x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | _, _ => ⟨S10240x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c5_i32 : BitVec 32 := 5#32
  let c0_i32_1 : BitVec 32 := 0#32
  ![v0.toNat, c0_i32_0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference15Ideal.lean ====
abbrev S10240x4096 : Shape := ⟨2, ![10240, 4096]⟩
abbrev S4096x10240 : Shape := ⟨2, ![4096, 10240]⟩
abbrev S160x1x24576 : Shape := ⟨3, ![160, 1, 24576]⟩
abbrev S4096 : Shape := ⟨1, ![4096]⟩
abbrev S160x1x4096 : Shape := ⟨3, ![160, 1, 4096]⟩
abbrev S160x4096 : Shape := ⟨2, ![160, 4096]⟩
abbrev S160x64x4096 : Shape := ⟨3, ![160, 64, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S10240x4096, .f32⟩
  | .hbm, ⟨1, _⟩ => ⟨S4096x10240, .f32⟩
  | .hbm, ⟨2, _⟩ => ⟨S160x1x24576, .f32⟩
  | .hbm, ⟨3, _⟩ => ⟨S4096, .f32⟩
  | .hbm, ⟨4, _⟩ => ⟨S160x1x4096, .f32⟩
  | .hbm, ⟨5, _⟩ => ⟨S160x4096, .f32⟩
  | .hbm, ⟨6, _⟩ => ⟨S160x64x4096, .f32⟩
  | .hbm, ⟨7, _⟩ => ⟨S10240x4096, .f32⟩
  | .hbm, ⟨8, _⟩ => ⟨S10240x4096, .f32⟩
  | .hbm, ⟨9, _⟩ => ⟨S10240x4096, .f32⟩
  | .hbm, ⟨10, _⟩ => ⟨S10240x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x4096, .f32⟩
  | .hbm, ⟨24, _⟩ => ⟨S8192x4096, .f32⟩
  | .hbm, ⟨25, _⟩ => ⟨S1x4096, .f32⟩
  | .hbm, ⟨26, _⟩ => ⟨S8192x4096, .f32⟩
  | .hbm, ⟨27, _⟩ => ⟨S8192x4096, .f32⟩
  | _, _ => ⟨S10240x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel16.lean ====
abbrev S10240x4096 : Shape := ⟨2, ![10240, 4096]⟩
abbrev S4096x10240 : Shape := ⟨2, ![4096, 10240]⟩
abbrev S160x1x24576 : Shape := ⟨3, ![160, 1, 24576]⟩
abbrev S4096 : Shape := ⟨1, ![4096]⟩
abbrev S1x4096 : Shape := ⟨2, ![1, 4096]⟩
abbrev S2048x4096 : Shape := ⟨2, ![2048, 4096]⟩
abbrev S256x4096 : Shape := ⟨2, ![256, 4096]⟩
abbrev S4096x256 : Shape := ⟨2, ![4096, 256]⟩
abbrev S4x1x4096 : Shape := ⟨3, ![4, 1, 4096]⟩
abbrev S4x64x4096 : Shape := ⟨3, ![4, 64, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S10240x4096, .f32⟩
  | .hbm, ⟨1, _⟩ => ⟨S4096x10240, .f32⟩
  | .hbm, ⟨2, _⟩ => ⟨S160x1x24576, .f32⟩
  | .hbm, ⟨3, _⟩ => ⟨S4096, .f32⟩
  | .hbm, ⟨4, _⟩ => ⟨S1x4096, .f32⟩
  | .hbm, ⟨5, _⟩ => ⟨S2048x4096, .f32⟩
  | .local _ .vmem, ⟨0, _⟩ => ⟨S256x4096, .f32⟩
  | .local _ .vmem, ⟨1, _⟩ => ⟨S256x4096, .f32⟩
  | .local _ .vmem, ⟨2, _⟩ => ⟨S4096x256, .f32⟩
  | .local _ .vmem, ⟨3, _⟩ => ⟨S4096x256, .f32⟩
  | .local _ .vmem, ⟨4, _⟩ => ⟨S4x1x4096, .f32⟩
  | .local _ .vmem, ⟨5, _⟩ => ⟨S4x1x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | _, _ => ⟨S10240x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c32_i32 : BitVec 32 := 32#32
  let v0 : BitVec 32 := Scalar.addi c32_i32 arg0
  let c0_i32 : BitVec 32 := 0#32
  let c5_i32 : BitVec 32 := 5#32
  let c0_i32_0 : BitVec 32 := 0#32
  ![v0.toNat, c0_i32.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference16Ideal.lean ====
abbrev S10240x4096 : Shape := ⟨2, ![10240, 4096]⟩
abbrev S4096x10240 : Shape := ⟨2, ![4096, 10240]⟩
abbrev S160x1x24576 : Shape := ⟨3, ![160, 1, 24576]⟩
abbrev S4096 : Shape := ⟨1, ![4096]⟩
abbrev S160x1x4096 : Shape := ⟨3, ![160, 1, 4096]⟩
abbrev S160x4096 : Shape := ⟨2, ![160, 4096]⟩
abbrev S160x64x4096 : Shape := ⟨3, ![160, 64, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1x4096 : Shape := ⟨2, ![1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S10240x4096, .f32⟩
  | .hbm, ⟨1, _⟩ => ⟨S4096x10240, .f32⟩
  | .hbm, ⟨2, _⟩ => ⟨S160x1x24576, .f32⟩
  | .hbm, ⟨3, _⟩ => ⟨S4096, .f32⟩
  | .hbm, ⟨4, _⟩ => ⟨S160x1x4096, .f32⟩
  | .hbm, ⟨5, _⟩ => ⟨S160x4096, .f32⟩
  | .hbm, ⟨6, _⟩ => ⟨S160x64x4096, .f32⟩
  | .hbm, ⟨7, _⟩ => ⟨S10240x4096, .f32⟩
  | .hbm, ⟨8, _⟩ => ⟨S10240x4096, .f32⟩
  | .hbm, ⟨9, _⟩ => ⟨S10240x4096, .f32⟩
  | .hbm, ⟨10, _⟩ => ⟨S10240x4096, .f32⟩
  | .hbm, ⟨11, _⟩ => ⟨S2048x4096, .f32⟩
  | .hbm, ⟨12, _⟩ => ⟨S2048x4096, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x4096, .f32⟩
  | .hbm, ⟨24, _⟩ => ⟨S2048x4096, .f32⟩
  | .hbm, ⟨25, _⟩ => ⟨S1x4096, .f32⟩
  | .hbm, ⟨26, _⟩ => ⟨S2048x4096, .f32⟩
  | .hbm, ⟨27, _⟩ => ⟨S2048x4096, .f32⟩
  | _, _ => ⟨S10240x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel17.lean ====
abbrev S32x10240x192 : Shape := ⟨3, ![32, 10240, 192]⟩
abbrev S1x32x1024x512 : Shape := ⟨4, ![1, 32, 1024, 512]⟩
abbrev S1x32x1024x64 : Shape := ⟨4, ![1, 32, 1024, 64]⟩
abbrev S10240x512 : Shape := ⟨2, ![10240, 512]⟩
abbrev S10240x64 : Shape := ⟨2, ![10240, 64]⟩
abbrev S1x512x32x128 : Shape := ⟨4, ![1, 512, 32, 128]⟩
abbrev S512x32x128 : Shape := ⟨3, ![512, 32, 128]⟩
abbrev S32x512x128 : Shape := ⟨3, ![32, 512, 128]⟩
abbrev S32x1024x512 : Shape := ⟨3, ![32, 1024, 512]⟩
abbrev S32x1024x64 : Shape := ⟨3, ![32, 1024, 64]⟩
abbrev S2048x4096 : Shape := ⟨2, ![2048, 4096]⟩
abbrev S8x64x192 : Shape := ⟨3, ![8, 64, 192]⟩
abbrev S1x1024x512 : Shape := ⟨3, ![1, 1024, 512]⟩
abbrev S1x1024x64 : Shape := ⟨3, ![1, 1024, 64]⟩
abbrev S64x512 : Shape := ⟨2, ![64, 512]⟩
abbrev S64x64 : Shape := ⟨2, ![64, 64]⟩
abbrev S8x512x128 : Shape := ⟨3, ![8, 512, 128]⟩
abbrev S64x1024 : Shape := ⟨2, ![64, 1024]⟩
abbrev S512x512 : Shape := ⟨2, ![512, 512]⟩
abbrev S1x64x128 : Shape := ⟨3, ![1, 64, 128]⟩
abbrev S64x128 : Shape := ⟨2, ![64, 128]⟩
abbrev S1x512x128 : Shape := ⟨3, ![1, 512, 128]⟩
abbrev S512x128 : Shape := ⟨2, ![512, 128]⟩
abbrev S8x64x64 : Shape := ⟨3, ![8, 64, 64]⟩
abbrev S512x64 : Shape := ⟨2, ![512, 64]⟩
abbrev S1024x512 : Shape := ⟨2, ![1024, 512]⟩
abbrev S512x1024 : Shape := ⟨2, ![512, 1024]⟩
abbrev S1024x64 : Shape := ⟨2, ![1024, 64]⟩
abbrev S512 : Shape := ⟨1, ![512]⟩
abbrev S512x1 : Shape := ⟨2, ![512, 1]⟩

abbrev nBuf : Space → Nat
  | .hbm => 16
  | .vmem => 17
  | .smem => 0
  | _ => 0

abbrev bufTy : (tb : Table) → Fin (tcTables nBuf tb) → BufTy
  | .hbm, ⟨0, _⟩ => ⟨S32x10240x192, .bf16⟩
  | .hbm, ⟨1, _⟩ => ⟨S1x32x1024x512, .f32⟩
  | .hbm, ⟨2, _⟩ => ⟨S1x32x1024x64, .f32⟩
  | .hbm, ⟨3, _⟩ => ⟨S10240x512, .f32⟩
  | .hbm, ⟨4, _⟩ => ⟨S10240x64, .f32⟩
  | .hbm, ⟨5, _⟩ => ⟨S1x512x32x128, .f32⟩
  | .hbm, ⟨6, _⟩ => ⟨S1x512x32x128, .f32⟩
  | .hbm, ⟨7, _⟩ => ⟨S512x32x128, .f32⟩
  | .hbm, ⟨8, _⟩ => ⟨S32x512x128, .f32⟩
  | .hbm, ⟨9, _⟩ => ⟨S32x512x128, .bf16⟩
  | .hbm, ⟨10, _⟩ => ⟨S512x32x128, .f32⟩
  | .hbm, ⟨11, _⟩ => ⟨S32x512x128, .f32⟩
  | .hbm, ⟨12, _⟩ => ⟨S32x512x128, .bf16⟩
  | .hbm, ⟨13, _⟩ => ⟨S32x1024x512, .f32⟩
  | .hbm, ⟨14, _⟩ => ⟨S32x1024x64, .f32⟩
  | .hbm, ⟨15, _⟩ => ⟨S2048x4096, .bf16⟩
  | .local _ .vmem, ⟨0, _⟩ => ⟨S8x64x192, .bf16⟩
  | .local _ .vmem, ⟨1, _⟩ => ⟨S8x64x192, .bf16⟩
  | .local _ .vmem, ⟨2, _⟩ => ⟨S1x1024x512, .f32⟩
  | .local _ .vmem, ⟨3, _⟩ => ⟨S1x1024x512, .f32⟩
  | .local _ .vmem, ⟨4, _⟩ => ⟨S1x1024x64, .f32⟩
  | .local _ .vmem, ⟨5, _⟩ => ⟨S1x1024x64, .f32⟩
  | .local _ .vmem, ⟨6, _⟩ => ⟨S64x512, .f32⟩
  | .local _ .vmem, ⟨7, _⟩ => ⟨S64x512, .f32⟩
  | .local _ .vmem, ⟨8, _⟩ => ⟨S64x64, .f32⟩
  | .local _ .vmem, ⟨9, _⟩ => ⟨S64x64, .f32⟩
  | .local _ .vmem, ⟨10, _⟩ => ⟨S8x512x128, .bf16⟩
  | .local _ .vmem, ⟨11, _⟩ => ⟨S8x512x128, .bf16⟩
  | .local _ .vmem, ⟨12, _⟩ => ⟨S8x512x128, .bf16⟩
  | .local _ .vmem, ⟨13, _⟩ => ⟨S8x512x128, .bf16⟩
  | .local _ .vmem, ⟨14, _⟩ => ⟨S64x1024, .bf16⟩
  | .local _ .vmem, ⟨15, _⟩ => ⟨S64x1024, .bf16⟩
  | .local _ .vmem, ⟨16, _⟩ => ⟨S512x512, .bf16⟩
  | _, _ => ⟨S32x10240x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  let c0_i32_0 : BitVec 32 := 0#32
  ![arg1.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x64x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S8x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference17Ideal.lean ====
abbrev S32x10240x192 : Shape := ⟨3, ![32, 10240, 192]⟩
abbrev S1x32x1024x512 : Shape := ⟨4, ![1, 32, 1024, 512]⟩
abbrev S1x32x1024x64 : Shape := ⟨4, ![1, 32, 1024, 64]⟩
abbrev S10240x512 : Shape := ⟨2, ![10240, 512]⟩
abbrev S10240x64 : Shape := ⟨2, ![10240, 64]⟩
abbrev S1x512x32x128 : Shape := ⟨4, ![1, 512, 32, 128]⟩
abbrev S32x2048x192 : Shape := ⟨3, ![32, 2048, 192]⟩
abbrev S2048x32x192 : Shape := ⟨3, ![2048, 32, 192]⟩
abbrev S32x64x32x192 : Shape := ⟨4, ![32, 64, 32, 192]⟩
abbrev S32x64x32x128 : Shape := ⟨4, ![32, 64, 32, 128]⟩
abbrev S32x64x32x64 : Shape := ⟨4, ![32, 64, 32, 64]⟩
abbrev S32x1024x512 : Shape := ⟨3, ![32, 1024, 512]⟩
abbrev S2048x512 : Shape := ⟨2, ![2048, 512]⟩
abbrev S32x64x512 : Shape := ⟨3, ![32, 64, 512]⟩
abbrev S32x1088x512 : Shape := ⟨3, ![32, 1088, 512]⟩
abbrev S32x1024x64 : Shape := ⟨3, ![32, 1024, 64]⟩
abbrev S2048x64 : Shape := ⟨2, ![2048, 64]⟩
abbrev S32x64x64 : Shape := ⟨3, ![32, 64, 64]⟩
abbrev S32x1088x64 : Shape := ⟨3, ![32, 1088, 64]⟩
abbrev S1088 : Shape := ⟨1, ![1088]⟩
abbrev S512x32x128 : Shape := ⟨3, ![512, 32, 128]⟩
abbrev S32x512x32x64 : Shape := ⟨4, ![32, 512, 32, 64]⟩
abbrev S32x64x32x512 : Shape := ⟨4, ![32, 64, 32, 512]⟩
abbrev S32x64x32x576 : Shape := ⟨4, ![32, 64, 32, 576]⟩
abbrev S32x1088x576 : Shape := ⟨3, ![32, 1088, 576]⟩
abbrev S64 : Shape := ⟨1, ![64]⟩
abbrev S_ : Shape := ⟨0, ![]⟩
abbrev S32x1088x64x32 : Shape := ⟨4, ![32, 1088, 64, 32]⟩
abbrev S32x32x64x1088 : Shape := ⟨4, ![32, 32, 64, 1088]⟩
abbrev S1x1088 : Shape := ⟨2, ![1, 1088]⟩
abbrev S64x1 : Shape := ⟨2, ![64, 1]⟩
abbrev S64x1088 : Shape := ⟨2, ![64, 1088]⟩
abbrev S1x1x64x1088 : Shape := ⟨4, ![1, 1, 64, 1088]⟩
abbrev S32x32x64 : Shape := ⟨3, ![32, 32, 64]⟩
abbrev S32x32x64x1 : Shape := ⟨4, ![32, 32, 64, 1]⟩
abbrev S32x128x32x64 : Shape := ⟨4, ![32, 128, 32, 64]⟩
abbrev S2048x4096 : Shape := ⟨2, ![2048, 4096]⟩

abbrev nBuf : Space → Nat
  | .hbm => 104
  | .vmem => 0
  | .smem => 0
  | _ => 0

abbrev bufTy : (tb : Table) → Fin (tcTables nBuf tb) → BufTy
  | .hbm, ⟨0, _⟩ => ⟨S32x10240x192, .bf16⟩
  | .hbm, ⟨1, _⟩ => ⟨S1x32x1024x512, .f32⟩
  | .hbm, ⟨2, _⟩ => ⟨S1x32x1024x64, .f32⟩
  | .hbm, ⟨3, _⟩ => ⟨S10240x512, .f32⟩
  | .hbm, ⟨4, _⟩ => ⟨S10240x64, .f32⟩
  | .hbm, ⟨5, _⟩ => ⟨S1x512x32x128, .f32⟩
  | .hbm, ⟨6, _⟩ => ⟨S1x512x32x128, .f32⟩
  | .hbm, ⟨7, _⟩ => ⟨S32x2048x192, .bf16⟩
  | .hbm, ⟨8, _⟩ => ⟨S32x2048x192, .f32⟩
  | .hbm, ⟨9, _⟩ => ⟨S2048x32x192, .f32⟩
  | .hbm, ⟨10, _⟩ => ⟨S32x64x32x192, .f32⟩
  | .hbm, ⟨11, _⟩ => ⟨S32x64x32x128, .f32⟩
  | .hbm, ⟨12, _⟩ => ⟨S32x64x32x64, .f32⟩
  | .hbm, ⟨13, _⟩ => ⟨S32x1024x512, .f32⟩
  | .hbm, ⟨14, _⟩ => ⟨S2048x512, .f32⟩
  | .hbm, ⟨15, _⟩ => ⟨S32x64x512, .f32⟩
  | .hbm, ⟨16, _⟩ => ⟨S32x1088x512, .f32⟩
  | .hbm, ⟨17, _⟩ => ⟨S32x1024x64, .f32⟩
  | .hbm, ⟨18, _⟩ => ⟨S2048x64, .f32⟩
  | .hbm, ⟨19, _⟩ => ⟨S32x64x64, .f32⟩
  | .hbm, ⟨20, _⟩ => ⟨S32x1088x64, .f32⟩
  | .hbm, ⟨21, _⟩ => ⟨S1088, .i32⟩
  | .hbm, ⟨22, _⟩ => ⟨S512x32x128, .f32⟩
  | .hbm, ⟨23, _⟩ => ⟨S32x512x32x64, .f32⟩
  | .hbm, ⟨24, _⟩ => ⟨S32x64x32x512, .f32⟩
  | .hbm, ⟨25, _⟩ => ⟨S32x64x32x576, .f32⟩
  | .hbm, ⟨26, _⟩ => ⟨S32x1088x576, .f32⟩
  | .hbm, ⟨27, _⟩ => ⟨S64, .i32⟩
  | .hbm, ⟨28, _⟩ => ⟨S_, .i32⟩
  | .hbm, ⟨29, _⟩ => ⟨S64, .i32⟩
  | .hbm, ⟨30, _⟩ => ⟨S64, .i32⟩
  | .hbm, ⟨31, _⟩ => ⟨S32x1088x64x32, .f32⟩
  | .hbm, ⟨32, _⟩ => ⟨S32x32x64x1088, .f32⟩
  | .hbm, ⟨33, _⟩ => ⟨S_, .f32⟩
  | .hbm, ⟨34, _⟩ => ⟨S32x32x64x1088, .f32⟩
  | .hbm, ⟨35, _⟩ => ⟨S32x32x64x1088, .f32⟩
  | .hbm, ⟨36, _⟩ => ⟨S1x1088, .i32⟩
  | .hbm, ⟨37, _⟩ => ⟨S_, .i32⟩
  | .hbm, ⟨38, _⟩ => ⟨S_, .i32⟩
  | .hbm, ⟨39, _⟩ => ⟨S1x1088, .i32⟩
  | .hbm, ⟨40, _⟩ => ⟨S1x1088, .i32⟩
  | .hbm, ⟨41, _⟩ => ⟨S1x1088, .i32⟩
  | .hbm, ⟨42, _⟩ => ⟨S_, .i32⟩
  | .hbm, ⟨43, _⟩ => ⟨S1x1088, .i32⟩
  | .hbm, ⟨44, _⟩ => ⟨S1x1088, .i1⟩
  | .hbm, ⟨45, _⟩ => ⟨S1x1088, .i32⟩
  | .hbm, ⟨46, _⟩ => ⟨S1x1088, .i32⟩
  | .hbm, ⟨47, _⟩ => ⟨S_, .i32⟩
  | .hbm, ⟨48, _⟩ => ⟨S1x1088, .i32⟩
  | .hbm, ⟨49, _⟩ => ⟨S1x1088, .i1⟩
  | .hbm, ⟨50, _⟩ => ⟨S1x1088, .i1⟩
  | .hbm, ⟨51, _⟩ => ⟨S_, .i32⟩
  | .hbm, ⟨52, _⟩ => ⟨S1x1088, .i32⟩
  | .hbm, ⟨53, _⟩ => ⟨S1x1088, .i32⟩
  | .hbm, ⟨54, _⟩ => ⟨S1x1088, .i32⟩
  | .hbm, ⟨55, _⟩ => ⟨S64x1, .i32⟩
  | .hbm, ⟨56, _⟩ => ⟨S_, .i32⟩
  | .hbm, ⟨57, _⟩ => ⟨S_, .i32⟩
  | .hbm, ⟨58, _⟩ => ⟨S64x1, .i32⟩
  | .hbm, ⟨59, _⟩ => ⟨S64x1, .i32⟩
  | .hbm, ⟨60, _⟩ => ⟨S64x1, .i32⟩
  | .hbm, ⟨61, _⟩ => ⟨S_, .i32⟩
  | .hbm, ⟨62, _⟩ => ⟨S64x1, .i32⟩
  | .hbm, ⟨63, _⟩ => ⟨S64x1, .i1⟩
  | .hbm, ⟨64, _⟩ => ⟨S64x1, .i32⟩
  | .hbm, ⟨65, _⟩ => ⟨S64x1, .i32⟩
  | .hbm, ⟨66, _⟩ => ⟨S_, .i32⟩
  | .hbm, ⟨67, _⟩ => ⟨S64x1, .i32⟩
  | .hbm, ⟨68, _⟩ => ⟨S64x1, .i1⟩
  | .hbm, ⟨69, _⟩ => ⟨S64x1, .i1⟩
  | .hbm, ⟨70, _⟩ => ⟨S_, .i32⟩
  | .hbm, ⟨71, _⟩ => ⟨S64x1, .i32⟩
  | .hbm, ⟨72, _⟩ => ⟨S64x1, .i32⟩
  | .hbm, ⟨73, _⟩ => ⟨S64x1, .i32⟩
  | .hbm, ⟨74, _⟩ => ⟨S64x1088, .i32⟩
  | .hbm, ⟨75, _⟩ => ⟨S64x1088, .i32⟩
  | .hbm, ⟨76, _⟩ => ⟨S64x1088, .i1⟩
  | .hbm, ⟨77, _⟩ => ⟨S1x1x64x1088, .i1⟩
  | .hbm, ⟨78, _⟩ => ⟨S_, .f32⟩
  | .hbm, ⟨79, _⟩ => ⟨S_, .f32⟩
  | .hbm, ⟨80, _⟩ => ⟨S32x32x64x1088, .i1⟩
  | .hbm, ⟨81, _⟩ => ⟨S32x32x64x1088, .f32⟩
  | .hbm, ⟨82, _⟩ => ⟨S32x32x64x1088, .f32⟩
  | .hbm, ⟨83, _⟩ => ⟨S_, .f32⟩
  | .hbm, ⟨84, _⟩ => ⟨S32x32x64, .f32⟩
  | .hbm, ⟨85, _⟩ => ⟨S_, .f32⟩
  | .hbm, ⟨86, _⟩ => ⟨S32x32x64, .f32⟩
  | .hbm, ⟨87, _⟩ => ⟨S32x32x64, .f32⟩
  | .hbm, ⟨88, _⟩ => ⟨S32x32x64x1, .f32⟩
  | .hbm, ⟨89, _⟩ => ⟨S32x32x64x1088, .f32⟩
  | .hbm, ⟨90, _⟩ => ⟨S32x32x64x1088, .f32⟩
  | .hbm, ⟨91, _⟩ => ⟨S32x32x64x1088, .f32⟩
  | .hbm, ⟨92, _⟩ => ⟨S_, .f32⟩
  | .hbm, ⟨93, _⟩ => ⟨S32x32x64, .f32⟩
  | .hbm, ⟨94, _⟩ => ⟨S32x32x64x1, .f32⟩
  | .hbm, ⟨95, _⟩ => ⟨S32x32x64x1088, .f32⟩
  | .hbm, ⟨96, _⟩ => ⟨S32x32x64x1088, .f32⟩
  | .hbm, ⟨97, _⟩ => ⟨S32x512x32x64, .f32⟩
  | .hbm, ⟨98, _⟩ => ⟨S32x64x32x512, .f32⟩
  | .hbm, ⟨99, _⟩ => ⟨S512x32x128, .f32⟩
  | .hbm, ⟨100, _⟩ => ⟨S32x128x32x64, .f32⟩
  | .hbm, ⟨101, _⟩ => ⟨S32x64x32x128, .f32⟩
  | .hbm, ⟨102, _⟩ => ⟨S2048x4096, .f32⟩
  | .hbm, ⟨103, _⟩ => ⟨S2048x4096, .bf16⟩
  | _, _ => ⟨S32x10240x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_0 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_c : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_0 : Ref sig .tc := ⟨.hbm, 51, rfl⟩
abbrev main_call0_v12 : Ref sig .tc := ⟨.hbm, 52, rfl⟩
abbrev main_call0_v13 : Ref sig .tc := ⟨.hbm, 53, rfl⟩
abbrev main_v28 : Ref sig .tc := ⟨.hbm, 54, rfl⟩
abbrev main_v29 : Ref sig .tc := ⟨.hbm, 55, rfl⟩
abbrev main_c_1 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_c : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_0 : Ref sig .tc := ⟨.hbm, 70, rfl⟩
abbrev main_call1_v12 : Ref sig .tc := ⟨.hbm, 71, rfl⟩
abbrev main_call1_v13 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_cst_2 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_v35 : Ref sig .tc := ⟨.hbm, 82, rfl⟩
abbrev main_cst_3 : Ref sig .tc := ⟨.hbm, 83, rfl⟩
abbrev main_v36 : Ref sig .tc := ⟨.hbm, 84, rfl⟩
abbrev main_cst_4 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_cst_5 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩

abbrev nD : Nat := 1
abbrev τ : Topo := Topo.v7x

variable {F : FTy → Type} [FloatOps F]
-- ==== Proof.Head.lean ====
/-
  One head of one chunk of the mLSTM, in the vector operations the kernel's body uses: from the head's queries and keys
  (64 by 256), values and output gates (64 by 512), the chunk's log input and log forget gates (64 by 1), the head's gain
  (1 by 512) and the state it starts from (`C` 256 by 512, `n` 1 by 256, `mm` 1 by 1), what the head stores. The body
  repeats these operations for eight heads; every head's stored values are these functions at the head's slices.
-/
module

public import proofs.«01_k».proof.Proof.Gen.KernelIdeal

@[expose] public section

noncomputable section

namespace Cert.Head

open Cert.KernelIdeal Cert.KernelIdeal.Gen Idealize.ShloMosaic

variable {F : FTy → Type} [FloatOps F]

/-- The chunk's row numbers and column numbers. -/
def rowNo : IVec S64x64 32 := iota .tc S64x64 32 [0] iota_S64x64_d0_w32
def colNo : IVec S64x64 32 := iota .tc S64x64 32 [1] iota_S64x64_d1_w32

/-- A column laid out as a row: the diagonal of the column repeated across, summed down. -/
def toRow (x : FVec F S64x1 .f32) : FVec F S1x64 .f32 :=
  shapeCast S1x64 (multiReduction .add [0] S64
    (select (cmpi .eq rowNo colNo) (broadcastTo S64x64 (shapeCast S64x1 x shapeCasts_S64x1_S64x1) broadcasts_S64x1_S64x64)
      (broadcast S64x64 (Scalar.ofBits .f32 0x00000000#32)))
    0x00000000#32 reduces_S64x64_S64 (.inl rfl) rfl) shapeCasts_S64_S1x64

/-- Positions `s ≤ t` of row `t`. -/
def causal : IVec S64x64 1 := cmpi .sle colNo rowNo

/-- The running sum of the log forget gates, as a column; -/
def cumCol (lf : FVec F S64x1 .f32) : FVec F S64x1 .f32 :=
  shapeCast S64x1 (multiReduction .add [1] S64
    (select causal (broadcastTo S64x64 (shapeCast S1x64 (toRow lf) shapeCasts_S1x64_S1x64) broadcasts_S1x64_S64x64)
      (broadcast S64x64 (Scalar.ofBits .f32 0x00000000#32)))
    0x00000000#32 reduces_S64x64_S64_2 (.inl rfl) rfl) shapeCasts_S64_S64x1

/-- the same as a row; -/
def cumRow (lf : FVec F S64x1 .f32) : FVec F S1x64 .f32 :=
  shapeCast S1x64 (multiReduction .add [0] S64
    (select (cmpi .sle rowNo colNo) (broadcastTo S64x64 (shapeCast S64x1 lf shapeCasts_S64x1_S64x1) broadcasts_S64x1_S64x64)
      (broadcast S64x64 (Scalar.ofBits .f32 0x00000000#32)))
    0x00000000#32 reduces_S64x64_S64 (.inl rfl) rfl) shapeCasts_S64_S1x64

/-- the whole chunk's sum. -/
def cumAll (lf : FVec F S64x1 .f32) : FVec F S1x1 .f32 :=
  shapeCast S1x1 (multiReduction .add [0] S1 lf 0x00000000#32 reduces_S64x1_S1 (.inl rfl) rfl) shapeCasts_S1_S1x1

/-- The running sum plus the state's stabilizer. -/
def inter (lf : FVec F S64x1 .f32) (mm : FVec F S1x1 .f32) : FVec F S64x1 .f32 :=
  addf (cumCol lf) (broadcastTo S64x1 mm broadcasts_S1x1_S64x1)

/-- The log weights inside the chunk, minus infinity off the causal positions. -/
def logW (ig lf : FVec F S64x1 .f32) : FVec F S64x64 .f32 :=
  select causal
    (addf (subf (broadcastTo S64x64 (cumCol lf) broadcasts_S64x1_S64x64) (broadcastTo S64x64 (cumRow lf) broadcasts_S1x64_S64x64))
      (broadcastTo S64x64 (toRow ig) broadcasts_S1x64_S64x64))
    (broadcast S64x64 (Scalar.ofBits .f32 0xFF800000#32))

/-- Each row's stabilizer. -/
def stab (ig lf : FVec F S64x1 .f32) (mm : FVec F S1x1 .f32) : FVec F S64x1 .f32 :=
  maximumf (inter lf mm) (shapeCast S64x1 (multiReduction .maximumf [1] S64 (logW ig lf) 0xFF800000#32 reduces_S64x64_S64_2 (.inl rfl) rfl) shapeCasts_S64_S64x1)

/-- The weight of the state in each row. -/
def wInter (ig lf : FVec F S64x1 .f32) (mm : FVec F S1x1 .f32) : FVec F S64x1 .f32 :=
  exp (subf (inter lf mm) (stab ig lf mm))

/-- The scaled queries, -/
def qScaled (q : FVec F S64x256 .bf16) : FVec F S64x256 .f32 :=
  mulf (extf .f32 q bitsLt_bf16_f32) (broadcast S64x256 (Scalar.ofBits .f32 0x3D800000#32))

/-- the weighted scores, -/
def score (ig lf : FVec F S64x1 .f32) (mm : FVec F S1x1 .f32) (q k : FVec F S64x256 .bf16) : FVec F S64x64 .f32 :=
  mulf (matmul dot_S64x256_S64x256_S64x64_1_1_0_0_n_n none (truncf .bf16 (qScaled q) bitsLt_bf16_f32) k (constant S64x64 .f32 0x00000000#32))
    (exp (subf (logW ig lf) (broadcastTo S64x64 (stab ig lf mm) broadcasts_S64x1_S64x64)))

/-- the numerator, -/
def num (ig lf : FVec F S64x1 .f32) (mm : FVec F S1x1 .f32) (q k : FVec F S64x256 .bf16) (v : FVec F S64x512 .bf16) (C : FVec F S256x512 .f32) :
    FVec F S64x512 .f32 :=
  addf (matmul dot_S64x64_S64x512_S64x512_1_0_0_1_n_n none (truncf .bf16 (score ig lf mm q k) bitsLt_bf16_f32) v (constant S64x512 .f32 0x00000000#32))
    (mulf (broadcastTo S64x512 (wInter ig lf mm) broadcasts_S64x1_S64x512)
      (matmul dot_S64x256_S256x512_S64x512_1_0_0_1_n_n none (truncf .bf16 (qScaled q) bitsLt_bf16_f32) (truncf .bf16 C bitsLt_bf16_f32) (constant S64x512 .f32 0x00000000#32)))

/-- the denominator, -/
def den (ig lf : FVec F S64x1 .f32) (mm : FVec F S1x1 .f32) (q k : FVec F S64x256 .bf16) (n : FVec F S1x256 .f32) : FVec F S64x1 .f32 :=
  addf (shapeCast S64x1 (multiReduction .add [1] S64 (score ig lf mm q k) 0x00000000#32 reduces_S64x64_S64_2 (.inl rfl) rfl) shapeCasts_S64_S64x1)
    (mulf (wInter ig lf mm)
      (shapeCast S64x1 (multiReduction .add [1] S64 (mulf (qScaled q) (broadcastTo S64x256 n broadcasts_S1x256_S64x256)) 0x00000000#32 reduces_S64x256_S64 (.inl rfl) rfl) shapeCasts_S64_S64x1))

/-- and the cell's output before its normalization. -/
def cell (ig lf : FVec F S64x1 .f32) (mm : FVec F S1x1 .f32) (q k : FVec F S64x256 .bf16) (v : FVec F S64x512 .bf16) (C : FVec F S256x512 .f32)
    (n : FVec F S1x256 .f32) : FVec F S64x512 .f32 :=
  divf (num ig lf mm q k v C)
    (broadcastTo S64x512 (maximumf (absf (den ig lf mm q k n)) (exp (subf (broadcast S64x1 (Scalar.ofBits .f32 0x00000000#32)) (stab ig lf mm)))) broadcasts_S64x1_S64x512)

/-- A row's mean square. -/
def meanSq (x : FVec F S64x512 .f32) : FVec F S64x1 .f32 :=
  divf (shapeCast S64x1 (multiReduction .add [1] S64 (mulf x x) 0x00000000#32 reduces_S64x512_S64 (.inl rfl) rfl) shapeCasts_S64_S64x1)
    (broadcast S64x1 (Scalar.ofBits .f32 0x44000000#32))

/-- What the head stores of the output: the cell normalized by its root mean square, times the gain and the output gate. -/
def hOut (x mo : FVec F S64x512 .f32) (g : FVec F S1x512 .f32) : FVec F S64x512 .f32 :=
  mulf (mulf (mulf x (broadcastTo S64x512 (rsqrt (addf (meanSq x) (broadcast S64x1 (Scalar.ofBits .f32 0x358637BD#32)))) broadcasts_S64x1_S64x512))
    (broadcastTo S64x512 g broadcasts_S1x512_S64x512)) (logistic mo)

def hOut16 (ig lf : FVec F S64x1 .f32) (mm : FVec F S1x1 .f32) (q k : FVec F S64x256 .bf16) (v mo : FVec F S64x512 .bf16) (g : FVec F S1x512 .f32)
    (C : FVec F S256x512 .f32) (n : FVec F S1x256 .f32) : FVec F S64x512 .bf16 :=
  truncf .bf16 (hOut (cell ig lf mm q k v C n) (extf .f32 mo bitsLt_bf16_f32) g) bitsLt_bf16_f32

/-- The stabilizer after the chunk: the last row's. -/
def mNew (ig lf : FVec F S64x1 .f32) (mm : FVec F S1x1 .f32) : FVec F S1x1 .f32 :=
  shapeCast S1x1 (multiReduction .add [0] S1
    (select (cmpi .eq (iota .tc S64x1 32 [0] iota_S64x1_d0_w32) (broadcast S64x1 63#32)) (stab ig lf mm) (broadcast S64x1 (Scalar.ofBits .f32 0x00000000#32)))
    0x00000000#32 reduces_S64x1_S1 (.inl rfl) rfl) shapeCasts_S1_S1x1

/-- The old state's weight after the chunk. -/
def wState (ig lf : FVec F S64x1 .f32) (mm : FVec F S1x1 .f32) : FVec F S1x1 .f32 :=
  exp (subf (addf (cumAll lf) mm) (mNew ig lf mm))

/-- The keys, each weighted for the state after the chunk. -/
def kW (ig lf : FVec F S64x1 .f32) (mm : FVec F S1x1 .f32) (k : FVec F S64x256 .bf16) : FVec F S64x256 .f32 :=
  mulf (extf .f32 k bitsLt_bf16_f32)
    (broadcastTo S64x256 (exp (subf (addf (subf (broadcastTo S64x1 (cumAll lf) broadcasts_S1x1_S64x1) (cumCol lf)) ig)
      (broadcastTo S64x1 (mNew ig lf mm) broadcasts_S1x1_S64x1))) broadcasts_S64x1_S64x256)

/-- The state `C` after the chunk, -/
def cNew (ig lf : FVec F S64x1 .f32) (mm : FVec F S1x1 .f32) (k : FVec F S64x256 .bf16) (v : FVec F S64x512 .bf16) (C : FVec F S256x512 .f32) : FVec F S256x512 .f32 :=
  addf (mulf (broadcastTo S256x512 (wState ig lf mm) broadcasts_S1x1_S256x512) C)
    (matmul dot_S256x64_S64x512_S256x512_1_0_0_1_n_n none
      (truncf .bf16 (transpose S256x64 [1, 0] (kW ig lf mm k) transposes_S64x256_p1_0_S256x64) bitsLt_bf16_f32) v (constant S256x512 .f32 0x00000000#32))

/-- and `n`. -/
def nNew (ig lf : FVec F S64x1 .f32) (mm : FVec F S1x1 .f32) (k : FVec F S64x256 .bf16) (n : FVec F S1x256 .f32) : FVec F S1x256 .f32 :=
  addf (mulf (broadcastTo S1x256 (wState ig lf mm) broadcasts_S1x1_S1x256) n)
    (shapeCast S1x256 (multiReduction .add [0] S256 (kW ig lf mm k) 0x00000000#32 reduces_S64x256_S256 (.inl rfl) rfl) shapeCasts_S256_S1x256)

end Cert.Head
-- ==== Proof.Pieces.lean ====
/-
  Eight heads written one after the other into one buffer: what a load of one head finds after stores of others, and the
  buffer's contents after all eight. Stated once for a state buffer (heads along the second axis) and once for the output
  block (heads along the columns), for all heads.
-/
module

public import Idealize.ShloMosaic.Lib.Pipeline.ValueKit.Acc

@[expose] public section

noncomputable section

namespace Cert.Pieces

open Idealize.ShloMosaic Idealize.SL.Sem

variable {Val : EltTy → Type} [∀ e, Nonempty (Val e)] {e : EltTy}

/-- A state buffer of eight heads, and one head of it. -/
abbrev St (a b : Nat) : Shape := ⟨4, ![1, 8, a, b]⟩
abbrev Hd (a b : Nat) : Shape := ⟨4, ![1, 1, a, b]⟩

section State

variable {a b : Nat}

/-- A load of head `j` reads past a store of another head. -/
theorem skip {sig : RefSig} {κ : Kind} {sp : Space} (v : View sig κ sp (St a b) e) {i j : Nat}
    (h : i ≠ j) (inb : ∀ x, (![0, i, 0, 0] : Fin 4 → Nat) x + (Hd a b).size x ≤ (St a b).size x)
    (inb' : ∀ x, (![0, j, 0, 0] : Fin 4 → Nat) x + (Hd a b).size x ≤ (St a b).size x)
    (w : (Hd a b).Idx → Val e) (L : List (View.Piece Val (St a b) e)) :
    v.readCov ((⟨Rect.unit (s := St a b) ![0, i, 0, 0] ![1, 1, a, b] inb, w⟩ : View.Piece Val (St a b) e) :: L)
      (Rect.unit (s := St a b) ![0, j, 0, 0] ![1, 1, a, b] inb').toLoadRect
    = v.readCov L (Rect.unit (s := St a b) ![0, j, 0, 0] ![1, 1, a, b] inb').toLoadRect :=
  View.readCov_cons_of_disjoint _ _ _ _ (Rect.unit_disjoint (inb := inb) (inb' := inb') (1 : Fin 4) (by
    change i + 1 ≤ j ∨ j + 1 ≤ i
    omega))

/-- A load after one store of the whole buffer reads that store's value. -/
theorem base {sig : RefSig} {κ : Kind} {sp : Space} (v : View sig κ sp (St a b) e)
    (inb : ∀ x, (![0, 0, 0, 0] : Fin 4 → Nat) x + (St a b).size x ≤ (St a b).size x) (r : Rect (St a b)) (w : (St a b).Idx → Val e) :
    v.readCov [(⟨Rect.unit (s := St a b) ![0, 0, 0, 0] ![1, 8, a, b] inb, w⟩ : View.Piece Val (St a b) e)] r.toLoadRect = View.ld w r := by
  rw [View.readCov_eq_canon']
  have : View.canon [(⟨Rect.unit (s := St a b) ![0, 0, 0, 0] ![1, 8, a, b] inb, w⟩ : View.Piece Val (St a b) e)] = w :=
    View.canon_cons_unit_lit' (S := St a b) inb w [] (by intro x; fin_cases x <;> rfl)
  rw [this]

/-- An index of the buffer, read inside its head. -/
def inHead (y : (St a b).Idx) : (Hd a b).Idx := fun x => match x with
  | 0 => ⟨0, Nat.one_pos⟩
  | 1 => ⟨0, Nat.one_pos⟩
  | 2 => y 2
  | 3 => y 3

theorem headInb (i : Fin 8) : ∀ x, (![0, i.val, 0, 0] : Fin 4 → Nat) x + (Hd a b).size x ≤ (St a b).size x := by
  intro x
  fin_cases x
  · exact le_rfl
  · change i.val + 1 ≤ 8
    omega
  · change 0 + a ≤ a
    omega
  · change 0 + b ≤ b
    omega

/-- The store of head `i`, as a piece. -/
def piece (f : Fin 8 → (Hd a b).Idx → Val e) (i : Fin 8) : View.Piece Val (St a b) e :=
  ⟨Rect.unit (s := St a b) ![0, i.val, 0, 0] ![1, 1, a, b] (headInb i), f i⟩

theorem canon_hit (f : Fin 8 → (Hd a b).Idx → Val e) (i : Fin 8) (L : List (View.Piece Val (St a b) e)) (y : (St a b).Idx)
    (h : (y 1).val = i.val) : View.canon (piece f i :: L) y = f i (inHead y) := by
  have hy : (piece f i).1.emb (inHead y) = y := by
    funext x
    apply Fin.ext
    fin_cases x
    · have : (y 0).val < 1 := (y 0).isLt
      change 0 + 1 * 0 = (y 0).val
      omega
    · change i.val + 1 * 0 = (y 1).val
      omega
    · change 0 + 1 * (y 2).val = (y 2).val
      omega
    · change 0 + 1 * (y 3).val = (y 3).val
      omega
  conv_lhs => rw [← hy]
  exact View.canon_cons_emb _ _ _ _

theorem canon_miss (f : Fin 8 → (Hd a b).Idx → Val e) (i : Fin 8) (L : List (View.Piece Val (St a b) e)) (y : (St a b).Idx)
    (h : (y 1).val ≠ i.val) : View.canon (piece f i :: L) y = View.canon L y := by
  refine View.canon_cons_of_not_mem _ _ fun hm => ?_
  obtain ⟨j, hj, he⟩ := (LoadRect.mem_set _).mp hm (1 : Fin 4)
  apply h
  have hj' : j < 1 := hj
  have he' : (y 1).val = i.val + 1 * j := he
  omega

/-- After all eight heads' stores, each head holds what was stored there. -/
theorem canon_heads (f : Fin 8 → (Hd a b).Idx → Val e) (L : List (View.Piece Val (St a b) e)) :
    View.canon (piece f 7 :: piece f 6 :: piece f 5 :: piece f 4 :: piece f 3 :: piece f 2 :: piece f 1 :: piece f 0 :: L)
      = fun y => f (y 1) (inHead y) := by
  funext y
  have key : ∀ (n : Nat) (hn : n < 8) (M : List (View.Piece Val (St a b) e)),
      ((y 1).val ≠ n → View.canon M y = f (y 1) (inHead y)) → View.canon (piece f ⟨n, hn⟩ :: M) y = f (y 1) (inHead y) := by
    intro n hn M hM
    by_cases h : (y 1).val = n
    · rw [canon_hit f ⟨n, hn⟩ M y h]
      have : (⟨n, hn⟩ : Fin 8) = y 1 := Fin.ext h.symm
      rw [this]
    · rw [canon_miss f ⟨n, hn⟩ M y h]
      exact hM h
  have hy : (y 1).val < 8 := (y 1).isLt
  refine key 7 (by omega) _ fun _ => key 6 (by omega) _ fun _ => key 5 (by omega) _ fun _ => key 4 (by omega) _ fun _ =>
    key 3 (by omega) _ fun _ => key 2 (by omega) _ fun _ => key 1 (by omega) _ fun _ => key 0 (by omega) _ fun _ => ?_
  exfalso
  omega

end State

section Cols

/-- The output block, its heads' columns side by side. -/
abbrev Out : Shape := ⟨2, ![64, 4096]⟩
abbrev Cols : Shape := ⟨2, ![64, 512]⟩

theorem colInb (i : Fin 8) : ∀ x, (![0, 512 * i.val] : Fin 2 → Nat) x + Cols.size x ≤ Out.size x := by
  intro x
  fin_cases x
  · exact le_rfl
  · change 512 * i.val + 512 ≤ 4096
    omega

def colPiece (f : Fin 8 → Cols.Idx → Val e) (i : Fin 8) : View.Piece Val Out e :=
  ⟨Rect.unit (s := Out) ![0, 512 * i.val] ![64, 512] (colInb i), f i⟩

/-- The head of a column, and the column's place in it. -/
def headOf (y : Out.Idx) : Fin 8 := ⟨(y 1).val / 512, by
  have : (y 1).val < 4096 := (y 1).isLt
  omega⟩

def inCols (y : Out.Idx) : Cols.Idx := fun x => match x with
  | 0 => y 0
  | 1 => ⟨(y 1).val % 512, Nat.mod_lt _ (by decide)⟩

theorem col_hit (f : Fin 8 → Cols.Idx → Val e) (i : Fin 8) (L : List (View.Piece Val Out e)) (y : Out.Idx)
    (h : (headOf y).val = i.val) : View.canon (colPiece f i :: L) y = f i (inCols y) := by
  have h' : (y 1).val / 512 = i.val := h
  have hy : (colPiece f i).1.emb (inCols y) = y := by
    funext x
    apply Fin.ext
    fin_cases x
    · change 0 + 1 * (y 0).val = (y 0).val
      omega
    · change 512 * i.val + 1 * ((y 1).val % 512) = (y 1).val
      omega
  conv_lhs => rw [← hy]
  exact View.canon_cons_emb _ _ _ _

theorem col_miss (f : Fin 8 → Cols.Idx → Val e) (i : Fin 8) (L : List (View.Piece Val Out e)) (y : Out.Idx)
    (h : (headOf y).val ≠ i.val) : View.canon (colPiece f i :: L) y = View.canon L y := by
  refine View.canon_cons_of_not_mem _ _ fun hm => ?_
  obtain ⟨j, hj, he⟩ := (LoadRect.mem_set _).mp hm (1 : Fin 2)
  apply h
  have hj' : j < 512 := hj
  have he' : (y 1).val = 512 * i.val + 1 * j := he
  change (y 1).val / 512 = i.val
  omega

theorem canon_cols (f : Fin 8 → Cols.Idx → Val e) (L : List (View.Piece Val Out e)) :
    View.canon (colPiece f 7 :: colPiece f 6 :: colPiece f 5 :: colPiece f 4 :: colPiece f 3 :: colPiece f 2 :: colPiece f 1 :: colPiece f 0 :: L)
      = fun y => f (headOf y) (inCols y) := by
  funext y
  have key : ∀ (n : Nat) (hn : n < 8) (M : List (View.Piece Val Out e)),
      ((headOf y).val ≠ n → View.canon M y = f (headOf y) (inCols y)) → View.canon (colPiece f ⟨n, hn⟩ :: M) y = f (headOf y) (inCols y) := by
    intro n hn M hM
    by_cases h : (headOf y).val = n
    · rw [col_hit f ⟨n, hn⟩ M y h]
      have : (⟨n, hn⟩ : Fin 8) = headOf y := Fin.ext h.symm
      rw [this]
    · rw [col_miss f ⟨n, hn⟩ M y h]
      exact hM h
  have hy : (headOf y).val < 8 := (headOf y).isLt
  refine key 7 (by omega) _ fun _ => key 6 (by omega) _ fun _ => key 5 (by omega) _ fun _ => key 4 (by omega) _ fun _ =>
    key 3 (by omega) _ fun _ => key 2 (by omega) _ fun _ => key 1 (by omega) _ fun _ => key 0 (by omega) _ fun _ => ?_
  exfalso
  omega

end Cols

end Cert.Pieces
-- ==== Proof.Block.lean ====
/-
  One chunk's block of all eight heads: what the body's stores leave in the output block and the three state buffers, of
  the blocks it reads and the state it starts from, head by head (Head.lean's functions at the head's slices).
-/
module

public import proofs.«01_k».proof.Proof.Head
public import proofs.«01_k».proof.Proof.Pieces

@[expose] public section

noncomputable section

namespace Cert.Block

open Cert.KernelIdeal Cert.KernelIdeal.Gen Idealize.ShloMosaic Cert.Pieces

variable {F : FTy → Type} [FloatOps F]

/-- What the body reads at one chunk: queries, keys, values, output gates, the log gates and the gains. -/
structure In (F : FTy → Type) [FloatOps F] where
  q : Vec F S64x2048 .bf16
  k : Vec F S64x2048 .bf16
  v : Vec F S64x4096 .bf16
  o : Vec F S64x4096 .bf16
  gates : Vec F S64x16 .f32
  gain : Vec F S1x4096 .f32

/-- The state before (or after) a chunk. -/
structure St (F : FTy → Type) [FloatOps F] where
  C : Vec F S1x8x256x512 .f32
  n : Vec F S1x8x1x256 .f32
  mm : Vec F S1x8x1x1 .f32

theorem igSlices (i : Fin 8) : S64x16.Slices ![0, i.val] S64x1 := by revert i; decide
theorem lfSlices (i : Fin 8) : S64x16.Slices ![0, 8 + i.val] S64x1 := by revert i; decide
theorem keyInb (i : Fin 8) : ∀ a, (![0, 256 * i.val] : Fin 2 → Nat) a + S64x256.size a ≤ S64x2048.size a := by revert i; decide
theorem valInb (i : Fin 8) : ∀ a, (![0, 512 * i.val] : Fin 2 → Nat) a + S64x512.size a ≤ S64x4096.size a := by revert i; decide
theorem gainInb (i : Fin 8) : ∀ a, (![0, 512 * i.val] : Fin 2 → Nat) a + S1x512.size a ≤ S1x4096.size a := by revert i; decide

variable (x : In F) (s : St F) (i : Fin 8)

/-- The head's slices. -/
def ig : FVec F S64x1 .f32 := extractStridedSlice S64x1 ![0, i.val] x.gates (igSlices i)
def lf : FVec F S64x1 .f32 := extractStridedSlice S64x1 ![0, 8 + i.val] x.gates (lfSlices i)
def q : FVec F S64x256 .bf16 := View.ld (Val := Elt F) (e' := .bf16) x.q (Rect.unit (s := S64x2048) ![0, 256 * i.val] ![64, 256] (keyInb i))
def k : FVec F S64x256 .bf16 := View.ld (Val := Elt F) (e' := .bf16) x.k (Rect.unit (s := S64x2048) ![0, 256 * i.val] ![64, 256] (keyInb i))
def v : FVec F S64x512 .bf16 := View.ld (Val := Elt F) (e' := .bf16) x.v (Rect.unit (s := S64x4096) ![0, 512 * i.val] ![64, 512] (valInb i))
def o : FVec F S64x512 .bf16 := View.ld (Val := Elt F) (e' := .bf16) x.o (Rect.unit (s := S64x4096) ![0, 512 * i.val] ![64, 512] (valInb i))
def gain : FVec F S1x512 .f32 := View.ld (Val := Elt F) (e' := .f32) x.gain (Rect.unit (s := S1x4096) ![0, 512 * i.val] ![1, 512] (gainInb i))
def C : FVec F S256x512 .f32 :=
  shapeCast S256x512 (View.ld (Val := Elt F) (e' := .f32) s.C (Rect.unit (s := S1x8x256x512) ![0, i.val, 0, 0] ![1, 1, 256, 512] (headInb i))) shapeCasts_S1x1x256x512_S256x512
def n : FVec F S1x256 .f32 :=
  shapeCast S1x256 (View.ld (Val := Elt F) (e' := .f32) s.n (Rect.unit (s := S1x8x1x256) ![0, i.val, 0, 0] ![1, 1, 1, 256] (headInb i))) shapeCasts_S1x1x1x256_S1x256
def mm : FVec F S1x1 .f32 :=
  shapeCast S1x1 (View.ld (Val := Elt F) (e' := .f32) s.mm (Rect.unit (s := S1x8x1x1) ![0, i.val, 0, 0] ![1, 1, 1, 1] (headInb i))) shapeCasts_S1x1x1x1_S1x1

/-- What the head stores. -/
def hHead : Vec F S64x512 .bf16 :=
  Head.hOut16 (ig x i) (lf x i) (mm s i) (q x i) (k x i) (v x i) (o x i) (gain x i) (C s i) (n s i)
def cHead : Vec F S1x1x256x512 .f32 :=
  shapeCast S1x1x256x512 (Head.cNew (ig x i) (lf x i) (mm s i) (k x i) (v x i) (C s i)) shapeCasts_S256x512_S1x1x256x512
def nHead : Vec F S1x1x1x256 .f32 :=
  shapeCast S1x1x1x256 (Head.nNew (ig x i) (lf x i) (mm s i) (k x i) (n s i)) shapeCasts_S1x256_S1x1x1x256
def mHead : Vec F S1x1x1x1 .f32 :=
  shapeCast S1x1x1x1 (Head.mNew (ig x i) (lf x i) (mm s i)) shapeCasts_S1x1_S1x1x1x1

/-- The four buffers after the chunk. -/
def hBlk : Vec F S64x4096 .bf16 := fun y => hHead x s (headOf y) (inCols y)
def cBlk : Vec F S1x8x256x512 .f32 := fun y => cHead x s (y 1) (inHead y)
def nBlk : Vec F S1x8x1x256 .f32 := fun y => nHead x s (y 1) (inHead y)
def mBlk : Vec F S1x8x1x1 .f32 := fun y => mHead x s (y 1) (inHead y)

/-- The state after the chunk. -/
def next : St F := ⟨cBlk x s, nBlk x s, mBlk x s⟩

end Cert.Block
-- ==== Proof.Sample.lean ====
/-
  The sample call's body at one grid point: the blocks it reads, and the words of the body that leave a buffer as it is.
-/
module

public import proofs.«01_k».proof.Proof.Gen.KernelIdeal.Frame
public import proofs.«01_k».proof.Proof.Block

@[expose] public section

noncomputable section

namespace Cert.Sample

open Cert.KernelIdeal Cert.KernelIdeal.Gen Idealize.ShloMosaic Idealize.ShloMosaic.TcCoe Idealize.SL.Sem

variable {F : FTy → Type} [FloatOps F] (m : (ℓ : Loc nD τ sig) → Buf (Elt F) ℓ)

/-- What the body reads at grid point `t`, and the state it starts from. -/
def blkIn (c : Dev nD) (t : Fin cfg0.N) : Block.In F := ⟨iblk m c 0 t, iblk m c 1 t, iblk m c 2 t, iblk m c 3 t, iblk m c 4 t, iblk m c 5 t⟩
def blkSt (c : Dev nD) (t : Fin cfg0.N) : Block.St F := ⟨iblk m c 6 t, iblk m c 7 t, iblk m c 8 t⟩

/-- The state's first copy into the output buffers keeps it. -/
theorem copyC (v : Vec F S1x8x256x512 .f32) : k0_pay4 v = v := Idealize.ShloMosaic.shapeCast_self _ _
theorem copyN (v : Vec F S1x8x1x256 .f32) : k0_pay5 v = v := Idealize.ShloMosaic.shapeCast_self _ _
theorem copyM (v : Vec F S1x8x1x1 .f32) : k0_pay6 v = v := Idealize.ShloMosaic.shapeCast_self _ _

/-- A load of a whole buffer is the buffer. -/
theorem ldG (v : Vec F S64x16 .f32) (h) : View.ld (Val := Elt F) v (Rect.unit (s := S64x16) ![0, 0] ![64, 16] h) = v :=
  View.ld_unit_lit' (S := S64x16) h v (by decide)
theorem ldC (v : Vec F S1x8x256x512 .f32) (h) : View.ld (Val := Elt F) v (Rect.unit (s := S1x8x256x512) ![0, 0, 0, 0] ![1, 8, 256, 512] h) = v :=
  View.ld_unit_lit' (S := S1x8x256x512) h v (by decide)
theorem ldN (v : Vec F S1x8x1x256 .f32) (h) : View.ld (Val := Elt F) v (Rect.unit (s := S1x8x1x256) ![0, 0, 0, 0] ![1, 8, 1, 256] h) = v :=
  View.ld_unit_lit' (S := S1x8x1x256) h v (by decide)
theorem ldM (v : Vec F S1x8x1x1 .f32) (h) : View.ld (Val := Elt F) v (Rect.unit (s := S1x8x1x1) ![0, 0, 0, 0] ![1, 8, 1, 1] h) = v :=
  View.ld_unit_lit' (S := S1x8x1x1) h v (by decide)

end Cert.Sample
-- ==== Proof.SampleH.lean ====
/-
  The output block after the sample call's body at one grid point: every head's stored value.
-/
module

public import proofs.«01_k».proof.Proof.Sample

@[expose] public section

set_option maxRecDepth 16384

noncomputable section

namespace Cert.Sample

open Cert.KernelIdeal Cert.KernelIdeal.Gen Idealize.ShloMosaic Idealize.ShloMosaic.TcCoe Idealize.SL.Sem Idealize.ShloMosaic.Tactic

variable {F : FTy → Type} [FloatOps F] (m : (ℓ : Loc nD τ sig) → Buf (Elt F) ℓ)

set_option maxHeartbeats 8000000 in
theorem outH (c : Dev nD) (t : Fin cfg0.N) : (outsAt0 m c t).1 = Block.hBlk (blkIn m c t) (blkSt m c t) := by
  unfold outsAt0 out0_A_9
  dsimp only
  rw [View.read_writes_eq_canon _ _ _ (cover0_A_9 c _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    Pieces.skip, Pieces.base, ne_eq, Nat.reduceEqDiff, not_false_eq_true, OfNat.zero_ne_ofNat, OfNat.ofNat_ne_zero,
    OfNat.one_ne_ofNat, OfNat.ofNat_ne_one, zero_ne_one, one_ne_zero, copyC, copyN, copyM, ldC, ldN, ldM, ldG]
  exact Pieces.canon_cols (Block.hHead (blkIn m c t) (blkSt m c t)) _

end Cert.Sample
-- ==== Proof.SampleC.lean ====
/-
  The state buffer `C` after the sample call's body at one grid point: every head's stored value.
-/
module

public import proofs.«01_k».proof.Proof.Sample

@[expose] public section

set_option maxRecDepth 16384

noncomputable section

namespace Cert.Sample

open Cert.KernelIdeal Cert.KernelIdeal.Gen Idealize.ShloMosaic Idealize.ShloMosaic.TcCoe Idealize.SL.Sem Idealize.ShloMosaic.Tactic

variable {F : FTy → Type} [FloatOps F] (m : (ℓ : Loc nD τ sig) → Buf (Elt F) ℓ)

set_option maxHeartbeats 8000000 in
theorem outC (c : Dev nD) (t : Fin cfg0.N) : (outsAt0 m c t).2.1 = Block.cBlk (blkIn m c t) (blkSt m c t) := by
  unfold outsAt0 out0_A_10
  dsimp only
  rw [View.read_writes_eq_canon _ _ _ (cover0_A_10 c _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    Pieces.skip, Pieces.base, ne_eq, Nat.reduceEqDiff, not_false_eq_true, OfNat.zero_ne_ofNat, OfNat.ofNat_ne_zero,
    OfNat.one_ne_ofNat, OfNat.ofNat_ne_one, zero_ne_one, one_ne_zero, copyC, copyN, copyM, ldC, ldN, ldM, ldG]
  exact Pieces.canon_heads (Block.cHead (blkIn m c t) (blkSt m c t)) _

end Cert.Sample
-- ==== Proof.SampleN.lean ====
/-
  The state buffer `n` after the sample call's body at one grid point: every head's stored value.
-/
module

public import proofs.«01_k».proof.Proof.Sample

@[expose] public section

set_option maxRecDepth 16384

noncomputable section

namespace Cert.Sample

open Cert.KernelIdeal Cert.KernelIdeal.Gen Idealize.ShloMosaic Idealize.ShloMosaic.TcCoe Idealize.SL.Sem Idealize.ShloMosaic.Tactic

variable {F : FTy → Type} [FloatOps F] (m : (ℓ : Loc nD τ sig) → Buf (Elt F) ℓ)

set_option maxHeartbeats 8000000 in
theorem outN (c : Dev nD) (t : Fin cfg0.N) : (outsAt0 m c t).2.2.1 = Block.nBlk (blkIn m c t) (blkSt m c t) := by
  unfold outsAt0 out0_A_11
  dsimp only
  rw [View.read_writes_eq_canon _ _ _ (cover0_A_11 c _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    Pieces.skip, Pieces.base, ne_eq, Nat.reduceEqDiff, not_false_eq_true, OfNat.zero_ne_ofNat, OfNat.ofNat_ne_zero,
    OfNat.one_ne_ofNat, OfNat.ofNat_ne_one, zero_ne_one, one_ne_zero, copyC, copyN, copyM, ldC, ldN, ldM, ldG]
  exact Pieces.canon_heads (Block.nHead (blkIn m c t) (blkSt m c t)) _

end Cert.Sample
-- ==== Proof.SampleM.lean ====
/-
  The stabilizer buffer after the sample call's body at one grid point: every head's stored value.
-/
module

public import proofs.«01_k».proof.Proof.Sample

@[expose] public section

set_option maxRecDepth 16384

noncomputable section

namespace Cert.Sample

open Cert.KernelIdeal Cert.KernelIdeal.Gen Idealize.ShloMosaic Idealize.ShloMosaic.TcCoe Idealize.SL.Sem Idealize.ShloMosaic.Tactic

variable {F : FTy → Type} [FloatOps F] (m : (ℓ : Loc nD τ sig) → Buf (Elt F) ℓ)

set_option maxHeartbeats 8000000 in
theorem outM (c : Dev nD) (t : Fin cfg0.N) : (outsAt0 m c t).2.2.2 = Block.mBlk (blkIn m c t) (blkSt m c t) := by
  unfold outsAt0 out0_A_12
  dsimp only
  rw [View.read_writes_eq_canon _ _ _ (cover0_A_12 c _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    Pieces.skip, Pieces.base, ne_eq, Nat.reduceEqDiff, not_false_eq_true, OfNat.zero_ne_ofNat, OfNat.ofNat_ne_zero,
    OfNat.one_ne_ofNat, OfNat.ofNat_ne_one, zero_ne_one, one_ne_zero, copyC, copyN, copyM, ldC, ldN, ldM, ldG]
  exact Pieces.canon_heads (Block.mHead (blkIn m c t) (blkSt m c t)) _

end Cert.Sample
-- ==== Proof.Spec.lean ====
/-
  The chunkwise mLSTM as plain sums over the extended reals: one stream, one head, one chunk of 64 positions. Both the
  kernel's blocks and the reference's arrays are shown to hold these values.
-/
module

public import Idealize.ShloMosaic.PureOps.Ideal
public import Idealize.ShloMosaic.Lib.WordCmp

@[expose] public section

noncomputable section

namespace Cert.Spec

open Idealize.ShloMosaic Idealize.ShloMosaic.WordCmp

/-- One head's inputs at one chunk. -/
@[ext] structure In where
  q : Fin 64 → Fin 256 → EReal
  k : Fin 64 → Fin 256 → EReal
  v : Fin 64 → Fin 512 → EReal
  ig : Fin 64 → EReal
  lf : Fin 64 → EReal

/-- One head's state. -/
@[ext] structure St where
  C : Fin 256 → Fin 512 → EReal
  n : Fin 256 → EReal
  mm : EReal

/-- The constants as both programs spell them: minus infinity, the query scale, the row length and the epsilon. -/
abbrev negInf : EReal := Ideal.ofBits FTy.f32 4286578688#32
abbrev scale : EReal := Ideal.ofBits FTy.f32 1031798784#32
abbrev rowLen : EReal := Ideal.ofBits FTy.f32 1140850688#32
abbrev eps : EReal := Ideal.ofBits FTy.f32 897988541#32

variable (x : In) (s : St)

/-- The running sum of the log forget gates. -/
def cum (t : Fin 64) : EReal := ∑ r : Fin 64, if r ≤ t then x.lf r else 0

/-- The log weight of position `r` in row `t`. -/
def logW (t r : Fin 64) : EReal := if r ≤ t then cum x t - cum x r + x.ig r else negInf

/-- Row `t`'s stabilizer, and the state's weight in it. -/
def stab (t : Fin 64) : EReal := max (cum x t + s.mm) (Finset.univ.fold max negInf fun r => logW x t r)
def wInter (t : Fin 64) : EReal := Ideal.exp (cum x t + s.mm - stab x s t)

/-- The weighted scores. -/
def score (t r : Fin 64) : EReal := (∑ d, x.q t d * scale * x.k r d) * Ideal.exp (logW x t r - stab x s t)

def num (t : Fin 64) (e : Fin 512) : EReal := (∑ r, score x s t r * x.v r e) + wInter x s t * ∑ d, x.q t d * scale * s.C d e
def den (t : Fin 64) : EReal := (∑ r, score x s t r) + wInter x s t * ∑ d, x.q t d * scale * s.n d

/-- The cell's output before its normalization. -/
def cell (t : Fin 64) (e : Fin 512) : EReal :=
  Ideal.div (num x s t e) (max (FloatOps.absf (F := Ideal) (φ := .f32) (den x s t)) (Ideal.exp (-stab x s t)))

/-- The normalized and gated output row, of the cell's row `h`, the gains and the output gates. -/
def out (h g o : Fin 512 → EReal) (e : Fin 512) : EReal :=
  h e * Ideal.rsqrt (Ideal.div (∑ a, h a * h a) rowLen + eps) * g e * Ideal.logistic (o e)

/-- The state after the chunk. -/
def mNew : EReal := stab x s 63
def wState : EReal := Ideal.exp (cum x 63 + s.mm - mNew x s)
def kW (r : Fin 64) (d : Fin 256) : EReal := x.k r d * Ideal.exp (cum x 63 - cum x r + x.ig r - mNew x s)
def next : St where
  C d e := wState x s * s.C d e + ∑ r, kW x s r d * x.v r e
  n d := wState x s * s.n d + ∑ r, kW x s r d
  mm := mNew x s

/-! ## The inputs' places in the projected arrays -/

/-- Head `h`'s inputs at the chunk whose positions are the rows `row` of the projected inputs and of the log gates. -/
def inAt (zm : Fin 10240 → Fin 12288 → EReal) (gates : Fin 10240 → Fin 16 → EReal) (row : Fin 64 → Fin 10240) (h : Fin 8) : In where
  q t d := zm (row t) ⟨h.val * 256 + d.val, by omega⟩
  k t d := zm (row t) ⟨2048 + (h.val * 256 + d.val), by omega⟩
  v t e := zm (row t) ⟨4096 + (h.val * 512 + e.val), by omega⟩
  ig t := gates (row t) ⟨h.val, by omega⟩
  lf t := gates (row t) ⟨8 + h.val, by omega⟩

/-- Head `h`'s gated output at position `t` of that chunk, from the state `s`. -/
def outAt (zm : Fin 10240 → Fin 12288 → EReal) (gates : Fin 10240 → Fin 16 → EReal) (gain : Fin 4096 → EReal)
    (row : Fin 64 → Fin 10240) (s : St) (h : Fin 8) (t : Fin 64) (e : Fin 512) : EReal :=
  out (fun a => cell (inAt zm gates row h) s t a) (fun a => gain ⟨h.val * 512 + a.val, by omega⟩)
    (fun a => zm (row t) ⟨8192 + (h.val * 512 + a.val), by omega⟩) e

/-! ## Comparisons of position numbers -/

theorem word (a : Fin 64) : (BitVec.ofNat 32 a.val).toInt = (a.val : Int) := toInt_ofNat_of_lt (by omega)

theorem select_le {α : Type} (a b : Fin 64) (u v : α) :
    Scalar.select (IntOp.cmpi .sle (BitVec.ofNat 32 a.val) (BitVec.ofNat 32 b.val)) u v = if a ≤ b then u else v := by
  rw [cmpi_sle_eq, word, word]
  by_cases h : a ≤ b
  · have : (a.val : Int) ≤ b.val := by exact_mod_cast h
    simp [h, this, Scalar.select]
  · have : ¬ (a.val : Int) ≤ b.val := by exact_mod_cast h
    simp [h, this, Scalar.select]

theorem select_ge {α : Type} (a b : Fin 64) (u v : α) :
    Scalar.select (Scalar.select (IntOp.cmpi .sge (IntOp.addi (BitVec.ofNat 32 a.val) 0#32) (BitVec.ofNat 32 b.val)) 1#1 0#1) u v
      = if b ≤ a then u else v := by
  have h0 : IntOp.addi (BitVec.ofNat 32 a.val) 0#32 = BitVec.ofNat 32 a.val := BitVec.add_zero _
  rw [h0, cmpi_sge_eq, word, word]
  by_cases h : b ≤ a
  · have : (b.val : Int) ≤ a.val := by exact_mod_cast h
    simp [h, this, Scalar.select]
  · have : ¬ (b.val : Int) ≤ a.val := by exact_mod_cast h
    simp [h, this, Scalar.select]

theorem select_eq {α : Type} (a b : Fin 64) (u v : α) :
    Scalar.select (IntOp.cmpi .eq (BitVec.ofNat 32 a.val) (BitVec.ofNat 32 b.val)) u v = if a = b then u else v := by
  have hiff : BitVec.ofNat 32 a.val = BitVec.ofNat 32 b.val ↔ a = b := by
    constructor
    · intro h
      have := congrArg BitVec.toInt h
      rw [word, word] at this
      exact Fin.ext (by exact_mod_cast this)
    · rintro rfl
      rfl
  rw [cmpi_eq_eq]
  by_cases h : a = b
  · have := hiff.mpr h
    simp [h, Scalar.select]
  · have := mt hiff.mp h
    simp [h, this, Scalar.select]

/-- The last running sum is the whole sum. -/
theorem cum_last : cum x 63 = ∑ r, x.lf r := by
  unfold cum
  refine Finset.sum_congr rfl fun r _ => ?_
  rw [if_pos]
  exact Fin.le_last r

end Cert.Spec
-- ==== Proof.HeadIdeal.lean ====
/-
  One head's operations read at an index, over the extended reals: Head.lean's vectors hold Spec.lean's values.
-/
module

public import proofs.«01_k».proof.Proof.Head
public import proofs.«01_k».proof.Proof.Spec
public import Idealize.ShloMosaic.Lib.Pointwise

@[expose] public section

noncomputable section

namespace Cert.Head

open Cert.KernelIdeal Cert.KernelIdeal.Gen Idealize.ShloMosaic

/-- A head's vectors, as the plain inputs and state. -/
def inOf (ig lf : FVec Ideal S64x1 .f32) (q k : FVec Ideal S64x256 .bf16) (v : FVec Ideal S64x512 .bf16) : Spec.In where
  q t d := q (ix2 t d)
  k t d := k (ix2 t d)
  v t e := v (ix2 t e)
  ig t := ig (ix2 t 0)
  lf t := lf (ix2 t 0)

def stOf (C : FVec Ideal S256x512 .f32) (n : FVec Ideal S1x256 .f32) (mm : FVec Ideal S1x1 .f32) : Spec.St where
  C d e := C (ix2 d e)
  n d := n (ix2 0 d)
  mm := mm (ix2 0 0)

variable (ig lf : FVec Ideal S64x1 .f32) (q k : FVec Ideal S64x256 .bf16) (v : FVec Ideal S64x512 .bf16)
  (C : FVec Ideal S256x512 .f32) (n : FVec Ideal S1x256 .f32) (mm : FVec Ideal S1x1 .f32)

theorem toRow_apply (x : FVec Ideal S64x1 .f32) (z : Fin 1) (s : Fin 64) : toRow x (ix2 z s) = x (ix2 s 0) := by
  pointwise [toRow, rowNo, colNo]
  simp only [Spec.select_eq, Finset.sum_ite_eq', Finset.mem_univ, if_true]

theorem cumCol_apply (t : Fin 64) (z : Fin 1) : cumCol lf (ix2 t z) = Spec.cum (inOf ig lf q k v) t := by
  pointwise [cumCol, causal, rowNo, colNo, toRow_apply]
  simp only [Spec.select_le]
  rfl

theorem cumRow_apply (z : Fin 1) (t : Fin 64) : cumRow lf (ix2 z t) = Spec.cum (inOf ig lf q k v) t := by
  pointwise [cumRow, rowNo, colNo]
  simp only [Spec.select_le]
  rfl

theorem cumAll_apply (y z : Fin 1) : cumAll lf (ix2 y z) = Spec.cum (inOf ig lf q k v) 63 := by
  rw [Spec.cum_last]
  pointwise [cumAll]
  rfl

theorem inter_apply (t : Fin 64) (z : Fin 1) : inter lf mm (ix2 t z) = Spec.cum (inOf ig lf q k v) t + (stOf C n mm).mm := by
  pointwise [inter]
  rw [cumCol_apply ig lf q k v]
  rfl

theorem logW_apply (t r : Fin 64) : logW ig lf (ix2 t r) = Spec.logW (inOf ig lf q k v) t r := by
  pointwise [logW, causal, rowNo, colNo, toRow_apply]
  rw [cumCol_apply ig lf q k v, cumRow_apply ig lf q k v, Spec.select_le]
  rfl

theorem stab_apply (t : Fin 64) (z : Fin 1) : stab ig lf mm (ix2 t z) = Spec.stab (inOf ig lf q k v) (stOf C n mm) t := by
  pointwise [stab]
  simp only [inter_apply ig lf q k v C n mm, logW_apply ig lf q k v]
  rfl

theorem wInter_apply (t : Fin 64) (z : Fin 1) : wInter ig lf mm (ix2 t z) = Spec.wInter (inOf ig lf q k v) (stOf C n mm) t := by
  pointwise [wInter]
  rw [inter_apply ig lf q k v C n mm, stab_apply ig lf q k v C n mm]
  rfl

theorem score_apply (t r : Fin 64) : score ig lf mm q k (ix2 t r) = Spec.score (inOf ig lf q k v) (stOf C n mm) t r := by
  pointwise [score, qScaled]
  rw [stab_apply ig lf q k v C n mm, logW_apply ig lf q k v]
  rfl

theorem num_apply (t : Fin 64) (e : Fin 512) : num ig lf mm q k v C (ix2 t e) = Spec.num (inOf ig lf q k v) (stOf C n mm) t e := by
  pointwise [num, qScaled]
  simp only [score_apply ig lf q k v C n mm, wInter_apply ig lf q k v C n mm]
  rfl

theorem den_apply (t : Fin 64) (z : Fin 1) : den ig lf mm q k n (ix2 t z) = Spec.den (inOf ig lf q k v) (stOf C n mm) t := by
  pointwise [den, qScaled]
  simp only [score_apply ig lf q k v C n mm, wInter_apply ig lf q k v C n mm]
  rfl

theorem cell_apply (t : Fin 64) (e : Fin 512) : cell ig lf mm q k v C n (ix2 t e) = Spec.cell (inOf ig lf q k v) (stOf C n mm) t e := by
  pointwise [cell]
  rw [num_apply, den_apply ig lf q k v C n mm, stab_apply ig lf q k v C n mm, zero_sub]
  rfl

theorem hOut16_apply (o : FVec Ideal S64x512 .bf16) (g : FVec Ideal S1x512 .f32) (t : Fin 64) (e : Fin 512) :
    hOut16 ig lf mm q k v o g C n (ix2 t e)
      = Spec.out (fun a => Spec.cell (inOf ig lf q k v) (stOf C n mm) t a) (fun a => g (ix2 0 a)) (fun a => o (ix2 t a)) e := by
  pointwise [hOut16, hOut, meanSq]
  simp only [cell_apply]
  rfl

theorem mNew_apply (y z : Fin 1) : mNew ig lf mm (ix2 y z) = Spec.mNew (inOf ig lf q k v) (stOf C n mm) := by
  pointwise [mNew]
  have h : ∀ r : Fin 64, Scalar.select (IntOp.cmpi .eq (BitVec.ofNat 32 r.val) 63#32) (stab ig lf mm (ix2 r 0)) 0
      = if r = 63 then stab ig lf mm (ix2 r 0) else 0 := fun r => Spec.select_eq r 63 _ _
  simp only [h, Finset.sum_ite_eq', Finset.mem_univ, if_true]
  exact stab_apply ig lf q k v C n mm 63 0

theorem wState_apply (y z : Fin 1) : wState ig lf mm (ix2 y z) = Spec.wState (inOf ig lf q k v) (stOf C n mm) := by
  obtain rfl : y = 0 := Subsingleton.elim _ _
  obtain rfl : z = 0 := Subsingleton.elim _ _
  pointwise [wState]
  simp only [cumAll_apply ig lf q k v, mNew_apply ig lf q k v C n mm]
  rfl

theorem kW_apply (r : Fin 64) (d : Fin 256) : kW ig lf mm k (ix2 r d) = Spec.kW (inOf ig lf q k v) (stOf C n mm) r d := by
  pointwise [kW]
  simp only [cumAll_apply ig lf q k v, cumCol_apply ig lf q k v, mNew_apply ig lf q k v C n mm]
  rfl

theorem cNew_apply (d : Fin 256) (e : Fin 512) :
    cNew ig lf mm k v C (ix2 d e) = (Spec.next (inOf ig lf q k v) (stOf C n mm)).C d e := by
  pointwise [cNew]
  simp only [wState_apply ig lf q k v C n mm, kW_apply ig lf q k v C n mm]
  rfl

theorem nNew_apply (z : Fin 1) (d : Fin 256) :
    nNew ig lf mm k n (ix2 z d) = (Spec.next (inOf ig lf q k v) (stOf C n mm)).n d := by
  pointwise [nNew]
  simp only [wState_apply ig lf q k v C n mm, kW_apply ig lf q k v C n mm]
  obtain rfl : z = 0 := Subsingleton.elim _ _
  rfl

end Cert.Head
-- ==== Proof.KerSample.lean ====
/-
  The sample kernel's blocks over the extended reals: grid point `t` reads stream `t`'s rows and state, and what it leaves
  in the four result blocks is Spec.lean's.
-/
module

public import proofs.«01_k».proof.Proof.SampleH
public import proofs.«01_k».proof.Proof.SampleC
public import proofs.«01_k».proof.Proof.SampleN
public import proofs.«01_k».proof.Proof.SampleM
public import proofs.«01_k».proof.Proof.HeadIdeal
public import Idealize.ShloMosaic.Lib.Pipeline.ValueKit
public import Idealize.ShloMosaic.Lib.Claim

@[expose] public section

set_option maxRecDepth 16384

noncomputable section

namespace Cert.KerSample

open Cert.KernelIdeal Cert.KernelIdeal.Gen Cert.Sample Idealize.ShloMosaic Idealize.ShloMosaic.TcCoe Idealize.SL.Sem

variable (m : (ℓ : Loc nD τ sig) → Buf (Elt Ideal) ℓ) (c : Dev nD)

/-- The arguments. -/
abbrev zm : FVec Ideal S10240x12288 .bf16 := m ((c : Thread nD τ).loc main_arg0)
abbrev gates : FVec Ideal S10240x16 .f32 := m ((c : Thread nD τ).loc main_arg1)
abbrev gain : FVec Ideal S1x4096 .f32 := m ((c : Thread nD τ).loc main_arg2)
abbrev C0 : FVec Ideal S1x32x8x256x512 .f32 := m ((c : Thread nD τ).loc main_arg3)
abbrev n0 : FVec Ideal S1x32x8x256 .f32 := m ((c : Thread nD τ).loc main_arg4)
abbrev m0 : FVec Ideal S1x32x8 .f32 := m ((c : Thread nD τ).loc main_arg5)

/-- The windows' block indices. -/
theorem idx : ∀ t : Fin cfg0.N, win0_0.index t = ![128 + t.val, 0] ∧ win0_1.index t = ![128 + t.val, 1]
    ∧ win0_2.index t = ![128 + t.val, 1] ∧ win0_3.index t = ![128 + t.val, 2] ∧ win0_4.index t = ![128 + t.val, 0]
    ∧ win0_5.index t = ![0, 0] ∧ win0_6.index t = ![t.val, 0, 0, 0] ∧ win0_7.index t = ![t.val, 0, 0, 0]
    ∧ win0_8.index t = ![t.val, 0, 0, 0] ∧ win0_9.index t = ![t.val, 0] ∧ win0_10.index t = ![t.val, 0, 0, 0]
    ∧ win0_11.index t = ![t.val, 0, 0, 0] ∧ win0_12.index t = ![t.val, 0, 0, 0] :=
  (by decide +kernel : ∀ t : Fin grid0.N, _)

theorem lt_points (t : Fin cfg0.N) : t.val < 32 := t.isLt

/-- Stream `t`'s rows. -/
def row (t : Fin cfg0.N) (p : Fin 64) : Fin 10240 := ⟨8192 + (t.val * 64 + p.val), by have := lt_points t; omega⟩

variable (t : Fin cfg0.N)

theorem q_apply (p : Fin 64) (j : Fin 2048) : (blkIn m c t).q (ix2 p j) = zm m c (ix2 (row t p) ⟨j.val, by omega⟩) := by
  show iblk m c 0 t _ = _
  unfold row
  blk_ext [iblk, V, idx t]
theorem k_apply (p : Fin 64) (j : Fin 2048) : (blkIn m c t).k (ix2 p j) = zm m c (ix2 (row t p) ⟨2048 + j.val, by omega⟩) := by
  show iblk m c 1 t _ = _
  unfold row
  blk_ext [iblk, V, idx t]
theorem v_apply (p : Fin 64) (j : Fin 4096) : (blkIn m c t).v (ix2 p j) = zm m c (ix2 (row t p) ⟨4096 + j.val, by omega⟩) := by
  show iblk m c 2 t _ = _
  unfold row
  blk_ext [iblk, V, idx t]
theorem o_apply (p : Fin 64) (j : Fin 4096) : (blkIn m c t).o (ix2 p j) = zm m c (ix2 (row t p) ⟨8192 + j.val, by omega⟩) := by
  show iblk m c 3 t _ = _
  unfold row
  blk_ext [iblk, V, idx t]
theorem gates_apply (p : Fin 64) (j : Fin 16) : (blkIn m c t).gates (ix2 p j) = gates m c (ix2 (row t p) j) := by
  show iblk m c 4 t _ = _
  unfold row
  blk_ext [iblk, V, idx t]
theorem gain_apply (z : Fin 1) (j : Fin 4096) : (blkIn m c t).gain (ix2 z j) = gain m c (ix2 0 j) := by
  show iblk m c 5 t _ = _
  blk_ext [iblk, V, idx t]
theorem C_apply (z : Fin 1) (i : Fin 8) (d : Fin 256) (e : Fin 512) :
    (blkSt m c t).C (ix4 z i d e) = C0 m c (ix5 0 ⟨t.val, lt_points t⟩ i d e) := by
  unfold blkSt
  show iblk m c 6 t _ = _
  blk_simp [iblk]
  entry_read
  pointwise
  blk_ext [idx t]
theorem n_apply (z : Fin 1) (i : Fin 8) (y : Fin 1) (d : Fin 256) :
    (blkSt m c t).n (ix4 z i y d) = n0 m c (ix4 0 ⟨t.val, lt_points t⟩ i d) := by
  unfold blkSt
  show iblk m c 7 t _ = _
  blk_simp [iblk]
  entry_read
  pointwise
  blk_ext [idx t]
theorem m_apply (z : Fin 1) (i : Fin 8) (y y' : Fin 1) :
    (blkSt m c t).mm (ix4 z i y y') = m0 m c (ix3 0 ⟨t.val, lt_points t⟩ i) := by
  unfold blkSt
  show iblk m c 8 t _ = _
  blk_simp [iblk]
  entry_read
  pointwise
  blk_ext [idx t]

end Cert.KerSample
-- ==== Proof.BlockIdeal.lean ====
/-
  Block.lean's blocks over the extended reals: a head's slices of the blocks, as Spec.lean's inputs and state, and the four
  buffers after a chunk at an index.
-/
module

public import proofs.«01_k».proof.Proof.Block
public import proofs.«01_k».proof.Proof.HeadIdeal
public import Idealize.ShloMosaic.Lib.Pipeline.ValueKit

@[expose] public section

set_option maxRecDepth 16384

noncomputable section

namespace Cert.Block

open Cert.KernelIdeal Cert.KernelIdeal.Gen Idealize.ShloMosaic Cert.Pieces

variable (x : In Ideal) (s : St Ideal) (i : Fin 8)

/-- Head `i`'s inputs and state, out of the blocks. -/
def headIn : Spec.In where
  q t d := x.q (ix2 t ⟨i.val * 256 + d.val, by omega⟩)
  k t d := x.k (ix2 t ⟨i.val * 256 + d.val, by omega⟩)
  v t e := x.v (ix2 t ⟨i.val * 512 + e.val, by omega⟩)
  ig t := x.gates (ix2 t ⟨i.val, by omega⟩)
  lf t := x.gates (ix2 t ⟨8 + i.val, by omega⟩)

def headSt : Spec.St where
  C d e := s.C (ix4 0 i d e)
  n d := s.n (ix4 0 i 0 d)
  mm := s.mm (ix4 0 i 0 0)

theorem q_apply (t : Fin 64) (d : Fin 256) : q x i (ix2 t d) = x.q (ix2 t ⟨i.val * 256 + d.val, by omega⟩) := by
  show x.q _ = _
  congr 1
  funext a
  apply Fin.ext
  fin_cases a
  · show 0 + 1 * t.val = t.val
    omega
  · show 256 * i.val + 1 * d.val = i.val * 256 + d.val
    omega

theorem k_apply (t : Fin 64) (d : Fin 256) : k x i (ix2 t d) = x.k (ix2 t ⟨i.val * 256 + d.val, by omega⟩) := q_apply ⟨x.k, x.k, x.v, x.o, x.gates, x.gain⟩ i t d

/-- A head's columns of a wide block. -/
theorem wide (w : FVec Ideal S64x4096 .bf16) (t : Fin 64) (e : Fin 512) :
    View.ld (Val := Elt Ideal) (e' := .bf16) w (Rect.unit (s := S64x4096) ![0, 512 * i.val] ![64, 512] (valInb i)) (ix2 t e)
      = w (ix2 t ⟨i.val * 512 + e.val, by omega⟩) := by
  show w _ = _
  congr 1
  funext a
  apply Fin.ext
  fin_cases a
  · show 0 + 1 * t.val = t.val
    omega
  · show 512 * i.val + 1 * e.val = i.val * 512 + e.val
    omega

theorem gain_apply (e : Fin 512) : gain x i (ix2 0 e) = x.gain (ix2 0 ⟨i.val * 512 + e.val, by omega⟩) := by
  show x.gain _ = _
  congr 1
  funext a
  apply Fin.ext
  fin_cases a
  · rfl
  · show 512 * i.val + 1 * e.val = i.val * 512 + e.val
    omega

theorem ig_apply (t : Fin 64) (z : Fin 1) : ig x i (ix2 t z) = x.gates (ix2 t ⟨i.val, by omega⟩) := by
  show x.gates _ = _
  congr 1
  funext a
  apply Fin.ext
  fin_cases a
  · show 0 + t.val = t.val
    omega
  · show i.val + z.val = i.val
    omega

theorem lf_apply (t : Fin 64) (z : Fin 1) : lf x i (ix2 t z) = x.gates (ix2 t ⟨8 + i.val, by omega⟩) := by
  show x.gates _ = _
  congr 1
  funext a
  apply Fin.ext
  fin_cases a
  · show 0 + t.val = t.val
    omega
  · show 8 + i.val + z.val = 8 + i.val
    omega

/-- A head of a state buffer. -/
theorem headAt {a b : Nat} (w : (Pieces.St a b).Idx → EReal) (z z' : Fin 1) (u : Fin a) (u' : Fin b) :
    View.ld (Val := Elt Ideal) (e' := .f32) w (Rect.unit (s := Pieces.St a b) ![0, i.val, 0, 0] ![1, 1, a, b] (headInb i)) (ix4 z z' u u')
      = w (ix4 0 i u u') := by
  show w _ = _
  congr 1
  funext x
  apply Fin.ext
  fin_cases x
  · show 0 + 1 * z.val = 0
    omega
  · show i.val + 1 * z'.val = i.val
    omega
  · show 0 + 1 * u.val = u.val
    omega
  · show 0 + 1 * u'.val = u'.val
    omega

theorem square (w : FVec Ideal S1x1x256x512 .f32) (d : Fin 256) (e : Fin 512) :
    shapeCast S256x512 w shapeCasts_S1x1x256x512_S256x512 (ix2 d e) = w (ix4 0 0 d e) := by
  pointwise

theorem C_apply (d : Fin 256) (e : Fin 512) : C s i (ix2 d e) = s.C (ix4 0 i d e) :=
  (square _ d e).trans (headAt i s.C 0 0 d e)

theorem n_apply (d : Fin 256) : n s i (ix2 0 d) = s.n (ix4 0 i 0 d) := by
  refine Eq.trans ?_ (headAt i s.n 0 0 0 d)
  pointwise [n]

theorem mm_apply : mm s i (ix2 0 0) = s.mm (ix4 0 i 0 0) := by
  refine Eq.trans ?_ (headAt i s.mm 0 0 0 0)
  pointwise [mm]

theorem inOf_eq : Head.inOf (ig x i) (lf x i) (q x i) (k x i) (v x i) = headIn x i := by
  unfold Head.inOf headIn
  simp only [q_apply, k_apply, ig_apply, lf_apply]
  congr 1
  funext t e
  exact wide i x.v t e

theorem stOf_eq : Head.stOf (C s i) (n s i) (mm s i) = headSt s i := by
  unfold Head.stOf headSt
  simp only [C_apply, n_apply, mm_apply]

/-- The buffers after the chunk. -/
theorem cBlk_apply (z : Fin 1) (d : Fin 256) (e : Fin 512) :
    cBlk x s (ix4 z i d e) = (Spec.next (headIn x i) (headSt s i)).C d e := by
  rw [← inOf_eq, ← stOf_eq, ← Head.cNew_apply]
  show cHead x s i (ix4 0 0 d e) = _
  pointwise [cHead]

theorem nBlk_apply (z y : Fin 1) (d : Fin 256) :
    nBlk x s (ix4 z i y d) = (Spec.next (headIn x i) (headSt s i)).n d := by
  rw [← inOf_eq, ← stOf_eq, ← Head.nNew_apply (z := 0)]
  show nHead x s i (ix4 0 0 y d) = _
  pointwise [nHead]

theorem mBlk_apply (z y y' : Fin 1) : mBlk x s (ix4 z i y y') = (Spec.next (headIn x i) (headSt s i)).mm := by
  show _ = Spec.mNew _ _
  rw [← inOf_eq, ← stOf_eq, ← Head.mNew_apply (y := 0) (z := 0)]
  show mHead x s i (ix4 0 0 y y') = _
  pointwise [mHead]

/-- The next state, head by head. -/
theorem headSt_next : headSt (next x s) i = Spec.next (headIn x i) (headSt s i) := by
  refine Spec.St.ext ?_ ?_ ?_
  · funext d e
    exact cBlk_apply x s i 0 d e
  · funext d
    exact nBlk_apply x s i 0 0 d
  · exact mBlk_apply x s i 0 0 0

theorem hBlk_apply (t : Fin 64) (j : Fin 4096) :
    hBlk x s (ix2 t j) = Spec.out (fun a => Spec.cell (headIn x ⟨j.val / 512, by omega⟩) (headSt s ⟨j.val / 512, by omega⟩) t a)
      (fun a => x.gain (ix2 0 ⟨j.val / 512 * 512 + a.val, by omega⟩)) (fun a => x.o (ix2 t ⟨j.val / 512 * 512 + a.val, by omega⟩))
      ⟨j.val % 512, by omega⟩ := by
  have h := Head.hOut16_apply (ig x ⟨j.val / 512, by omega⟩) (lf x ⟨j.val / 512, by omega⟩) (q x ⟨j.val / 512, by omega⟩)
    (k x ⟨j.val / 512, by omega⟩) (v x ⟨j.val / 512, by omega⟩) (C s ⟨j.val / 512, by omega⟩) (n s ⟨j.val / 512, by omega⟩)
    (mm s ⟨j.val / 512, by omega⟩) (o x ⟨j.val / 512, by omega⟩) (gain x ⟨j.val / 512, by omega⟩) t ⟨j.val % 512, by omega⟩
  simp only [inOf_eq, stOf_eq, gain_apply] at h
  have ho : ∀ a : Fin 512, o x ⟨j.val / 512, by omega⟩ (ix2 t a) = x.o (ix2 t ⟨j.val / 512 * 512 + a.val, by omega⟩) :=
    fun a => wide ⟨j.val / 512, by omega⟩ x.o t a
  simp only [ho] at h
  refine Eq.trans ?_ h
  show hHead x s _ _ = hHead x s _ _
  congr 1
  funext a
  fin_cases a <;> rfl

end Cert.Block
-- ==== Proof.Cumsum.lean ====
/-
  The reference's running sum down the chunk's positions (a window sum over padded rows), read at an index.
-/
module

public import Idealize.ShloMosaic.Lib.Pointwise

@[expose] public section

noncomputable section

namespace Cert.Cumsum

open Idealize.ShloMosaic

theorem foldl_sum {ι : Type} (g : ι → EReal) (l : List ι) (a : EReal) : l.foldl (fun r n => r + g n) a = a + (l.map g).sum := by
  induction l generalizing a with
  | nil => simp
  | cons x l ih => rw [List.foldl_cons, ih, List.map_cons, List.sum_cons, add_assoc]

/-- A window of 64 rows ending at row `t`, as an index of the window's shape. -/
def win (r : Fin 64) : (⟨3, ![1, 64, 1]⟩ : Shape).Idx := fun a => match a with
  | 0 => (0 : Fin 1)
  | 1 => r
  | 2 => (0 : Fin 1)

def winEquiv : Fin 64 ≃ (⟨3, ![1, 64, 1]⟩ : Shape).Idx where
  toFun := win
  invFun k := k 1
  left_inv _ := rfl
  right_inv k := by
    funext a
    match a with
    | 0 => exact Subsingleton.elim (α := Fin 1) _ _
    | 1 => rfl
    | 2 => exact Subsingleton.elim (α := Fin 1) _ _

/-- The running sum: at row `t`, the sum of the rows up to `t`. -/
theorem cumsum {A B : Nat} {u : Shape} (x : FVec Ideal (⟨3, ![A, 64, B]⟩ : Shape) .f32) (init : u.Idx → EReal) (h hu)
    (h0 : ∀ i, init i = 0) (b : Fin A) (t : Fin 64) (e : Fin B) :
    Host.reduceWindowAdd (F := Ideal) (φ := .f32) (t := (⟨3, ![A, 64, B]⟩ : Shape)) (u := u) ![1, 64, 1] ![1, 1, 1] ![0, 63, 0] ![0, 0, 0] x init h hu (ix3 b t e)
      = ∑ r : Fin 64, if r ≤ t then x (ix3 b r e) else 0 := by
  change Ideal.hostReduceWindowAdd _ _ _ _ h x (init _) (ix3 b t e) = _
  rw [h0]
  unfold Ideal.hostReduceWindowAdd Host.reduceWindow
  dsimp only
  rw [foldl_sum, zero_add, ← Fin.sum_univ_def]
  refine Fintype.sum_equiv (((Shape.rowMajor (⟨3, ![1, 64, 1]⟩ : Shape)).symm.trans winEquiv.symm).trans (Equiv.addRight (t + 1))) _ _ fun i => ?_
  change _ = if winEquiv.symm ((Shape.rowMajor (⟨3, ![1, 64, 1]⟩ : Shape)).symm i) + (t + 1) ≤ t then
    x (ix3 b (winEquiv.symm ((Shape.rowMajor (⟨3, ![1, 64, 1]⟩ : Shape)).symm i) + (t + 1)) e) else 0
  let k : (⟨3, ![1, 64, 1]⟩ : Shape).Idx := (Shape.rowMajor (⟨3, ![1, 64, 1]⟩ : Shape)).symm i
  have k0 : (k 0).val = 0 := by have : (k 0).val < 1 := (k 0).isLt; omega
  have k2 : (k 2).val = 0 := by have : (k 2).val < 1 := (k 2).isLt; omega
  have k1 : (k 1).val < 64 := (k 1).isLt
  obtain ⟨r, hr⟩ : ∃ r : Fin 64, r = winEquiv.symm ((Shape.rowMajor (⟨3, ![1, 64, 1]⟩ : Shape)).symm i) := ⟨_, rfl⟩
  have hv : (r + (t + 1)).val = (r.val + (t.val + 1)) % 64 := by
    rw [Fin.val_add, Fin.val_add]
    change (r.val + (t.val + 1) % 64) % 64 = _
    omega
  have hrv : r.val = (k 1).val := congrArg Fin.val hr
  by_cases hc : 63 ≤ t.val + r.val
  · have hle : r + (t + 1) ≤ t := by
      rw [Fin.le_def, hv]
      omega
    rw [← hr, if_pos hle, dif_pos (fun a => by
      match a with
      | 0 =>
        change 0 ≤ b.val * 1 + (k 0).val ∧ b.val * 1 + (k 0).val - 0 < A
        omega
      | 1 =>
        change 63 ≤ t.val * 1 + (k 1).val ∧ t.val * 1 + (k 1).val - 63 < 64
        omega
      | 2 =>
        change 0 ≤ e.val * 1 + (k 2).val ∧ e.val * 1 + (k 2).val - 0 < B
        omega)]
    refine congrArg x (funext fun a => Fin.ext ?_)
    match a with
    | 0 =>
      change b.val * 1 + (k 0).val - 0 = b.val
      omega
    | 1 =>
      change t.val * 1 + (k 1).val - 63 = (r + (t + 1)).val
      omega
    | 2 =>
      change e.val * 1 + (k 2).val - 0 = e.val
      omega
  · have hle : ¬ r + (t + 1) ≤ t := by
      rw [Fin.le_def, hv]
      omega
    rw [← hr, if_neg hle, dif_neg (fun hin => by
      have h1 : 63 ≤ t.val * 1 + (k 1).val := (hin 1).1
      omega)]

end Cert.Cumsum
-- ==== Proof.RefSample.lean ====
/-
  The sample reference's arrays read at an index, over the extended reals: stream `b`'s and head `h`'s values are
  Spec.lean's, at the rows of the stream.
-/
module

public import proofs.«01_k».proof.Proof.Gen.ReferenceIdeal.Read
public import proofs.«01_k».proof.Proof.Spec
public import proofs.«01_k».proof.Proof.Cumsum
public import Idealize.ShloMosaic.Lib.Pointwise

@[expose] public section

noncomputable section

namespace Cert.RefSample

open Cert.ReferenceIdeal Cert.ReferenceIdeal.Gen Cert.ReferenceIdeal.Read Idealize.ShloMosaic

variable (x0 : FVec Ideal S10240x12288 .bf16) (x1 : FVec Ideal S10240x16 .f32) (x2 : FVec Ideal S1x4096 .f32)
  (x3 : FVec Ideal S1x32x8x256x512 .f32) (x4 : FVec Ideal S1x32x8x256 .f32) (x5 : FVec Ideal S1x32x8 .f32)

/-- Stream `b`'s rows, its inputs and its state. -/
def row (b : Fin 32) (t : Fin 64) : Fin 10240 := ⟨8192 + (b.val * 64 + t.val), by omega⟩
def inn (b : Fin 32) (h : Fin 8) : Spec.In := Spec.inAt (fun i j => x0 (ix2 i j)) (fun i j => x1 (ix2 i j)) (row b) h
def st (b : Fin 32) (h : Fin 8) : Spec.St := ⟨fun d e => x3 (ix5 0 b h d e), fun d => x4 (ix4 0 b h d), x5 (ix3 0 b h)⟩

variable (b : Fin 32) (h : Fin 8)

theorem q_apply (t : Fin 64) (d : Fin 256) : val_main_v8 (F := Ideal) x0 (ix4 b t h d) = (inn x0 x1 b h).q t d * Spec.scale := by
  pointwise [val_main_v8, val_main_v7, val_main_cst, val_main_v6, val_main_v5, val_main_v3, val_main_v2, val_main_v0]
  rfl

theorem k_apply (t : Fin 64) (d : Fin 256) : val_main_v10 (F := Ideal) x0 (ix4 b t h d) = (inn x0 x1 b h).k t d := by
  pointwise [val_main_v10, val_main_v9, val_main_v3, val_main_v2, val_main_v0]
  rfl

theorem v_apply (t : Fin 64) (e : Fin 512) : val_main_v12 (F := Ideal) x0 (ix4 b t h e) = (inn x0 x1 b h).v t e := by
  pointwise [val_main_v12, val_main_v11, val_main_v3, val_main_v2, val_main_v0]
  rfl

theorem ig_apply (t : Fin 64) : val_main_v13 (F := Ideal) x1 (ix3 b t h) = (inn x0 x1 b h).ig t := by
  pointwise [val_main_v13, val_main_v4, val_main_v1]
  rfl

theorem lf_apply (t : Fin 64) : val_main_v14 (F := Ideal) x1 (ix3 b t h) = (inn x0 x1 b h).lf t := by
  pointwise [val_main_v14, val_main_v4, val_main_v1]
  rfl

theorem C_apply (d : Fin 256) (e : Fin 512) : val_main_v15 (F := Ideal) x3 (ix4 b h d e) = (st x3 x4 x5 b h).C d e := by
  pointwise [val_main_v15]
  rfl

theorem n_apply (d : Fin 256) : val_main_v16 (F := Ideal) x4 (ix3 b h d) = (st x3 x4 x5 b h).n d := by
  pointwise [val_main_v16]
  rfl

theorem m_apply : val_main_v17 (F := Ideal) x5 (ix2 b h) = (st x3 x4 x5 b h).mm := by
  pointwise [val_main_v17]
  rfl

theorem cum_apply (t : Fin 64) : val_main_v18 (F := Ideal) x1 (ix3 b t h) = Spec.cum (inn x0 x1 b h) t := by
  unfold val_main_v18
  refine (Cumsum.cumsum _ _ _ _ (fun i => ?_) b t h).trans ?_
  · pointwise [val_main_call0_call0_v0]
    exact Ideal.ofBits_zero_f32
  · simp only [lf_apply x0 x1 b h]
    rfl

theorem logW_apply (t r : Fin 64) : val_main_v33 (F := Ideal) x1 (ix4 b t r h) = Spec.logW (inn x0 x1 b h) t r := by
  pointwise [val_main_v33, val_main_call2_v1, val_main_v24, val_main_v23, val_main_call1_v4, val_main_call1_v2, val_main_call1_v0,
    val_main_call1_v1, val_main_call1_c, val_main_call1_v3, val_main_v22, val_main_c, val_main_call1_v5, val_main_call1_c_0,
    val_main_v32, val_main_v29, val_main_v27, val_main_v28, val_main_v25, val_main_v26, val_main_v31, val_main_v30,
    val_main_call2_v2, val_main_call2_v0, val_main_cst_0]
  rw [cum_apply x0 x1 b h, cum_apply x0 x1 b h, ig_apply x0 x1 b h, Spec.select_ge]
  rfl

theorem stab_apply (t : Fin 64) : val_main_v35 (F := Ideal) x1 x5 (ix3 b t h) = Spec.stab (inn x0 x1 b h) (st x3 x4 x5 b h) t := by
  pointwise [val_main_v35, val_main_v34, val_main_cst_1, val_main_v21, val_main_v20, val_main_v19]
  simp only [cum_apply x0 x1 b h, logW_apply x0 x1 b h, m_apply x3 x4 x5 b h]
  rfl

theorem wInter_apply (t : Fin 64) : val_main_v37 (F := Ideal) x1 x5 (ix3 b t h) = Spec.wInter (inn x0 x1 b h) (st x3 x4 x5 b h) t := by
  pointwise [val_main_v37, val_main_v36, val_main_v21, val_main_v20, val_main_v19]
  rw [cum_apply x0 x1 b h, m_apply x3 x4 x5 b h, stab_apply x0 x1 x3 x4 x5 b h]
  rfl

theorem score_apply (t r : Fin 64) : val_main_v44 (F := Ideal) x0 x1 x5 (ix4 b t r h) = Spec.score (inn x0 x1 b h) (st x3 x4 x5 b h) t r := by
  pointwise [val_main_v44, val_main_v43, val_main_v42, val_main_v41, val_main_v40, val_main_v39, val_main_v38]
  simp only [q_apply x0 x1 b h, k_apply x0 x1 b h, logW_apply x0 x1 b h, stab_apply x0 x1 x3 x4 x5 b h, mul_comm ((inn x0 x1 b h).k _ _)]
  rfl

theorem num_apply (t : Fin 64) (e : Fin 512) :
    val_main_v52 (F := Ideal) x0 x1 x3 x5 (ix4 b t h e) = Spec.num (inn x0 x1 b h) (st x3 x4 x5 b h) t e := by
  pointwise [val_main_v52, val_main_v46, val_main_v45, val_main_v51, val_main_v50, val_main_v49, val_main_v48, val_main_v47]
  simp only [q_apply x0 x1 b h, v_apply x0 x1 b h, C_apply x3 x4 x5 b h, score_apply x0 x1 x3 x4 x5 b h, wInter_apply x0 x1 x3 x4 x5 b h,
    mul_comm ((inn x0 x1 b h).v _ _), mul_comm ((st x3 x4 x5 b h).C _ _)]
  rfl

theorem cell_apply (t : Fin 64) (e : Fin 512) :
    val_main_v64 (F := Ideal) x0 x1 x3 x4 x5 (ix4 b t h e) = Spec.cell (inn x0 x1 b h) (st x3 x4 x5 b h) t e := by
  pointwise [val_main_v64, val_main_v63, val_main_v62, val_main_v61, val_main_v58, val_main_v57, val_main_v53, val_main_v56,
    val_main_v55, val_main_v54, val_main_v60, val_main_v59, val_main_cst_2]
  simp only [q_apply x0 x1 b h, n_apply x3 x4 x5 b h, num_apply x0 x1 x3 x4 x5 b h, score_apply x0 x1 x3 x4 x5 b h, wInter_apply x0 x1 x3 x4 x5 b h,
    stab_apply x0 x1 x3 x4 x5 b h, mul_comm ((st x3 x4 x5 b h).n _)]
  rfl

theorem mNew_apply : val_main_v66 (F := Ideal) x1 x5 (ix2 b h) = Spec.mNew (inn x0 x1 b h) (st x3 x4 x5 b h) := by
  pointwise [val_main_v66, val_main_v65]
  exact stab_apply x0 x1 x3 x4 x5 b h 63

theorem wState_apply : val_main_v71 (F := Ideal) x1 x5 (ix2 b h) = Spec.wState (inn x0 x1 b h) (st x3 x4 x5 b h) := by
  pointwise [val_main_v71, val_main_v70, val_main_v69, val_main_v68, val_main_v67]
  rw [mNew_apply x0 x1 x3 x4 x5 b h, m_apply x3 x4 x5 b h, cum_apply x0 x1 b h]
  rfl

theorem kW_apply (t : Fin 64) (d : Fin 256) :
    val_main_v82 (F := Ideal) x0 x1 x5 (ix4 b t h d) = Spec.kW (inn x0 x1 b h) (st x3 x4 x5 b h) t d := by
  pointwise [val_main_v82, val_main_v81, val_main_v80, val_main_v79, val_main_v78, val_main_v75, val_main_v74, val_main_v73,
    val_main_v72, val_main_v77, val_main_v76]
  rw [k_apply x0 x1 b h, mNew_apply x0 x1 x3 x4 x5 b h, cum_apply x0 x1 b h, cum_apply x0 x1 b h, ig_apply x0 x1 b h]
  rfl

theorem cNew_apply (d : Fin 256) (e : Fin 512) :
    val_main_v87 (F := Ideal) x0 x1 x3 x5 (ix4 b h d e) = (Spec.next (inn x0 x1 b h) (st x3 x4 x5 b h)).C d e := by
  pointwise [val_main_v87, val_main_v85, val_main_v86, val_main_v84, val_main_v83]
  simp only [wState_apply x0 x1 x3 x4 x5 b h, C_apply x3 x4 x5 b h, kW_apply x0 x1 x3 x4 x5 b h, v_apply x0 x1 b h]
  rfl

theorem nNew_apply (d : Fin 256) :
    val_main_v92 (F := Ideal) x0 x1 x4 x5 (ix3 b h d) = (Spec.next (inn x0 x1 b h) (st x3 x4 x5 b h)).n d := by
  pointwise [val_main_v92, val_main_v91, val_main_v90, val_main_v89, val_main_v88, val_main_cst_3]
  simp only [wState_apply x0 x1 x3 x4 x5 b h, n_apply x3 x4 x5 b h, kW_apply x0 x1 x3 x4 x5 b h]
  rfl

theorem out_apply (t : Fin 64) (e : Fin 512) :
    val_main_v118 (F := Ideal) x0 x1 x2 x3 x4 x5 (ix4 b t h e)
      = Spec.outAt (fun i j => x0 (ix2 i j)) (fun i j => x1 (ix2 i j)) (fun j => x2 (ix2 0 j)) (row b) (st x3 x4 x5 b h) h t e := by
  pointwise [val_main_v118, val_main_v117, val_main_v116, val_main_v115, val_main_cst_8, val_main_v114, val_main_v113,
    val_main_cst_7, val_main_v112, val_main_v111, val_main_v96, val_main_v95, val_main_v94, val_main_v93, val_main_v110,
    val_main_v109, val_main_v108, val_main_v97, val_main_v107, val_main_v106, val_main_v105, val_main_v104, val_main_v103,
    val_main_cst_6, val_main_v102, val_main_v101, val_main_cst_5, val_main_v100, val_main_v99, val_main_v98, val_main_cst_4]
  simp only [cell_apply]
  rfl

end Cert.RefSample
-- ==== Proof.RefSampleOut.lean ====
/-
  The sample reference's four results at an index.
-/
module

public import proofs.«01_k».proof.Proof.RefSample

@[expose] public section

noncomputable section

namespace Cert.RefSample

open Cert.ReferenceIdeal Cert.ReferenceIdeal.Gen Cert.ReferenceIdeal.Read Idealize.ShloMosaic

variable (x0 : FVec Ideal S10240x12288 .bf16) (x1 : FVec Ideal S10240x16 .f32) (x2 : FVec Ideal S1x4096 .f32)
  (x3 : FVec Ideal S1x32x8x256x512 .f32) (x4 : FVec Ideal S1x32x8x256 .f32) (x5 : FVec Ideal S1x32x8 .f32)

theorem res_h (b : Fin 32) (t : Fin 64) (r : Fin 2048) (hr : r.val = b.val * 64 + t.val) (j : Fin 4096) :
    val_main_v120 (F := Ideal) x0 x1 x2 x3 x4 x5 (ix2 r j)
      = Spec.outAt (fun i j => x0 (ix2 i j)) (fun i j => x1 (ix2 i j)) (fun j => x2 (ix2 0 j)) (row b)
        (st x3 x4 x5 b ⟨j.val / 512, by omega⟩) ⟨j.val / 512, by omega⟩ t ⟨j.val % 512, by omega⟩ := by
  pointwise [val_main_v120, val_main_v119]
  have hb : (⟨r.val / 64, by omega⟩ : Fin 32) = b := Fin.ext (by show r.val / 64 = b.val; omega)
  have ht : (⟨r.val % 64, by omega⟩ : Fin 64) = t := Fin.ext (by show r.val % 64 = t.val; omega)
  rw [hb, ht]
  exact out_apply x0 x1 x2 x3 x4 x5 b _ t _

theorem res_n (b : Fin 32) (h : Fin 8) (z : Fin 1) (d : Fin 256) :
    val_main_v121 (F := Ideal) x0 x1 x4 x5 (ix4 b h z d) = (Spec.next (inn x0 x1 b h) (st x3 x4 x5 b h)).n d := by
  pointwise [val_main_v121]
  exact nNew_apply x0 x1 x3 x4 x5 b h d

theorem res_m (b : Fin 32) (h : Fin 8) (z z' : Fin 1) :
    val_main_v122 (F := Ideal) x1 x5 (ix4 b h z z') = (Spec.next (inn x0 x1 b h) (st x3 x4 x5 b h)).mm := by
  pointwise [val_main_v122]
  exact mNew_apply x0 x1 x3 x4 x5 b h

end Cert.RefSample
-- ==== Proof.SampleFinal.lean ====
/-
  The sample kernel's four result arrays are the reference's.
-/
module

public import proofs.«01_k».proof.Proof.KerSample
public import proofs.«01_k».proof.Proof.BlockIdeal
public import proofs.«01_k».proof.Proof.RefSampleOut
public import proofs.«01_k».proof.Proof.Gen.KernelIdeal.Value

@[expose] public section

set_option maxRecDepth 16384

noncomputable section

namespace Cert.KerSample

open Cert.KernelIdeal Cert.KernelIdeal.Gen Cert.Sample Idealize.ShloMosaic Idealize.ShloMosaic.TcCoe Idealize.SL.Sem

variable (m : (ℓ : Loc nD τ sig) → Buf (Elt Ideal) ℓ) (c : Dev nD)

/-- The stream of a grid point. -/
def stream (t : Fin cfg0.N) : Fin 32 := ⟨t.val, lt_points t⟩

variable (t : Fin cfg0.N) (i : Fin 8)

theorem headIn_eq : Block.headIn (blkIn m c t) i = RefSample.inn (zm m c) (gates m c) (stream t) i := by
  refine Spec.In.ext ?_ ?_ ?_ ?_ ?_
  · funext p d
    exact q_apply m c t p _
  · funext p d
    exact k_apply m c t p _
  · funext p e
    exact v_apply m c t p _
  · funext p
    exact gates_apply m c t p _
  · funext p
    exact gates_apply m c t p _

theorem headSt_eq : Block.headSt (blkSt m c t) i = RefSample.st (C0 m c) (n0 m c) (m0 m c) (stream t) i := by
  refine Spec.St.ext ?_ ?_ ?_
  · funext d e
    exact C_apply m c t 0 i d e
  · funext d
    exact n_apply m c t 0 i 0 d
  · exact m_apply m c t 0 i 0 0

theorem final_h : (dats m 0 c).arrAt 9 cfg0.N
    = ReferenceIdeal.Read.val_main_v120 (F := Ideal) (zm m c) (gates m c) (gain m c) (C0 m c) (n0 m c) (m0 m c) := by
  refine (dats m 0 c).arrAt_eq_of_covers 9 _ (by decide +kernel) fun t _ y => ?_
  blk_simp
  rw [after0_9, outH]
  obtain ⟨p, j, rfl⟩ : ∃ (p : Fin 64) (j : Fin 4096), y = ix2 p j := ⟨y 0, y 1, by funext a; fin_cases a <;> rfl⟩
  have he : ((cfg0.win 9).blk t).view.emb (ix2 p j) = (ix2 ⟨t.val * 64 + p.val, by have := lt_points t; omega⟩ j : S2048x4096.Idx) := by
    blk_ext [idx t]
  rw [he, RefSample.res_h _ _ _ _ _ _ (stream t) p _ rfl j]
  refine (Block.hBlk_apply _ _ p j).trans ?_
  rw [headIn_eq, headSt_eq]
  simp only [gain_apply, o_apply]
  rfl

theorem final_C : (dats m 0 c).arrAt 10 cfg0.N
    = ReferenceIdeal.Read.val_main_v87 (F := Ideal) (zm m c) (gates m c) (C0 m c) (m0 m c) := by
  refine (dats m 0 c).arrAt_eq_of_covers 10 _ (by decide +kernel) fun t _ y => ?_
  blk_simp
  rw [after0_10, outC]
  obtain ⟨z, i, d, e, rfl⟩ : ∃ (z : Fin 1) (i : Fin 8) (d : Fin 256) (e : Fin 512), y = ix4 z i d e :=
    ⟨y 0, y 1, y 2, y 3, by funext a; fin_cases a <;> rfl⟩
  have he : ((cfg0.win 10).blk t).view.emb (ix4 z i d e) = (ix4 (stream t) i d e : S32x8x256x512.Idx) := by
    unfold stream
    blk_ext [idx t]
  rw [he, RefSample.cNew_apply _ _ _ (n0 m c)]
  refine (Block.cBlk_apply _ _ i z d e).trans ?_
  rw [headIn_eq, headSt_eq]

theorem final_n : (dats m 0 c).arrAt 11 cfg0.N
    = ReferenceIdeal.Read.val_main_v121 (F := Ideal) (zm m c) (gates m c) (n0 m c) (m0 m c) := by
  refine (dats m 0 c).arrAt_eq_of_covers 11 _ (by decide +kernel) fun t _ y => ?_
  blk_simp
  rw [after0_11, outN]
  obtain ⟨z, i, z', d, rfl⟩ : ∃ (z : Fin 1) (i : Fin 8) (z' : Fin 1) (d : Fin 256), y = ix4 z i z' d :=
    ⟨y 0, y 1, y 2, y 3, by funext a; fin_cases a <;> rfl⟩
  have he : ((cfg0.win 11).blk t).view.emb (ix4 z i z' d) = (ix4 (stream t) i z' d : S32x8x1x256.Idx) := by
    unfold stream
    blk_ext [idx t]
  rw [he, RefSample.res_n _ _ (C0 m c)]
  refine (Block.nBlk_apply _ _ i z z' d).trans ?_
  rw [headIn_eq, headSt_eq]

theorem final_m : (dats m 0 c).arrAt 12 cfg0.N
    = ReferenceIdeal.Read.val_main_v122 (F := Ideal) (gates m c) (m0 m c) := by
  refine (dats m 0 c).arrAt_eq_of_covers 12 _ (by decide +kernel) fun t _ y => ?_
  blk_simp
  rw [after0_12, outM]
  obtain ⟨z, i, z', d, rfl⟩ : ∃ (z : Fin 1) (i : Fin 8) (z' : Fin 1) (d : Fin 1), y = ix4 z i z' d :=
    ⟨y 0, y 1, y 2, y 3, by funext a; fin_cases a <;> rfl⟩
  have he : ((cfg0.win 12).blk t).view.emb (ix4 z i z' d) = (ix4 (stream t) i z' d : S32x8x1x1.Idx) := by
    unfold stream
    blk_ext [idx t]
  rw [he, RefSample.res_m (zm m c) _ (C0 m c) (n0 m c)]
  refine (Block.mBlk_apply _ _ i z z' d).trans ?_
  rw [headIn_eq, headSt_eq]

end Cert.KerSample
-- ==== Proof.SampleClaim.lean ====
/-
  The sample call and its reference, from memories that agree on the arguments, end with equal results.
-/
module

public import proofs.«01_k».proof.Defs
public import proofs.«01_k».proof.Proof.SampleFinal
public import proofs.«01_k».proof.Proof.Gen.ReferenceIdeal.Run

@[expose] public section

set_option maxRecDepth 16384

noncomputable section

namespace Cert.KerSample

open Cert.KernelIdeal Cert.KernelIdeal.Gen Idealize.ShloMosaic Idealize.ShloMosaic.TcCoe Idealize.SL.Sem

theorem algebraic [Cert.KernelIdeal.Facts] [Cert.ReferenceIdeal.Facts] : Cert.algebraic_KernelIdeal_ReferenceIdeal := by
  intro m g m' g' _ hagree
  refine ⟨fun c => (dats m 0 c).arrAt 9 cfg0.N, fun c => (dats m 0 c).arrAt 10 cfg0.N, fun c => (dats m 0 c).arrAt 11 cfg0.N,
    fun c => (dats m 0 c).arrAt 12 cfg0.N, Cert.KernelIdeal.Value.run_blocks m g, ?_⟩
  refine (θ_run _ _ _).mono (fun r h c => ?_) (Cert.ReferenceIdeal.Value.run m' g')
  obtain ⟨a0, a1, a2, a3, a4, a5⟩ := hagree c
  obtain ⟨h0, h1, h2, h3, kept⟩ := h c
  refine ⟨h0.trans ?_, h1.trans ?_, h2.trans ?_, h3.trans ((ReferenceIdeal.Read.val_main_v122_eq _ _).trans ?_), kept⟩
  · rw [ReferenceIdeal.Read.val_main_v120_eq, a0, a1, a2, a3, a4, a5]
    exact (final_h m c).symm
  · rw [ReferenceIdeal.Read.val_main_v87_eq, a0, a1, a3, a5]
    exact (final_C m c).symm
  · rw [ReferenceIdeal.Read.val_main_v121_eq, a0, a1, a4, a5]
    exact (final_n m c).symm
  · rw [a1, a5]
    exact (final_m m c).symm

end Cert.KerSample
-- ==== Proof.Prompt.lean ====
/-
  The prompt call's body at one grid point: the blocks it reads and the state it starts from, zero at a stream's first
  chunk and what the point before left at the others.
-/
module

public import proofs.«01_k».proof.Proof.Gen.Kernel2Ideal.Frame
public import proofs.«01_k».proof.Proof.Block

@[expose] public section

noncomputable section

namespace Cert.Prompt

open Cert.Kernel2Ideal Cert.Kernel2Ideal.Gen Idealize.ShloMosaic Idealize.ShloMosaic.TcCoe Idealize.SL.Sem

variable {F : FTy → Type} [FloatOps F] (m : (ℓ : Loc nD τ sig) → Buf (Elt F) ℓ)

/-- What the body reads at grid point `t`. -/
def blkIn (c : Dev nD) (t : Fin cfg0.N) : Block.In F := ⟨iblk m c 0 t, iblk m c 1 t, iblk m c 2 t, iblk m c 3 t, iblk m c 4 t, iblk m c 5 t⟩

/-- The state a stream starts from. -/
def zeroSt : Block.St F := ⟨constant S1x8x256x512 .f32 0x00000000#32, constant S1x8x1x256 .f32 0x00000000#32, constant S1x8x1x1 .f32 0x00000000#32⟩

/-- The state the point before left. -/
def prevSt (c : Dev nD) (t : Fin cfg0.N) : Block.St F :=
  ⟨(outsAt0 m c (t.val - 1) (Nat.lt_of_le_of_lt (Nat.sub_le _ _) t.isLt)).2.1,
    (outsAt0 m c (t.val - 1) (Nat.lt_of_le_of_lt (Nat.sub_le _ _) t.isLt)).2.2.1,
    (outsAt0 m c (t.val - 1) (Nat.lt_of_le_of_lt (Nat.sub_le _ _) t.isLt)).2.2.2⟩

/-- A load of a whole buffer is the buffer. -/
theorem ldG (v : Vec F S64x16 .f32) (h) : View.ld (Val := Elt F) v (Rect.unit (s := S64x16) ![0, 0] ![64, 16] h) = v :=
  View.ld_unit_lit' (S := S64x16) h v (by decide)

end Cert.Prompt
-- ==== Proof.PromptHA.lean ====
/-
  The output block after the prompt call's body at one grid point at a stream's first chunk: every head's stored value.
-/
module

public import proofs.«01_k».proof.Proof.Prompt

@[expose] public section

set_option maxRecDepth 16384

noncomputable section

namespace Cert.Prompt

open Cert.Kernel2Ideal Cert.Kernel2Ideal.Gen Idealize.ShloMosaic Idealize.ShloMosaic.TcCoe Idealize.SL.Sem Idealize.ShloMosaic.Tactic

variable {F : FTy → Type} [FloatOps F] (m : (ℓ : Loc nD τ sig) → Buf (Elt F) ℓ)

set_option maxHeartbeats 8000000 in
theorem outH_A (c : Dev nD) (t : Fin cfg0.N) (h0 : t.val % 32 = 0) :
    (outsAt0 m c t.val t.isLt).1 = Block.hBlk (blkIn m c t) zeroSt := by
  rw [outsAt0_A m c t h0]
  dsimp only
  unfold out0_A_6
  rw [View.read_writes_eq_canon _ _ _ (cover0_A_6 c _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, Pieces.skip, Pieces.base, ne_eq, Nat.reduceEqDiff, not_false_eq_true,
    OfNat.zero_ne_ofNat, OfNat.ofNat_ne_zero, OfNat.one_ne_ofNat, OfNat.ofNat_ne_one, zero_ne_one, one_ne_zero, ldG]
  exact Pieces.canon_cols (Block.hHead (blkIn m c t) zeroSt) _

end Cert.Prompt
-- ==== Proof.PromptHB.lean ====
/-
  The output block after the prompt call's body at one grid point at a later chunk: every head's stored value.
-/
module

public import proofs.«01_k».proof.Proof.Prompt

@[expose] public section

set_option maxRecDepth 16384

noncomputable section

namespace Cert.Prompt

open Cert.Kernel2Ideal Cert.Kernel2Ideal.Gen Idealize.ShloMosaic Idealize.ShloMosaic.TcCoe Idealize.SL.Sem Idealize.ShloMosaic.Tactic

variable {F : FTy → Type} [FloatOps F] (m : (ℓ : Loc nD τ sig) → Buf (Elt F) ℓ)

set_option maxHeartbeats 8000000 in
theorem outH_B (c : Dev nD) (t : Fin cfg0.N) (h0 : ¬ t.val % 32 = 0) :
    (outsAt0 m c t.val t.isLt).1 = Block.hBlk (blkIn m c t) (prevSt m c t) := by
  rw [outsAt0_B m c t h0]
  dsimp only
  unfold out0_B_6
  rw [View.read_writes_eq_canon _ _ _ (cover0_B_6 c _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_7 t).read_unread, (hs0_8 t).read_unread, (hs0_9 t).read_unread,
    Pieces.skip, Pieces.base, ne_eq, Nat.reduceEqDiff, not_false_eq_true,
    OfNat.zero_ne_ofNat, OfNat.ofNat_ne_zero, OfNat.one_ne_ofNat, OfNat.ofNat_ne_one, zero_ne_one, one_ne_zero, ldG]
  exact Pieces.canon_cols (Block.hHead (blkIn m c t) (prevSt m c t)) _

end Cert.Prompt
-- ==== Proof.PromptCA.lean ====
/-
  The matrix memory after the prompt call's body at one grid point at a stream's first chunk: every head's stored value.
-/
module

public import proofs.«01_k».proof.Proof.Prompt

@[expose] public section

set_option maxRecDepth 16384

noncomputable section

namespace Cert.Prompt

open Cert.Kernel2Ideal Cert.Kernel2Ideal.Gen Idealize.ShloMosaic Idealize.ShloMosaic.TcCoe Idealize.SL.Sem Idealize.ShloMosaic.Tactic

variable {F : FTy → Type} [FloatOps F] (m : (ℓ : Loc nD τ sig) → Buf (Elt F) ℓ)

set_option maxHeartbeats 8000000 in
theorem outC_A (c : Dev nD) (t : Fin cfg0.N) (h0 : t.val % 32 = 0) :
    (outsAt0 m c t.val t.isLt).2.1 = Block.cBlk (blkIn m c t) zeroSt := by
  rw [outsAt0_A m c t h0]
  dsimp only
  unfold out0_A_7
  rw [View.read_writes_eq_canon _ _ _ (cover0_A_7 c _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, Pieces.skip, Pieces.base, ne_eq, Nat.reduceEqDiff, not_false_eq_true,
    OfNat.zero_ne_ofNat, OfNat.ofNat_ne_zero, OfNat.one_ne_ofNat, OfNat.ofNat_ne_one, zero_ne_one, one_ne_zero, ldG]
  exact Pieces.canon_heads (Block.cHead (blkIn m c t) zeroSt) _

end Cert.Prompt
-- ==== Proof.PromptCB.lean ====
/-
  The matrix memory after the prompt call's body at one grid point at a later chunk: every head's stored value.
-/
module

public import proofs.«01_k».proof.Proof.Prompt

@[expose] public section

set_option maxRecDepth 16384

noncomputable section

namespace Cert.Prompt

open Cert.Kernel2Ideal Cert.Kernel2Ideal.Gen Idealize.ShloMosaic Idealize.ShloMosaic.TcCoe Idealize.SL.Sem Idealize.ShloMosaic.Tactic

variable {F : FTy → Type} [FloatOps F] (m : (ℓ : Loc nD τ sig) → Buf (Elt F) ℓ)

set_option maxHeartbeats 8000000 in
theorem outC_B (c : Dev nD) (t : Fin cfg0.N) (h0 : ¬ t.val % 32 = 0) :
    (outsAt0 m c t.val t.isLt).2.1 = Block.cBlk (blkIn m c t) (prevSt m c t) := by
  rw [outsAt0_B m c t h0]
  dsimp only
  unfold out0_B_7
  rw [View.read_writes_eq_canon _ _ _ (cover0_B_7 c _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_7 t).read_unread, (hs0_8 t).read_unread, (hs0_9 t).read_unread,
    Pieces.skip, Pieces.base, ne_eq, Nat.reduceEqDiff, not_false_eq_true,
    OfNat.zero_ne_ofNat, OfNat.ofNat_ne_zero, OfNat.one_ne_ofNat, OfNat.ofNat_ne_one, zero_ne_one, one_ne_zero, ldG]
  exact Pieces.canon_heads (Block.cHead (blkIn m c t) (prevSt m c t)) _

end Cert.Prompt
-- ==== Proof.PromptN.lean ====
/-
  The normalizer buffer after the prompt call's body at one grid point: every head's stored value.
-/
module

public import proofs.«01_k».proof.Proof.Prompt

@[expose] public section

set_option maxRecDepth 16384

noncomputable section

namespace Cert.Prompt

open Cert.Kernel2Ideal Cert.Kernel2Ideal.Gen Idealize.ShloMosaic Idealize.ShloMosaic.TcCoe Idealize.SL.Sem Idealize.ShloMosaic.Tactic

variable {F : FTy → Type} [FloatOps F] (m : (ℓ : Loc nD τ sig) → Buf (Elt F) ℓ)

set_option maxHeartbeats 8000000 in
theorem outN_A (c : Dev nD) (t : Fin cfg0.N) (h0 : t.val % 32 = 0) :
    (outsAt0 m c t.val t.isLt).2.2.1 = Block.nBlk (blkIn m c t) zeroSt := by
  rw [outsAt0_A m c t h0]
  dsimp only
  unfold out0_A_8
  rw [View.read_writes_eq_canon _ _ _ (cover0_A_8 c _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, Pieces.skip, Pieces.base, ne_eq, Nat.reduceEqDiff, not_false_eq_true,
    OfNat.zero_ne_ofNat, OfNat.ofNat_ne_zero, OfNat.one_ne_ofNat, OfNat.ofNat_ne_one, zero_ne_one, one_ne_zero, ldG]
  exact Pieces.canon_heads (Block.nHead (blkIn m c t) zeroSt) _

set_option maxHeartbeats 8000000 in
theorem outN_B (c : Dev nD) (t : Fin cfg0.N) (h0 : ¬ t.val % 32 = 0) :
    (outsAt0 m c t.val t.isLt).2.2.1 = Block.nBlk (blkIn m c t) (prevSt m c t) := by
  rw [outsAt0_B m c t h0]
  dsimp only
  unfold out0_B_8
  rw [View.read_writes_eq_canon _ _ _ (cover0_B_8 c _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_7 t).read_unread, (hs0_8 t).read_unread, (hs0_9 t).read_unread,
    Pieces.skip, Pieces.base, ne_eq, Nat.reduceEqDiff, not_false_eq_true,
    OfNat.zero_ne_ofNat, OfNat.ofNat_ne_zero, OfNat.one_ne_ofNat, OfNat.ofNat_ne_one, zero_ne_one, one_ne_zero, ldG]
  exact Pieces.canon_heads (Block.nHead (blkIn m c t) (prevSt m c t)) _

end Cert.Prompt
-- ==== Proof.PromptM.lean ====
/-
  The stabilizer buffer after the prompt call's body at one grid point: every head's stored value.
-/
module

public import proofs.«01_k».proof.Proof.Prompt

@[expose] public section

set_option maxRecDepth 16384

noncomputable section

namespace Cert.Prompt

open Cert.Kernel2Ideal Cert.Kernel2Ideal.Gen Idealize.ShloMosaic Idealize.ShloMosaic.TcCoe Idealize.SL.Sem Idealize.ShloMosaic.Tactic

variable {F : FTy → Type} [FloatOps F] (m : (ℓ : Loc nD τ sig) → Buf (Elt F) ℓ)

set_option maxHeartbeats 8000000 in
theorem outM_A (c : Dev nD) (t : Fin cfg0.N) (h0 : t.val % 32 = 0) :
    (outsAt0 m c t.val t.isLt).2.2.2 = Block.mBlk (blkIn m c t) zeroSt := by
  rw [outsAt0_A m c t h0]
  dsimp only
  unfold out0_A_9
  rw [View.read_writes_eq_canon _ _ _ (cover0_A_9 c _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, Pieces.skip, Pieces.base, ne_eq, Nat.reduceEqDiff, not_false_eq_true,
    OfNat.zero_ne_ofNat, OfNat.ofNat_ne_zero, OfNat.one_ne_ofNat, OfNat.ofNat_ne_one, zero_ne_one, one_ne_zero, ldG]
  exact Pieces.canon_heads (Block.mHead (blkIn m c t) zeroSt) _

set_option maxHeartbeats 8000000 in
theorem outM_B (c : Dev nD) (t : Fin cfg0.N) (h0 : ¬ t.val % 32 = 0) :
    (outsAt0 m c t.val t.isLt).2.2.2 = Block.mBlk (blkIn m c t) (prevSt m c t) := by
  rw [outsAt0_B m c t h0]
  dsimp only
  unfold out0_B_9
  rw [View.read_writes_eq_canon _ _ _ (cover0_B_9 c _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_7 t).read_unread, (hs0_8 t).read_unread, (hs0_9 t).read_unread,
    Pieces.skip, Pieces.base, ne_eq, Nat.reduceEqDiff, not_false_eq_true,
    OfNat.zero_ne_ofNat, OfNat.ofNat_ne_zero, OfNat.one_ne_ofNat, OfNat.ofNat_ne_one, zero_ne_one, one_ne_zero, ldG]
  exact Pieces.canon_heads (Block.mHead (blkIn m c t) (prevSt m c t)) _

end Cert.Prompt
-- ==== Proof.RefPromptIn.lean ====
/-
  The prompt reference's chunked inputs at an index: the trip of chunk `j` reads stream `b`'s rows from `b * 2048 + j * 64`.
-/
module

public import proofs.«01_k».proof.Proof.Gen.Reference2Ideal.Step
public import proofs.«01_k».proof.Proof.Spec
public import Idealize.ShloMosaic.Lib.Pointwise
public import Idealize.ShloMosaic.Lib.DynamicIndex

@[expose] public section

noncomputable section

namespace Cert.RefPrompt

open Cert.Reference2Ideal Cert.Reference2Ideal.Gen Cert.Reference2Ideal.Step Idealize.ShloMosaic

variable (x0 : FVec Ideal S10240x12288 .bf16) (x1 : FVec Ideal S10240x16 .f32)

/-- Stream `b`'s rows of chunk `j`, and head `h`'s inputs there. -/
def row (b : Fin 4) (j : Fin 32) (t : Fin 64) : Fin 10240 := ⟨b.val * 2048 + (j.val * 64 + t.val), by omega⟩
def inn (b : Fin 4) (j : Fin 32) (h : Fin 8) : Spec.In :=
  Spec.inAt (fun i j => x0 (ix2 i j)) (fun i j => x1 (ix2 i j)) (row b j) h

/-- The state's input arrays are the ones made before the loop. -/
structure Fixed (s : State Ideal) : Prop where
  q : s.main_v29_0 = A_main_v19 x0 x1
  k : s.main_v29_1 = A_main_v21 x0 x1
  v : s.main_v29_2 = A_main_v23 x0 x1
  ig : s.main_v29_3 = A_main_v25 x0 x1
  lf : s.main_v29_4 = A_main_v27 x0 x1

/-- A chunk of a chunked array of vectors, and of one of numbers. -/
theorem chunk5 {B : ℕ} (j : Fin 32) (x : (⟨5, ![32, 4, 64, 8, B]⟩ : Shape).Idx → EReal) (start : Fin 5 → Int) (hB)
    (hs : ∀ a, start a = ((![j.val, 0, 0, 0, 0] a : ℕ) : Int)) (b : Fin 4) (t : Fin 64) (h : Fin 8) (d : Fin B) :
    Host.dynamicSlice (s := (⟨5, ![32, 4, 64, 8, B]⟩ : Shape)) (⟨5, ![1, 4, 64, 8, B]⟩ : Shape) x start hB (ix5 0 b t h d)
      = x (ix5 j b t h d) := by
  rw [Host.dynamicSlice_eq_extractStridedSlice _ x start ![j.val, 0, 0, 0, 0] hB
    ⟨rfl, fun a => by fin_cases a <;> simp <;> omega⟩ hs]
  refine congrArg x ?_
  funext a
  refine Fin.ext ?_
  fin_cases a <;> simp [ix5]

theorem chunk4 (j : Fin 32) (x : (⟨4, ![32, 4, 64, 8]⟩ : Shape).Idx → EReal) (start : Fin 4 → Int) (hB)
    (hs : ∀ a, start a = ((![j.val, 0, 0, 0] a : ℕ) : Int)) (b : Fin 4) (t : Fin 64) (h : Fin 8) :
    Host.dynamicSlice (s := (⟨4, ![32, 4, 64, 8]⟩ : Shape)) (⟨4, ![1, 4, 64, 8]⟩ : Shape) x start hB (ix4 0 b t h)
      = x (ix4 j b t h) := by
  rw [Host.dynamicSlice_eq_extractStridedSlice _ x start ![j.val, 0, 0, 0] hB
    ⟨rfl, fun a => by fin_cases a <;> simp <;> omega⟩ hs]
  refine congrArg x ?_
  funext a
  refine Fin.ext ?_
  fin_cases a <;> simp [ix4]

/-- The loop's index as a word is the number. -/
theorem start_eq (j : Fin 32) : (BitVec.ofNat 32 j.val).toInt = (j.val : Int) := toInt_ofNat_of_lt (by omega)

variable (b : Fin 4) (j : Fin 32) (h : Fin 8) (t : Fin 64)

theorem q_at (d : Fin 256) : A_main_v19 (F := Ideal) x0 x1 (ix5 j b t h d) = (inn x0 x1 b j h).q t d * Spec.scale := by
  pointwise [A_main_v19, A_main_v18, A_main_v8, K_main_v7, K_main_cst, A_main_v6, A_main_v5, A_main_v3, A_main_v2, A_main_v0]
  rfl

theorem k_at (d : Fin 256) : A_main_v21 (F := Ideal) x0 x1 (ix5 j b t h d) = (inn x0 x1 b j h).k t d := by
  pointwise [A_main_v21, A_main_v20, A_main_v10, A_main_v9, A_main_v3, A_main_v2, A_main_v0]
  rfl

theorem v_at (e : Fin 512) : A_main_v23 (F := Ideal) x0 x1 (ix5 j b t h e) = (inn x0 x1 b j h).v t e := by
  pointwise [A_main_v23, A_main_v22, A_main_v12, A_main_v11, A_main_v3, A_main_v2, A_main_v0]
  rfl

theorem ig_at : A_main_v25 (F := Ideal) x0 x1 (ix4 j b t h) = (inn x0 x1 b j h).ig t := by
  pointwise [A_main_v25, A_main_v24, A_main_v13, A_main_v4, A_main_v1]
  rfl

theorem lf_at : A_main_v27 (F := Ideal) x0 x1 (ix4 j b t h) = (inn x0 x1 b j h).lf t := by
  pointwise [A_main_v27, A_main_v26, A_main_v14, A_main_v4, A_main_v1]
  rfl

variable {x0 x1} {s : State Ideal} (H : Fixed x0 x1 s)
include H

theorem q_apply (d : Fin 256) : b5 j.val s (ix4 b t h d) = (inn x0 x1 b j h).q t d * Spec.scale := by
  pointwise [b5]
  refine (chunk5 j s.main_v29_0 _ _ (fun a => ?_) b t h d).trans ?_
  · fin_cases a
    · exact start_eq j
    all_goals rfl
  · rw [H.q, q_at]

theorem k_apply (d : Fin 256) : b11 j.val s (ix4 b t h d) = (inn x0 x1 b j h).k t d := by
  pointwise [b11]
  refine (chunk5 j s.main_v29_1 _ _ (fun a => ?_) b t h d).trans ?_
  · fin_cases a
    · exact start_eq j
    all_goals rfl
  · rw [H.k, k_at]

theorem v_apply (e : Fin 512) : b17 j.val s (ix4 b t h e) = (inn x0 x1 b j h).v t e := by
  pointwise [b17]
  refine (chunk5 j s.main_v29_2 _ _ (fun a => ?_) b t h e).trans ?_
  · fin_cases a
    · exact start_eq j
    all_goals rfl
  · rw [H.v, v_at]

theorem ig_apply : b22 j.val s (ix3 b t h) = (inn x0 x1 b j h).ig t := by
  pointwise [b22]
  refine (chunk4 j s.main_v29_3 _ _ (fun a => ?_) b t h).trans ?_
  · fin_cases a
    · exact start_eq j
    all_goals rfl
  · rw [H.ig, ig_at]

theorem lf_apply : b27 j.val s (ix3 b t h) = (inn x0 x1 b j h).lf t := by
  pointwise [b27]
  refine (chunk4 j s.main_v29_4 _ _ (fun a => ?_) b t h).trans ?_
  · fin_cases a
    · exact start_eq j
    all_goals rfl
  · rw [H.lf, lf_at]

end Cert.RefPrompt
-- ==== Proof.RefPrompt.lean ====
/-
  One trip of the prompt reference's loop at an index: stream `b`'s and head `h`'s values are Spec.lean's, of the chunk's
  inputs and of the state the trip starts from.
-/
module

public import proofs.«01_k».proof.Proof.RefPromptIn
public import proofs.«01_k».proof.Proof.Cumsum

@[expose] public section

noncomputable section

namespace Cert.RefPrompt

open Cert.Reference2Ideal Cert.Reference2Ideal.Gen Cert.Reference2Ideal.Step Idealize.ShloMosaic

/-- Stream `b`'s and head `h`'s part of a state. -/
def st (s : State Ideal) (b : Fin 4) (h : Fin 8) : Spec.St :=
  ⟨fun d e => s.main_v29_6 (ix4 b h d e), fun d => s.main_v29_7 (ix3 b h d), s.main_v29_8 (ix2 b h)⟩

variable {x0 : FVec Ideal S10240x12288 .bf16} {x1 : FVec Ideal S10240x16 .f32} {s : State Ideal}
  (b : Fin 4) (j : Fin 32) (h : Fin 8)

theorem C_apply (d : Fin 256) (e : Fin 512) : s.main_v29_6 (ix4 b h d e) = (st s b h).C d e := rfl
theorem n_apply (d : Fin 256) : s.main_v29_7 (ix3 b h d) = (st s b h).n d := rfl
theorem m_apply : s.main_v29_8 (ix2 b h) = (st s b h).mm := rfl

variable (H : Fixed x0 x1 s)
include H

theorem cum_apply (t : Fin 64) : b30 j.val s (ix3 b t h) = Spec.cum (inn x0 x1 b j h) t := by
  unfold b30
  refine (Cumsum.cumsum _ _ _ _ (fun i => ?_) b t h).trans ?_
  · pointwise [b29, b28]
  · simp only [lf_apply b j h _ H]
    rfl

theorem logW_apply (t r : Fin 64) : b58 j.val s (ix4 b t r h) = Spec.logW (inn x0 x1 b j h) t r := by
  pointwise [b58, b57, b56, b55, b54, b53, b52, b51, b50, b49, b48, b47, b46, b45, b44, b43, b42, b41, b40, b39, b38, b37, b36, b35, b34]
  rw [cum_apply b j h H, cum_apply b j h H, ig_apply b j h _ H, Spec.select_ge]
  rfl

theorem stab_apply (t : Fin 64) : b61 j.val s (ix3 b t h) = Spec.stab (inn x0 x1 b j h) (st s b h) t := by
  pointwise [b61, b60, b59, b33, b32, b31]
  simp only [cum_apply b j h H, logW_apply b j h H, m_apply b h]
  rfl

theorem wInter_apply (t : Fin 64) : b63 j.val s (ix3 b t h) = Spec.wInter (inn x0 x1 b j h) (st s b h) t := by
  pointwise [b63, b62, b33, b32, b31]
  rw [cum_apply b j h H, m_apply b h, stab_apply b j h H]
  rfl

theorem score_apply (t r : Fin 64) : b70 j.val s (ix4 b t r h) = Spec.score (inn x0 x1 b j h) (st s b h) t r := by
  pointwise [b70, b69, b68, b67, b66, b65, b64]
  simp only [q_apply b j h _ H, k_apply b j h _ H, logW_apply b j h H, stab_apply b j h H, mul_comm ((inn x0 x1 b j h).k _ _)]
  rfl

theorem num_apply (t : Fin 64) (e : Fin 512) :
    b78 j.val s (ix4 b t h e) = Spec.num (inn x0 x1 b j h) (st s b h) t e := by
  pointwise [b78, b77, b76, b75, b74, b73, b72, b71]
  simp only [q_apply b j h _ H, v_apply b j h _ H, C_apply b h, score_apply b j h H, wInter_apply b j h H,
    mul_comm ((inn x0 x1 b j h).v _ _), mul_comm ((st s b h).C _ _)]
  rfl

theorem cell_apply (t : Fin 64) (e : Fin 512) :
    b91 j.val s (ix4 b t h e) = Spec.cell (inn x0 x1 b j h) (st s b h) t e := by
  pointwise [b91, b90, b89, b88, b87, b86, b85, b84, b83, b82, b81, b80, b79]
  simp only [q_apply b j h _ H, n_apply b h, num_apply b j h H, score_apply b j h H, wInter_apply b j h H, stab_apply b j h H,
    mul_comm ((st s b h).n _)]
  rfl

theorem mNew_apply : b93 j.val s (ix2 b h) = Spec.mNew (inn x0 x1 b j h) (st s b h) := by
  pointwise [b93, b92]
  exact stab_apply b j h H 63

theorem wState_apply : b98 j.val s (ix2 b h) = Spec.wState (inn x0 x1 b j h) (st s b h) := by
  pointwise [b98, b97, b96, b95, b94]
  rw [mNew_apply b j h H, m_apply b h, cum_apply b j h H]
  rfl

theorem kW_apply (t : Fin 64) (d : Fin 256) :
    b109 j.val s (ix4 b t h d) = Spec.kW (inn x0 x1 b j h) (st s b h) t d := by
  pointwise [b109, b108, b107, b106, b105, b104, b103, b102, b101, b100, b99]
  rw [k_apply b j h _ H, mNew_apply b j h H, cum_apply b j h H, cum_apply b j h H, ig_apply b j h _ H]
  rfl

theorem cNew_apply (d : Fin 256) (e : Fin 512) :
    b114 j.val s (ix4 b h d e) = (Spec.next (inn x0 x1 b j h) (st s b h)).C d e := by
  pointwise [b114, b113, b112, b111, b110]
  simp only [wState_apply b j h H, C_apply b h, kW_apply b j h H, v_apply b j h _ H]
  rfl

theorem nNew_apply (d : Fin 256) :
    b120 j.val s (ix3 b h d) = (Spec.next (inn x0 x1 b j h) (st s b h)).n d := by
  pointwise [b120, b119, b118, b117, b116, b115]
  simp only [wState_apply b j h H, n_apply b h, kW_apply b j h H]
  rfl

/-- One trip takes the state to Spec.lean's next one, and leaves the input arrays. -/
theorem st_step : st (step j.val s) b h = Spec.next (inn x0 x1 b j h) (st s b h) := by
  refine Spec.St.ext ?_ ?_ ?_
  · funext d e
    exact cNew_apply b j h H d e
  · funext d
    exact nNew_apply b j h H d
  · exact mNew_apply b j h H

omit b j h in
theorem fixed_step (i : ℕ) : Fixed x0 x1 (step i s) := ⟨H.q, H.k, H.v, H.ig, H.lf⟩

end Cert.RefPrompt
-- ==== Proof.RefPromptOut.lean ====
/-
  The prompt reference after its trips: stream `b`'s and head `h`'s state is Spec.lean's step iterated from zero over the
  chunks, every chunk's stacked outputs are Spec.lean's cell from the state before it, and the results at an index.
-/
module

public import proofs.«01_k».proof.Proof.RefPrompt

@[expose] public section

noncomputable section

namespace Cert.RefPrompt

open Cert.Reference2Ideal Cert.Reference2Ideal.Gen Cert.Reference2Ideal.Step Idealize.ShloMosaic

variable (x0 : FVec Ideal S10240x12288 .bf16) (x1 : FVec Ideal S10240x16 .f32) (x2 : FVec Ideal S1x4096 .f32)

/-- The loop's states. -/
def loop : ℕ → State Ideal
  | 0 => init x0 x1
  | n + 1 => step n (loop n)

/-- One head's state before chunk `n`. -/
def chain (b : Fin 4) (h : Fin 8) : ℕ → Spec.St
  | 0 => ⟨fun _ _ => 0, fun _ => 0, 0⟩
  | n + 1 => Spec.next (inn x0 x1 b ⟨n % 32, Nat.mod_lt _ (by decide)⟩ h) (chain b h n)

theorem chain_succ (b : Fin 4) (h : Fin 8) (j : Fin 32) :
    chain x0 x1 b h (j.val + 1) = Spec.next (inn x0 x1 b j h) (chain x0 x1 b h j.val) := by
  show Spec.next (inn x0 x1 b ⟨j.val % 32, _⟩ h) _ = _
  have : (⟨j.val % 32, Nat.mod_lt _ (by decide)⟩ : Fin 32) = j := Fin.ext (Nat.mod_eq_of_lt j.isLt)
  rw [this]

theorem fixed_loop : ∀ n, Fixed x0 x1 (loop x0 x1 n)
  | 0 => ⟨rfl, rfl, rfl, rfl, rfl⟩
  | n + 1 => fixed_step (fixed_loop n) n

theorem st_init (b : Fin 4) (h : Fin 8) : st (init x0 x1) b h = chain x0 x1 b h 0 := by
  have z : Ideal.ofBits .f32 0x00000000#32 = 0 := Ideal.ofBits_zero_f32
  refine Spec.St.ext ?_ ?_ ?_
  · funext d e
    exact z
  · funext d
    exact z
  · exact z

theorem st_loop (b : Fin 4) (h : Fin 8) : ∀ n, n ≤ 32 → st (loop x0 x1 n) b h = chain x0 x1 b h n
  | 0, _ => st_init x0 x1 b h
  | n + 1, hn => by
    have e := st_step b ⟨n, hn⟩ h (fixed_loop x0 x1 n)
    rw [st_loop b h n (by omega)] at e
    exact e.trans (chain_succ x0 x1 b h ⟨n, hn⟩).symm

/-- A chunk written into the stacked array. -/
theorem stack5 {B : ℕ} (j j' : Fin 32) (x : (⟨5, ![32, 4, 64, 8, B]⟩ : Shape).Idx → EReal) (u : (⟨5, ![1, 4, 64, 8, B]⟩ : Shape).Idx → EReal)
    (start : Fin 5 → Int) (hB) (hs : ∀ a, start a = ((![j.val, 0, 0, 0, 0] a : ℕ) : Int)) (b : Fin 4) (t : Fin 64) (h : Fin 8) (e : Fin B) :
    Host.dynamicUpdateSlice (s := (⟨5, ![32, 4, 64, 8, B]⟩ : Shape)) (u := (⟨5, ![1, 4, 64, 8, B]⟩ : Shape)) x u start hB (ix5 j' b t h e)
      = if j' = j then u (ix5 0 b t h e) else x (ix5 j' b t h e) := by
  rw [WordCmp.dynamicUpdateSlice_eq_update x u start hB ![j.val, 0, 0, 0, 0] ⟨rfl, fun a => by fin_cases a <;> simp <;> omega⟩ hs]
  unfold updateSlice
  split_ifs with h1 h2 h2
  · refine congrArg u ?_
    funext a
    refine Fin.ext ?_
    subst h2
    fin_cases a <;> simp [ix5]
  · exfalso
    have hj : j.val ≤ j'.val ∧ j'.val < j.val + 1 := h1 0
    exact h2 (Fin.ext (by omega))
  · exfalso
    refine h1 fun a => ?_
    subst h2
    fin_cases a <;> simp [ix5]
  · rfl

theorem stack_loop (b : Fin 4) (h : Fin 8) (t : Fin 64) (e : Fin 512) : ∀ n, n ≤ 32 → ∀ j : Fin 32, j.val < n →
    (loop x0 x1 n).main_v29_9 (ix5 j b t h e) = Spec.cell (inn x0 x1 b j h) (chain x0 x1 b h j.val) t e
  | 0, _, j, hj => absurd hj (by omega)
  | n + 1, hn, j, hj => by
    refine (stack5 ⟨n, hn⟩ j (loop x0 x1 n).main_v29_9 (b121 n (loop x0 x1 n)) _ updateFits_S32x4x64x8x512_S1x4x64x8x512 (fun a => ?_) b t h e).trans ?_
    · fin_cases a
      · exact start_eq ⟨n, hn⟩
      all_goals rfl
    · split_ifs with hj'
      · subst hj'
        pointwise [b121]
        refine (cell_apply b ⟨n, hn⟩ h (fixed_loop x0 x1 n) t e).trans ?_
        rw [st_loop x0 x1 b h n (by omega)]
      · exact stack_loop b h t e n (by omega) j (by have : j.val ≠ n := fun e => hj' (Fin.ext e); omega)

theorem res_C (s : State Ideal) (b : Fin 4) (h : Fin 8) (d : Fin 256) (e : Fin 512) : s.main_v29_6 (ix4 b h d e) = (st s b h).C d e := rfl

theorem res_n (s : State Ideal) (b : Fin 4) (h : Fin 8) (z : Fin 1) (d : Fin 256) : R_main_v60 s (ix4 b h z d) = (st s b h).n d := by
  pointwise [R_main_v60]
  rfl

theorem res_m (s : State Ideal) (b : Fin 4) (h : Fin 8) (z z' : Fin 1) : R_main_v61 s (ix4 b h z z') = (st s b h).mm := by
  pointwise [R_main_v61]
  rfl

theorem out_eq (f g o : Fin 512 → EReal) (e : Fin 512) (G O : EReal) (hG : G = g e) (hO : O = o e) :
    f e * Ideal.rsqrt (Ideal.div (∑ a, f a * f a) Spec.rowLen + Spec.eps) * G * Ideal.div 1 (1 + Ideal.exp (-O)) = Spec.out f g o e := by
  subst hG hO
  rfl

theorem res_h (s : State Ideal) (b : Fin 4) (j : Fin 32) (t : Fin 64) (i : Fin 4096) :
    R_main_v59 s x0 x2 (ix2 ⟨b.val * 2048 + (j.val * 64 + t.val), by omega⟩ i)
      = Spec.out (fun a => s.main_v29_9 (ix5 j b t ⟨i.val / 512, by omega⟩ a)) (fun a => x2 (ix2 0 ⟨i.val / 512 * 512 + a.val, by omega⟩))
        (fun a => x0 (ix2 (row b j t) ⟨8192 + (i.val / 512 * 512 + a.val), by omega⟩)) ⟨i.val % 512, by omega⟩ := by
  pointwise [R_main_v59]
  have eg : (⟨i.val / 512 * 512 + i.val % 512, by omega⟩ : Fin 4096) = i := Fin.ext (by show i.val / 512 * 512 + i.val % 512 = i.val; omega)
  have eo : (⟨8192 + (i.val / 512 * 512 + i.val % 512), by omega⟩ : Fin 12288) = ⟨8192 + i.val, by omega⟩ :=
    Fin.ext (by show 8192 + (i.val / 512 * 512 + i.val % 512) = 8192 + i.val; omega)
  have er : (⟨b.val * 2048 + (b.val * 2048 + (j.val * 64 + t.val)) % 2048, by omega⟩ : Fin 10240) = row b j t :=
    Fin.ext (by show b.val * 2048 + (b.val * 2048 + (j.val * 64 + t.val)) % 2048 = b.val * 2048 + (j.val * 64 + t.val); omega)
  have hg : x2 (ix2 0 ⟨i.val / 512 * 512 + i.val % 512, by omega⟩) = x2 (ix2 0 i) := congrArg (fun q => x2 (ix2 0 q)) eg
  have ho : x0 (ix2 ⟨b.val * 2048 + (b.val * 2048 + (j.val * 64 + t.val)) % 2048, by omega⟩ ⟨8192 + i.val, by omega⟩)
      = x0 (ix2 (row b j t) ⟨8192 + (i.val / 512 * 512 + i.val % 512), by omega⟩) := congrArg₂ (fun p q => x0 (ix2 p q)) er eo.symm
  exact out_eq (fun a => s.main_v29_9 (ix5 j b t ⟨i.val / 512, by omega⟩ a)) (fun a => x2 (ix2 0 ⟨i.val / 512 * 512 + a.val, by omega⟩))
    (fun a => x0 (ix2 (row b j t) ⟨8192 + (i.val / 512 * 512 + a.val), by omega⟩)) ⟨i.val % 512, by omega⟩ _ _ hg.symm ho

/-- The results after the last trip. -/
theorem end_h (b : Fin 4) (j : Fin 32) (t : Fin 64) (i : Fin 4096) :
    R_main_v59 (loop x0 x1 32) x0 x2 (ix2 ⟨b.val * 2048 + (j.val * 64 + t.val), by omega⟩ i)
      = Spec.outAt (fun i j => x0 (ix2 i j)) (fun i j => x1 (ix2 i j)) (fun j => x2 (ix2 0 j)) (row b j)
        (chain x0 x1 b ⟨i.val / 512, by omega⟩ j.val) ⟨i.val / 512, by omega⟩ t ⟨i.val % 512, by omega⟩ := by
  rw [res_h]
  simp only [stack_loop x0 x1 b _ t _ 32 (le_refl _) j j.isLt]
  rfl

theorem end_C (b : Fin 4) (h : Fin 8) (d : Fin 256) (e : Fin 512) :
    (loop x0 x1 32).main_v29_6 (ix4 b h d e) = (chain x0 x1 b h 32).C d e := by
  rw [res_C, st_loop x0 x1 b h 32 (le_refl _)]

theorem end_n (b : Fin 4) (h : Fin 8) (z : Fin 1) (d : Fin 256) :
    R_main_v60 (loop x0 x1 32) (ix4 b h z d) = (chain x0 x1 b h 32).n d := by
  rw [res_n, st_loop x0 x1 b h 32 (le_refl _)]

theorem end_m (b : Fin 4) (h : Fin 8) (z z' : Fin 1) :
    R_main_v61 (loop x0 x1 32) (ix4 b h z z') = (chain x0 x1 b h 32).mm := by
  rw [res_m, st_loop x0 x1 b h 32 (le_refl _)]

end Cert.RefPrompt
-- ==== Proof.KerPrompt.lean ====
/-
  The prompt call at an index: what its blocks read of the arguments, and the state it carries from chunk to chunk. At
  grid point `t` the stream is `t / 32` and the chunk `t % 32`.
-/
module

public import proofs.«01_k».proof.Proof.PromptHA
public import proofs.«01_k».proof.Proof.PromptHB
public import proofs.«01_k».proof.Proof.PromptCA
public import proofs.«01_k».proof.Proof.PromptCB
public import proofs.«01_k».proof.Proof.PromptN
public import proofs.«01_k».proof.Proof.PromptM
public import proofs.«01_k».proof.Proof.BlockIdeal
public import proofs.«01_k».proof.Proof.RefPromptOut
public import Idealize.ShloMosaic.Lib.Pipeline.ValueKit
public import Idealize.ShloMosaic.Lib.Claim

@[expose] public section

set_option maxRecDepth 16384

noncomputable section

namespace Cert.KerPrompt

open Cert.Kernel2Ideal Cert.Kernel2Ideal.Gen Cert.Prompt Idealize.ShloMosaic Idealize.ShloMosaic.TcCoe Idealize.SL.Sem

variable (m : (ℓ : Loc nD τ sig) → Buf (Elt Ideal) ℓ) (c : Dev nD)

/-- The arguments. -/
abbrev zm : FVec Ideal S10240x12288 .bf16 := m ((c : Thread nD τ).loc main_arg0)
abbrev gates : FVec Ideal S10240x16 .f32 := m ((c : Thread nD τ).loc main_arg1)
abbrev gain : FVec Ideal S1x4096 .f32 := m ((c : Thread nD τ).loc main_arg2)

/-- The windows' block indices. -/
theorem idx : ∀ t : Fin cfg0.N, win0_0.index t = ![t.val, 0] ∧ win0_1.index t = ![t.val, 1]
    ∧ win0_2.index t = ![t.val, 1] ∧ win0_3.index t = ![t.val, 2] ∧ win0_4.index t = ![t.val, 0]
    ∧ win0_5.index t = ![0, 0] ∧ win0_6.index t = ![t.val, 0] ∧ win0_7.index t = ![t.val / 32, 0, 0, 0]
    ∧ win0_8.index t = ![t.val / 32, 0, 0, 0] ∧ win0_9.index t = ![t.val / 32, 0, 0, 0] :=
  (by decide +kernel : ∀ t : Fin grid0.N, _)

theorem lt_points (t : Fin cfg0.N) : t.val < 128 := t.isLt

/-- The stream, the chunk and the rows of a grid point. -/
def stream (t : Fin cfg0.N) : Fin 4 := ⟨t.val / 32, by have := lt_points t; omega⟩
def chunk (t : Fin cfg0.N) : Fin 32 := ⟨t.val % 32, Nat.mod_lt _ (by decide)⟩
def row (t : Fin cfg0.N) (p : Fin 64) : Fin 10240 := ⟨t.val * 64 + p.val, by have := lt_points t; omega⟩

theorem row_eq (t : Fin cfg0.N) (p : Fin 64) : row t p = RefPrompt.row (stream t) (chunk t) p :=
  Fin.ext (by show t.val * 64 + p.val = t.val / 32 * 2048 + (t.val % 32 * 64 + p.val); omega)

variable (t : Fin cfg0.N)

theorem q_apply (p : Fin 64) (j : Fin 2048) : (blkIn m c t).q (ix2 p j) = zm m c (ix2 (row t p) ⟨j.val, by omega⟩) := by
  show iblk m c 0 t _ = _
  unfold row
  blk_ext [iblk, V, idx t]
theorem k_apply (p : Fin 64) (j : Fin 2048) : (blkIn m c t).k (ix2 p j) = zm m c (ix2 (row t p) ⟨2048 + j.val, by omega⟩) := by
  show iblk m c 1 t _ = _
  unfold row
  blk_ext [iblk, V, idx t]
theorem v_apply (p : Fin 64) (j : Fin 4096) : (blkIn m c t).v (ix2 p j) = zm m c (ix2 (row t p) ⟨4096 + j.val, by omega⟩) := by
  show iblk m c 2 t _ = _
  unfold row
  blk_ext [iblk, V, idx t]
theorem o_apply (p : Fin 64) (j : Fin 4096) : (blkIn m c t).o (ix2 p j) = zm m c (ix2 (row t p) ⟨8192 + j.val, by omega⟩) := by
  show iblk m c 3 t _ = _
  unfold row
  blk_ext [iblk, V, idx t]
theorem gates_apply (p : Fin 64) (j : Fin 16) : (blkIn m c t).gates (ix2 p j) = gates m c (ix2 (row t p) j) := by
  show iblk m c 4 t _ = _
  unfold row
  blk_ext [iblk, V, idx t]
theorem gain_apply (z : Fin 1) (j : Fin 4096) : (blkIn m c t).gain (ix2 z j) = gain m c (ix2 0 j) := by
  show iblk m c 5 t _ = _
  blk_ext [iblk, V, idx t]

theorem headIn_eq (i : Fin 8) : Block.headIn (blkIn m c t) i = RefPrompt.inn (zm m c) (gates m c) (stream t) (chunk t) i := by
  refine Spec.In.ext ?_ ?_ ?_ ?_ ?_
  · funext p d
    exact (q_apply m c t p _).trans (by rw [row_eq]; rfl)
  · funext p d
    exact (k_apply m c t p _).trans (by rw [row_eq]; rfl)
  · funext p e
    exact (v_apply m c t p _).trans (by rw [row_eq]; rfl)
  · funext p
    exact (gates_apply m c t p _).trans (by rw [row_eq]; rfl)
  · funext p
    exact (gates_apply m c t p _).trans (by rw [row_eq]; rfl)

/-- The state a grid point starts from, and the one it leaves. -/
def before : Block.St Ideal := if t.val % 32 = 0 then zeroSt else prevSt m c t
def left : Block.St Ideal := ⟨(outsAt0 m c t.val t.isLt).2.1, (outsAt0 m c t.val t.isLt).2.2.1, (outsAt0 m c t.val t.isLt).2.2.2⟩

theorem left_eq : left m c t = Block.next (blkIn m c t) (before m c t) := by
  unfold left before
  split_ifs with h
  · rw [outC_A m c t h, outN_A m c t h, outM_A m c t h]
    rfl
  · rw [outC_B m c t h, outN_B m c t h, outM_B m c t h]
    rfl

theorem outH_eq : (outsAt0 m c t.val t.isLt).1 = Block.hBlk (blkIn m c t) (before m c t) := by
  unfold before
  split_ifs with h
  · exact outH_A m c t h
  · exact outH_B m c t h

theorem zero_head (i : Fin 8) (b : Fin 4) : Block.headSt (zeroSt (F := Ideal)) i = RefPrompt.chain (zm m c) (gates m c) b i 0 := by
  have z : Ideal.ofBits .f32 0x00000000#32 = 0 := Ideal.ofBits_zero_f32
  refine Spec.St.ext ?_ ?_ ?_
  · funext d e
    exact z
  · funext d
    exact z
  · exact z

/-- A head's state before chunk `t % 32` is the iterated one. -/
theorem before_head (i : Fin 8) : ∀ n (hn : n < cfg0.N),
    Block.headSt (before m c ⟨n, hn⟩) i = RefPrompt.chain (zm m c) (gates m c) (stream ⟨n, hn⟩) i (n % 32)
  | 0, hn => zero_head m c i _
  | n + 1, hn => by
    by_cases h : (n + 1) % 32 = 0
    · unfold before
      rw [if_pos h, h]
      exact zero_head m c i _
    · have hp : n < cfg0.N := by omega
      have e : before m c ⟨n + 1, hn⟩ = left m c ⟨n, hp⟩ := by
        unfold before
        rw [if_neg h]
        rfl
      have hs : stream ⟨n + 1, hn⟩ = stream ⟨n, hp⟩ := Fin.ext (by show (n + 1) / 32 = n / 32; omega)
      have hc : (n + 1) % 32 = (chunk ⟨n, hp⟩).val + 1 := by show (n + 1) % 32 = n % 32 + 1; omega
      rw [e, left_eq, Block.headSt_next, before_head i n hp, headIn_eq, hs, hc, RefPrompt.chain_succ]
      rfl

end Cert.KerPrompt
-- ==== Proof.PromptFinal.lean ====
/-
  The arrays the prompt call leaves are the prompt reference's results.
-/
module

public import proofs.«01_k».proof.Proof.KerPrompt
public import proofs.«01_k».proof.Proof.Gen.Kernel2Ideal.Value

@[expose] public section

set_option maxRecDepth 16384

noncomputable section

namespace Cert.KerPrompt

open Cert.Kernel2Ideal Cert.Kernel2Ideal.Gen Cert.Prompt Idealize.ShloMosaic Idealize.ShloMosaic.TcCoe Idealize.SL.Sem
open Cert.Reference2Ideal.Step (R_main_v59 R_main_v60 R_main_v61)

variable (m : (ℓ : Loc nD τ sig) → Buf (Elt Ideal) ℓ) (c : Dev nD)

/-- A carried window is written back at the last chunk only. -/
theorem last7 : ∀ t : Fin cfg0.N, (cfg0.win 7).flush t = true → t.val % 32 = 31 := (by decide +kernel : ∀ t : Fin grid0.N, _)
theorem last8 : ∀ t : Fin cfg0.N, (cfg0.win 8).flush t = true → t.val % 32 = 31 := (by decide +kernel : ∀ t : Fin grid0.N, _)
theorem last9 : ∀ t : Fin cfg0.N, (cfg0.win 9).flush t = true → t.val % 32 = 31 := (by decide +kernel : ∀ t : Fin grid0.N, _)

/-- What the last chunk leaves is the state after all of them. -/
theorem left_head (t : Fin cfg0.N) (i : Fin 8) (h : t.val % 32 = 31) :
    Block.headSt (left m c t) i = RefPrompt.chain (zm m c) (gates m c) (stream t) i 32 := by
  have hc : (chunk t).val + 1 = 32 := by show t.val % 32 + 1 = 32; omega
  have e : Block.headSt (before m c t) i = RefPrompt.chain (zm m c) (gates m c) (stream t) i (chunk t).val := before_head m c i t.val t.isLt
  rw [left_eq, Block.headSt_next, headIn_eq, e, ← RefPrompt.chain_succ, hc]

theorem final_h : (dats m 0 c).arrAt 6 cfg0.N
    = R_main_v59 (RefPrompt.loop (zm m c) (gates m c) 32) (zm m c) (gain m c) := by
  refine (dats m 0 c).arrAt_eq_of_covers 6 _ (by decide +kernel) fun t _ y => ?_
  blk_simp
  rw [after0_6, outH_eq]
  obtain ⟨p, j, rfl⟩ : ∃ (p : Fin 64) (j : Fin 4096), y = ix2 p j := ⟨y 0, y 1, by funext a; fin_cases a <;> rfl⟩
  have he : ((cfg0.win 6).blk t).view.emb (ix2 p j) = (ix2 ⟨t.val * 64 + p.val, by have := lt_points t; omega⟩ j : S8192x4096.Idx) := by
    blk_ext [idx t]
  have hr : (⟨t.val * 64 + p.val, by have := lt_points t; omega⟩ : Fin 8192)
      = ⟨(stream t).val * 2048 + ((chunk t).val * 64 + p.val), by omega⟩ :=
    Fin.ext (by show t.val * 64 + p.val = t.val / 32 * 2048 + (t.val % 32 * 64 + p.val); omega)
  have e (i : Fin 8) : Block.headSt (before m c t) i = RefPrompt.chain (zm m c) (gates m c) (stream t) i (chunk t).val := before_head m c i t.val t.isLt
  rw [he, hr, RefPrompt.end_h]
  refine (Block.hBlk_apply _ _ p j).trans ?_
  rw [headIn_eq, e]
  simp only [gain_apply, o_apply, row_eq]
  rfl

theorem final_C : (dats m 0 c).arrAt 7 cfg0.N = (RefPrompt.loop (zm m c) (gates m c) 32).main_v29_6 := by
  refine (dats m 0 c).arrAt_eq_of_covers 7 _ (by decide +kernel) fun t hf y => ?_
  blk_simp
  rw [after0_7]
  obtain ⟨z, i, d, e, rfl⟩ : ∃ (z : Fin 1) (i : Fin 8) (d : Fin 256) (e : Fin 512), y = ix4 z i d e :=
    ⟨y 0, y 1, y 2, y 3, by funext a; fin_cases a <;> rfl⟩
  obtain rfl : z = 0 := Subsingleton.elim _ _
  have he : ((cfg0.win 7).blk t).view.emb (ix4 0 i d e) = (ix4 (stream t) i d e : S4x8x256x512.Idx) := by
    unfold stream
    blk_ext [idx t]
  rw [he, RefPrompt.end_C]
  exact congrFun (congrFun (congrArg Spec.St.C (left_head m c t i (last7 t hf))) d) e

theorem final_n : (dats m 0 c).arrAt 8 cfg0.N = R_main_v60 (RefPrompt.loop (zm m c) (gates m c) 32) := by
  refine (dats m 0 c).arrAt_eq_of_covers 8 _ (by decide +kernel) fun t hf y => ?_
  blk_simp
  rw [after0_8]
  obtain ⟨z, i, z', d, rfl⟩ : ∃ (z : Fin 1) (i : Fin 8) (z' : Fin 1) (d : Fin 256), y = ix4 z i z' d :=
    ⟨y 0, y 1, y 2, y 3, by funext a; fin_cases a <;> rfl⟩
  obtain rfl : z = 0 := Subsingleton.elim _ _
  obtain rfl : z' = 0 := Subsingleton.elim _ _
  have he : ((cfg0.win 8).blk t).view.emb (ix4 0 i 0 d) = (ix4 (stream t) i 0 d : S4x8x1x256.Idx) := by
    unfold stream
    blk_ext [idx t]
  rw [he, RefPrompt.end_n]
  exact congrFun (congrArg Spec.St.n (left_head m c t i (last8 t hf))) d

theorem final_m : (dats m 0 c).arrAt 9 cfg0.N = R_main_v61 (RefPrompt.loop (zm m c) (gates m c) 32) := by
  refine (dats m 0 c).arrAt_eq_of_covers 9 _ (by decide +kernel) fun t hf y => ?_
  blk_simp
  rw [after0_9]
  obtain ⟨z, i, z', d, rfl⟩ : ∃ (z : Fin 1) (i : Fin 8) (z' : Fin 1) (d : Fin 1), y = ix4 z i z' d :=
    ⟨y 0, y 1, y 2, y 3, by funext a; fin_cases a <;> rfl⟩
  obtain rfl : z = 0 := Subsingleton.elim _ _
  obtain rfl : z' = 0 := Subsingleton.elim _ _
  obtain rfl : d = 0 := Subsingleton.elim _ _
  have he : ((cfg0.win 9).blk t).view.emb (ix4 0 i 0 0) = (ix4 (stream t) i 0 0 : S4x8x1x1.Idx) := by
    unfold stream
    blk_ext [idx t]
  rw [he, RefPrompt.end_m]
  exact congrArg Spec.St.mm (left_head m c t i (last9 t hf))

end Cert.KerPrompt
-- ==== Proof.Trips.lean ====
/-
  The prompt reference's loop, trip by trip: a valuation of the buffers that holds a state of Gen/Reference2Ideal/Step.lean
  holds, after one trip's operations, the state `step` makes of it; so after the 32 trips the results are those of the
  states iterated from `init`. The statements follow Gen/Reference2Ideal/StepRun.lean, of which one equality does not check as written.
-/
module

public import proofs.«01_k».proof.Proof.Gen.Reference2Ideal.Run
public import proofs.«01_k».proof.Proof.Gen.Reference2Ideal.Step

@[expose] public section

noncomputable section

namespace Cert.Reference2Ideal.Trips

open Idealize.ShloMosaic Idealize.ShloMosaic.TcCoe Idealize.SL.Sem Idealize.ShloMosaic.StableHlo
open Cert.Reference2Ideal Cert.Reference2Ideal.Gen Cert.Reference2Ideal.Value
open Cert.Reference2Ideal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v29_6) = s.main_v29_6
  f_7 : V0 (Proc.devRef .tc main_v29_7) = s.main_v29_7
  f_8 : V0 (Proc.devRef .tc main_v29_8) = s.main_v29_8
  f_9 : V0 (Proc.devRef .tc main_v29_9) = s.main_v29_9
  f_0 : V0 (Proc.devRef .tc main_v29_0) = s.main_v29_0
  f_1 : V0 (Proc.devRef .tc main_v29_1) = s.main_v29_1
  f_2 : V0 (Proc.devRef .tc main_v29_2) = s.main_v29_2
  f_3 : V0 (Proc.devRef .tc main_v29_3) = s.main_v29_3
  f_4 : V0 (Proc.devRef .tc main_v29_4) = s.main_v29_4
  n_5 : V0 (Proc.devRef .tc main_v29_5) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.Reference2Ideal.Step.b0 j s := by
  unfold Cert.Reference2Ideal.Step.b0
  rfl
set_option maxRecDepth 8192 in
theorem al_1 (h : Holds V0 s j) : (constantI S_ 32 0#32 : (Proc.devRef .tc main_while0b_call0_c_0 : DevRef τ sig).ty.Contents (Elt F)) = Cert.Reference2Ideal.Step.b1 j s := by
  unfold Cert.Reference2Ideal.Step.b1
  rfl
set_option maxRecDepth 8192 in
theorem al_2 (h : Holds V0 s j) : (constantI S_ 32 0#32 : (Proc.devRef .tc main_while0b_call0_c_1 : DevRef τ sig).ty.Contents (Elt F)) = Cert.Reference2Ideal.Step.b2 j s := by
  unfold Cert.Reference2Ideal.Step.b2
  rfl
set_option maxRecDepth 8192 in
theorem al_3 (h : Holds V0 s j) : (constantI S_ 32 0#32 : (Proc.devRef .tc main_while0b_call0_c_2 : DevRef τ sig).ty.Contents (Elt F)) = Cert.Reference2Ideal.Step.b3 j s := by
  unfold Cert.Reference2Ideal.Step.b3
  rfl
set_option maxRecDepth 8192 in
theorem al_4 (h : Holds V0 s j) : (Host.dynamicSlice S1x4x64x8x256 (V0 (Proc.devRef .tc main_v29_0)) (fun k => (((![V0 (Proc.devRef .tc main_v29_5), constantI S_ 32 0#32, constantI S_ 32 0#32, constantI S_ 32 0#32, constantI S_ 32 0#32] : Fin 5 → (⟨S_, .i32⟩ : BufTy).Contents (Elt F))) k (Shape.Idx.first h_S_)).toInt) sliceFits_S32x4x64x8x256_S1x4x64x8x256 : (Proc.devRef .tc main_while0b_call0_v0 : DevRef τ sig).ty.Contents (Elt F)) = Cert.Reference2Ideal.Step.b4 j s := by
  unfold Cert.Reference2Ideal.Step.b4
  rw [← al_0 h, ← al_1 h, ← al_2 h, ← al_3 h, h.f_0, h.n_5]
  try rfl
set_option maxRecDepth 8192 in
theorem al_5 (h : Holds V0 s j) : (res_main_while0b_v62 V0 : (Proc.devRef .tc main_while0b_v62 : DevRef τ sig).ty.Contents (Elt F)) = Cert.Reference2Ideal.Step.b5 j s := by
  unfold res_main_while0b_v62 Cert.Reference2Ideal.Step.b5
  rw [← al_4 h]
  try rfl
set_option maxRecDepth 8192 in
theorem al_6 (h : Holds V0 s j) : (constantI S_ 32 0#32 : (Proc.devRef .tc main_while0b_call1_c : DevRef τ sig).ty.Contents (Elt F)) = Cert.Reference2Ideal.Step.b6 j s := by
  unfold Cert.Reference2Ideal.Step.b6
  rfl
set_option maxRecDepth 8192 in
theorem al_7 (h : Holds V0 s j) : (constantI S_ 32 0#32 : (Proc.devRef .tc main_while0b_call1_c_0 : DevRef τ sig).ty.Contents (Elt F)) = Cert.Reference2Ideal.Step.b7 j s := by
  unfold Cert.Reference2Ideal.Step.b7
  rfl
set_option maxRecDepth 8192 in
theorem al_8 (h : Holds V0 s j) : (constantI S_ 32 0#32 : (Proc.devRef .tc main_while0b_call1_c_1 : DevRef τ sig).ty.Contents (Elt F)) = Cert.Reference2Ideal.Step.b8 j s := by
  unfold Cert.Reference2Ideal.Step.b8
  rfl
set_option maxRecDepth 8192 in
theorem al_9 (h : Holds V0 s j) : (constantI S_ 32 0#32 : (Proc.devRef .tc main_while0b_call1_c_2 : DevRef τ sig).ty.Contents (Elt F)) = Cert.Reference2Ideal.Step.b9 j s := by
  unfold Cert.Reference2Ideal.Step.b9
  rfl
set_option maxRecDepth 8192 in
theorem al_10 (h : Holds V0 s j) : (Host.dynamicSlice S1x4x64x8x256 (V0 (Proc.devRef .tc main_v29_1)) (fun k => (((![V0 (Proc.devRef .tc main_v29_5), constantI S_ 32 0#32, constantI S_ 32 0#32, constantI S_ 32 0#32, constantI S_ 32 0#32] : Fin 5 → (⟨S_, .i32⟩ : BufTy).Contents (Elt F))) k (Shape.Idx.first h_S_)).toInt) sliceFits_S32x4x64x8x256_S1x4x64x8x256 : (Proc.devRef .tc main_while0b_call1_v0 : DevRef τ sig).ty.Contents (Elt F)) = Cert.Reference2Ideal.Step.b10 j s := by
  unfold Cert.Reference2Ideal.Step.b10
  rw [← al_6 h, ← al_7 h, ← al_8 h, ← al_9 h, h.f_1, h.n_5]
  try rfl
set_option maxRecDepth 8192 in
theorem al_11 (h : Holds V0 s j) : (res_main_while0b_v63 V0 : (Proc.devRef .tc main_while0b_v63 : DevRef τ sig).ty.Contents (Elt F)) = Cert.Reference2Ideal.Step.b11 j s := by
  unfold res_main_while0b_v63 Cert.Reference2Ideal.Step.b11
  rw [← al_10 h]
  try rfl
set_option maxRecDepth 8192 in
theorem al_12 (h : Holds V0 s j) : (constantI S_ 32 0#32 : (Proc.devRef .tc main_while0b_call2_c : DevRef τ sig).ty.Contents (Elt F)) = Cert.Reference2Ideal.Step.b12 j s := by
  unfold Cert.Reference2Ideal.Step.b12
  rfl
set_option maxRecDepth 8192 in
theorem al_13 (h : Holds V0 s j) : (constantI S_ 32 0#32 : (Proc.devRef .tc main_while0b_call2_c_0 : DevRef τ sig).ty.Contents (Elt F)) = Cert.Reference2Ideal.Step.b13 j s := by
  unfold Cert.Reference2Ideal.Step.b13
  rfl
set_option maxRecDepth 8192 in
theorem al_14 (h : Holds V0 s j) : (constantI S_ 32 0#32 : (Proc.devRef .tc main_while0b_call2_c_1 : DevRef τ sig).ty.Contents (Elt F)) = Cert.Reference2Ideal.Step.b14 j s := by
  unfold Cert.Reference2Ideal.Step.b14
  rfl
set_option maxRecDepth 8192 in
theorem al_15 (h : Holds V0 s j) : (constantI S_ 32 0#32 : (Proc.devRef .tc main_while0b_call2_c_2 : DevRef τ sig).ty.Contents (Elt F)) = Cert.Reference2Ideal.Step.b15 j s := by
  unfold Cert.Reference2Ideal.Step.b15
  rfl
set_option maxRecDepth 8192 in
theorem al_16 (h : Holds V0 s j) : (Host.dynamicSlice S1x4x64x8x512 (V0 (Proc.devRef .tc main_v29_2)) (fun k => (((![V0 (Proc.devRef .tc main_v29_5), constantI S_ 32 0#32, constantI S_ 32 0#32, constantI S_ 32 0#32, constantI S_ 32 0#32] : Fin 5 → (⟨S_, .i32⟩ : BufTy).Contents (Elt F))) k (Shape.Idx.first h_S_)).toInt) sliceFits_S32x4x64x8x512_S1x4x64x8x512 : (Proc.devRef .tc main_while0b_call2_v0 : DevRef τ sig).ty.Contents (Elt F)) = Cert.Reference2Ideal.Step.b16 j s := by
  unfold Cert.Reference2Ideal.Step.b16
  rw [← al_12 h, ← al_13 h, ← al_14 h, ← al_15 h, h.f_2, h.n_5]
  try rfl
set_option maxRecDepth 8192 in
theorem al_17 (h : Holds V0 s j) : (res_main_while0b_v64 V0 : (Proc.devRef .tc main_while0b_v64 : DevRef τ sig).ty.Contents (Elt F)) = Cert.Reference2Ideal.Step.b17 j s := by
  unfold res_main_while0b_v64 Cert.Reference2Ideal.Step.b17
  rw [← al_16 h]
  try rfl
set_option maxRecDepth 8192 in
theorem al_18 (h : Holds V0 s j) : (constantI S_ 32 0#32 : (Proc.devRef .tc main_while0b_call3_c : DevRef τ sig).ty.Contents (Elt F)) = Cert.Reference2Ideal.Step.b18 j s := by
  unfold Cert.Reference2Ideal.Step.b18
  rfl
set_option maxRecDepth 8192 in
theorem al_19 (h : Holds V0 s j) : (constantI S_ 32 0#32 : (Proc.devRef .tc main_while0b_call3_c_0 : DevRef τ sig).ty.Contents (Elt F)) = Cert.Reference2Ideal.Step.b19 j s := by
  unfold Cert.Reference2Ideal.Step.b19
  rfl
set_option maxRecDepth 8192 in
theorem al_20 (h : Holds V0 s j) : (constantI S_ 32 0#32 : (Proc.devRef .tc main_while0b_call3_c_1 : DevRef τ sig).ty.Contents (Elt F)) = Cert.Reference2Ideal.Step.b20 j s := by
  unfold Cert.Reference2Ideal.Step.b20
  rfl
set_option maxRecDepth 8192 in
theorem al_21 (h : Holds V0 s j) : (Host.dynamicSlice S1x4x64x8 (V0 (Proc.devRef .tc main_v29_3)) (fun k => (((![V0 (Proc.devRef .tc main_v29_5), constantI S_ 32 0#32, constantI S_ 32 0#32, constantI S_ 32 0#32] : Fin 4 → (⟨S_, .i32⟩ : BufTy).Contents (Elt F))) k (Shape.Idx.first h_S_)).toInt) sliceFits_S32x4x64x8_S1x4x64x8 : (Proc.devRef .tc main_while0b_call3_v0 : DevRef τ sig).ty.Contents (Elt F)) = Cert.Reference2Ideal.Step.b21 j s := by
  unfold Cert.Reference2Ideal.Step.b21
  rw [← al_18 h, ← al_19 h, ← al_20 h, h.f_3, h.n_5]
  try rfl
set_option maxRecDepth 8192 in
theorem al_22 (h : Holds V0 s j) : (res_main_while0b_v65 V0 : (Proc.devRef .tc main_while0b_v65 : DevRef τ sig).ty.Contents (Elt F)) = Cert.Reference2Ideal.Step.b22 j s := by
  unfold res_main_while0b_v65 Cert.Reference2Ideal.Step.b22
  rw [← al_21 h]
  try rfl
set_option maxRecDepth 8192 in
theorem al_23 (h : Holds V0 s j) : (constantI S_ 32 0#32 : (Proc.devRef .tc main_while0b_call4_c : DevRef τ sig).ty.Contents (Elt F)) = Cert.Reference2Ideal.Step.b23 j s := by
  unfold Cert.Reference2Ideal.Step.b23
  rfl
set_option maxRecDepth 8192 in
theorem al_24 (h : Holds V0 s j) : (constantI S_ 32 0#32 : (Proc.devRef .tc main_while0b_call4_c_0 : DevRef τ sig).ty.Contents (Elt F)) = Cert.Reference2Ideal.Step.b24 j s := by
  unfold Cert.Reference2Ideal.Step.b24
  rfl
set_option maxRecDepth 8192 in
theorem al_25 (h : Holds V0 s j) : (constantI S_ 32 0#32 : (Proc.devRef .tc main_while0b_call4_c_1 : DevRef τ sig).ty.Contents (Elt F)) = Cert.Reference2Ideal.Step.b25 j s := by
  unfold Cert.Reference2Ideal.Step.b25
  rfl
set_option maxRecDepth 8192 in
theorem al_26 (h : Holds V0 s j) : (Host.dynamicSlice S1x4x64x8 (V0 (Proc.devRef .tc main_v29_4)) (fun k => (((![V0 (Proc.devRef .tc main_v29_5), constantI S_ 32 0#32, constantI S_ 32 0#32, constantI S_ 32 0#32] : Fin 4 → (⟨S_, .i32⟩ : BufTy).Contents (Elt F))) k (Shape.Idx.first h_S_)).toInt) sliceFits_S32x4x64x8_S1x4x64x8 : (Proc.devRef .tc main_while0b_call4_v0 : DevRef τ sig).ty.Contents (Elt F)) = Cert.Reference2Ideal.Step.b26 j s := by
  unfold Cert.Reference2Ideal.Step.b26
  rw [← al_23 h, ← al_24 h, ← al_25 h, h.f_4, h.n_5]
  try rfl
set_option maxRecDepth 8192 in
theorem al_27 (h : Holds V0 s j) : (shapeCast S4x64x8 (Host.dynamicSlice S1x4x64x8 (V0 (Proc.devRef .tc main_v29_4)) (fun k => (((![V0 (Proc.devRef .tc main_v29_5), constantI S_ 32 0#32, constantI S_ 32 0#32, constantI S_ 32 0#32] : Fin 4 → (⟨S_, .i32⟩ : BufTy).Contents (Elt F))) k (Shape.Idx.first h_S_)).toInt) sliceFits_S32x4x64x8_S1x4x64x8) shapeCasts_S1x4x64x8_S4x64x8 : (Proc.devRef .tc main_while0b_v66 : DevRef τ sig).ty.Contents (Elt F)) = Cert.Reference2Ideal.Step.b27 j s := by
  unfold Cert.Reference2Ideal.Step.b27
  rw [← al_26 h]
  try rfl
set_option maxRecDepth 8192 in
theorem al_28 (h : Holds V0 s j) : (constant S_ .f32 0x00000000#32 : (Proc.devRef .tc main_while0b_call5_call0_cst : DevRef τ sig).ty.Contents (Elt F)) = Cert.Reference2Ideal.Step.b28 j s := by
  unfold Cert.Reference2Ideal.Step.b28
  rfl
set_option maxRecDepth 8192 in
theorem al_29 (h : Holds V0 s j) : (broadcastInDim S_ ![] bcast_S_S_ (constant S_ .f32 0x00000000#32) : (Proc.devRef .tc main_while0b_call5_call0_v0 : DevRef τ sig).ty.Contents (Elt F)) = Cert.Reference2Ideal.Step.b29 j s := by
  unfold Cert.Reference2Ideal.Step.b29
  rw [← al_28 h]
  try rfl
set_option maxRecDepth 8192 in
theorem al_30 (h : Holds V0 s j) : (res_main_while0b_v67 V0 : (Proc.devRef .tc main_while0b_v67 : DevRef τ sig).ty.Contents (Elt F)) = Cert.Reference2Ideal.Step.b30 j s := by
  unfold res_main_while0b_v67 Cert.Reference2Ideal.Step.b30
  rw [← al_27 h, ← al_29 h]
  try rfl
set_option maxRecDepth 8192 in
theorem al_31 (h : Holds V0 s j) : (broadcastInDim S4x1x8 ![0, 2] bcast_S4x8_S4x1x8_0_2 (V0 (Proc.devRef .tc main_v29_8)) : (Proc.devRef .tc main_while0b_v68 : DevRef τ sig).ty.Contents (Elt F)) = Cert.Reference2Ideal.Step.b31 j s := by
  unfold Cert.Reference2Ideal.Step.b31
  rw [h.f_8]
  try rfl
set_option maxRecDepth 8192 in
theorem al_32 (h : Holds V0 s j) : (broadcastInDim S4x64x8 ![0, 1, 2] bcast_S4x1x8_S4x64x8_0_1_2 (broadcastInDim S4x1x8 ![0, 2] bcast_S4x8_S4x1x8_0_2 (V0 (Proc.devRef .tc main_v29_8))) : (Proc.devRef .tc main_while0b_v69 : DevRef τ sig).ty.Contents (Elt F)) = Cert.Reference2Ideal.Step.b32 j s := by
  unfold Cert.Reference2Ideal.Step.b32
  rw [← al_31 h]
  try rfl
set_option maxRecDepth 8192 in
theorem al_33 (h : Holds V0 s j) : (res_main_while0b_v70 V0 : (Proc.devRef .tc main_while0b_v70 : DevRef τ sig).ty.Contents (Elt F)) = Cert.Reference2Ideal.Step.b33 j s := by
  unfold res_main_while0b_v70 Cert.Reference2Ideal.Step.b33
  rw [← al_30 h, ← al_32 h]
  try rfl
set_option maxRecDepth 8192 in
theorem al_34 (h : Holds V0 s j) : (constantI S_ 1 1#1 : (Proc.devRef .tc main_while0b_c_18 : DevRef τ sig).ty.Contents (Elt F)) = Cert.Reference2Ideal.Step.b34 j s := by
  unfold Cert.Reference2Ideal.Step.b34
  rfl
set_option maxRecDepth 8192 in
theorem al_35 (h : Holds V0 s j) : (broadcastInDim S64x64 ![] bcast_S_S64x64 (constantI S_ 1 1#1) : (Proc.devRef .tc main_while0b_v71 : DevRef τ sig).ty.Contents (Elt F)) = Cert.Reference2Ideal.Step.b35 j s := by
  unfold Cert.Reference2Ideal.Step.b35
  rw [← al_34 h]
  try rfl
set_option maxRecDepth 8192 in
theorem al_36 (h : Holds V0 s j) : (iotaInDim S64x64 32 0 : (Proc.devRef .tc main_while0b_call6_v0 : DevRef τ sig).ty.Contents (Elt F)) = Cert.Reference2Ideal.Step.b36 j s := by
  unfold Cert.Reference2Ideal.Step.b36
  rfl
set_option maxRecDepth 8192 in
theorem al_37 (h : Holds V0 s j) : (constantI S_ 32 0#32 : (Proc.devRef .tc main_while0b_call6_c : DevRef τ sig).ty.Contents (Elt F)) = Cert.Reference2Ideal.Step.b37 j s := by
  unfold Cert.Reference2Ideal.Step.b37
  rfl
set_option maxRecDepth 8192 in
theorem al_38 (h : Holds V0 s j) : (broadcastInDim S64x64 ![] bcast_S_S64x64 (constantI S_ 32 0#32) : (Proc.devRef .tc main_while0b_call6_v1 : DevRef τ sig).ty.Contents (Elt F)) = Cert.Reference2Ideal.Step.b38 j s := by
  unfold Cert.Reference2Ideal.Step.b38
  rw [← al_37 h]
  try rfl
set_option maxRecDepth 8192 in
theorem al_39 (h : Holds V0 s j) : (addi (iotaInDim S64x64 32 0) (broadcastInDim S64x64 ![] bcast_S_S64x64 (constantI S_ 32 0#32)) : (Proc.devRef .tc main_while0b_call6_v2 : DevRef τ sig).ty.Contents (Elt F)) = Cert.Reference2Ideal.Step.b39 j s := by
  unfold Cert.Reference2Ideal.Step.b39
  rw [← al_36 h, ← al_38 h]
  try rfl
set_option maxRecDepth 8192 in
theorem al_40 (h : Holds V0 s j) : (iotaInDim S64x64 32 1 : (Proc.devRef .tc main_while0b_call6_v3 : DevRef τ sig).ty.Contents (Elt F)) = Cert.Reference2Ideal.Step.b40 j s := by
  unfold Cert.Reference2Ideal.Step.b40
  rfl
set_option maxRecDepth 8192 in
theorem al_41 (h : Holds V0 s j) : (cmpi .sge (addi (iotaInDim S64x64 32 0) (broadcastInDim S64x64 ![] bcast_S_S64x64 (constantI S_ 32 0#32))) (iotaInDim S64x64 32 1) : (Proc.devRef .tc main_while0b_call6_v4 : DevRef τ sig).ty.Contents (Elt F)) = Cert.Reference2Ideal.Step.b41 j s := by
  unfold Cert.Reference2Ideal.Step.b41
  rw [← al_39 h, ← al_40 h]
  try rfl
set_option maxRecDepth 8192 in
theorem al_42 (h : Holds V0 s j) : (constantI S_ 1 0#1 : (Proc.devRef .tc main_while0b_call6_c_0 : DevRef τ sig).ty.Contents (Elt F)) = Cert.Reference2Ideal.Step.b42 j s := by
  unfold Cert.Reference2Ideal.Step.b42
  rfl
set_option maxRecDepth 8192 in
theorem al_43 (h : Holds V0 s j) : (broadcastInDim S64x64 ![] bcast_S_S64x64 (constantI S_ 1 0#1) : (Proc.devRef .tc main_while0b_call6_v5 : DevRef τ sig).ty.Contents (Elt F)) = Cert.Reference2Ideal.Step.b43 j s := by
  unfold Cert.Reference2Ideal.Step.b43
  rw [← al_42 h]
  try rfl
set_option maxRecDepth 8192 in
theorem al_44 (h : Holds V0 s j) : (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)) : (Proc.devRef .tc main_while0b_v72 : DevRef τ sig).ty.Contents (Elt F)) = Cert.Reference2Ideal.Step.b44 j s := by
  unfold Cert.Reference2Ideal.Step.b44
  rw [← al_41 h, ← al_35 h, ← al_43 h]
  try rfl
set_option maxRecDepth 8192 in
theorem al_45 (h : Holds V0 s j) : (broadcastInDim S1x64x64x1 ![1, 2] bcast_S64x64_S1x64x64x1_1_2 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))) : (Proc.devRef .tc main_while0b_v73 : DevRef τ sig).ty.Contents (Elt F)) = Cert.Reference2Ideal.Step.b45 j s := by
  unfold Cert.Reference2Ideal.Step.b45
  rw [← al_44 h]
  try rfl
set_option maxRecDepth 8192 in
theorem al_46 (h : Holds V0 s j) : (broadcastInDim S4x64x1x8 ![0, 1, 3] bcast_S4x64x8_S4x64x1x8_0_1_3 (res_main_while0b_v67 V0) : (Proc.devRef .tc main_while0b_v74 : DevRef τ sig).ty.Contents (Elt F)) = Cert.Reference2Ideal.Step.b46 j s := by
  unfold Cert.Reference2Ideal.Step.b46
  rw [← al_30 h]
  try rfl
set_option maxRecDepth 8192 in
theorem al_47 (h : Holds V0 s j) : (broadcastInDim S4x1x64x8 ![0, 2, 3] bcast_S4x64x8_S4x1x64x8_0_2_3 (res_main_while0b_v67 V0) : (Proc.devRef .tc main_while0b_v75 : DevRef τ sig).ty.Contents (Elt F)) = Cert.Reference2Ideal.Step.b47 j s := by
  unfold Cert.Reference2Ideal.Step.b47
  rw [← al_30 h]
  try rfl
set_option maxRecDepth 8192 in
theorem al_48 (h : Holds V0 s j) : (broadcastInDim S4x64x64x8 ![0, 1, 2, 3] bcast_S4x64x1x8_S4x64x64x8_0_1_2_3 (broadcastInDim S4x64x1x8 ![0, 1, 3] bcast_S4x64x8_S4x64x1x8_0_1_3 (res_main_while0b_v67 V0)) : (Proc.devRef .tc main_while0b_v76 : DevRef τ sig).ty.Contents (Elt F)) = Cert.Reference2Ideal.Step.b48 j s := by
  unfold Cert.Reference2Ideal.Step.b48
  rw [← al_46 h]
  try rfl
set_option maxRecDepth 8192 in
theorem al_49 (h : Holds V0 s j) : (broadcastInDim S4x64x64x8 ![0, 1, 2, 3] bcast_S4x1x64x8_S4x64x64x8_0_1_2_3 (broadcastInDim S4x1x64x8 ![0, 2, 3] bcast_S4x64x8_S4x1x64x8_0_2_3 (res_main_while0b_v67 V0)) : (Proc.devRef .tc main_while0b_v77 : DevRef τ sig).ty.Contents (Elt F)) = Cert.Reference2Ideal.Step.b49 j s := by
  unfold Cert.Reference2Ideal.Step.b49
  rw [← al_47 h]
  try rfl
set_option maxRecDepth 8192 in
theorem al_50 (h : Holds V0 s j) : (subf (broadcastInDim S4x64x64x8 ![0, 1, 2, 3] bcast_S4x64x1x8_S4x64x64x8_0_1_2_3 (broadcastInDim S4x64x1x8 ![0, 1, 3] bcast_S4x64x8_S4x64x1x8_0_1_3 (res_main_while0b_v67 V0))) (broadcastInDim S4x64x64x8 ![0, 1, 2, 3] bcast_S4x1x64x8_S4x64x64x8_0_1_2_3 (broadcastInDim S4x1x64x8 ![0, 2, 3] bcast_S4x64x8_S4x1x64x8_0_2_3 (res_main_while0b_v67 V0))) : (Proc.devRef .tc main_while0b_v78 : DevRef τ sig).ty.Contents (Elt F)) = Cert.Reference2Ideal.Step.b50 j s := by
  unfold Cert.Reference2Ideal.Step.b50
  rw [← al_48 h, ← al_49 h]
  try rfl
set_option maxRecDepth 8192 in
theorem al_51 (h : Holds V0 s j) : (broadcastInDim S4x1x64x8 ![0, 2, 3] bcast_S4x64x8_S4x1x64x8_0_2_3 (res_main_while0b_v65 V0) : (Proc.devRef .tc main_while0b_v79 : DevRef τ sig).ty.Contents (Elt F)) = Cert.Reference2Ideal.Step.b51 j s := by
  unfold Cert.Reference2Ideal.Step.b51
  rw [← al_22 h]
  try rfl
set_option maxRecDepth 8192 in
theorem al_52 (h : Holds V0 s j) : (broadcastInDim S4x64x64x8 ![0, 1, 2, 3] bcast_S4x1x64x8_S4x64x64x8_0_1_2_3 (broadcastInDim S4x1x64x8 ![0, 2, 3] bcast_S4x64x8_S4x1x64x8_0_2_3 (res_main_while0b_v65 V0)) : (Proc.devRef .tc main_while0b_v80 : DevRef τ sig).ty.Contents (Elt F)) = Cert.Reference2Ideal.Step.b52 j s := by
  unfold Cert.Reference2Ideal.Step.b52
  rw [← al_51 h]
  try rfl
set_option maxRecDepth 8192 in
theorem al_53 (h : Holds V0 s j) : (addf (subf (broadcastInDim S4x64x64x8 ![0, 1, 2, 3] bcast_S4x64x1x8_S4x64x64x8_0_1_2_3 (broadcastInDim S4x64x1x8 ![0, 1, 3] bcast_S4x64x8_S4x64x1x8_0_1_3 (res_main_while0b_v67 V0))) (broadcastInDim S4x64x64x8 ![0, 1, 2, 3] bcast_S4x1x64x8_S4x64x64x8_0_1_2_3 (broadcastInDim S4x1x64x8 ![0, 2, 3] bcast_S4x64x8_S4x1x64x8_0_2_3 (res_main_while0b_v67 V0)))) (broadcastInDim S4x64x64x8 ![0, 1, 2, 3] bcast_S4x1x64x8_S4x64x64x8_0_1_2_3 (broadcastInDim S4x1x64x8 ![0, 2, 3] bcast_S4x64x8_S4x1x64x8_0_2_3 (res_main_while0b_v65 V0))) : (Proc.devRef .tc main_while0b_v81 : DevRef τ sig).ty.Contents (Elt F)) = Cert.Reference2Ideal.Step.b53 j s := by
  unfold Cert.Reference2Ideal.Step.b53
  rw [← al_50 h, ← al_52 h]
  try rfl
set_option maxRecDepth 8192 in
theorem al_54 (h : Holds V0 s j) : (constant S_ .f32 0xFF800000#32 : (Proc.devRef .tc main_while0b_cst_19 : DevRef τ sig).ty.Contents (Elt F)) = Cert.Reference2Ideal.Step.b54 j s := by
  unfold Cert.Reference2Ideal.Step.b54
  rfl
set_option maxRecDepth 8192 in
theorem al_55 (h : Holds V0 s j) : (id (constant S_ .f32 0xFF800000#32) : (Proc.devRef .tc main_while0b_call7_v0 : DevRef τ sig).ty.Contents (Elt F)) = Cert.Reference2Ideal.Step.b55 j s := by
  unfold Cert.Reference2Ideal.Step.b55
  rw [← al_54 h]
  try rfl
set_option maxRecDepth 8192 in
theorem al_56 (h : Holds V0 s j) : (broadcastInDim S4x64x64x8 ![0, 1, 2, 3] bcast_S1x64x64x1_S4x64x64x8_0_1_2_3 (broadcastInDim S1x64x64x1 ![1, 2] bcast_S64x64_S1x64x64x1_1_2 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) : (Proc.devRef .tc main_while0b_call7_v1 : DevRef τ sig).ty.Contents (Elt F)) = Cert.Reference2Ideal.Step.b56 j s := by
  unfold Cert.Reference2Ideal.Step.b56
  rw [← al_45 h]
  try rfl
set_option maxRecDepth 8192 in
theorem al_57 (h : Holds V0 s j) : (broadcastInDim S4x64x64x8 ![] bcast_S_S4x64x64x8 (id (constant S_ .f32 0xFF800000#32)) : (Proc.devRef .tc main_while0b_call7_v2 : DevRef τ sig).ty.Contents (Elt F)) = Cert.Reference2Ideal.Step.b57 j s := by
  unfold Cert.Reference2Ideal.Step.b57
  rw [← al_55 h]
  try rfl
set_option maxRecDepth 8192 in
theorem al_58 (h : Holds V0 s j) : (res_main_while0b_v82 V0 : (Proc.devRef .tc main_while0b_v82 : DevRef τ sig).ty.Contents (Elt F)) = Cert.Reference2Ideal.Step.b58 j s := by
  unfold res_main_while0b_v82 Cert.Reference2Ideal.Step.b58
  rw [← al_56 h, ← al_53 h, ← al_57 h]
  try rfl
set_option maxRecDepth 8192 in
theorem al_59 (h : Holds V0 s j) : (constant S_ .f32 0xFF800000#32 : (Proc.devRef .tc main_while0b_cst_20 : DevRef τ sig).ty.Contents (Elt F)) = Cert.Reference2Ideal.Step.b59 j s := by
  unfold Cert.Reference2Ideal.Step.b59
  rfl
set_option maxRecDepth 8192 in
theorem al_60 (h : Holds V0 s j) : (Host.reduce FloatOps.maximumf (res_main_while0b_v82 V0) (constant S_ .f32 0xFF800000#32) reducesTo_S4x64x64x8_S4x64x8_d2 h_S_ : (Proc.devRef .tc main_while0b_v83 : DevRef τ sig).ty.Contents (Elt F)) = Cert.Reference2Ideal.Step.b60 j s := by
  unfold Cert.Reference2Ideal.Step.b60
  rw [← al_58 h, ← al_59 h]
  try rfl
set_option maxRecDepth 8192 in
theorem al_61 (h : Holds V0 s j) : (res_main_while0b_v84 V0 : (Proc.devRef .tc main_while0b_v84 : DevRef τ sig).ty.Contents (Elt F)) = Cert.Reference2Ideal.Step.b61 j s := by
  unfold res_main_while0b_v84 Cert.Reference2Ideal.Step.b61
  rw [← al_33 h, ← al_60 h]
  try rfl
set_option maxRecDepth 8192 in
theorem al_62 (h : Holds V0 s j) : (subf (res_main_while0b_v70 V0) (res_main_while0b_v84 V0) : (Proc.devRef .tc main_while0b_v85 : DevRef τ sig).ty.Contents (Elt F)) = Cert.Reference2Ideal.Step.b62 j s := by
  unfold Cert.Reference2Ideal.Step.b62
  rw [← al_33 h, ← al_61 h]
  try rfl
set_option maxRecDepth 8192 in
theorem al_63 (h : Holds V0 s j) : (res_main_while0b_v86 V0 : (Proc.devRef .tc main_while0b_v86 : DevRef τ sig).ty.Contents (Elt F)) = Cert.Reference2Ideal.Step.b63 j s := by
  unfold res_main_while0b_v86 Cert.Reference2Ideal.Step.b63
  rw [← al_62 h]
  try rfl
set_option maxRecDepth 8192 in
theorem al_64 (h : Holds V0 s j) : (broadcastInDim S4x64x1x8 ![0, 1, 3] bcast_S4x64x8_S4x64x1x8_0_1_3 (res_main_while0b_v84 V0) : (Proc.devRef .tc main_while0b_v87 : DevRef τ sig).ty.Contents (Elt F)) = Cert.Reference2Ideal.Step.b64 j s := by
  unfold Cert.Reference2Ideal.Step.b64
  rw [← al_61 h]
  try rfl
set_option maxRecDepth 8192 in
theorem al_65 (h : Holds V0 s j) : (broadcastInDim S4x64x64x8 ![0, 1, 2, 3] bcast_S4x64x1x8_S4x64x64x8_0_1_2_3 (broadcastInDim S4x64x1x8 ![0, 1, 3] bcast_S4x64x8_S4x64x1x8_0_1_3 (res_main_while0b_v84 V0)) : (Proc.devRef .tc main_while0b_v88 : DevRef τ sig).ty.Contents (Elt F)) = Cert.Reference2Ideal.Step.b65 j s := by
  unfold Cert.Reference2Ideal.Step.b65
  rw [← al_64 h]
  try rfl
set_option maxRecDepth 8192 in
theorem al_66 (h : Holds V0 s j) : (subf (res_main_while0b_v82 V0) (broadcastInDim S4x64x64x8 ![0, 1, 2, 3] bcast_S4x64x1x8_S4x64x64x8_0_1_2_3 (broadcastInDim S4x64x1x8 ![0, 1, 3] bcast_S4x64x8_S4x64x1x8_0_1_3 (res_main_while0b_v84 V0))) : (Proc.devRef .tc main_while0b_v89 : DevRef τ sig).ty.Contents (Elt F)) = Cert.Reference2Ideal.Step.b66 j s := by
  unfold Cert.Reference2Ideal.Step.b66
  rw [← al_58 h, ← al_65 h]
  try rfl
set_option maxRecDepth 8192 in
theorem al_67 (h : Holds V0 s j) : (Host.exp (subf (res_main_while0b_v82 V0) (broadcastInDim S4x64x64x8 ![0, 1, 2, 3] bcast_S4x64x1x8_S4x64x64x8_0_1_2_3 (broadcastInDim S4x64x1x8 ![0, 1, 3] bcast_S4x64x8_S4x64x1x8_0_1_3 (res_main_while0b_v84 V0)))) : (Proc.devRef .tc main_while0b_v90 : DevRef τ sig).ty.Contents (Elt F)) = Cert.Reference2Ideal.Step.b67 j s := by
  unfold Cert.Reference2Ideal.Step.b67
  rw [← al_66 h]
  try rfl
set_option maxRecDepth 8192 in
theorem al_68 (h : Holds V0 s j) : (Host.dotGeneral dot_S4x64x8x256_S4x64x8x256_S4x8x64x64_3_3_1_1_02_02 none (res_main_while0b_v63 V0) (res_main_while0b_v62 V0) : (Proc.devRef .tc main_while0b_v91 : DevRef τ sig).ty.Contents (Elt F)) = Cert.Reference2Ideal.Step.b68 j s := by
  unfold Cert.Reference2Ideal.Step.b68
  rw [← al_11 h, ← al_5 h]
  try rfl
set_option maxRecDepth 8192 in
theorem al_69 (h : Holds V0 s j) : (transpose S4x64x64x8 [0, 3, 2, 1] (Host.dotGeneral dot_S4x64x8x256_S4x64x8x256_S4x8x64x64_3_3_1_1_02_02 none (res_main_while0b_v63 V0) (res_main_while0b_v62 V0)) transposes_S4x8x64x64_S4x64x64x8_0_3_2_1 : (Proc.devRef .tc main_while0b_v92 : DevRef τ sig).ty.Contents (Elt F)) = Cert.Reference2Ideal.Step.b69 j s := by
  unfold Cert.Reference2Ideal.Step.b69
  rw [← al_68 h]
  try rfl
set_option maxRecDepth 8192 in
theorem al_70 (h : Holds V0 s j) : (res_main_while0b_v93 V0 : (Proc.devRef .tc main_while0b_v93 : DevRef τ sig).ty.Contents (Elt F)) = Cert.Reference2Ideal.Step.b70 j s := by
  unfold res_main_while0b_v93 Cert.Reference2Ideal.Step.b70
  rw [← al_69 h, ← al_67 h]
  try rfl
set_option maxRecDepth 8192 in
theorem al_71 (h : Holds V0 s j) : (Host.dotGeneral dot_S4x64x8x512_S4x64x64x8_S4x8x512x64_1_2_3_1_02_03 none (res_main_while0b_v64 V0) (res_main_while0b_v93 V0) : (Proc.devRef .tc main_while0b_v94 : DevRef τ sig).ty.Contents (Elt F)) = Cert.Reference2Ideal.Step.b71 j s := by
  unfold Cert.Reference2Ideal.Step.b71
  rw [← al_17 h, ← al_70 h]
  try rfl
set_option maxRecDepth 8192 in
theorem al_72 (h : Holds V0 s j) : (transpose S4x64x8x512 [0, 3, 1, 2] (Host.dotGeneral dot_S4x64x8x512_S4x64x64x8_S4x8x512x64_1_2_3_1_02_03 none (res_main_while0b_v64 V0) (res_main_while0b_v93 V0)) transposes_S4x8x512x64_S4x64x8x512_0_3_1_2 : (Proc.devRef .tc main_while0b_v95 : DevRef τ sig).ty.Contents (Elt F)) = Cert.Reference2Ideal.Step.b72 j s := by
  unfold Cert.Reference2Ideal.Step.b72
  rw [← al_71 h]
  try rfl
set_option maxRecDepth 8192 in
theorem al_73 (h : Holds V0 s j) : (broadcastInDim S4x64x8x1 ![0, 1, 2] bcast_S4x64x8_S4x64x8x1_0_1_2 (res_main_while0b_v86 V0) : (Proc.devRef .tc main_while0b_v96 : DevRef τ sig).ty.Contents (Elt F)) = Cert.Reference2Ideal.Step.b73 j s := by
  unfold Cert.Reference2Ideal.Step.b73
  rw [← al_63 h]
  try rfl
set_option maxRecDepth 8192 in
theorem al_74 (h : Holds V0 s j) : (Host.dotGeneral dot_S4x8x256x512_S4x64x8x256_S4x8x512x64_2_3_3_1_01_02 none (V0 (Proc.devRef .tc main_v29_6)) (res_main_while0b_v62 V0) : (Proc.devRef .tc main_while0b_v97 : DevRef τ sig).ty.Contents (Elt F)) = Cert.Reference2Ideal.Step.b74 j s := by
  unfold Cert.Reference2Ideal.Step.b74
  rw [← al_5 h, h.f_6]
  try rfl
set_option maxRecDepth 8192 in
theorem al_75 (h : Holds V0 s j) : (transpose S4x64x8x512 [0, 3, 1, 2] (Host.dotGeneral dot_S4x8x256x512_S4x64x8x256_S4x8x512x64_2_3_3_1_01_02 none (V0 (Proc.devRef .tc main_v29_6)) (res_main_while0b_v62 V0)) transposes_S4x8x512x64_S4x64x8x512_0_3_1_2 : (Proc.devRef .tc main_while0b_v98 : DevRef τ sig).ty.Contents (Elt F)) = Cert.Reference2Ideal.Step.b75 j s := by
  unfold Cert.Reference2Ideal.Step.b75
  rw [← al_74 h]
  try rfl
set_option maxRecDepth 8192 in
theorem al_76 (h : Holds V0 s j) : (broadcastInDim S4x64x8x512 ![0, 1, 2, 3] bcast_S4x64x8x1_S4x64x8x512_0_1_2_3 (broadcastInDim S4x64x8x1 ![0, 1, 2] bcast_S4x64x8_S4x64x8x1_0_1_2 (res_main_while0b_v86 V0)) : (Proc.devRef .tc main_while0b_v99 : DevRef τ sig).ty.Contents (Elt F)) = Cert.Reference2Ideal.Step.b76 j s := by
  unfold Cert.Reference2Ideal.Step.b76
  rw [← al_73 h]
  try rfl
set_option maxRecDepth 8192 in
theorem al_77 (h : Holds V0 s j) : (mulf (broadcastInDim S4x64x8x512 ![0, 1, 2, 3] bcast_S4x64x8x1_S4x64x8x512_0_1_2_3 (broadcastInDim S4x64x8x1 ![0, 1, 2] bcast_S4x64x8_S4x64x8x1_0_1_2 (res_main_while0b_v86 V0))) (transpose S4x64x8x512 [0, 3, 1, 2] (Host.dotGeneral dot_S4x8x256x512_S4x64x8x256_S4x8x512x64_2_3_3_1_01_02 none (V0 (Proc.devRef .tc main_v29_6)) (res_main_while0b_v62 V0)) transposes_S4x8x512x64_S4x64x8x512_0_3_1_2) : (Proc.devRef .tc main_while0b_v100 : DevRef τ sig).ty.Contents (Elt F)) = Cert.Reference2Ideal.Step.b77 j s := by
  unfold Cert.Reference2Ideal.Step.b77
  rw [← al_76 h, ← al_75 h]
  try rfl
set_option maxRecDepth 8192 in
theorem al_78 (h : Holds V0 s j) : (addf (transpose S4x64x8x512 [0, 3, 1, 2] (Host.dotGeneral dot_S4x64x8x512_S4x64x64x8_S4x8x512x64_1_2_3_1_02_03 none (res_main_while0b_v64 V0) (res_main_while0b_v93 V0)) transposes_S4x8x512x64_S4x64x8x512_0_3_1_2) (mulf (broadcastInDim S4x64x8x512 ![0, 1, 2, 3] bcast_S4x64x8x1_S4x64x8x512_0_1_2_3 (broadcastInDim S4x64x8x1 ![0, 1, 2] bcast_S4x64x8_S4x64x8x1_0_1_2 (res_main_while0b_v86 V0))) (transpose S4x64x8x512 [0, 3, 1, 2] (Host.dotGeneral dot_S4x8x256x512_S4x64x8x256_S4x8x512x64_2_3_3_1_01_02 none (V0 (Proc.devRef .tc main_v29_6)) (res_main_while0b_v62 V0)) transposes_S4x8x512x64_S4x64x8x512_0_3_1_2)) : (Proc.devRef .tc main_while0b_v101 : DevRef τ sig).ty.Contents (Elt F)) = Cert.Reference2Ideal.Step.b78 j s := by
  unfold Cert.Reference2Ideal.Step.b78
  rw [← al_72 h, ← al_77 h]
  try rfl
set_option maxRecDepth 8192 in
theorem al_79 (h : Holds V0 s j) : (constant S_ .f32 0x00000000#32 : (Proc.devRef .tc main_while0b_cst_21 : DevRef τ sig).ty.Contents (Elt F)) = Cert.Reference2Ideal.Step.b79 j s := by
  unfold Cert.Reference2Ideal.Step.b79
  rfl
set_option maxRecDepth 8192 in
theorem al_80 (h : Holds V0 s j) : (Host.reduceAdd (res_main_while0b_v93 V0) (constant S_ .f32 0x00000000#32) reducesTo_S4x64x64x8_S4x64x8_d2 h_S_ : (Proc.devRef .tc main_while0b_v102 : DevRef τ sig).ty.Contents (Elt F)) = Cert.Reference2Ideal.Step.b80 j s := by
  unfold Cert.Reference2Ideal.Step.b80
  rw [← al_70 h, ← al_79 h]
  try rfl
set_option maxRecDepth 8192 in
theorem al_81 (h : Holds V0 s j) : (Host.dotGeneral dot_S4x8x256_S4x64x8x256_S4x8x64_2_3_n_1_01_02 none (V0 (Proc.devRef .tc main_v29_7)) (res_main_while0b_v62 V0) : (Proc.devRef .tc main_while0b_v103 : DevRef τ sig).ty.Contents (Elt F)) = Cert.Reference2Ideal.Step.b81 j s := by
  unfold Cert.Reference2Ideal.Step.b81
  rw [← al_5 h, h.f_7]
  try rfl
set_option maxRecDepth 8192 in
theorem al_82 (h : Holds V0 s j) : (transpose S4x64x8 [0, 2, 1] (Host.dotGeneral dot_S4x8x256_S4x64x8x256_S4x8x64_2_3_n_1_01_02 none (V0 (Proc.devRef .tc main_v29_7)) (res_main_while0b_v62 V0)) transposes_S4x8x64_S4x64x8_0_2_1 : (Proc.devRef .tc main_while0b_v104 : DevRef τ sig).ty.Contents (Elt F)) = Cert.Reference2Ideal.Step.b82 j s := by
  unfold Cert.Reference2Ideal.Step.b82
  rw [← al_81 h]
  try rfl
set_option maxRecDepth 8192 in
theorem al_83 (h : Holds V0 s j) : (mulf (res_main_while0b_v86 V0) (transpose S4x64x8 [0, 2, 1] (Host.dotGeneral dot_S4x8x256_S4x64x8x256_S4x8x64_2_3_n_1_01_02 none (V0 (Proc.devRef .tc main_v29_7)) (res_main_while0b_v62 V0)) transposes_S4x8x64_S4x64x8_0_2_1) : (Proc.devRef .tc main_while0b_v105 : DevRef τ sig).ty.Contents (Elt F)) = Cert.Reference2Ideal.Step.b83 j s := by
  unfold Cert.Reference2Ideal.Step.b83
  rw [← al_63 h, ← al_82 h]
  try rfl
set_option maxRecDepth 8192 in
theorem al_84 (h : Holds V0 s j) : (addf (Host.reduceAdd (res_main_while0b_v93 V0) (constant S_ .f32 0x00000000#32) reducesTo_S4x64x64x8_S4x64x8_d2 h_S_) (mulf (res_main_while0b_v86 V0) (transpose S4x64x8 [0, 2, 1] (Host.dotGeneral dot_S4x8x256_S4x64x8x256_S4x8x64_2_3_n_1_01_02 none (V0 (Proc.devRef .tc main_v29_7)) (res_main_while0b_v62 V0)) transposes_S4x8x64_S4x64x8_0_2_1)) : (Proc.devRef .tc main_while0b_v106 : DevRef τ sig).ty.Contents (Elt F)) = Cert.Reference2Ideal.Step.b84 j s := by
  unfold Cert.Reference2Ideal.Step.b84
  rw [← al_80 h, ← al_83 h]
  try rfl
set_option maxRecDepth 8192 in
theorem al_85 (h : Holds V0 s j) : (Host.absf (addf (Host.reduceAdd (res_main_while0b_v93 V0) (constant S_ .f32 0x00000000#32) reducesTo_S4x64x64x8_S4x64x8_d2 h_S_) (mulf (res_main_while0b_v86 V0) (transpose S4x64x8 [0, 2, 1] (Host.dotGeneral dot_S4x8x256_S4x64x8x256_S4x8x64_2_3_n_1_01_02 none (V0 (Proc.devRef .tc main_v29_7)) (res_main_while0b_v62 V0)) transposes_S4x8x64_S4x64x8_0_2_1))) : (Proc.devRef .tc main_while0b_v107 : DevRef τ sig).ty.Contents (Elt F)) = Cert.Reference2Ideal.Step.b85 j s := by
  unfold Cert.Reference2Ideal.Step.b85
  rw [← al_84 h]
  try rfl
set_option maxRecDepth 8192 in
theorem al_86 (h : Holds V0 s j) : (Host.negf (res_main_while0b_v84 V0) : (Proc.devRef .tc main_while0b_v108 : DevRef τ sig).ty.Contents (Elt F)) = Cert.Reference2Ideal.Step.b86 j s := by
  unfold Cert.Reference2Ideal.Step.b86
  rw [← al_61 h]
  try rfl
set_option maxRecDepth 8192 in
theorem al_87 (h : Holds V0 s j) : (Host.exp (Host.negf (res_main_while0b_v84 V0)) : (Proc.devRef .tc main_while0b_v109 : DevRef τ sig).ty.Contents (Elt F)) = Cert.Reference2Ideal.Step.b87 j s := by
  unfold Cert.Reference2Ideal.Step.b87
  rw [← al_86 h]
  try rfl
set_option maxRecDepth 8192 in
theorem al_88 (h : Holds V0 s j) : (maximumf (Host.absf (addf (Host.reduceAdd (res_main_while0b_v93 V0) (constant S_ .f32 0x00000000#32) reducesTo_S4x64x64x8_S4x64x8_d2 h_S_) (mulf (res_main_while0b_v86 V0) (transpose S4x64x8 [0, 2, 1] (Host.dotGeneral dot_S4x8x256_S4x64x8x256_S4x8x64_2_3_n_1_01_02 none (V0 (Proc.devRef .tc main_v29_7)) (res_main_while0b_v62 V0)) transposes_S4x8x64_S4x64x8_0_2_1)))) (Host.exp (Host.negf (res_main_while0b_v84 V0))) : (Proc.devRef .tc main_while0b_v110 : DevRef τ sig).ty.Contents (Elt F)) = Cert.Reference2Ideal.Step.b88 j s := by
  unfold Cert.Reference2Ideal.Step.b88
  rw [← al_85 h, ← al_87 h]
  try rfl
set_option maxRecDepth 8192 in
theorem al_89 (h : Holds V0 s j) : (broadcastInDim S4x64x8x1 ![0, 1, 2] bcast_S4x64x8_S4x64x8x1_0_1_2 (maximumf (Host.absf (addf (Host.reduceAdd (res_main_while0b_v93 V0) (constant S_ .f32 0x00000000#32) reducesTo_S4x64x64x8_S4x64x8_d2 h_S_) (mulf (res_main_while0b_v86 V0) (transpose S4x64x8 [0, 2, 1] (Host.dotGeneral dot_S4x8x256_S4x64x8x256_S4x8x64_2_3_n_1_01_02 none (V0 (Proc.devRef .tc main_v29_7)) (res_main_while0b_v62 V0)) transposes_S4x8x64_S4x64x8_0_2_1)))) (Host.exp (Host.negf (res_main_while0b_v84 V0)))) : (Proc.devRef .tc main_while0b_v111 : DevRef τ sig).ty.Contents (Elt F)) = Cert.Reference2Ideal.Step.b89 j s := by
  unfold Cert.Reference2Ideal.Step.b89
  rw [← al_88 h]
  try rfl
set_option maxRecDepth 8192 in
theorem al_90 (h : Holds V0 s j) : (broadcastInDim S4x64x8x512 ![0, 1, 2, 3] bcast_S4x64x8x1_S4x64x8x512_0_1_2_3 (broadcastInDim S4x64x8x1 ![0, 1, 2] bcast_S4x64x8_S4x64x8x1_0_1_2 (maximumf (Host.absf (addf (Host.reduceAdd (res_main_while0b_v93 V0) (constant S_ .f32 0x00000000#32) reducesTo_S4x64x64x8_S4x64x8_d2 h_S_) (mulf (res_main_while0b_v86 V0) (transpose S4x64x8 [0, 2, 1] (Host.dotGeneral dot_S4x8x256_S4x64x8x256_S4x8x64_2_3_n_1_01_02 none (V0 (Proc.devRef .tc main_v29_7)) (res_main_while0b_v62 V0)) transposes_S4x8x64_S4x64x8_0_2_1)))) (Host.exp (Host.negf (res_main_while0b_v84 V0))))) : (Proc.devRef .tc main_while0b_v112 : DevRef τ sig).ty.Contents (Elt F)) = Cert.Reference2Ideal.Step.b90 j s := by
  unfold Cert.Reference2Ideal.Step.b90
  rw [← al_89 h]
  try rfl
set_option maxRecDepth 8192 in
theorem al_91 (h : Holds V0 s j) : (Host.divf (addf (transpose S4x64x8x512 [0, 3, 1, 2] (Host.dotGeneral dot_S4x64x8x512_S4x64x64x8_S4x8x512x64_1_2_3_1_02_03 none (res_main_while0b_v64 V0) (res_main_while0b_v93 V0)) transposes_S4x8x512x64_S4x64x8x512_0_3_1_2) (mulf (broadcastInDim S4x64x8x512 ![0, 1, 2, 3] bcast_S4x64x8x1_S4x64x8x512_0_1_2_3 (broadcastInDim S4x64x8x1 ![0, 1, 2] bcast_S4x64x8_S4x64x8x1_0_1_2 (res_main_while0b_v86 V0))) (transpose S4x64x8x512 [0, 3, 1, 2] (Host.dotGeneral dot_S4x8x256x512_S4x64x8x256_S4x8x512x64_2_3_3_1_01_02 none (V0 (Proc.devRef .tc main_v29_6)) (res_main_while0b_v62 V0)) transposes_S4x8x512x64_S4x64x8x512_0_3_1_2))) (broadcastInDim S4x64x8x512 ![0, 1, 2, 3] bcast_S4x64x8x1_S4x64x8x512_0_1_2_3 (broadcastInDim S4x64x8x1 ![0, 1, 2] bcast_S4x64x8_S4x64x8x1_0_1_2 (maximumf (Host.absf (addf (Host.reduceAdd (res_main_while0b_v93 V0) (constant S_ .f32 0x00000000#32) reducesTo_S4x64x64x8_S4x64x8_d2 h_S_) (mulf (res_main_while0b_v86 V0) (transpose S4x64x8 [0, 2, 1] (Host.dotGeneral dot_S4x8x256_S4x64x8x256_S4x8x64_2_3_n_1_01_02 none (V0 (Proc.devRef .tc main_v29_7)) (res_main_while0b_v62 V0)) transposes_S4x8x64_S4x64x8_0_2_1)))) (Host.exp (Host.negf (res_main_while0b_v84 V0)))))) : (Proc.devRef .tc main_while0b_v113 : DevRef τ sig).ty.Contents (Elt F)) = Cert.Reference2Ideal.Step.b91 j s := by
  unfold Cert.Reference2Ideal.Step.b91
  rw [← al_78 h, ← al_90 h]
  try rfl
set_option maxRecDepth 8192 in
theorem al_92 (h : Holds V0 s j) : (extractStridedSlice S4x1x8 ![0, 63, 0] (res_main_while0b_v84 V0) slices_S4x64x8_S4x1x8_0_63_0 : (Proc.devRef .tc main_while0b_v114 : DevRef τ sig).ty.Contents (Elt F)) = Cert.Reference2Ideal.Step.b92 j s := by
  unfold Cert.Reference2Ideal.Step.b92
  rw [← al_61 h]
  try rfl
set_option maxRecDepth 8192 in
theorem al_93 (h : Holds V0 s j) : (res_main_while0b_v115 V0 : (Proc.devRef .tc main_while0b_v115 : DevRef τ sig).ty.Contents (Elt F)) = Cert.Reference2Ideal.Step.b93 j s := by
  unfold res_main_while0b_v115 Cert.Reference2Ideal.Step.b93
  rw [← al_92 h]
  try rfl
set_option maxRecDepth 8192 in
theorem al_94 (h : Holds V0 s j) : (extractStridedSlice S4x1x8 ![0, 63, 0] (res_main_while0b_v67 V0) slices_S4x64x8_S4x1x8_0_63_0 : (Proc.devRef .tc main_while0b_v116 : DevRef τ sig).ty.Contents (Elt F)) = Cert.Reference2Ideal.Step.b94 j s := by
  unfold Cert.Reference2Ideal.Step.b94
  rw [← al_30 h]
  try rfl
set_option maxRecDepth 8192 in
theorem al_95 (h : Holds V0 s j) : (shapeCast S4x8 (extractStridedSlice S4x1x8 ![0, 63, 0] (res_main_while0b_v67 V0) slices_S4x64x8_S4x1x8_0_63_0) shapeCasts_S4x1x8_S4x8 : (Proc.devRef .tc main_while0b_v117 : DevRef τ sig).ty.Contents (Elt F)) = Cert.Reference2Ideal.Step.b95 j s := by
  unfold Cert.Reference2Ideal.Step.b95
  rw [← al_94 h]
  try rfl
set_option maxRecDepth 8192 in
theorem al_96 (h : Holds V0 s j) : (addf (shapeCast S4x8 (extractStridedSlice S4x1x8 ![0, 63, 0] (res_main_while0b_v67 V0) slices_S4x64x8_S4x1x8_0_63_0) shapeCasts_S4x1x8_S4x8) (V0 (Proc.devRef .tc main_v29_8)) : (Proc.devRef .tc main_while0b_v118 : DevRef τ sig).ty.Contents (Elt F)) = Cert.Reference2Ideal.Step.b96 j s := by
  unfold Cert.Reference2Ideal.Step.b96
  rw [← al_95 h, h.f_8]
  try rfl
set_option maxRecDepth 8192 in
theorem al_97 (h : Holds V0 s j) : (subf (addf (shapeCast S4x8 (extractStridedSlice S4x1x8 ![0, 63, 0] (res_main_while0b_v67 V0) slices_S4x64x8_S4x1x8_0_63_0) shapeCasts_S4x1x8_S4x8) (V0 (Proc.devRef .tc main_v29_8))) (res_main_while0b_v115 V0) : (Proc.devRef .tc main_while0b_v119 : DevRef τ sig).ty.Contents (Elt F)) = Cert.Reference2Ideal.Step.b97 j s := by
  unfold Cert.Reference2Ideal.Step.b97
  rw [← al_96 h, ← al_93 h]
  try rfl
set_option maxRecDepth 8192 in
theorem al_98 (h : Holds V0 s j) : (res_main_while0b_v120 V0 : (Proc.devRef .tc main_while0b_v120 : DevRef τ sig).ty.Contents (Elt F)) = Cert.Reference2Ideal.Step.b98 j s := by
  unfold res_main_while0b_v120 Cert.Reference2Ideal.Step.b98
  rw [← al_97 h]
  try rfl
set_option maxRecDepth 8192 in
theorem al_99 (h : Holds V0 s j) : (extractStridedSlice S4x1x8 ![0, 63, 0] (res_main_while0b_v67 V0) slices_S4x64x8_S4x1x8_0_63_0 : (Proc.devRef .tc main_while0b_v121 : DevRef τ sig).ty.Contents (Elt F)) = Cert.Reference2Ideal.Step.b99 j s := by
  unfold Cert.Reference2Ideal.Step.b99
  rw [← al_30 h]
  try rfl
set_option maxRecDepth 8192 in
theorem al_100 (h : Holds V0 s j) : (broadcastInDim S4x64x8 ![0, 1, 2] bcast_S4x1x8_S4x64x8_0_1_2 (extractStridedSlice S4x1x8 ![0, 63, 0] (res_main_while0b_v67 V0) slices_S4x64x8_S4x1x8_0_63_0) : (Proc.devRef .tc main_while0b_v122 : DevRef τ sig).ty.Contents (Elt F)) = Cert.Reference2Ideal.Step.b100 j s := by
  unfold Cert.Reference2Ideal.Step.b100
  rw [← al_99 h]
  try rfl
set_option maxRecDepth 8192 in
theorem al_101 (h : Holds V0 s j) : (subf (broadcastInDim S4x64x8 ![0, 1, 2] bcast_S4x1x8_S4x64x8_0_1_2 (extractStridedSlice S4x1x8 ![0, 63, 0] (res_main_while0b_v67 V0) slices_S4x64x8_S4x1x8_0_63_0)) (res_main_while0b_v67 V0) : (Proc.devRef .tc main_while0b_v123 : DevRef τ sig).ty.Contents (Elt F)) = Cert.Reference2Ideal.Step.b101 j s := by
  unfold Cert.Reference2Ideal.Step.b101
  rw [← al_100 h, ← al_30 h]
  try rfl
set_option maxRecDepth 8192 in
theorem al_102 (h : Holds V0 s j) : (addf (subf (broadcastInDim S4x64x8 ![0, 1, 2] bcast_S4x1x8_S4x64x8_0_1_2 (extractStridedSlice S4x1x8 ![0, 63, 0] (res_main_while0b_v67 V0) slices_S4x64x8_S4x1x8_0_63_0)) (res_main_while0b_v67 V0)) (res_main_while0b_v65 V0) : (Proc.devRef .tc main_while0b_v124 : DevRef τ sig).ty.Contents (Elt F)) = Cert.Reference2Ideal.Step.b102 j s := by
  unfold Cert.Reference2Ideal.Step.b102
  rw [← al_101 h, ← al_22 h]
  try rfl
set_option maxRecDepth 8192 in
theorem al_103 (h : Holds V0 s j) : (broadcastInDim S4x1x8 ![0, 2] bcast_S4x8_S4x1x8_0_2 (res_main_while0b_v115 V0) : (Proc.devRef .tc main_while0b_v125 : DevRef τ sig).ty.Contents (Elt F)) = Cert.Reference2Ideal.Step.b103 j s := by
  unfold Cert.Reference2Ideal.Step.b103
  rw [← al_93 h]
  try rfl
set_option maxRecDepth 8192 in
theorem al_104 (h : Holds V0 s j) : (broadcastInDim S4x64x8 ![0, 1, 2] bcast_S4x1x8_S4x64x8_0_1_2 (broadcastInDim S4x1x8 ![0, 2] bcast_S4x8_S4x1x8_0_2 (res_main_while0b_v115 V0)) : (Proc.devRef .tc main_while0b_v126 : DevRef τ sig).ty.Contents (Elt F)) = Cert.Reference2Ideal.Step.b104 j s := by
  unfold Cert.Reference2Ideal.Step.b104
  rw [← al_103 h]
  try rfl
set_option maxRecDepth 8192 in
theorem al_105 (h : Holds V0 s j) : (subf (addf (subf (broadcastInDim S4x64x8 ![0, 1, 2] bcast_S4x1x8_S4x64x8_0_1_2 (extractStridedSlice S4x1x8 ![0, 63, 0] (res_main_while0b_v67 V0) slices_S4x64x8_S4x1x8_0_63_0)) (res_main_while0b_v67 V0)) (res_main_while0b_v65 V0)) (broadcastInDim S4x64x8 ![0, 1, 2] bcast_S4x1x8_S4x64x8_0_1_2 (broadcastInDim S4x1x8 ![0, 2] bcast_S4x8_S4x1x8_0_2 (res_main_while0b_v115 V0))) : (Proc.devRef .tc main_while0b_v127 : DevRef τ sig).ty.Contents (Elt F)) = Cert.Reference2Ideal.Step.b105 j s := by
  unfold Cert.Reference2Ideal.Step.b105
  rw [← al_102 h, ← al_104 h]
  try rfl
set_option maxRecDepth 8192 in
theorem al_106 (h : Holds V0 s j) : (Host.exp (subf (addf (subf (broadcastInDim S4x64x8 ![0, 1, 2] bcast_S4x1x8_S4x64x8_0_1_2 (extractStridedSlice S4x1x8 ![0, 63, 0] (res_main_while0b_v67 V0) slices_S4x64x8_S4x1x8_0_63_0)) (res_main_while0b_v67 V0)) (res_main_while0b_v65 V0)) (broadcastInDim S4x64x8 ![0, 1, 2] bcast_S4x1x8_S4x64x8_0_1_2 (broadcastInDim S4x1x8 ![0, 2] bcast_S4x8_S4x1x8_0_2 (res_main_while0b_v115 V0)))) : (Proc.devRef .tc main_while0b_v128 : DevRef τ sig).ty.Contents (Elt F)) = Cert.Reference2Ideal.Step.b106 j s := by
  unfold Cert.Reference2Ideal.Step.b106
  rw [← al_105 h]
  try rfl
set_option maxRecDepth 8192 in
theorem al_107 (h : Holds V0 s j) : (broadcastInDim S4x64x8x1 ![0, 1, 2] bcast_S4x64x8_S4x64x8x1_0_1_2 (Host.exp (subf (addf (subf (broadcastInDim S4x64x8 ![0, 1, 2] bcast_S4x1x8_S4x64x8_0_1_2 (extractStridedSlice S4x1x8 ![0, 63, 0] (res_main_while0b_v67 V0) slices_S4x64x8_S4x1x8_0_63_0)) (res_main_while0b_v67 V0)) (res_main_while0b_v65 V0)) (broadcastInDim S4x64x8 ![0, 1, 2] bcast_S4x1x8_S4x64x8_0_1_2 (broadcastInDim S4x1x8 ![0, 2] bcast_S4x8_S4x1x8_0_2 (res_main_while0b_v115 V0))))) : (Proc.devRef .tc main_while0b_v129 : DevRef τ sig).ty.Contents (Elt F)) = Cert.Reference2Ideal.Step.b107 j s := by
  unfold Cert.Reference2Ideal.Step.b107
  rw [← al_106 h]
  try rfl
set_option maxRecDepth 8192 in
theorem al_108 (h : Holds V0 s j) : (broadcastInDim S4x64x8x256 ![0, 1, 2, 3] bcast_S4x64x8x1_S4x64x8x256_0_1_2_3 (broadcastInDim S4x64x8x1 ![0, 1, 2] bcast_S4x64x8_S4x64x8x1_0_1_2 (Host.exp (subf (addf (subf (broadcastInDim S4x64x8 ![0, 1, 2] bcast_S4x1x8_S4x64x8_0_1_2 (extractStridedSlice S4x1x8 ![0, 63, 0] (res_main_while0b_v67 V0) slices_S4x64x8_S4x1x8_0_63_0)) (res_main_while0b_v67 V0)) (res_main_while0b_v65 V0)) (broadcastInDim S4x64x8 ![0, 1, 2] bcast_S4x1x8_S4x64x8_0_1_2 (broadcastInDim S4x1x8 ![0, 2] bcast_S4x8_S4x1x8_0_2 (res_main_while0b_v115 V0)))))) : (Proc.devRef .tc main_while0b_v130 : DevRef τ sig).ty.Contents (Elt F)) = Cert.Reference2Ideal.Step.b108 j s := by
  unfold Cert.Reference2Ideal.Step.b108
  rw [← al_107 h]
  try rfl
set_option maxRecDepth 8192 in
theorem al_109 (h : Holds V0 s j) : (res_main_while0b_v131 V0 : (Proc.devRef .tc main_while0b_v131 : DevRef τ sig).ty.Contents (Elt F)) = Cert.Reference2Ideal.Step.b109 j s := by
  unfold res_main_while0b_v131 Cert.Reference2Ideal.Step.b109
  rw [← al_11 h, ← al_108 h]
  try rfl
set_option maxRecDepth 8192 in
theorem al_110 (h : Holds V0 s j) : (broadcastInDim S4x8x1x1 ![0, 1] bcast_S4x8_S4x8x1x1_0_1 (res_main_while0b_v120 V0) : (Proc.devRef .tc main_while0b_v132 : DevRef τ sig).ty.Contents (Elt F)) = Cert.Reference2Ideal.Step.b110 j s := by
  unfold Cert.Reference2Ideal.Step.b110
  rw [← al_98 h]
  try rfl
set_option maxRecDepth 8192 in
theorem al_111 (h : Holds V0 s j) : (broadcastInDim S4x8x256x512 ![0, 1, 2, 3] bcast_S4x8x1x1_S4x8x256x512_0_1_2_3 (broadcastInDim S4x8x1x1 ![0, 1] bcast_S4x8_S4x8x1x1_0_1 (res_main_while0b_v120 V0)) : (Proc.devRef .tc main_while0b_v133 : DevRef τ sig).ty.Contents (Elt F)) = Cert.Reference2Ideal.Step.b111 j s := by
  unfold Cert.Reference2Ideal.Step.b111
  rw [← al_110 h]
  try rfl
set_option maxRecDepth 8192 in
theorem al_112 (h : Holds V0 s j) : (mulf (broadcastInDim S4x8x256x512 ![0, 1, 2, 3] bcast_S4x8x1x1_S4x8x256x512_0_1_2_3 (broadcastInDim S4x8x1x1 ![0, 1] bcast_S4x8_S4x8x1x1_0_1 (res_main_while0b_v120 V0))) (V0 (Proc.devRef .tc main_v29_6)) : (Proc.devRef .tc main_while0b_v134 : DevRef τ sig).ty.Contents (Elt F)) = Cert.Reference2Ideal.Step.b112 j s := by
  unfold Cert.Reference2Ideal.Step.b112
  rw [← al_111 h, h.f_6]
  try rfl
set_option maxRecDepth 8192 in
theorem al_113 (h : Holds V0 s j) : (Host.dotGeneral dot_S4x64x8x256_S4x64x8x512_S4x8x256x512_1_1_3_3_02_02 none (res_main_while0b_v131 V0) (res_main_while0b_v64 V0) : (Proc.devRef .tc main_while0b_v135 : DevRef τ sig).ty.Contents (Elt F)) = Cert.Reference2Ideal.Step.b113 j s := by
  unfold Cert.Reference2Ideal.Step.b113
  rw [← al_109 h, ← al_17 h]
  try rfl
set_option maxRecDepth 8192 in
theorem al_114 (h : Holds V0 s j) : (addf (mulf (broadcastInDim S4x8x256x512 ![0, 1, 2, 3] bcast_S4x8x1x1_S4x8x256x512_0_1_2_3 (broadcastInDim S4x8x1x1 ![0, 1] bcast_S4x8_S4x8x1x1_0_1 (res_main_while0b_v120 V0))) (V0 (Proc.devRef .tc main_v29_6))) (Host.dotGeneral dot_S4x64x8x256_S4x64x8x512_S4x8x256x512_1_1_3_3_02_02 none (res_main_while0b_v131 V0) (res_main_while0b_v64 V0)) : (Proc.devRef .tc main_while0b_v136 : DevRef τ sig).ty.Contents (Elt F)) = Cert.Reference2Ideal.Step.b114 j s := by
  unfold Cert.Reference2Ideal.Step.b114
  rw [← al_112 h, ← al_113 h]
  try rfl
set_option maxRecDepth 8192 in
theorem al_115 (h : Holds V0 s j) : (broadcastInDim S4x8x1 ![0, 1] bcast_S4x8_S4x8x1_0_1 (res_main_while0b_v120 V0) : (Proc.devRef .tc main_while0b_v137 : DevRef τ sig).ty.Contents (Elt F)) = Cert.Reference2Ideal.Step.b115 j s := by
  unfold Cert.Reference2Ideal.Step.b115
  rw [← al_98 h]
  try rfl
set_option maxRecDepth 8192 in
theorem al_116 (h : Holds V0 s j) : (broadcastInDim S4x8x256 ![0, 1, 2] bcast_S4x8x1_S4x8x256_0_1_2 (broadcastInDim S4x8x1 ![0, 1] bcast_S4x8_S4x8x1_0_1 (res_main_while0b_v120 V0)) : (Proc.devRef .tc main_while0b_v138 : DevRef τ sig).ty.Contents (Elt F)) = Cert.Reference2Ideal.Step.b116 j s := by
  unfold Cert.Reference2Ideal.Step.b116
  rw [← al_115 h]
  try rfl
set_option maxRecDepth 8192 in
theorem al_117 (h : Holds V0 s j) : (mulf (broadcastInDim S4x8x256 ![0, 1, 2] bcast_S4x8x1_S4x8x256_0_1_2 (broadcastInDim S4x8x1 ![0, 1] bcast_S4x8_S4x8x1_0_1 (res_main_while0b_v120 V0))) (V0 (Proc.devRef .tc main_v29_7)) : (Proc.devRef .tc main_while0b_v139 : DevRef τ sig).ty.Contents (Elt F)) = Cert.Reference2Ideal.Step.b117 j s := by
  unfold Cert.Reference2Ideal.Step.b117
  rw [← al_116 h, h.f_7]
  try rfl
set_option maxRecDepth 8192 in
theorem al_118 (h : Holds V0 s j) : (constant S_ .f32 0x00000000#32 : (Proc.devRef .tc main_while0b_cst_22 : DevRef τ sig).ty.Contents (Elt F)) = Cert.Reference2Ideal.Step.b118 j s := by
  unfold Cert.Reference2Ideal.Step.b118
  rfl
set_option maxRecDepth 8192 in
theorem al_119 (h : Holds V0 s j) : (Host.reduceAdd (res_main_while0b_v131 V0) (constant S_ .f32 0x00000000#32) reducesTo_S4x64x8x256_S4x8x256_d1 h_S_ : (Proc.devRef .tc main_while0b_v140 : DevRef τ sig).ty.Contents (Elt F)) = Cert.Reference2Ideal.Step.b119 j s := by
  unfold Cert.Reference2Ideal.Step.b119
  rw [← al_109 h, ← al_118 h]
  try rfl
set_option maxRecDepth 8192 in
theorem al_120 (h : Holds V0 s j) : (addf (mulf (broadcastInDim S4x8x256 ![0, 1, 2] bcast_S4x8x1_S4x8x256_0_1_2 (broadcastInDim S4x8x1 ![0, 1] bcast_S4x8_S4x8x1_0_1 (res_main_while0b_v120 V0))) (V0 (Proc.devRef .tc main_v29_7))) (Host.reduceAdd (res_main_while0b_v131 V0) (constant S_ .f32 0x00000000#32) reducesTo_S4x64x8x256_S4x8x256_d1 h_S_) : (Proc.devRef .tc main_while0b_v141 : DevRef τ sig).ty.Contents (Elt F)) = Cert.Reference2Ideal.Step.b120 j s := by
  unfold Cert.Reference2Ideal.Step.b120
  rw [← al_117 h, ← al_119 h]
  try rfl
set_option maxRecDepth 8192 in
theorem al_121 (h : Holds V0 s j) : (broadcastInDim S1x4x64x8x512 ![1, 2, 3, 4] bcast_S4x64x8x512_S1x4x64x8x512_1_2_3_4 (Host.divf (addf (transpose S4x64x8x512 [0, 3, 1, 2] (Host.dotGeneral dot_S4x64x8x512_S4x64x64x8_S4x8x512x64_1_2_3_1_02_03 none (res_main_while0b_v64 V0) (res_main_while0b_v93 V0)) transposes_S4x8x512x64_S4x64x8x512_0_3_1_2) (mulf (broadcastInDim S4x64x8x512 ![0, 1, 2, 3] bcast_S4x64x8x1_S4x64x8x512_0_1_2_3 (broadcastInDim S4x64x8x1 ![0, 1, 2] bcast_S4x64x8_S4x64x8x1_0_1_2 (res_main_while0b_v86 V0))) (transpose S4x64x8x512 [0, 3, 1, 2] (Host.dotGeneral dot_S4x8x256x512_S4x64x8x256_S4x8x512x64_2_3_3_1_01_02 none (V0 (Proc.devRef .tc main_v29_6)) (res_main_while0b_v62 V0)) transposes_S4x8x512x64_S4x64x8x512_0_3_1_2))) (broadcastInDim S4x64x8x512 ![0, 1, 2, 3] bcast_S4x64x8x1_S4x64x8x512_0_1_2_3 (broadcastInDim S4x64x8x1 ![0, 1, 2] bcast_S4x64x8_S4x64x8x1_0_1_2 (maximumf (Host.absf (addf (Host.reduceAdd (res_main_while0b_v93 V0) (constant S_ .f32 0x00000000#32) reducesTo_S4x64x64x8_S4x64x8_d2 h_S_) (mulf (res_main_while0b_v86 V0) (transpose S4x64x8 [0, 2, 1] (Host.dotGeneral dot_S4x8x256_S4x64x8x256_S4x8x64_2_3_n_1_01_02 none (V0 (Proc.devRef .tc main_v29_7)) (res_main_while0b_v62 V0)) transposes_S4x8x64_S4x64x8_0_2_1)))) (Host.exp (Host.negf (res_main_while0b_v84 V0))))))) : (Proc.devRef .tc main_while0b_call8_v0 : DevRef τ sig).ty.Contents (Elt F)) = Cert.Reference2Ideal.Step.b121 j s := by
  unfold Cert.Reference2Ideal.Step.b121
  rw [← al_91 h]
  try rfl
set_option maxRecDepth 8192 in
theorem al_122 (h : Holds V0 s j) : (constantI S_ 32 0#32 : (Proc.devRef .tc main_while0b_call8_c : DevRef τ sig).ty.Contents (Elt F)) = Cert.Reference2Ideal.Step.b122 j s := by
  unfold Cert.Reference2Ideal.Step.b122
  rfl
set_option maxRecDepth 8192 in
theorem al_123 (h : Holds V0 s j) : (constantI S_ 32 0#32 : (Proc.devRef .tc main_while0b_call8_c_0 : DevRef τ sig).ty.Contents (Elt F)) = Cert.Reference2Ideal.Step.b123 j s := by
  unfold Cert.Reference2Ideal.Step.b123
  rfl
set_option maxRecDepth 8192 in
theorem al_124 (h : Holds V0 s j) : (constantI S_ 32 0#32 : (Proc.devRef .tc main_while0b_call8_c_1 : DevRef τ sig).ty.Contents (Elt F)) = Cert.Reference2Ideal.Step.b124 j s := by
  unfold Cert.Reference2Ideal.Step.b124
  rfl
set_option maxRecDepth 8192 in
theorem al_125 (h : Holds V0 s j) : (constantI S_ 32 0#32 : (Proc.devRef .tc main_while0b_call8_c_2 : DevRef τ sig).ty.Contents (Elt F)) = Cert.Reference2Ideal.Step.b125 j s := by
  unfold Cert.Reference2Ideal.Step.b125
  rfl
set_option maxRecDepth 8192 in
theorem al_126 (h : Holds V0 s j) : (Host.dynamicUpdateSlice (V0 (Proc.devRef .tc main_v29_9)) (broadcastInDim S1x4x64x8x512 ![1, 2, 3, 4] bcast_S4x64x8x512_S1x4x64x8x512_1_2_3_4 (Host.divf (addf (transpose S4x64x8x512 [0, 3, 1, 2] (Host.dotGeneral dot_S4x64x8x512_S4x64x64x8_S4x8x512x64_1_2_3_1_02_03 none (res_main_while0b_v64 V0) (res_main_while0b_v93 V0)) transposes_S4x8x512x64_S4x64x8x512_0_3_1_2) (mulf (broadcastInDim S4x64x8x512 ![0, 1, 2, 3] bcast_S4x64x8x1_S4x64x8x512_0_1_2_3 (broadcastInDim S4x64x8x1 ![0, 1, 2] bcast_S4x64x8_S4x64x8x1_0_1_2 (res_main_while0b_v86 V0))) (transpose S4x64x8x512 [0, 3, 1, 2] (Host.dotGeneral dot_S4x8x256x512_S4x64x8x256_S4x8x512x64_2_3_3_1_01_02 none (V0 (Proc.devRef .tc main_v29_6)) (res_main_while0b_v62 V0)) transposes_S4x8x512x64_S4x64x8x512_0_3_1_2))) (broadcastInDim S4x64x8x512 ![0, 1, 2, 3] bcast_S4x64x8x1_S4x64x8x512_0_1_2_3 (broadcastInDim S4x64x8x1 ![0, 1, 2] bcast_S4x64x8_S4x64x8x1_0_1_2 (maximumf (Host.absf (addf (Host.reduceAdd (res_main_while0b_v93 V0) (constant S_ .f32 0x00000000#32) reducesTo_S4x64x64x8_S4x64x8_d2 h_S_) (mulf (res_main_while0b_v86 V0) (transpose S4x64x8 [0, 2, 1] (Host.dotGeneral dot_S4x8x256_S4x64x8x256_S4x8x64_2_3_n_1_01_02 none (V0 (Proc.devRef .tc main_v29_7)) (res_main_while0b_v62 V0)) transposes_S4x8x64_S4x64x8_0_2_1)))) (Host.exp (Host.negf (res_main_while0b_v84 V0)))))))) (fun k => (((![V0 (Proc.devRef .tc main_v29_5), constantI S_ 32 0#32, constantI S_ 32 0#32, constantI S_ 32 0#32, constantI S_ 32 0#32] : Fin 5 → (⟨S_, .i32⟩ : BufTy).Contents (Elt F))) k (Shape.Idx.first h_S_)).toInt) updateFits_S32x4x64x8x512_S1x4x64x8x512 : (Proc.devRef .tc main_while0b_v142 : DevRef τ sig).ty.Contents (Elt F)) = Cert.Reference2Ideal.Step.b126 j s := by
  unfold Cert.Reference2Ideal.Step.b126
  rw [← al_121 h, ← al_122 h, ← al_123 h, ← al_124 h, ← al_125 h, h.f_9, h.n_5]
  try rfl

/-! One trip's step of the carried values is `step`, field by field; a counter steps to the next number. -/

theorem step_6 (h : Holds V0 s j) : step_main_v29_6 V0 = (step j s).main_v29_6 := by
  unfold step_main_v29_6 Cert.Reference2Ideal.Step.step
  show id (addf (mulf (broadcastInDim S4x8x256x512 ![0, 1, 2, 3] bcast_S4x8x1x1_S4x8x256x512_0_1_2_3 (broadcastInDim S4x8x1x1 ![0, 1] bcast_S4x8_S4x8x1x1_0_1 (res_main_while0b_v120 V0))) (V0 (Proc.devRef .tc main_v29_6))) (Host.dotGeneral dot_S4x64x8x256_S4x64x8x512_S4x8x256x512_1_1_3_3_02_02 none (res_main_while0b_v131 V0) (res_main_while0b_v64 V0))) = _
  rw [al_114 h]
  try rfl
theorem step_7 (h : Holds V0 s j) : step_main_v29_7 V0 = (step j s).main_v29_7 := by
  unfold step_main_v29_7 Cert.Reference2Ideal.Step.step
  show id (addf (mulf (broadcastInDim S4x8x256 ![0, 1, 2] bcast_S4x8x1_S4x8x256_0_1_2 (broadcastInDim S4x8x1 ![0, 1] bcast_S4x8_S4x8x1_0_1 (res_main_while0b_v120 V0))) (V0 (Proc.devRef .tc main_v29_7))) (Host.reduceAdd (res_main_while0b_v131 V0) (constant S_ .f32 0x00000000#32) reducesTo_S4x64x8x256_S4x8x256_d1 h_S_)) = _
  rw [al_120 h]
  try rfl
theorem step_8 (h : Holds V0 s j) : step_main_v29_8 V0 = (step j s).main_v29_8 := by
  unfold step_main_v29_8 Cert.Reference2Ideal.Step.step
  show id (res_main_while0b_v115 V0) = _
  rw [al_93 h]
  try rfl
theorem step_9 (h : Holds V0 s j) : step_main_v29_9 V0 = (step j s).main_v29_9 := by
  unfold step_main_v29_9 Cert.Reference2Ideal.Step.step
  exact al_126 h
theorem step_5 (h : Holds V0 s j) : step_main_v29_5 V0 = constantI S_ 32 (BitVec.ofNat 32 (j + 1)) := by
  unfold step_main_v29_5
  rw [h.n_5]
  funext i
  show BitVec.ofNat 32 j + 1#32 = BitVec.ofNat 32 (j + 1)
  simp only [BitVec.ofNat_add]

set_option maxRecDepth 8192 in
theorem out_main_v59_holds (h : Holds V0 s j) {x_main_arg0 : (⟨S10240x12288, .bf16⟩ : BufTy).Contents (Elt F)} (h_main_arg0 : V0 (Proc.devRef .tc main_arg0) = x_main_arg0) {x_main_arg2 : (⟨S1x4096, .f32⟩ : BufTy).Contents (Elt F)} (h_main_arg2 : V0 (Proc.devRef .tc main_arg2) = x_main_arg2) : out_main_v59 V0 = Cert.Reference2Ideal.Step.R_main_v59 s x_main_arg0 x_main_arg2 := by
  unfold out_main_v59 Cert.Reference2Ideal.Step.R_main_v59
  rw [h.f_9, h_main_arg0, h_main_arg2]
  try rfl

set_option maxRecDepth 8192 in
theorem out_main_v60_holds (h : Holds V0 s j) : out_main_v60 V0 = Cert.Reference2Ideal.Step.R_main_v60 s := by
  unfold out_main_v60 Cert.Reference2Ideal.Step.R_main_v60
  rw [h.f_7]
  try rfl

set_option maxRecDepth 8192 in
theorem out_main_v61_holds (h : Holds V0 s j) : out_main_v61 V0 = Cert.Reference2Ideal.Step.R_main_v61 s := by
  unfold out_main_v61 Cert.Reference2Ideal.Step.R_main_v61
  rw [h.f_8]
  try rfl

/-- One trip keeps the valuation holding: `step` of the state, the same set-up values, the next number. -/
theorem holds_step (h : Holds V0 s j) : Holds (STEP V0) (step j s) (j + 1) where
  f_6 := (STEP_main_v29_6 V0).trans (step_6 h)
  f_7 := (STEP_main_v29_7 V0).trans (step_7 h)
  f_8 := (STEP_main_v29_8 V0).trans (step_8 h)
  f_9 := (STEP_main_v29_9 V0).trans (step_9 h)
  n_5 := (STEP_main_v29_5 V0).trans (step_5 h)
  f_0 := (STEP_main_v29_0 V0).trans h.f_0
  f_1 := (STEP_main_v29_1 V0).trans h.f_1
  f_2 := (STEP_main_v29_2 V0).trans h.f_2
  f_3 := (STEP_main_v29_3 V0).trans h.f_3
  f_4 := (STEP_main_v29_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `Reference2Ideal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v59) = Cert.Reference2Ideal.Step.R_main_v59 (it c 32) (m ((c.tc : Thread nD τ).loc main_arg0)) (m ((c.tc : Thread nD τ).loc main_arg2))
      ∧ r.2.mem ((c.tc : Thread nD τ).loc main_v29_6) = (it c 32).main_v29_6
      ∧ r.2.mem ((c.tc : Thread nD τ).loc main_v60) = Cert.Reference2Ideal.Step.R_main_v60 (it c 32)
      ∧ r.2.mem ((c.tc : Thread nD τ).loc main_v61) = Cert.Reference2Ideal.Step.R_main_v61 (it c 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := holds_iter m c (it c) (h0 c) (hs c) 32
    ⟨(h c).1.trans (out_main_v59_holds hk (iter_main_arg0 m c 32) (iter_main_arg2 m c 32)), (h c).2.1.trans hk.f_6, (h c).2.2.1.trans (out_main_v60_holds hk), (h c).2.2.2.1.trans (out_main_v61_holds hk), (h c).2.2.2.2.1, (h c).2.2.2.2.2.1, (h c).2.2.2.2.2.2⟩) (Value.run m ρ)

end Cert.Reference2Ideal.Trips

end
-- ==== Proof.PromptClaim.lean ====
/-
  The prompt call and its reference, from memories that agree on the arguments, end with equal results.
-/
module

public import proofs.«01_k».proof.Defs
public import proofs.«01_k».proof.Proof.PromptFinal
public import proofs.«01_k».proof.Proof.Trips

@[expose] public section

set_option maxRecDepth 16384

noncomputable section

namespace Cert.KerPrompt

open Cert.Kernel2Ideal Cert.Kernel2Ideal.Gen Idealize.ShloMosaic Idealize.ShloMosaic.TcCoe Idealize.SL.Sem

theorem algebraic [Cert.Kernel2Ideal.Facts] [Cert.Reference2Ideal.Facts] : Cert.algebraic_Kernel2Ideal_Reference2Ideal := by
  intro m g m' g' _ hagree
  refine ⟨fun c => (dats m 0 c).arrAt 6 cfg0.N, fun c => (dats m 0 c).arrAt 7 cfg0.N, fun c => (dats m 0 c).arrAt 8 cfg0.N,
    fun c => (dats m 0 c).arrAt 9 cfg0.N, Cert.Kernel2Ideal.Value.run_blocks m g, ?_⟩
  refine (θ_run _ _ _).mono (fun r h c => ?_) (Cert.Reference2Ideal.Trips.run_iter m' g' (fun c => RefPrompt.loop (zm m c) (gates m c))
    (fun c => ?_) (fun c n => rfl))
  · obtain ⟨a0, a1, a2⟩ := hagree c
    obtain ⟨h0, h1, h2, h3, kept⟩ := h c
    refine ⟨h0.trans ?_, h1.trans ?_, h2.trans ?_, h3.trans ?_, kept⟩
    · rw [a0, a2]
      exact (final_h m c).symm
    · exact (final_C m c).symm
    · exact (final_n m c).symm
    · exact (final_m m c).symm
  · obtain ⟨a0, a1, a2⟩ := hagree c
    show Cert.Reference2Ideal.Step.init _ _ = Cert.Reference2Ideal.Trips.initState m' c
    unfold Cert.Reference2Ideal.Trips.initState
    rw [a0, a1]

end Cert.KerPrompt
-- ==== Proof.InMlstm.lean ====
/-
  The input projection onto the mLSTM's columns: each block of the product is a block of the whole product.
-/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pointwise
public import Idealize.ShloMosaic.Lib.Claim

@[expose] public section

set_option maxRecDepth 16384

noncomputable section

namespace Cert.InMlstm

open Cert.Kernel3Ideal Cert.Kernel3Ideal.Gen Idealize.ShloMosaic Idealize.ShloMosaic.TcCoe Idealize.SL.Sem
open Cert.Reference3Ideal.Read (val_main_v0 val_main_v1 val_main_v2 val_main_v3 val_main_v4)

variable (m : (ℓ : Loc nD τ sig) → Buf (Elt Ideal) ℓ) (c : Dev nD)

/-- One block's product at an index. -/
theorem block_apply (a : Vec Ideal S1024x4096 .bf16) (w : Vec Ideal S4096x1024 .bf16) (p q : Fin 1024) :
    k0_pay1 (F := Ideal) a w (ix2 p q) = ∑ k : Fin 4096, a (ix2 p k) * w (ix2 k q) := by
  pointwise [k0_pay1]

/-- The reference at an index. -/
theorem ref_apply (h : FVec Ideal S10240x4096 .bf16) (w : FVec Ideal S1x4096x22096 .f32) (r : Fin 10240) (q : Fin 12288) :
    val_main_v4 (F := Ideal) h w (ix2 r q) = ∑ k : Fin 4096, h (ix2 r k) * w (ix3 0 k ⟨q.val, by omega⟩) := by
  pointwise [val_main_v0, val_main_v1, val_main_v2, val_main_v3, val_main_v4]

/-- The windows' block indices. -/
theorem idx : ∀ t : Fin cfg0.N, win0_0.index t = ![t.val / 12, 0] ∧ win0_1.index t = ![0, t.val % 12]
    ∧ win0_2.index t = ![t.val / 12, t.val % 12] :=
  (by decide +kernel : ∀ t : Fin grid0.N, _)

theorem lt_points (t : Fin cfg0.N) : t.val < 120 := t.isLt

theorem final : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨p, q, rfl⟩ : ∃ (p : Fin 1024) (q : Fin 1024), y = ix2 p q := ⟨y 0, y 1, by funext a; fin_cases a <;> rfl⟩
  have ht := lt_points t
  have he : ((cfg0.win 2).blk t).view.emb (ix2 p q)
      = (ix2 ⟨t.val / 12 * 1024 + p.val, by omega⟩ ⟨t.val % 12 * 1024 + q.val, by omega⟩ : S10240x12288.Idx) := by
    blk_ext [idx t]
  rw [he, ref_apply, block_apply]
  refine Fin.sum_fin_congr fun k => ?_
  congr 1
  · blk_ext [iblk, V, idx t]
  · blk_simp [iblk]
    entry_read
    pointwise
    blk_ext [idx t]

theorem algebraic [Cert.Kernel3Ideal.Facts] [Cert.Reference3Ideal.Facts] : Cert.algebraic_Kernel3Ideal_Reference3Ideal := by
  intro m g m' g' _ hagree
  refine ⟨fun c => (dats m 0 c).arrAt 2 cfg0.N, Cert.Kernel3Ideal.Value.run_blocks m g, ?_⟩
  refine (θ_run _ _ _).mono (fun r h c => ?_) (Cert.Reference3Ideal.Value.run m' g')
  obtain ⟨a0, a1⟩ := hagree c
  obtain ⟨h0, kept⟩ := h c
  refine ⟨h0.trans ?_, kept⟩
  rw [a0, a1]
  exact (Cert.Reference3Ideal.Read.val_main_v4_eq ..).trans (final m c).symm

end Cert.InMlstm
-- ==== Proof.InGates.lean ====
/-
  The input projection onto the branch gates' columns: each block of the product is a block of the whole product.
-/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pointwise
public import Idealize.ShloMosaic.Lib.Claim

@[expose] public section

set_option maxRecDepth 16384

noncomputable section

namespace Cert.InGates

open Cert.Kernel4Ideal Cert.Kernel4Ideal.Gen Idealize.ShloMosaic Idealize.ShloMosaic.TcCoe Idealize.SL.Sem
open Cert.Reference4Ideal.Read (val_main_v0 val_main_v1 val_main_v2 val_main_v3 val_main_v4)

variable (m : (ℓ : Loc nD τ sig) → Buf (Elt Ideal) ℓ) (c : Dev nD)

/-- One block's product at an index. -/
theorem block_apply (a : Vec Ideal S1024x4096 .bf16) (w : Vec Ideal S4096x1024 .bf16) (p q : Fin 1024) :
    k0_pay1 (F := Ideal) a w (ix2 p q) = ∑ k : Fin 4096, a (ix2 p k) * w (ix2 k q) := by
  pointwise [k0_pay1]

/-- The reference at an index. -/
theorem ref_apply (h : FVec Ideal S10240x4096 .bf16) (w : FVec Ideal S1x4096x22096 .f32) (r : Fin 10240) (q : Fin 8192) :
    val_main_v4 (F := Ideal) h w (ix2 r q) = ∑ k : Fin 4096, h (ix2 r k) * w (ix3 0 k ⟨13904 + q.val, by omega⟩) := by
  pointwise [val_main_v0, val_main_v1, val_main_v2, val_main_v3, val_main_v4]

/-- The windows' block indices. -/
theorem idx : ∀ t : Fin cfg0.N, win0_0.index t = ![t.val / 8, 0] ∧ win0_1.index t = ![0, t.val % 8]
    ∧ win0_2.index t = ![t.val / 8, t.val % 8] :=
  (by decide +kernel : ∀ t : Fin grid0.N, _)

theorem lt_points (t : Fin cfg0.N) : t.val < 80 := t.isLt

theorem final : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨p, q, rfl⟩ : ∃ (p : Fin 1024) (q : Fin 1024), y = ix2 p q := ⟨y 0, y 1, by funext a; fin_cases a <;> rfl⟩
  have ht := lt_points t
  have he : ((cfg0.win 2).blk t).view.emb (ix2 p q)
      = (ix2 ⟨t.val / 8 * 1024 + p.val, by omega⟩ ⟨t.val % 8 * 1024 + q.val, by omega⟩ : S10240x8192.Idx) := by
    blk_ext [idx t]
  rw [he, ref_apply, block_apply]
  refine Fin.sum_fin_congr fun k => ?_
  congr 1
  · blk_ext [iblk, V, idx t]
  · blk_simp [iblk]
    entry_read
    pointwise
    blk_ext [idx t]

theorem algebraic [Cert.Kernel4Ideal.Facts] [Cert.Reference4Ideal.Facts] : Cert.algebraic_Kernel4Ideal_Reference4Ideal := by
  intro m g m' g' _ hagree
  refine ⟨fun c => (dats m 0 c).arrAt 2 cfg0.N, Cert.Kernel4Ideal.Value.run_blocks m g, ?_⟩
  refine (θ_run _ _ _).mono (fun r h c => ?_) (Cert.Reference4Ideal.Value.run m' g')
  obtain ⟨a0, a1⟩ := hagree c
  obtain ⟨h0, kept⟩ := h c
  refine ⟨h0.trans ?_, kept⟩
  rw [a0, a1]
  exact (Cert.Reference4Ideal.Read.val_main_v4_eq ..).trans (final m c).symm

end Cert.InGates
-- ==== Proof.InSmall.lean ====
/-
  The input projection onto the narrow columns: the latents and the rotary key, then the log gates, then columns of zeros.
-/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

namespace Cert.InSmall

open Cert.Kernel5Ideal Cert.Kernel5Ideal.Gen Idealize.ShloMosaic Idealize.ShloMosaic.TcCoe Idealize.SL.Sem
open Cert.Reference5Ideal.Read

variable (m : (ℓ : Loc nD τ sig) → Buf (Elt Ideal) ℓ) (c : Dev nD)

/-- One block's product at an index. -/
theorem block_apply (a : Vec Ideal S512x4096 .bf16) (w : Vec Ideal S4096x1664 .bf16) (p : Fin 512) (q : Fin 1664) :
    k0_pay1 (F := Ideal) a w (ix2 p q) = ∑ k : Fin 4096, a (ix2 p k) * w (ix2 k q) := by
  pointwise [k0_pay1]

/-- The weight at a narrow column. -/
def weight (w : FVec Ideal S1x4096x22096 .f32) (k : Fin 4096) (q : Fin 1664) : EReal :=
  if h : q.val < 1600 then w (ix3 0 k ⟨12304 + q.val, by omega⟩)
  else if h' : q.val - 1600 < 16 then w (ix3 0 k ⟨12288 + (q.val - 1600), by omega⟩)
  else 0

/-- The reference at an index. -/
theorem ref_apply (h : FVec Ideal S10240x4096 .bf16) (w : FVec Ideal S1x4096x22096 .f32) (r : Fin 10240) (q : Fin 1664) :
    val_main_v8 (F := Ideal) h w (ix2 r q) = ∑ k : Fin 4096, h (ix2 r k) * weight w k q := by
  unfold weight
  pointwise [val_main_v0, val_main_v1, val_main_v2, val_main_v3, val_main_v4, val_main_v5, val_main_v6, val_main_cst,
    val_main_v7, val_main_v8]
  split_ifs <;> first | rfl | simp

/-- The windows' block indices. -/
theorem idx : ∀ t : Fin cfg0.N, win0_0.index t = ![t.val, 0] ∧ win0_1.index t = ![0, 0] ∧ win0_2.index t = ![t.val, 0] :=
  (by decide +kernel : ∀ t : Fin grid0.N, _)

theorem lt_points (t : Fin cfg0.N) : t.val < 20 := t.isLt

theorem weight_apply (t : Fin cfg0.N) (k : Fin 4096) (q : Fin 1664) :
    iblk m c 1 t (ix2 k q) = weight (m ((c : Thread nD τ).loc main_arg1)) k q := by
  unfold weight
  have e : iblk m c 1 t (ix2 k q) = V m c main_v5 (ix2 k q) := by
    blk_simp [iblk]
    refine congrArg _ ?_
    blk_ext [idx t]
  rw [e]
  unfold V
  after_reads_at
  refine dite_congr rfl (fun _ => ?_) fun _ => dite_congr rfl (fun _ => ?_) fun _ => ?_ <;> after_reads_at

theorem final : (dats m 0 c).arrAt 2 cfg0.N
    = val_main_v8 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨p, q, rfl⟩ : ∃ (p : Fin 512) (q : Fin 1664), y = ix2 p q := ⟨y 0, y 1, by funext a; fin_cases a <;> rfl⟩
  have ht := lt_points t
  have he : ((cfg0.win 2).blk t).view.emb (ix2 p q) = (ix2 ⟨t.val * 512 + p.val, by omega⟩ q : S10240x1664.Idx) := by
    blk_ext [idx t]
  rw [he, ref_apply, block_apply]
  refine Fin.sum_fin_congr fun k => congrArg₂ _ ?_ (weight_apply m c t k q)
  blk_ext [iblk, V, idx t]

theorem algebraic [Cert.Kernel5Ideal.Facts] [Cert.Reference5Ideal.Facts] : Cert.algebraic_Kernel5Ideal_Reference5Ideal := by
  intro m g m' g' _ hagree
  refine ⟨fun c => (dats m 0 c).arrAt 2 cfg0.N, Cert.Kernel5Ideal.Value.run_blocks m g, ?_⟩
  refine (θ_run _ _ _).mono (fun r h c => ?_) (Cert.Reference5Ideal.Value.run m' g')
  obtain ⟨a0, a1⟩ := hagree c
  obtain ⟨h0, kept⟩ := h c
  refine ⟨h0.trans ?_, kept⟩
  rw [a0, a1]
  exact (Cert.Reference5Ideal.Read.val_main_v8_eq ..).trans (final m c).symm

end Cert.InSmall
-- ==== Proof.BranchM.lean ====
/-
  The mLSTM branch's output product. Its rows come from two arrays: the first 64 grid points take theirs from the prompt
  streams' rows, the others from the sample streams'.
-/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pointwise
public import Idealize.ShloMosaic.Lib.Claim

@[expose] public section

set_option maxRecDepth 16384

noncomputable section

namespace Cert.BranchM

open Cert.Kernel6Ideal Cert.Kernel6Ideal.Gen Idealize.ShloMosaic Idealize.ShloMosaic.TcCoe Idealize.SL.Sem
open Cert.Reference6Ideal.Read (val_main_v0 val_main_v1 val_main_v2 val_main_v3)

variable (m : (ℓ : Loc nD τ sig) → Buf (Elt Ideal) ℓ) (c : Dev nD)

/-- One block's product at an index; the two cases of the body compute the same. -/
theorem block_apply (a : Vec Ideal S512x4096 .bf16) (w : Vec Ideal S4096x1024 .bf16) (p : Fin 512) (q : Fin 1024) :
    k0_pay1 (F := Ideal) a w (ix2 p q) = ∑ k : Fin 4096, a (ix2 p k) * w (ix2 k q) := by
  pointwise [k0_pay1]
theorem cases_eq (a : Vec Ideal S512x4096 .bf16) (w : Vec Ideal S4096x1024 .bf16) :
    k0_pay2 (F := Ideal) a w = k0_pay1 a w := rfl

/-- The reference at a row of the prompt streams, and at one of the sample streams. -/
theorem ref_prompt (a : FVec Ideal S8192x4096 .bf16) (b : FVec Ideal S2048x4096 .bf16) (w : FVec Ideal S1x4096x4096 .f32)
    (r : Fin 10240) (q : Fin 4096) (h : r.val < 8192) :
    val_main_v3 (F := Ideal) a b w (ix2 r q) = ∑ k : Fin 4096, a (ix2 ⟨r.val, h⟩ k) * w (ix3 0 k q) := by
  pointwise [val_main_v0, val_main_v1, val_main_v2, val_main_v3]
  simp only [h, ↓reduceDIte]
theorem ref_sample (a : FVec Ideal S8192x4096 .bf16) (b : FVec Ideal S2048x4096 .bf16) (w : FVec Ideal S1x4096x4096 .f32)
    (r : Fin 10240) (q : Fin 4096) (h : ¬ r.val < 8192) :
    val_main_v3 (F := Ideal) a b w (ix2 r q) = ∑ k : Fin 4096, b (ix2 ⟨r.val - 8192, by omega⟩ k) * w (ix3 0 k q) := by
  pointwise [val_main_v0, val_main_v1, val_main_v2, val_main_v3]
  simp only [h, ↓reduceDIte]

/-- The windows' block indices. -/
theorem idx : ∀ t : Fin cfg0.N, win0_0.index t = ![min (t.val / 4) 15, 0] ∧ win0_1.index t = ![t.val / 4 - 16, 0]
    ∧ win0_2.index t = ![0, t.val % 4] ∧ win0_3.index t = ![t.val / 4, t.val % 4] :=
  (by decide +kernel : ∀ t : Fin grid0.N, _)

theorem lt_points (t : Fin cfg0.N) : t.val < 80 := t.isLt

theorem weight_apply (t : Fin cfg0.N) (k : Fin 4096) (q : Fin 1024) :
    iblk m c 2 t (ix2 k q) = (m ((c : Thread nD τ).loc main_arg2)) (ix3 0 k ⟨t.val % 4 * 1024 + q.val, by omega⟩) := by
  blk_simp [iblk]
  entry_read
  pointwise
  blk_ext [idx t]

theorem final : (dats m 0 c).arrAt 3 cfg0.N = val_main_v3 (F := Ideal) (m ((c : Thread nD τ).loc main_arg0))
    (m ((c : Thread nD τ).loc main_arg1)) (m ((c : Thread nD τ).loc main_arg2)) := by
  refine (dats m 0 c).arrAt_eq_of_covers 3 _ (by decide +kernel) fun t _ y => ?_
  blk_simp
  rw [after0_3]
  obtain ⟨p, q, rfl⟩ : ∃ (p : Fin 512) (q : Fin 1024), y = ix2 p q := ⟨y 0, y 1, by funext a; fin_cases a <;> rfl⟩
  have ht := lt_points t
  have he : ((cfg0.win 3).blk t).view.emb (ix2 p q)
      = (ix2 ⟨t.val / 4 * 512 + p.val, by omega⟩ ⟨t.val % 4 * 1024 + q.val, by omega⟩ : S10240x4096.Idx) := by
    blk_ext [idx t]
  rw [he]
  by_cases h : t.val < 64
  · rw [outsAt0_A m c t h (by omega), ref_prompt (h := by show t.val / 4 * 512 + p.val < 8192; omega)]
    frame_out
    rw [block_apply]
    refine Fin.sum_fin_congr fun k => ?_
    refine congrArg₂ _ ?_ (weight_apply m c t k q)
    blk_ext [iblk, V, idx t]
  · rw [outsAt0_B m c t h (by omega), ref_sample (h := by show ¬ t.val / 4 * 512 + p.val < 8192; omega)]
    frame_out
    rw [cases_eq, block_apply]
    refine Fin.sum_fin_congr fun k => ?_
    refine congrArg₂ _ ?_ (weight_apply m c t k q)
    blk_ext [iblk, V, idx t]

theorem algebraic [Cert.Kernel6Ideal.Facts] [Cert.Reference6Ideal.Facts] : Cert.algebraic_Kernel6Ideal_Reference6Ideal := by
  intro m g m' g' _ hagree
  refine ⟨fun c => (dats m 0 c).arrAt 3 cfg0.N, Cert.Kernel6Ideal.Value.run_blocks m g, ?_⟩
  refine (θ_run _ _ _).mono (fun r h c => ?_) (Cert.Reference6Ideal.Value.run m' g')
  obtain ⟨a0, a1, a2⟩ := hagree c
  obtain ⟨h0, kept⟩ := h c
  refine ⟨h0.trans ?_, kept⟩
  rw [a0, a1, a2]
  exact (Cert.Reference6Ideal.Read.val_main_v3_eq ..).trans (final m c).symm

end Cert.BranchM
-- ==== Proof.BranchA.lean ====
/-
  The attention branch's output product, merged with the mLSTM branch under the two gates. Its rows come from two arrays:
  the first 64 grid points take theirs from the prompt streams' rows, the others from the sample streams'.
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pointwise
public import Idealize.ShloMosaic.Lib.Claim

@[expose] public section

set_option maxRecDepth 16384

noncomputable section

namespace Cert.BranchA

open Cert.Kernel7Ideal Cert.Kernel7Ideal.Gen Idealize.ShloMosaic Idealize.ShloMosaic.TcCoe Idealize.SL.Sem
open Cert.Reference7Ideal.Read

variable (m : (ℓ : Loc nD τ sig) → Buf (Elt Ideal) ℓ) (c : Dev nD)

/-- The merge of one element: the two branches under their gates. -/
def merge (za ya zb yb : EReal) : EReal := Ideal.logistic za * ya + Ideal.logistic zb * yb

/-- One block at an index; the two cases of the body compute the same. -/
theorem block_apply (a : Vec Ideal S512x4096 .bf16) (w : Vec Ideal S4096x1024 .bf16) (ya : Vec Ideal S512x1024 .f32)
    (za zb : Vec Ideal S512x1024 .bf16) (p : Fin 512) (q : Fin 1024) :
    k0_pay1 (F := Ideal) a w ya za zb (ix2 p q)
      = merge (za (ix2 p q)) (ya (ix2 p q)) (zb (ix2 p q)) (∑ k : Fin 4096, a (ix2 p k) * w (ix2 k q)) := by
  unfold merge
  pointwise [k0_pay1]
theorem cases_eq (a : Vec Ideal S512x4096 .bf16) (w : Vec Ideal S4096x1024 .bf16) (ya : Vec Ideal S512x1024 .f32)
    (za zb : Vec Ideal S512x1024 .bf16) : k0_pay2 (F := Ideal) a w ya za zb = k0_pay1 a w ya za zb := rfl

/-- The branch product of the reference at a row of the prompt streams, and at one of the sample streams. -/
theorem prod_prompt (a : FVec Ideal S8192x4096 .bf16) (b : FVec Ideal S2048x4096 .bf16) (w : FVec Ideal S1x4096x4096 .f32)
    (r : Fin 10240) (q : Fin 4096) (h : r.val < 8192) :
    val_main_v3 (F := Ideal) a b w (ix2 r q) = ∑ k : Fin 4096, a (ix2 ⟨r.val, h⟩ k) * w (ix3 0 k q) := by
  pointwise [val_main_v0, val_main_v1, val_main_v2, val_main_v3]
  simp only [h, ↓reduceDIte]
theorem prod_sample (a : FVec Ideal S8192x4096 .bf16) (b : FVec Ideal S2048x4096 .bf16) (w : FVec Ideal S1x4096x4096 .f32)
    (r : Fin 10240) (q : Fin 4096) (h : ¬ r.val < 8192) :
    val_main_v3 (F := Ideal) a b w (ix2 r q) = ∑ k : Fin 4096, b (ix2 ⟨r.val - 8192, by omega⟩ k) * w (ix3 0 k q) := by
  pointwise [val_main_v0, val_main_v1, val_main_v2, val_main_v3]
  simp only [h, ↓reduceDIte]

/-- The reference at an index, of its branch product there. -/
theorem ref_apply (a : FVec Ideal S8192x4096 .bf16) (b : FVec Ideal S2048x4096 .bf16) (w : FVec Ideal S1x4096x4096 .f32)
    (ya : FVec Ideal S10240x4096 .f32) (z : FVec Ideal S10240x8192 .bf16) (r : Fin 10240) (q : Fin 4096) :
    val_main_v23 (F := Ideal) a b w ya z (ix2 r q) = merge (z (ix2 r ⟨q.val, by omega⟩)) (ya (ix2 r q))
      (z (ix2 r ⟨4096 + q.val, by omega⟩)) (val_main_v3 (F := Ideal) a b w (ix2 r q)) := by
  unfold merge
  pointwise [val_main_v4, val_main_v5, val_main_v6, val_main_v7, val_main_v8, val_main_v9, val_main_cst, val_main_v10,
    val_main_v11, val_main_cst_0, val_main_v12, val_main_v13, val_main_v14, val_main_v15, val_main_v16, val_main_cst_1,
    val_main_v17, val_main_v18, val_main_cst_2, val_main_v19, val_main_v20, val_main_v21, val_main_v22, val_main_v23]
  rfl

/-- The windows' block indices. -/
theorem idx : ∀ t : Fin cfg0.N, win0_0.index t = ![min (t.val / 4) 15, 0] ∧ win0_1.index t = ![t.val / 4 - 16, 0]
    ∧ win0_2.index t = ![0, t.val % 4] ∧ win0_3.index t = ![t.val / 4, t.val % 4] ∧ win0_4.index t = ![t.val / 4, t.val % 4]
    ∧ win0_5.index t = ![t.val / 4, 4 + t.val % 4] ∧ win0_6.index t = ![t.val / 4, t.val % 4] :=
  (by decide +kernel : ∀ t : Fin grid0.N, _)

theorem lt_points (t : Fin cfg0.N) : t.val < 80 := t.isLt

theorem weight_apply (t : Fin cfg0.N) (k : Fin 4096) (q : Fin 1024) :
    iblk m c 2 t (ix2 k q) = (m ((c : Thread nD τ).loc main_arg2)) (ix3 0 k ⟨t.val % 4 * 1024 + q.val, by omega⟩) := by
  blk_simp [iblk]
  entry_read
  pointwise
  blk_ext [idx t]

/-- A block whose product is the reference's leaves the reference's merge. -/
theorem merge_eq (t : Fin cfg0.N) (p : Fin 512) (q : Fin 1024) (ht : t.val < 80) (s s' : EReal) (hs : s = s') :
    merge (iblk m c 4 t (ix2 p q)) (iblk m c 3 t (ix2 p q)) (iblk m c 5 t (ix2 p q)) s
      = merge ((m ((c : Thread nD τ).loc main_arg4)) (ix2 ⟨t.val / 4 * 512 + p.val, by omega⟩ ⟨t.val % 4 * 1024 + q.val, by omega⟩))
          ((m ((c : Thread nD τ).loc main_arg3)) (ix2 ⟨t.val / 4 * 512 + p.val, by omega⟩ ⟨t.val % 4 * 1024 + q.val, by omega⟩))
          ((m ((c : Thread nD τ).loc main_arg4)) (ix2 ⟨t.val / 4 * 512 + p.val, by omega⟩ ⟨4096 + (t.val % 4 * 1024 + q.val), by omega⟩)) s' := by
  subst hs
  have e4 : iblk m c 4 t (ix2 p q) = (m ((c : Thread nD τ).loc main_arg4)) (ix2 ⟨t.val / 4 * 512 + p.val, by omega⟩ ⟨t.val % 4 * 1024 + q.val, by omega⟩) := by
    blk_ext [iblk, V, idx t]
  have e3 : iblk m c 3 t (ix2 p q) = (m ((c : Thread nD τ).loc main_arg3)) (ix2 ⟨t.val / 4 * 512 + p.val, by omega⟩ ⟨t.val % 4 * 1024 + q.val, by omega⟩) := by
    blk_ext [iblk, V, idx t]
  have e5 : iblk m c 5 t (ix2 p q) = (m ((c : Thread nD τ).loc main_arg4)) (ix2 ⟨t.val / 4 * 512 + p.val, by omega⟩ ⟨4096 + (t.val % 4 * 1024 + q.val), by omega⟩) := by
    blk_ext [iblk, V, idx t]
  rw [e3, e4, e5]

theorem final : (dats m 0 c).arrAt 6 cfg0.N = val_main_v23 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 6 _ (by decide +kernel) fun t _ y => ?_
  blk_simp
  rw [after0_6]
  obtain ⟨p, q, rfl⟩ : ∃ (p : Fin 512) (q : Fin 1024), y = ix2 p q := ⟨y 0, y 1, by funext a; fin_cases a <;> rfl⟩
  have ht := lt_points t
  have he : ((cfg0.win 6).blk t).view.emb (ix2 p q)
      = (ix2 ⟨t.val / 4 * 512 + p.val, by omega⟩ ⟨t.val % 4 * 1024 + q.val, by omega⟩ : S10240x4096.Idx) := by
    blk_ext [idx t]
  rw [he, ref_apply]
  by_cases h : t.val < 64
  · rw [outsAt0_A m c t h (by omega), prod_prompt (h := by show t.val / 4 * 512 + p.val < 8192; omega)]
    frame_out
    rw [block_apply]
    refine merge_eq m c t p q ht _ _ (Fin.sum_fin_congr fun k => ?_)
    refine congrArg₂ _ ?_ (weight_apply m c t k q)
    blk_ext [iblk, V, idx t]
  · rw [outsAt0_B m c t h (by omega), prod_sample (h := by show ¬ t.val / 4 * 512 + p.val < 8192; omega)]
    frame_out
    rw [cases_eq, block_apply]
    refine merge_eq m c t p q ht _ _ (Fin.sum_fin_congr fun k => ?_)
    refine congrArg₂ _ ?_ (weight_apply m c t k q)
    blk_ext [iblk, V, idx t]

theorem algebraic [Cert.Kernel7Ideal.Facts] [Cert.Reference7Ideal.Facts] : Cert.algebraic_Kernel7Ideal_Reference7Ideal := by
  intro m g m' g' _ hagree
  refine ⟨fun c => (dats m 0 c).arrAt 6 cfg0.N, Cert.Kernel7Ideal.Value.run_blocks m g, ?_⟩
  refine (θ_run _ _ _).mono (fun r h c => ?_) (Cert.Reference7Ideal.Value.run m' g')
  obtain ⟨a0, a1, a2, a3, a4⟩ := hagree c
  obtain ⟨h0, kept⟩ := h c
  refine ⟨h0.trans ?_, kept⟩
  rw [a0, a1, a2, a3, a4]
  exact (Cert.Reference7Ideal.Read.val_main_v23_eq ..).trans (final m c).symm

end Cert.BranchA
-- ==== Proof.Out.lean ====
/-
  The output projection under its gate: every 64 rows share one gate vector.
-/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.Claim

@[expose] public section

set_option maxRecDepth 16384

noncomputable section

namespace Cert.Out

open Cert.Kernel8Ideal Cert.Kernel8Ideal.Gen Idealize.ShloMosaic Idealize.ShloMosaic.TcCoe Idealize.SL.Sem
open Cert.Reference8Ideal.Read (val_main_v0 val_main_v1 val_main_v2 val_main_v3 val_main_v4 val_main_v5 val_main_v6 val_main_v7)

variable (m : (ℓ : Loc nD τ sig) → Buf (Elt Ideal) ℓ) (c : Dev nD)

/-- One block at an index: the gate of the row's chunk times the product. -/
theorem block_apply (a : Vec Ideal S512x4096 .bf16) (w : Vec Ideal S4096x1024 .bf16) (g : Vec Ideal S8x1x1024 .f32)
    (p : Fin 512) (q : Fin 1024) :
    k0_pay1 (F := Ideal) a w g (ix2 p q) = g (ix3 ⟨p.val / 64, by omega⟩ 0 q) * ∑ k : Fin 4096, a (ix2 p k) * w (ix2 k q) := by
  pointwise [k0_pay1]
  blk_ext

/-- The reference at an index. -/
theorem ref_apply (a : FVec Ideal S10240x4096 .bf16) (w : FVec Ideal S1x4096x4096 .f32) (g : FVec Ideal S160x1x24576 .f32)
    (r : Fin 10240) (q : Fin 4096) :
    val_main_v7 (F := Ideal) a w g (ix2 r q)
      = g (ix3 ⟨r.val / 64, by omega⟩ 0 ⟨8192 + q.val, by omega⟩) * ∑ k : Fin 4096, a (ix2 r k) * w (ix3 0 k q) := by
  pointwise [val_main_v0, val_main_v1, val_main_v2, val_main_v3, val_main_v4, val_main_v5, val_main_v6, val_main_v7]
  blk_ext

/-- The windows' block indices. -/
theorem idx : ∀ t : Fin cfg0.N, win0_0.index t = ![t.val / 4, 0] ∧ win0_1.index t = ![0, t.val % 4]
    ∧ win0_2.index t = ![t.val / 4, 0, 8 + t.val % 4] ∧ win0_3.index t = ![t.val / 4, t.val % 4] :=
  (by decide +kernel : ∀ t : Fin grid0.N, _)

theorem lt_points (t : Fin cfg0.N) : t.val < 80 := t.isLt

theorem final : (dats m 0 c).arrAt 3 cfg0.N = val_main_v7 (F := Ideal) (m ((c : Thread nD τ).loc main_arg0))
    (m ((c : Thread nD τ).loc main_arg1)) (m ((c : Thread nD τ).loc main_arg2)) := by
  refine (dats m 0 c).arrAt_eq_of_covers 3 _ (by decide +kernel) fun t _ y => ?_
  blk_simp
  rw [after0_3]
  frame_out
  obtain ⟨p, q, rfl⟩ : ∃ (p : Fin 512) (q : Fin 1024), y = ix2 p q := ⟨y 0, y 1, by funext a; fin_cases a <;> rfl⟩
  have ht := lt_points t
  have he : ((cfg0.win 3).blk t).view.emb (ix2 p q)
      = (ix2 ⟨t.val / 4 * 512 + p.val, by omega⟩ ⟨t.val % 4 * 1024 + q.val, by omega⟩ : S10240x4096.Idx) := by
    blk_ext [idx t]
  rw [he, ref_apply, block_apply]
  refine congrArg₂ _ ?_ (Fin.sum_fin_congr fun k => congrArg₂ _ ?_ ?_)
  · blk_ext [iblk, V, idx t]
  · blk_ext [iblk, V, idx t]
  · blk_simp [iblk]
    entry_read
    pointwise
    blk_ext [idx t]

theorem algebraic [Cert.Kernel8Ideal.Facts] [Cert.Reference8Ideal.Facts] : Cert.algebraic_Kernel8Ideal_Reference8Ideal := by
  intro m g m' g' _ hagree
  refine ⟨fun c => (dats m 0 c).arrAt 3 cfg0.N, Cert.Kernel8Ideal.Value.run_blocks m g, ?_⟩
  refine (θ_run _ _ _).mono (fun r h c => ?_) (Cert.Reference8Ideal.Value.run m' g')
  obtain ⟨a0, a1, a2⟩ := hagree c
  obtain ⟨h0, kept⟩ := h c
  refine ⟨h0.trans ?_, kept⟩
  rw [a0, a1, a2]
  exact (Cert.Reference8Ideal.Read.val_main_v7_eq ..).trans (final m c).symm

end Cert.Out
-- ==== Proof.PeerQ.lean ====
/-
  The query product of the PEER layer: each block of the product is a block of the whole product.
-/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pointwise
public import Idealize.ShloMosaic.Lib.Claim

@[expose] public section

set_option maxRecDepth 16384

noncomputable section

namespace Cert.PeerQ

open Cert.Kernel9Ideal Cert.Kernel9Ideal.Gen Idealize.ShloMosaic Idealize.ShloMosaic.TcCoe Idealize.SL.Sem
open Cert.Reference9Ideal.Read (val_main_v0 val_main_v1 val_main_v2 val_main_v3)

variable (m : (ℓ : Loc nD τ sig) → Buf (Elt Ideal) ℓ) (c : Dev nD)

/-- One block's product at an index. -/
theorem block_apply (a : Vec Ideal S1024x4096 .bf16) (w : Vec Ideal S4096x1024 .bf16) (p q : Fin 1024) :
    k0_pay1 (F := Ideal) a w (ix2 p q) = ∑ k : Fin 4096, a (ix2 p k) * w (ix2 k q) := by
  pointwise [k0_pay1]

/-- The reference at an index. -/
theorem ref_apply (h : FVec Ideal S10240x4096 .bf16) (w : FVec Ideal S1x4096x2048 .f32) (r : Fin 10240) (q : Fin 2048) :
    val_main_v3 (F := Ideal) h w (ix2 r q) = ∑ k : Fin 4096, h (ix2 r k) * w (ix3 0 k q) := by
  pointwise [val_main_v0, val_main_v1, val_main_v2, val_main_v3]

/-- The windows' block indices. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

theorem lt_points (t : Fin cfg0.N) : t.val < 20 := t.isLt

theorem final : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨p, q, rfl⟩ : ∃ (p : Fin 1024) (q : Fin 1024), y = ix2 p q := ⟨y 0, y 1, by funext a; fin_cases a <;> rfl⟩
  have ht := lt_points t
  have he : ((cfg0.win 2).blk t).view.emb (ix2 p q)
      = (ix2 ⟨t.val / 2 * 1024 + p.val, by omega⟩ ⟨t.val % 2 * 1024 + q.val, by omega⟩ : S10240x2048.Idx) := by
    blk_ext [idx t]
  rw [he, ref_apply, block_apply]
  refine Fin.sum_fin_congr fun k => ?_
  congr 1
  · blk_ext [iblk, V, idx t]
  · blk_simp [iblk]
    entry_read
    pointwise
    blk_ext [idx t]

theorem algebraic [Cert.Kernel9Ideal.Facts] [Cert.Reference9Ideal.Facts] : Cert.algebraic_Kernel9Ideal_Reference9Ideal := by
  intro m g m' g' _ hagree
  refine ⟨fun c => (dats m 0 c).arrAt 2 cfg0.N, Cert.Kernel9Ideal.Value.run_blocks m g, ?_⟩
  refine (θ_run _ _ _).mono (fun r h c => ?_) (Cert.Reference9Ideal.Value.run m' g')
  obtain ⟨a0, a1⟩ := hagree c
  obtain ⟨h0, kept⟩ := h c
  refine ⟨h0.trans ?_, kept⟩
  rw [a0, a1]
  exact (Cert.Reference9Ideal.Read.val_main_v3_eq ..).trans (final m c).symm

end Cert.PeerQ
-- ==== Proof.Rope.lean ====
/-
  The rotary embedding of 64 columns at a row of the packed streams, and the log gate: the forms that the kernels compute,
  met with those of the references.
-/
module

public import Idealize.ShloMosaic.Lib.Pointwise
public import Idealize.ShloMosaic.Lib.Claim

@[expose] public section

noncomputable section

namespace Cert.Rope

open Idealize.ShloMosaic

/-- The position of a row: along its prompt stream, or after the past of its sample stream. -/
def pos (r : ℕ) : BitVec 32 :=
  if r < 8192 then BitVec.ofNat 32 (r % 2048) else 1024#32 + BitVec.ofNat 32 ((r - 8192) % 64)

/-- The angle at a row and a frequency. -/
def ang (r j : ℕ) : EReal :=
  FloatOps.sitofp (F := Ideal) .f32 (pos r) * Ideal.pow (Ideal.ofBits .f32 1176256512#32)
    (Ideal.div (-FloatOps.sitofp (F := Ideal) .f32 (BitVec.ofNat 32 j)) (Ideal.ofBits .f32 1107296256#32))

/-- Columns 0 to 31 paired with columns 32 to 63, each pair turned by its angle. -/
def roped (x : Fin 64 → EReal) (r : ℕ) (q : Fin 64) : EReal :=
  if h : q.val < 32 then
    x ⟨q.val, by omega⟩ * Ideal.cos (ang r q.val) - x ⟨32 + q.val, by omega⟩ * Ideal.sin (ang r q.val)
  else
    x ⟨32 + (q.val - 32), by omega⟩ * Ideal.cos (ang r (q.val - 32)) + x ⟨q.val - 32, by omega⟩ * Ideal.sin (ang r (q.val - 32))

/-- The tables of the kernel: the cosines twice, and the sines with their signs. -/
def cosT (r j : ℕ) : EReal := if j < 32 then Ideal.cos (ang r j) else Ideal.cos (ang r (j - 32))
def sinT (r j : ℕ) : EReal := if j < 32 then -Ideal.sin (ang r j) else Ideal.sin (ang r (j - 32))

/-- The kernel's form: the columns times the cosines, plus the swapped halves times the signed sines. -/
theorem roped_eq (x : Fin 64 → EReal) (r : ℕ) (q : Fin 64) :
    x q * cosT r q.val + (if h : q.val < 32 then x ⟨32 + q.val, by omega⟩ else x ⟨q.val - 32, by omega⟩) * sinT r q.val
      = roped x r q := by
  unfold roped cosT sinT
  by_cases h : q.val < 32
  · simp only [h, ↓reduceDIte, ↓reduceIte, mul_neg, sub_eq_add_neg]
  · have e : (⟨32 + (q.val - 32), by omega⟩ : Fin 64) = q := Fin.ext (by change 32 + (q.val - 32) = q.val; omega)
    simp only [h, ↓reduceDIte, ↓reduceIte, e]

/-- The logarithm of the sigmoid, as the reference spells it. -/
def logSig (u : EReal) : EReal :=
  -(max (-u) 0 + Ideal.log1p (Ideal.exp (-FloatOps.absf (F := Ideal) (φ := .f32) (-u))))

theorem log1p_exp_ne_bot (y : EReal) : Ideal.log1p (Ideal.exp y) ≠ ⊥ := by
  unfold Ideal.log1p
  induction y using EReal.rec with
  | bot =>
    have : (1 : EReal) + Ideal.exp ⊥ = ((1 : ℝ) : EReal) := by simp
    rw [this, Ideal.log_coe, if_neg (by norm_num)]
    exact EReal.coe_ne_bot _
  | top =>
    have : (1 : EReal) + Ideal.exp ⊤ = ⊤ := rfl
    rw [this]
    exact top_ne_bot
  | coe r =>
    have : (1 : EReal) + Ideal.exp (r : EReal) = ((1 + Real.exp r : ℝ) : EReal) := by
      rw [EReal.coe_add]
      rfl
    rw [this, Ideal.log_coe, if_neg (by have := Real.exp_pos r; linarith)]
    exact EReal.coe_ne_bot _

theorem neg_max (u : EReal) : -max (-u) 0 = min u 0 := by
  rcases le_total u 0 with h | h
  · rw [max_eq_left (EReal.neg_nonneg.mpr h), neg_neg, min_eq_left h]
  · rw [max_eq_right (by simpa using EReal.neg_le_neg_iff.mpr h), neg_zero, min_eq_right h]

/-- The kernel's form of it. -/
theorem logSig_eq (u : EReal) :
    min u 0 - Ideal.log1p (Ideal.exp (0 - FloatOps.absf (F := Ideal) (φ := .f32) u)) = logSig u := by
  have ha : FloatOps.absf (F := Ideal) (φ := .f32) (-u) = FloatOps.absf (F := Ideal) (φ := .f32) u := by
    change max (-u) (- -u) = max u (-u)
    rw [neg_neg, max_comm]
  have h0 : max (-u) 0 ≠ ⊥ := fun h => absurd (h ▸ le_max_right (-u) 0 : (0 : EReal) ≤ ⊥) (by simp)
  unfold logSig
  rw [ha, EReal.neg_add (Or.inl h0) (Or.inr (log1p_exp_ne_bot _)), neg_max, zero_sub]

end Cert.Rope
-- ==== Proof.QUp.lean ====
/-
  The query heads' product: each head's columns of the up-projection, the last 64 of them turned by the rotary embedding. A
  grid point computes four heads, one after the other, for 1024 rows.
-/
module

public import proofs.«01_k».proof.Defs
public import proofs.«01_k».proof.Proof.Rope
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

namespace Cert.QUp

open Cert.Kernel10Ideal Cert.Kernel10Ideal.Gen Idealize.ShloMosaic Idealize.ShloMosaic.TcCoe Idealize.SL.Sem
open Cert.Reference10Ideal.Read
open Cert.Rope

variable (m : (ℓ : Loc nD τ sig) → Buf (Elt Ideal) ℓ) (c : Dev nD)

/-- The reference's positions and angles. -/
theorem pos_apply (r : Fin 10240) : val_main_v15 (F := Ideal) (ix1 r) = pos r.val := by
  unfold pos
  by_cases h : r.val < 8192
  · pointwise [val_main_v5, val_main_v6, val_main_v7, val_main_v8, val_main_v15]
    simp only [h, ↓reduceDIte, ↓reduceIte]
  · have e : val_main_v15 (F := Ideal) (ix1 r) = val_main_v14 (F := Ideal) (ix1 ⟨r.val - 8192, by omega⟩) := by
      pointwise [val_main_v15]
      simp only [h, ↓reduceDIte]
    rw [e]
    have e' : ∀ i : Fin 2048, val_main_v14 (F := Ideal) (ix1 i) = val_main_v11 (F := Ideal) (ix1 ⟨i.val % 64, by omega⟩) := fun i => by
      pointwise [val_main_v12, val_main_v13, val_main_v14]
    rw [e', if_neg h]
    rfl
theorem ang_apply (r : Fin 10240) (j : Fin 32) : val_main_v27 (F := Ideal) (ix2 r j) = ang r.val j.val := by
  unfold ang
  pointwise [
    val_main_v16, val_main_v17, val_main_cst, val_main_v18, val_main_v19, val_main_cst_0, val_main_v20, val_main_v21,
    val_main_v22, val_main_v23, val_main_v24, val_main_v25, val_main_v26, val_main_v27]
  rw [pos_apply]

/-- The kernel's tables at its region's entry: the reference's angles, through the cosine and the sine. -/
def cosTab : FVec Ideal S10240x64 .f32 := concatenate S10240x64 1 [⟨S10240x32, Host.cos (val_main_v27 (F := Ideal))⟩,
  ⟨S10240x32, Host.cos (val_main_v27 (F := Ideal))⟩] concatenates_S10240x32_S10240x32_S10240x64_d1
def sinTab : FVec Ideal S10240x64 .f32 := concatenate S10240x64 1 [⟨S10240x32, Host.negf (Host.sin (val_main_v27 (F := Ideal)))⟩,
  ⟨S10240x32, Host.sin (val_main_v27 (F := Ideal))⟩] concatenates_S10240x32_S10240x32_S10240x64_d1
theorem cos_read : V m c main_v25 = cosTab := by
  unfold V
  after_reads_simp
  rfl
theorem sin_read : V m c main_v27 = sinTab := by
  unfold V
  after_reads_simp
  rfl
theorem cos_apply (r : Fin 10240) (j : Fin 64) : V m c main_v25 (ix2 r j) = cosT r.val j.val := by
  rw [cos_read]
  unfold cosT
  pointwise [cosTab]
  simp only [ang_apply]
  split <;> rfl
theorem sin_apply (r : Fin 10240) (j : Fin 64) : V m c main_v27 (ix2 r j) = sinT r.val j.val := by
  rw [sin_read]
  unfold sinT
  pointwise [sinTab]
  simp only [ang_apply]
  split <;> rfl

/-- A head's column: of the product, or of its last 64 columns turned. -/
def headAt (x : Fin 1024 → EReal) (w : Fin 1024 → Fin 192 → EReal) (r : ℕ) (q : Fin 192) : EReal :=
  if h : q.val < 128 then ∑ k, x k * w k q
  else roped (fun j => ∑ k, x k * w k ⟨128 + j.val, by omega⟩) r ⟨q.val - 128, by omega⟩

/-- The reference at an index. -/
theorem ref_apply (x : FVec Ideal S10240x1024 .bf16) (w : FVec Ideal S1x1024x32x192 .f32) (h : Fin 32) (r : Fin 10240) (q : Fin 192) :
    val_main_v47 (F := Ideal) x w (ix3 h r q) = headAt (fun k => x (ix2 r k)) (fun k j => w (ix4 0 k h j)) r.val q := by
  pointwise [
    val_main_v0, val_main_v1, val_main_v2, val_main_v3, val_main_v4, val_main_v28, val_main_v29, val_main_v30,
    val_main_v31, val_main_v32, val_main_v33, val_main_v34, val_main_v35, val_main_v36, val_main_v37, val_main_v38,
    val_main_v39, val_main_v40, val_main_v41, val_main_v42, val_main_v43, val_main_v44, val_main_v45, val_main_v46,
    val_main_v47]
  simp only [ang_apply]
  rfl

/-- One head of a block at an index, where the tables' block holds the row's. -/
theorem head_apply (co si : Vec Ideal S1024x64 .f32) (x : Vec Ideal S1024x1024 .bf16) (w : Vec Ideal S1x1024x192 .bf16)
    (p : Fin 1024) (q : Fin 192) (r : ℕ) (hc : ∀ j : Fin 64, co (ix2 p j) = cosT r j.val) (hs : ∀ j : Fin 64, si (ix2 p j) = sinT r j.val) :
    k0_pay5 (F := Ideal) co si x w (ix3 0 p q) = headAt (fun k => x (ix2 p k)) (fun k j => w (ix3 0 k j)) r q := by
  pointwise [k0_pay5, k0_pay3, k0_pay4]
  simp only [hc, hs]
  unfold headAt
  split
  · rfl
  · exact roped_eq (fun j => ∑ k, x (ix2 p k) * w (ix3 0 k ⟨128 + j.val, by omega⟩)) r ⟨q.val - 128, by omega⟩

/-- A store of one head is found at that head, and passed over at another. -/
theorem canon_hit (n : ℕ) (hn : n < 4) (inb : ∀ x, (![n, 0, 0] : Fin 3 → ℕ) x + S1x1024x192.size x ≤ S4x1024x192.size x)
    (w : Vec Ideal S1x1024x192 .bf16) (L : List (View.Piece (Elt Ideal) S4x1024x192 .bf16)) (p : Fin 1024) (q : Fin 192) :
    View.canon (⟨Rect.unit (s := S4x1024x192) ![n, 0, 0] S1x1024x192.size inb, w⟩ :: L) (ix3 ⟨n, hn⟩ p q) = w (ix3 0 p q) := by
  have hy : (Rect.unit (s := S4x1024x192) ![n, 0, 0] S1x1024x192.size inb).emb (ix3 0 p q) = ix3 ⟨n, hn⟩ p q := by
    funext x
    apply Fin.ext
    fin_cases x
    · change n + 1 * 0 = n
      omega
    · change 0 + 1 * p.val = p.val
      omega
    · change 0 + 1 * q.val = q.val
      omega
  rw [← hy]
  exact View.canon_cons_emb _ _ _ _
theorem canon_miss (n : ℕ) (inb : ∀ x, (![n, 0, 0] : Fin 3 → ℕ) x + S1x1024x192.size x ≤ S4x1024x192.size x)
    (w : Vec Ideal S1x1024x192 .bf16) (L : List (View.Piece (Elt Ideal) S4x1024x192 .bf16)) (a : Fin 4) (p : Fin 1024) (q : Fin 192)
    (h : a.val ≠ n) : View.canon (⟨Rect.unit (s := S4x1024x192) ![n, 0, 0] S1x1024x192.size inb, w⟩ :: L) (ix3 a p q)
      = View.canon L (ix3 a p q) := by
  refine View.canon_cons_of_not_mem _ _ fun hm => ?_
  obtain ⟨j, hj, he⟩ := (LoadRect.mem_set _).mp hm (0 : Fin 3)
  apply h
  have hj' : j < 1 := hj
  have he' : a.val = n + 1 * j := he
  omega

/-- The block that a grid point leaves, at an index. -/
theorem out_apply (x : Vec Ideal S1024x1024 .bf16) (w : Vec Ideal S4x1024x192 .bf16) (co si : Vec Ideal S1024x64 .f32)
    (a : Fin 4) (p : Fin 1024) (q : Fin 192) (r : ℕ) (hc : ∀ j : Fin 64, co (ix2 p j) = cosT r j.val)
    (hs : ∀ j : Fin 64, si (ix2 p j) = sinT r j.val) :
    out0_4 (F := Ideal) x w co si (ix3 a p q) = headAt (fun k => x (ix2 p k)) (fun k j => w (ix3 a k j)) r q := by
  have e0 : View.ld x r0_1 = x := View.ld_unit_zero (by funext i; fin_cases i <;> rfl) _ _
  have e1 : View.ld co r0_0 = co := View.ld_unit_zero (by funext i; fin_cases i <;> rfl) _ _
  have e2 : View.ld si r0_0 = si := View.ld_unit_zero (by funext i; fin_cases i <;> rfl) _ _
  unfold_out out0_4
  rw [e0, e1, e2]
  have p1 : ∀ v, k0_pay1 (F := Ideal) (k0_pay3 co) (k0_pay4 si) x v = k0_pay5 co si x v := fun _ => rfl
  have p2 : ∀ v, k0_pay2 (F := Ideal) (k0_pay3 co) (k0_pay4 si) x v = k0_pay5 co si x v := fun _ => rfl
  have p6 : ∀ v, k0_pay6 (F := Ideal) co si x v = k0_pay5 co si x v := fun _ => rfl
  rw [p1, p2, p6]
  have hw : ∀ (n : ℕ) (hn : n < 4) (inb : ∀ x, (![n, 0, 0] : Fin 3 → ℕ) x + S1x1024x192.size x ≤ S4x1024x192.size x),
      k0_pay5 (F := Ideal) co si x (View.ld w (Rect.unit (s := S4x1024x192) ![n, 0, 0] S1x1024x192.size inb)) (ix3 0 p q)
        = headAt (fun k => x (ix2 p k)) (fun k j => w (ix3 ⟨n, hn⟩ k j)) r q := by
    intro n hn inb
    rw [head_apply co si x _ p q r hc hs]
    refine congrArg (fun f => headAt (fun k => x (ix2 p k)) f r q) (funext fun k => funext fun j => congrArg w ?_)
    funext y
    apply Fin.ext
    fin_cases y
    · change n + 1 * 0 = n
      omega
    · change 0 + 1 * k.val = k.val
      omega
    · change 0 + 1 * j.val = j.val
      omega
  obtain ⟨n, hn⟩ := a
  match n, hn with
  | 3, hn => exact (canon_hit 3 hn _ _ _ p q).trans (hw 3 hn _)
  | 2, hn => exact (canon_miss 3 _ _ _ _ p q (by simp)).trans ((canon_hit 2 hn _ _ _ p q).trans (hw 2 hn _))
  | 1, hn => exact (canon_miss 3 _ _ _ _ p q (by simp)).trans ((canon_miss 2 _ _ _ _ p q (by simp)).trans
      ((canon_hit 1 hn _ _ _ p q).trans (hw 1 hn _)))
  | 0, hn => exact (canon_miss 3 _ _ _ _ p q (by simp)).trans ((canon_miss 2 _ _ _ _ p q (by simp)).trans
      ((canon_miss 1 _ _ _ _ p q (by simp)).trans ((canon_hit 0 hn _ _ _ p q).trans (hw 0 hn _))))

/-- The windows' block indices. -/
theorem idx : ∀ t : Fin cfg0.N, win0_0.index t = ![t.val / 8, 0] ∧ win0_1.index t = ![t.val % 8, 0, 0]
    ∧ win0_2.index t = ![t.val / 8, 0] ∧ win0_3.index t = ![t.val / 8, 0] ∧ win0_4.index t = ![t.val % 8, t.val / 8, 0] :=
  (by decide +kernel : ∀ t : Fin grid0.N, _)

theorem lt_points (t : Fin cfg0.N) : t.val < 80 := t.isLt

theorem weight_apply (t : Fin cfg0.N) (a : Fin 4) (k : Fin 1024) (j : Fin 192) :
    iblk m c 1 t (ix3 a k j) = (m ((c : Thread nD τ).loc main_arg1)) (ix4 0 k ⟨t.val % 8 * 4 + a.val, by omega⟩ j) := by
  blk_simp [iblk]
  entry_read
  pointwise
  blk_ext [idx t]

theorem final : (dats m 0 c).arrAt 4 cfg0.N
    = val_main_v47 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  obtain ⟨a, p, q, rfl⟩ : ∃ (a : Fin 4) (p : Fin 1024) (q : Fin 192), y = ix3 a p q :=
    ⟨y 0, y 1, y 2, by funext a; fin_cases a <;> rfl⟩
  have ht := lt_points t
  have he : ((cfg0.win 4).blk t).view.emb (ix3 a p q)
      = (ix3 ⟨t.val % 8 * 4 + a.val, by omega⟩ ⟨t.val / 8 * 1024 + p.val, by omega⟩ q : S32x10240x192.Idx) := by
    blk_ext [idx t]
  have hc : ∀ j : Fin 64, iblk m c 2 t (ix2 p j) = cosT (t.val / 8 * 1024 + p.val) j.val := fun j => by
    refine Eq.trans ?_ (cos_apply m c ⟨t.val / 8 * 1024 + p.val, by omega⟩ j)
    blk_ext [iblk, idx t]
  have hs : ∀ j : Fin 64, iblk m c 3 t (ix2 p j) = sinT (t.val / 8 * 1024 + p.val) j.val := fun j => by
    refine Eq.trans ?_ (sin_apply m c ⟨t.val / 8 * 1024 + p.val, by omega⟩ j)
    blk_ext [iblk, idx t]
  rw [he, ref_apply, out_apply _ _ _ _ a p q _ hc hs]
  refine congrArg₂ (fun f g => headAt f g _ q) (funext fun k => ?_) (funext fun k => funext fun j => weight_apply m c t a k j)
  blk_ext [iblk, V, idx t]

theorem algebraic [Cert.Kernel10Ideal.Facts] [Cert.Reference10Ideal.Facts] :
    Cert.algebraic_Kernel10Ideal_Reference10Ideal := by
  intro m g m' g' _ hagree
  refine ⟨fun c => (dats m 0 c).arrAt 4 cfg0.N, Cert.Kernel10Ideal.Value.run_blocks m g, ?_⟩
  refine (θ_run _ _ _).mono (fun r h c => ?_) (Cert.Reference10Ideal.Value.run m' g')
  obtain ⟨a0, a1⟩ := hagree c
  obtain ⟨h0, kept⟩ := h c
  refine ⟨h0.trans ?_, kept⟩
  refine (Cert.Reference10Ideal.Read.val_main_v47_eq ..).trans ?_
  rw [a0, a1]
  exact (final m c).symm

end Cert.QUp
-- ==== Proof.Adaln.lean ====
/-
  The modulation's product: silu of the conditioning rows times the weight, plus the bias.
-/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Pointwise
public import Idealize.ShloMosaic.Lib.Claim

@[expose] public section

set_option maxRecDepth 16384

noncomputable section

namespace Cert.Adaln

open Cert.Kernel11Ideal Cert.Kernel11Ideal.Gen Idealize.ShloMosaic Idealize.ShloMosaic.TcCoe Idealize.SL.Sem
open Cert.Reference11Ideal.Read

variable (m : (ℓ : Loc nD τ sig) → Buf (Elt Ideal) ℓ) (c : Dev nD)

def silu (x : EReal) : EReal := x * Ideal.logistic x

/-- One block at an index. -/
theorem block_apply (a : Vec Ideal S48x4096 .f32) (w : Vec Ideal S4096x512 .f32) (b : Vec Ideal S1x512 .f32) (p : Fin 48) (q : Fin 512) :
    k0_pay1 (F := Ideal) a w b (ix2 p q) = (∑ k : Fin 4096, silu (a (ix2 p k)) * w (ix2 k q)) + b (ix2 0 q) := by
  unfold silu
  pointwise [k0_pay1]

/-- The reference at an index. -/
theorem ref_apply (a : FVec Ideal S48x4096 .f32) (w : FVec Ideal S1x4096x24576 .f32) (b : FVec Ideal S1x24576 .f32)
    (r : Fin 48) (q : Fin 24576) :
    val_main_v6 (F := Ideal) a w b (ix2 r q) = (∑ k : Fin 4096, silu (a (ix2 r k)) * w (ix3 0 k q)) + b (ix2 0 q) := by
  unfold silu
  pointwise [val_main_call0_v0, val_main_call0_v1, val_main_call0_cst, val_main_call0_v2, val_main_call0_v3,
    val_main_call0_cst_0, val_main_call0_v4, val_main_call0_v5, val_main_v0, val_main_v1, val_main_v2, val_main_v3,
    val_main_v4, val_main_v5, val_main_v6]
  rfl

/-- The windows' block indices. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

theorem lt_points (t : Fin cfg0.N) : t.val < 48 := t.isLt

theorem final : (dats m 0 c).arrAt 3 cfg0.N = val_main_v6 (F := Ideal) (m ((c : Thread nD τ).loc main_arg0))
    (m ((c : Thread nD τ).loc main_arg1)) (m ((c : Thread nD τ).loc main_arg2)) := by
  refine (dats m 0 c).arrAt_eq_of_covers 3 _ (by decide +kernel) fun t _ y => ?_
  blk_simp
  rw [after0_3]
  frame_out
  obtain ⟨p, q, rfl⟩ : ∃ (p : Fin 48) (q : Fin 512), y = ix2 p q := ⟨y 0, y 1, by funext a; fin_cases a <;> rfl⟩
  have ht := lt_points t
  have he : ((cfg0.win 3).blk t).view.emb (ix2 p q) = (ix2 p ⟨t.val * 512 + q.val, by omega⟩ : S48x24576.Idx) := by
    blk_ext [idx t]
  rw [he, ref_apply, block_apply]
  refine congrArg₂ _ (Fin.sum_fin_congr fun k => congrArg₂ _ (congrArg silu ?_) ?_) ?_
  · blk_ext [iblk, V, idx t]
  · blk_simp [iblk]
    entry_read
    pointwise
    blk_ext [idx t]
  · blk_ext [iblk, V, idx t]

theorem algebraic [Cert.Kernel11Ideal.Facts] [Cert.Reference11Ideal.Facts] : Cert.algebraic_Kernel11Ideal_Reference11Ideal := by
  intro m g m' g' _ hagree
  refine ⟨fun c => (dats m 0 c).arrAt 3 cfg0.N, Cert.Kernel11Ideal.Value.run_blocks m g, ?_⟩
  refine (θ_run _ _ _).mono (fun r h c => ?_) (Cert.Reference11Ideal.Value.run m' g')
  obtain ⟨a0, a1, a2⟩ := hagree c
  obtain ⟨h0, kept⟩ := h c
  refine ⟨h0.trans ?_, kept⟩
  rw [a0, a1, a2]
  exact (Cert.Reference11Ideal.Read.val_main_v6_eq ..).trans (final m c).symm

end Cert.Adaln
-- ==== Proof.Norm.lean ====
/-
  The RMS normalisation of a row, at one place of it, and the modulated normalisation that both norms of the layer share.
-/
module

public import Idealize.ShloMosaic.Lib.Pointwise
public import Idealize.ShloMosaic.Lib.Claim

@[expose] public section

noncomputable section

namespace Cert.Norm

open Idealize.ShloMosaic

/-- A row of n entries, of width w as a binary32 word, divided by the root of its mean square. -/
def rms {n : ℕ} (w : BitVec 32) (x : Fin n → EReal) (q : Fin n) : EReal :=
  x q * Ideal.rsqrt (Ideal.div (∑ k, x k * x k) (Ideal.ofBits .f32 w) + Ideal.ofBits .f32 897988541#32)

/-- The layer's norms: a gain, a scale and a shift after the normalisation. -/
def modulated (x : Fin 4096 → EReal) (g sc sh : EReal) (q : Fin 4096) : EReal :=
  rms 1166016512#32 x q * g * (1 + sc) + sh

/-- The closing norm: the PEER layer's output under its gate joins the residual stream, then the normalisation. -/
def closing (x y z : Fin 4096 → EReal) (g : EReal) (q : Fin 4096) : EReal :=
  rms 1166016512#32 (fun k => x k + z k * y k) q * g

theorem closing_congr {x x' y y' z z' : Fin 4096 → EReal} {g g' : EReal} (q : Fin 4096) (hx : ∀ k, x k = x' k) (hy : ∀ k, y k = y' k)
    (hz : ∀ k, z k = z' k) (hg : g = g') : closing x y z g q = closing x' y' z' g' q := by
  rw [funext hx, funext hy, funext hz, hg]

theorem modulated_congr {x x' : Fin 4096 → EReal} {g g' sc sc' sh sh' : EReal} (q : Fin 4096) (hx : ∀ k, x k = x' k)
    (hg : g = g') (hc : sc = sc') (hs : sh = sh') : modulated x g sc sh q = modulated x' g' sc' sh' q := by
  rw [funext hx, hg, hc, hs]

end Cert.Norm
-- ==== Proof.SmallPost.lean ====
/-
  What the narrow projections become: the two latents normalised, the rotary key turned, and the log gates.
-/
module

public import proofs.«01_k».proof.Defs
public import proofs.«01_k».proof.Proof.Norm
public import proofs.«01_k».proof.Proof.Rope
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

namespace Cert.SmallPost

open Cert.Kernel12Ideal Cert.Kernel12Ideal.Gen Idealize.ShloMosaic Idealize.ShloMosaic.TcCoe Idealize.SL.Sem
open Cert.Reference12Ideal.Read
open Cert.Rope
open Cert.Norm (rms)

variable (m : (ℓ : Loc nD τ sig) → Buf (Elt Ideal) ℓ) (c : Dev nD)

/-- The reference's positions and angles. -/
theorem pos_apply (r : Fin 10240) : val_main_v49 (F := Ideal) (ix1 r) = pos r.val := by
  unfold pos
  by_cases h : r.val < 8192
  · pointwise [val_main_v39, val_main_v40, val_main_v41, val_main_v42, val_main_v49]
    simp only [h, ↓reduceDIte, ↓reduceIte]
  · have e : val_main_v49 (F := Ideal) (ix1 r) = val_main_v48 (F := Ideal) (ix1 ⟨r.val - 8192, by omega⟩) := by
      pointwise [val_main_v49]
      simp only [h, ↓reduceDIte]
    rw [e]
    have e' : ∀ i : Fin 2048, val_main_v48 (F := Ideal) (ix1 i) = val_main_v45 (F := Ideal) (ix1 ⟨i.val % 64, by omega⟩) := fun i => by
      pointwise [val_main_v46, val_main_v47, val_main_v48]
    rw [e', if_neg h]
    rfl
theorem ang_apply (r : Fin 10240) (j : Fin 32) : val_main_v61 (F := Ideal) (ix2 r j) = ang r.val j.val := by
  unfold ang
  pointwise [
    val_main_v50, val_main_v51, val_main_cst_5, val_main_v52, val_main_v53, val_main_cst_6, val_main_v54, val_main_v55,
    val_main_v56, val_main_v57, val_main_v58, val_main_v59, val_main_v60, val_main_v61]
  rw [pos_apply]

/-- The kernel's tables at its region's entry: the reference's angles, through the cosine and the sine. -/
def cosTab : FVec Ideal S10240x64 .f32 := concatenate S10240x64 1 [⟨S10240x32, Host.cos (val_main_v61 (F := Ideal))⟩,
  ⟨S10240x32, Host.cos (val_main_v61 (F := Ideal))⟩] concatenates_S10240x32_S10240x32_S10240x64_d1
def sinTab : FVec Ideal S10240x64 .f32 := concatenate S10240x64 1 [⟨S10240x32, Host.negf (Host.sin (val_main_v61 (F := Ideal)))⟩,
  ⟨S10240x32, Host.sin (val_main_v61 (F := Ideal))⟩] concatenates_S10240x32_S10240x32_S10240x64_d1
theorem cos_read : V m c main_v25 = cosTab := by
  unfold V
  after_reads_simp
  rfl
theorem sin_read : V m c main_v27 = sinTab := by
  unfold V
  after_reads_simp
  rfl
theorem cos_apply (r : Fin 10240) (j : Fin 64) : V m c main_v25 (ix2 r j) = cosT r.val j.val := by
  rw [cos_read]
  unfold cosT
  pointwise [cosTab]
  simp only [ang_apply]
  split <;> rfl
theorem sin_apply (r : Fin 10240) (j : Fin 64) : V m c main_v27 (ix2 r j) = sinT r.val j.val := by
  rw [sin_read]
  unfold sinT
  pointwise [sinTab]
  simp only [ang_apply]
  split <;> rfl

/-- A log gate: the input gate's, or the logarithm of the forget gate's sigmoid. -/
def gateAt (z : Fin 1664 → EReal) (a b : Fin 8 → EReal) (q : Fin 16) : EReal :=
  if h : q.val < 8 then z ⟨1600 + q.val, by omega⟩ + a ⟨q.val, by omega⟩
  else logSig (z ⟨1608 + (q.val - 8), by omega⟩ + b ⟨q.val - 8, by omega⟩)

/-- The blocks at an index. -/
theorem cq_block (z : Vec Ideal S256x1664 .f32) (g : Vec Ideal S1x1024 .f32) (p : Fin 256) (q : Fin 1024) :
    k0_pay3 (F := Ideal) z g (ix2 p q) = rms 1149239296#32 (fun k : Fin 1024 => z (ix2 p ⟨k.val, by omega⟩)) q * g (ix2 0 q) := by
  unfold rms
  pointwise [k0_pay3]
theorem ckv_block (z : Vec Ideal S256x1664 .f32) (g : Vec Ideal S1x512 .f32) (p : Fin 256) (q : Fin 512) :
    k0_pay4 (F := Ideal) z g (ix2 p q)
      = rms 1140850688#32 (fun k : Fin 512 => z (ix2 p ⟨1024 + k.val, by omega⟩)) q * g (ix2 0 q) := by
  unfold rms
  pointwise [k0_pay4]
theorem krope_block (z : Vec Ideal S256x1664 .f32) (co si : Vec Ideal S256x64 .f32) (p : Fin 256) (q : Fin 64) (r : ℕ)
    (hc : co (ix2 p q) = cosT r q.val) (hs : si (ix2 p q) = sinT r q.val) :
    k0_pay1 (F := Ideal) (k0_pay5 z) (k0_pay6 co) (k0_pay7 si) (ix2 p q)
      = roped (fun k => z (ix2 p ⟨1536 + k.val, by omega⟩)) r q := by
  pointwise [k0_pay1, k0_pay5, k0_pay6, k0_pay7]
  rw [hc, hs]
  exact roped_eq (fun k => z (ix2 p ⟨1536 + k.val, by omega⟩)) r q
theorem low : ∀ q : Fin 16, IntOp.cmpi .slt (BitVec.ofNat 32 q.val) 8#32 = if q.val < 8 then 1#1 else 0#1 := by decide
theorem gate_block (z : Vec Ideal S256x1664 .f32) (g : Vec Ideal S1x16 .f32) (p : Fin 256) (q : Fin 16) (a b : Fin 8 → EReal)
    (hg : g (ix2 0 q) = if h : q.val < 8 then a ⟨q.val, by omega⟩ else b ⟨q.val - 8, by omega⟩) :
    k0_pay2 (F := Ideal) z g (ix2 p q) = gateAt (fun k => z (ix2 p k)) a b q := by
  pointwise [k0_pay2]
  rw [low, logSig_eq, hg]
  unfold gateAt
  by_cases h : q.val < 8
  · simp only [h, ↓reduceDIte, ↓reduceIte]
    rfl
  · have e : (⟨1608 + (q.val - 8), by omega⟩ : Fin 1664) = ⟨1600 + q.val, by omega⟩ :=
      Fin.ext (by change 1608 + (q.val - 8) = 1600 + q.val; omega)
    simp only [h, ↓reduceDIte, ↓reduceIte, e]
    rfl

/-- The reference's results at an index. -/
theorem cq_apply (z : FVec Ideal S10240x1664 .f32) (g : FVec Ideal S1x1024 .f32) (r : Fin 10240) (q : Fin 1024) :
    val_main_v22 (F := Ideal) z g (ix2 r q)
      = rms 1149239296#32 (fun k : Fin 1024 => z (ix2 r ⟨k.val, by omega⟩)) q * g (ix2 0 q) := by
  unfold rms
  pointwise [
    val_main_v7, val_main_v8, val_main_v9, val_main_cst, val_main_v10, val_main_v11, val_main_cst_0, val_main_v12,
    val_main_v13, val_main_cst_1, val_main_v14, val_main_v15, val_main_v16, val_main_v17, val_main_v18, val_main_v19,
    val_main_v20, val_main_v21, val_main_v22]
theorem ckv_apply (z : FVec Ideal S10240x1664 .f32) (g : FVec Ideal S1x512 .f32) (r : Fin 10240) (q : Fin 512) :
    val_main_v37 (F := Ideal) z g (ix2 r q)
      = rms 1140850688#32 (fun k : Fin 512 => z (ix2 r ⟨1024 + k.val, by omega⟩)) q * g (ix2 0 q) := by
  unfold rms
  pointwise [
    val_main_v23, val_main_v24, val_main_v25, val_main_cst_2, val_main_v26, val_main_v27, val_main_cst_3,
    val_main_v28, val_main_v29, val_main_cst_4, val_main_v30, val_main_v31, val_main_v32, val_main_v33, val_main_v34,
    val_main_v35, val_main_v36, val_main_v37]
theorem krope_apply (z : FVec Ideal S10240x1664 .f32) (r : Fin 10240) (q : Fin 64) :
    val_main_v72 (F := Ideal) z (ix2 r q) = roped (fun k => z (ix2 r ⟨1536 + k.val, by omega⟩)) r.val q := by
  pointwise [val_main_v38,
    val_main_v62, val_main_v63, val_main_v64, val_main_v65, val_main_v66, val_main_v67, val_main_v68, val_main_v69,
    val_main_v70, val_main_v71, val_main_v72]
  simp only [ang_apply]
  rfl
theorem gate_apply (z : FVec Ideal S10240x1664 .f32) (a b : FVec Ideal S1x8 .f32) (r : Fin 10240) (q : Fin 16) :
    val_main_v73 (F := Ideal) z a b (ix2 r q)
      = gateAt (fun k => z (ix2 r k)) (fun k => a (ix2 0 k)) (fun k => b (ix2 0 k)) q := by
  unfold gateAt logSig
  pointwise [
    val_main_v0, val_main_v1, val_main_v2, val_main_v3, val_main_v4, val_main_v5, val_main_call0_v0,
    val_main_call0_call0_cst, val_main_call0_call0_v0, val_main_call0_call0_v1, val_main_call0_call0_v2,
    val_main_call0_call0_v3, val_main_call0_call0_v4, val_main_call0_call0_v5, val_main_call0_call0_v6,
    val_main_call0_call0_v7, val_main_call0_call0_v8, val_main_call0_call0_v9, val_main_call0_call0_v10,
    val_main_call0_call0_v11, val_main_call0_v1, val_main_v6, val_main_v73]
  simp only [ne_eq, not_true_eq_false, ↓reduceIte]

/-- The windows' block indices. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![t.val, 0] ∧ win0_9.index t = ![t.val, 0] :=
  (by decide +kernel : ∀ t : Fin grid0.N, _)

theorem lt_points (t : Fin cfg0.N) : t.val < 40 := t.isLt

/-- A block of the projections: rows of the argument. -/
theorem z_apply (t : Fin cfg0.N) (p : Fin 256) (k : Fin 1664) (ht : t.val < 40) :
    iblk m c 0 t (ix2 p k) = (m ((c : Thread nD τ).loc main_arg0)) (ix2 ⟨t.val * 256 + p.val, by omega⟩ k) := by
  blk_ext [iblk, V, idx t]

theorem final_cq : (dats m 0 c).arrAt 6 cfg0.N = val_main_v22 (F := Ideal) (m ((c : Thread nD τ).loc main_arg0)) (m ((c : Thread nD τ).loc main_arg1)) := by
  refine (dats m 0 c).arrAt_eq_of_covers 6 _ (by decide +kernel) fun t _ y => ?_
  blk_simp
  rw [after0_6]
  frame_out
  obtain ⟨p, q, rfl⟩ : ∃ (p : Fin 256) (q : Fin 1024), y = ix2 p q := ⟨y 0, y 1, by funext a; fin_cases a <;> rfl⟩
  have ht := lt_points t
  have he : ((cfg0.win 6).blk t).view.emb (ix2 p q) = (ix2 ⟨t.val * 256 + p.val, by omega⟩ q : S10240x1024.Idx) := by
    blk_ext [idx t]
  rw [he, cq_apply, cq_block]
  refine congrArg₂ _ (congrArg (fun f => rms _ f q) (funext fun k => z_apply m c t p _ ht)) ?_
  blk_ext [iblk, V, idx t]

theorem final_ckv : (dats m 0 c).arrAt 7 cfg0.N = val_main_v37 (F := Ideal) (m ((c : Thread nD τ).loc main_arg0)) (m ((c : Thread nD τ).loc main_arg2)) := by
  refine (dats m 0 c).arrAt_eq_of_covers 7 _ (by decide +kernel) fun t _ y => ?_
  blk_simp
  rw [after0_7]
  frame_out
  obtain ⟨p, q, rfl⟩ : ∃ (p : Fin 256) (q : Fin 512), y = ix2 p q := ⟨y 0, y 1, by funext a; fin_cases a <;> rfl⟩
  have ht := lt_points t
  have he : ((cfg0.win 7).blk t).view.emb (ix2 p q) = (ix2 ⟨t.val * 256 + p.val, by omega⟩ q : S10240x512.Idx) := by
    blk_ext [idx t]
  rw [he, ckv_apply, ckv_block]
  refine congrArg₂ _ (congrArg (fun f => rms _ f q) (funext fun k => z_apply m c t p _ ht)) ?_
  blk_ext [iblk, V, idx t]

theorem final_krope : (dats m 0 c).arrAt 8 cfg0.N = val_main_v72 (F := Ideal) (m ((c : Thread nD τ).loc main_arg0)) := by
  refine (dats m 0 c).arrAt_eq_of_covers 8 _ (by decide +kernel) fun t _ y => ?_
  blk_simp
  rw [after0_8]
  frame_out
  obtain ⟨p, q, rfl⟩ : ∃ (p : Fin 256) (q : Fin 64), y = ix2 p q := ⟨y 0, y 1, by funext a; fin_cases a <;> rfl⟩
  have ht := lt_points t
  have he : ((cfg0.win 8).blk t).view.emb (ix2 p q) = (ix2 ⟨t.val * 256 + p.val, by omega⟩ q : S10240x64.Idx) := by
    blk_ext [idx t]
  have hc : iblk m c 3 t (ix2 p q) = cosT (t.val * 256 + p.val) q.val := by
    refine Eq.trans ?_ (cos_apply m c ⟨t.val * 256 + p.val, by omega⟩ q)
    blk_simp [iblk]
    refine congrArg _ ?_
    blk_ext [idx t]
  have hs : iblk m c 4 t (ix2 p q) = sinT (t.val * 256 + p.val) q.val := by
    refine Eq.trans ?_ (sin_apply m c ⟨t.val * 256 + p.val, by omega⟩ q)
    blk_simp [iblk]
    refine congrArg _ ?_
    blk_ext [idx t]
  rw [he, krope_apply, krope_block _ _ _ p q _ hc hs]
  exact congrArg (fun f => roped f _ q) (funext fun k => z_apply m c t p _ ht)

/-- The gates' bias at the region's entry: the two biases side by side. -/
theorem bias_apply (t : Fin cfg0.N) (q : Fin 16) : iblk m c 5 t (ix2 0 q)
    = if h : q.val < 8 then (m ((c : Thread nD τ).loc main_arg3)) (ix2 0 ⟨q.val, by omega⟩)
      else (m ((c : Thread nD τ).loc main_arg4)) (ix2 0 ⟨q.val - 8, by omega⟩) := by
  have e : iblk m c 5 t (ix2 0 q) = V m c main_v28 (ix2 0 q) := by
    blk_simp [iblk]
    refine congrArg _ ?_
    blk_ext [idx t]
  rw [e]
  unfold V
  after_reads_at

theorem final_gate : (dats m 0 c).arrAt 9 cfg0.N = val_main_v73 (F := Ideal) (m ((c : Thread nD τ).loc main_arg0))
    (m ((c : Thread nD τ).loc main_arg3)) (m ((c : Thread nD τ).loc main_arg4)) := by
  refine (dats m 0 c).arrAt_eq_of_covers 9 _ (by decide +kernel) fun t _ y => ?_
  blk_simp
  rw [after0_9]
  frame_out
  obtain ⟨p, q, rfl⟩ : ∃ (p : Fin 256) (q : Fin 16), y = ix2 p q := ⟨y 0, y 1, by funext a; fin_cases a <;> rfl⟩
  have ht := lt_points t
  have he : ((cfg0.win 9).blk t).view.emb (ix2 p q) = (ix2 ⟨t.val * 256 + p.val, by omega⟩ q : S10240x16.Idx) := by
    blk_ext [idx t]
  rw [he, gate_apply, gate_block _ _ p q (fun k => (m ((c : Thread nD τ).loc main_arg3)) (ix2 0 k))
    (fun k => (m ((c : Thread nD τ).loc main_arg4)) (ix2 0 k)) (bias_apply m c t q)]
  exact congrArg (fun f => gateAt f _ _ q) (funext fun k => z_apply m c t p k ht)

theorem algebraic [Cert.Kernel12Ideal.Facts] [Cert.Reference12Ideal.Facts] :
    Cert.algebraic_Kernel12Ideal_Reference12Ideal := by
  intro m g m' g' _ hagree
  refine ⟨fun c => (dats m 0 c).arrAt 6 cfg0.N, fun c => (dats m 0 c).arrAt 7 cfg0.N, fun c => (dats m 0 c).arrAt 8 cfg0.N,
    fun c => (dats m 0 c).arrAt 9 cfg0.N, Cert.Kernel12Ideal.Value.run_blocks m g, ?_⟩
  refine (θ_run _ _ _).mono (fun r h c => ?_) (Cert.Reference12Ideal.Value.run m' g')
  obtain ⟨a0, a1, a2, a3, a4⟩ := hagree c
  obtain ⟨h0, h1, h2, h3, kept⟩ := h c
  refine ⟨h0.trans ?_, h1.trans ?_, h2.trans ?_, h3.trans ?_, kept⟩
  · rw [a0, a1]
    exact (Cert.Reference12Ideal.Read.val_main_v22_eq ..).trans (final_cq m c).symm
  · rw [a0, a2]
    exact (Cert.Reference12Ideal.Read.val_main_v37_eq ..).trans (final_ckv m c).symm
  · refine (Cert.Reference12Ideal.Read.val_main_v72_eq ..).trans ?_
    rw [a0]
    exact (final_krope m c).symm
  · rw [a0, a3, a4]
    exact (Cert.Reference12Ideal.Read.val_main_v73_eq ..).trans (final_gate m c).symm

end Cert.SmallPost
-- ==== Proof.Norm1.lean ====
/-
  The first norm of the layer, modulated. Its rows come from two arrays: the first 32 grid points take theirs from the
  prompt streams' rows, the others from the sample streams'.
-/
module

public import proofs.«01_k».proof.Defs
public import proofs.«01_k».proof.Proof.Norm
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Pointwise
public import Idealize.ShloMosaic.Lib.Claim

@[expose] public section

set_option maxRecDepth 16384

noncomputable section

namespace Cert.Norm1

open Cert.Kernel13Ideal Cert.Kernel13Ideal.Gen Idealize.ShloMosaic Idealize.ShloMosaic.TcCoe Idealize.SL.Sem
open Cert.Reference13Ideal.Read
open Cert.Norm (rms modulated modulated_congr)

variable (m : (ℓ : Loc nD τ sig) → Buf (Elt Ideal) ℓ) (c : Dev nD)

/-- One block at an index; the two cases of the body compute the same. -/
theorem block_apply (x : Vec Ideal S256x4096 .f32) (g : Vec Ideal S1x4096 .f32) (sc sh : Vec Ideal S4x1x4096 .f32)
    (p : Fin 256) (q : Fin 4096) :
    k0_pay1 (F := Ideal) x g sc sh (ix2 p q) = modulated (fun k => x (ix2 p k)) (g (ix2 0 q))
      (sc (ix3 ⟨p.val / 64, by omega⟩ 0 q)) (sh (ix3 ⟨p.val / 64, by omega⟩ 0 q)) q := by
  unfold modulated rms
  pointwise [k0_pay1]
theorem cases_eq (x : Vec Ideal S256x4096 .f32) (g : Vec Ideal S1x4096 .f32) (sc sh : Vec Ideal S4x1x4096 .f32) :
    k0_pay2 (F := Ideal) x g sc sh = k0_pay1 x g sc sh := rfl

/-- The reference at an index, of the row that it normalises. -/
theorem ref_apply (a : FVec Ideal S4x2048x4096 .f32) (b : FVec Ideal S32x64x4096 .f32) (g : FVec Ideal S1x4096 .f32)
    (z : FVec Ideal S160x1x24576 .f32) (r : Fin 10240) (q : Fin 4096) :
    val_main_v29 (F := Ideal) a b g z (ix2 r q) = modulated (fun k => val_main_v2 (F := Ideal) a b (ix2 r k)) (g (ix2 0 q))
      (z (ix3 ⟨r.val / 64, by omega⟩ 0 ⟨4096 + q.val, by omega⟩)) (z (ix3 ⟨r.val / 64, by omega⟩ 0 ⟨q.val, by omega⟩)) q := by
  unfold modulated rms
  pointwise [
    val_main_v3, val_main_v4, val_main_cst, val_main_v5, val_main_v6, val_main_cst_0, val_main_v7, val_main_v8,
    val_main_cst_1, val_main_v9, val_main_v10, val_main_v11, val_main_v12, val_main_v13, val_main_v14, val_main_v15,
    val_main_v16, val_main_v17, val_main_v18, val_main_v19, val_main_v20, val_main_cst_2, val_main_v21, val_main_v22,
    val_main_v23, val_main_v24, val_main_v25, val_main_v26, val_main_v27, val_main_v28, val_main_v29]

/-- A row of the reference: a prompt stream's, or a sample stream's. -/
theorem row_prompt (a : FVec Ideal S4x2048x4096 .f32) (b : FVec Ideal S32x64x4096 .f32) (r : Fin 10240) (q : Fin 4096)
    (h : r.val < 8192) : val_main_v2 (F := Ideal) a b (ix2 r q)
      = a (ix3 ⟨r.val / 2048, by omega⟩ ⟨r.val % 2048, by omega⟩ q) := by
  pointwise [val_main_v0, val_main_v1, val_main_v2]
  simp only [h, ↓reduceDIte]
theorem row_sample (a : FVec Ideal S4x2048x4096 .f32) (b : FVec Ideal S32x64x4096 .f32) (r : Fin 10240) (q : Fin 4096)
    (h : ¬ r.val < 8192) : val_main_v2 (F := Ideal) a b (ix2 r q)
      = b (ix3 ⟨(r.val - 8192) / 64, by omega⟩ ⟨(r.val - 8192) % 64, by omega⟩ q) := by
  pointwise [val_main_v0, val_main_v1, val_main_v2]
  simp only [h, ↓reduceDIte]

/-- The windows' block indices. -/
theorem idx : ∀ t : Fin cfg0.N, win0_0.index t = ![min t.val 31, 0] ∧ win0_1.index t = ![t.val - 32, 0]
    ∧ win0_2.index t = ![0, 0] ∧ win0_3.index t = ![t.val, 0, 0] ∧ win0_4.index t = ![t.val, 0, 1]
    ∧ win0_5.index t = ![t.val, 0] :=
  (by decide +kernel : ∀ t : Fin grid0.N, _)

theorem lt_points (t : Fin cfg0.N) : t.val < 40 := t.isLt

/-- A block whose row is the reference's leaves the reference's norm. -/
theorem norm_eq (t : Fin cfg0.N) (p : Fin 256) (q : Fin 4096) (ht : t.val < 40) (x x' : Fin 4096 → EReal)
    (hx : ∀ k, x k = x' k) :
    modulated x (iblk m c 2 t (ix2 0 q)) (iblk m c 4 t (ix3 ⟨p.val / 64, by omega⟩ 0 q))
        (iblk m c 3 t (ix3 ⟨p.val / 64, by omega⟩ 0 q)) q
      = modulated x' ((m ((c : Thread nD τ).loc main_arg2)) (ix2 0 q))
          ((m ((c : Thread nD τ).loc main_arg3)) (ix3 ⟨(t.val * 256 + p.val) / 64, by omega⟩ 0 ⟨4096 + q.val, by omega⟩))
          ((m ((c : Thread nD τ).loc main_arg3)) (ix3 ⟨(t.val * 256 + p.val) / 64, by omega⟩ 0 ⟨q.val, by omega⟩)) q := by
  refine modulated_congr q hx ?_ ?_ ?_ <;> blk_ext [iblk, V, idx t]

theorem final : (dats m 0 c).arrAt 5 cfg0.N = val_main_v29 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  obtain ⟨p, q, rfl⟩ : ∃ (p : Fin 256) (q : Fin 4096), y = ix2 p q := ⟨y 0, y 1, by funext a; fin_cases a <;> rfl⟩
  have ht := lt_points t
  have he : ((cfg0.win 5).blk t).view.emb (ix2 p q) = (ix2 ⟨t.val * 256 + p.val, by omega⟩ q : S10240x4096.Idx) := by
    blk_ext [idx t]
  rw [he, ref_apply]
  by_cases h : t.val < 32
  · rw [outsAt0_A m c t h (by omega)]
    frame_out
    rw [block_apply]
    refine norm_eq m c t p q ht _ _ fun k => ?_
    rw [row_prompt (h := by show t.val * 256 + p.val < 8192; omega)]
    blk_simp [iblk]
    entry_read
    pointwise
    blk_ext [idx t]
  · rw [outsAt0_B m c t h (by omega)]
    frame_out
    rw [cases_eq, block_apply]
    refine norm_eq m c t p q ht _ _ fun k => ?_
    rw [row_sample (h := by show ¬ t.val * 256 + p.val < 8192; omega)]
    blk_simp [iblk]
    entry_read
    pointwise
    blk_ext [idx t]

theorem algebraic [Cert.Kernel13Ideal.Facts] [Cert.Reference13Ideal.Facts] :
    Cert.algebraic_Kernel13Ideal_Reference13Ideal := by
  intro m g m' g' _ hagree
  refine ⟨fun c => (dats m 0 c).arrAt 5 cfg0.N, Cert.Kernel13Ideal.Value.run_blocks m g, ?_⟩
  refine (θ_run _ _ _).mono (fun r h c => ?_) (Cert.Reference13Ideal.Value.run m' g')
  obtain ⟨a0, a1, a2, a3⟩ := hagree c
  obtain ⟨h0, kept⟩ := h c
  refine ⟨h0.trans ?_, kept⟩
  rw [a0, a1, a2, a3]
  exact (Cert.Reference13Ideal.Read.val_main_v29_eq ..).trans (final m c).symm

end Cert.Norm1
-- ==== Proof.Norm2.lean ====
/-
  The second norm of the layer: the sum of the residual stream and the branches' output, the modulated norm of that sum, and
  its transpose. Its rows come from two arrays, as the first norm's.
-/
module

public import proofs.«01_k».proof.Defs
public import proofs.«01_k».proof.Proof.Norm
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Lib.Pointwise
public import Idealize.ShloMosaic.Lib.Claim

@[expose] public section

set_option maxRecDepth 16384

noncomputable section

namespace Cert.Norm2

open Cert.Kernel14Ideal Cert.Kernel14Ideal.Gen Idealize.ShloMosaic Idealize.ShloMosaic.TcCoe Idealize.SL.Sem
open Cert.Reference14Ideal.Read
open Cert.Norm (rms modulated modulated_congr)

variable (m : (ℓ : Loc nD τ sig) → Buf (Elt Ideal) ℓ) (c : Dev nD)

/-- The blocks at an index; the two cases of the body compute the same. -/
theorem sum_apply (x r : Vec Ideal S256x4096 .f32) (p : Fin 256) (q : Fin 4096) :
    k0_pay1 (F := Ideal) x r (ix2 p q) = x (ix2 p q) + r (ix2 p q) := by
  pointwise [k0_pay1]
theorem norm_apply (x r : Vec Ideal S256x4096 .f32) (g : Vec Ideal S1x4096 .f32) (sc sh : Vec Ideal S4x1x4096 .f32)
    (p : Fin 256) (q : Fin 4096) :
    k0_pay3 (F := Ideal) x r g sc sh (ix2 p q) = modulated (fun k => x (ix2 p k) + r (ix2 p k)) (g (ix2 0 q))
      (sc (ix3 ⟨p.val / 64, by omega⟩ 0 q)) (sh (ix3 ⟨p.val / 64, by omega⟩ 0 q)) q := by
  unfold modulated rms
  pointwise [k0_pay1, k0_pay2, k0_pay3]
theorem norm_t_apply (x r : Vec Ideal S256x4096 .f32) (g : Vec Ideal S1x4096 .f32) (sc sh : Vec Ideal S4x1x4096 .f32)
    (p : Fin 256) (q : Fin 4096) :
    k0_pay4 (F := Ideal) x r g sc sh (ix2 q p) = k0_pay3 (F := Ideal) x r g sc sh (ix2 p q) := by
  pointwise [k0_pay3, k0_pay4]
theorem sum_eq (x r : Vec Ideal S256x4096 .f32) : k0_pay5 (F := Ideal) x r = k0_pay1 x r := rfl
theorem norm_eq (x r : Vec Ideal S256x4096 .f32) (g : Vec Ideal S1x4096 .f32) (sc sh : Vec Ideal S4x1x4096 .f32) :
    k0_pay7 (F := Ideal) x r g sc sh = k0_pay3 x r g sc sh := rfl
theorem norm_t_eq (x r : Vec Ideal S256x4096 .f32) (g : Vec Ideal S1x4096 .f32) (sc sh : Vec Ideal S4x1x4096 .f32) :
    k0_pay8 (F := Ideal) x r g sc sh = k0_pay4 x r g sc sh := rfl

/-- The reference's norm at an index, of the row that it normalises. -/
theorem ref_apply (a : FVec Ideal S4x2048x4096 .f32) (b : FVec Ideal S32x64x4096 .f32) (g : FVec Ideal S1x4096 .f32)
    (z : FVec Ideal S160x1x24576 .f32) (e : FVec Ideal S10240x4096 .f32) (r : Fin 10240) (q : Fin 4096) :
    val_main_v30 (F := Ideal) a b g z e (ix2 r q) = modulated (fun k => val_main_v3 (F := Ideal) a b e (ix2 r k)) (g (ix2 0 q))
      (z (ix3 ⟨r.val / 64, by omega⟩ 0 ⟨16384 + q.val, by omega⟩)) (z (ix3 ⟨r.val / 64, by omega⟩ 0 ⟨12288 + q.val, by omega⟩)) q := by
  unfold modulated rms
  pointwise [
    val_main_v4, val_main_v5, val_main_cst, val_main_v6, val_main_v7, val_main_cst_0, val_main_v8, val_main_v9,
    val_main_cst_1, val_main_v10, val_main_v11, val_main_v12, val_main_v13, val_main_v14, val_main_v15, val_main_v16,
    val_main_v17, val_main_v18, val_main_v19, val_main_v20, val_main_v21, val_main_cst_2, val_main_v22, val_main_v23,
    val_main_v24, val_main_v25, val_main_v26, val_main_v27, val_main_v28, val_main_v29, val_main_v30]
theorem ref_t_apply (a : FVec Ideal S4x2048x4096 .f32) (b : FVec Ideal S32x64x4096 .f32) (g : FVec Ideal S1x4096 .f32)
    (z : FVec Ideal S160x1x24576 .f32) (e : FVec Ideal S10240x4096 .f32) (r : Fin 10240) (q : Fin 4096) :
    val_main_v31 (F := Ideal) a b g z e (ix2 q r) = val_main_v30 (F := Ideal) a b g z e (ix2 r q) := by
  pointwise [val_main_v31]

/-- A row of the reference: a prompt stream's, or a sample stream's, plus the branches' output. -/
theorem row_prompt (a : FVec Ideal S4x2048x4096 .f32) (b : FVec Ideal S32x64x4096 .f32) (e : FVec Ideal S10240x4096 .f32)
    (r : Fin 10240) (q : Fin 4096) (h : r.val < 8192) : val_main_v3 (F := Ideal) a b e (ix2 r q)
      = a (ix3 ⟨r.val / 2048, by omega⟩ ⟨r.val % 2048, by omega⟩ q) + e (ix2 r q) := by
  pointwise [val_main_v0, val_main_v1, val_main_v2, val_main_v3]
  simp only [h, ↓reduceDIte]
theorem row_sample (a : FVec Ideal S4x2048x4096 .f32) (b : FVec Ideal S32x64x4096 .f32) (e : FVec Ideal S10240x4096 .f32)
    (r : Fin 10240) (q : Fin 4096) (h : ¬ r.val < 8192) : val_main_v3 (F := Ideal) a b e (ix2 r q)
      = b (ix3 ⟨(r.val - 8192) / 64, by omega⟩ ⟨(r.val - 8192) % 64, by omega⟩ q) + e (ix2 r q) := by
  pointwise [val_main_v0, val_main_v1, val_main_v2, val_main_v3]
  simp only [h, ↓reduceDIte]

/-- The windows' block indices. -/
theorem idx : ∀ t : Fin cfg0.N, win0_0.index t = ![min t.val 31, 0] ∧ win0_1.index t = ![t.val - 32, 0]
    ∧ win0_2.index t = ![0, 0] ∧ win0_3.index t = ![t.val, 0, 3] ∧ win0_4.index t = ![t.val, 0, 4]
    ∧ win0_5.index t = ![t.val, 0] ∧ win0_6.index t = ![t.val, 0] ∧ win0_7.index t = ![0, t.val]
    ∧ win0_8.index t = ![t.val, 0] :=
  (by decide +kernel : ∀ t : Fin grid0.N, _)

theorem lt_points (t : Fin cfg0.N) : t.val < 40 := t.isLt

/-- The row that a block sums: from the prompt streams' window, and from the sample streams'. -/
theorem block_prompt (t : Fin cfg0.N) (p : Fin 256) (q : Fin 4096) (ht : t.val < 40) (h : t.val < 32) :
    HAdd.hAdd (α := EReal) (β := EReal) (iblk m c 0 t (ix2 p q)) (iblk m c 5 t (ix2 p q)) = val_main_v3 (F := Ideal) (m ((c : Thread nD τ).loc main_arg0)) (m ((c : Thread nD τ).loc main_arg1))
      (m ((c : Thread nD τ).loc main_arg4)) (ix2 ⟨t.val * 256 + p.val, by omega⟩ q) := by
  rw [row_prompt (h := by show t.val * 256 + p.val < 8192; omega)]
  refine congrArg₂ _ ?_ ?_
  · blk_simp [iblk]
    entry_read
    pointwise
    blk_ext [idx t]
  · blk_ext [iblk, V, idx t]
theorem block_sample (t : Fin cfg0.N) (p : Fin 256) (q : Fin 4096) (ht : t.val < 40) (h : ¬ t.val < 32) :
    HAdd.hAdd (α := EReal) (β := EReal) (iblk m c 1 t (ix2 p q)) (iblk m c 5 t (ix2 p q)) = val_main_v3 (F := Ideal) (m ((c : Thread nD τ).loc main_arg0)) (m ((c : Thread nD τ).loc main_arg1))
      (m ((c : Thread nD τ).loc main_arg4)) (ix2 ⟨t.val * 256 + p.val, by omega⟩ q) := by
  rw [row_sample (h := by show ¬ t.val * 256 + p.val < 8192; omega)]
  refine congrArg₂ _ ?_ ?_
  · blk_simp [iblk]
    entry_read
    pointwise
    blk_ext [idx t]
  · blk_ext [iblk, V, idx t]

/-- A block whose row is the reference's leaves the reference's norm. -/
theorem norm_ref (t : Fin cfg0.N) (p : Fin 256) (q : Fin 4096) (ht : t.val < 40) (x : Fin 4096 → EReal)
    (hx : ∀ k, x k = val_main_v3 (F := Ideal) (m ((c : Thread nD τ).loc main_arg0)) (m ((c : Thread nD τ).loc main_arg1))
      (m ((c : Thread nD τ).loc main_arg4)) (ix2 ⟨t.val * 256 + p.val, by omega⟩ k)) :
    modulated x (iblk m c 2 t (ix2 0 q)) (iblk m c 4 t (ix3 ⟨p.val / 64, by omega⟩ 0 q))
        (iblk m c 3 t (ix3 ⟨p.val / 64, by omega⟩ 0 q)) q
      = val_main_v30 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (ix2 ⟨t.val * 256 + p.val, by omega⟩ q) := by
  rw [ref_apply]
  refine modulated_congr q hx ?_ ?_ ?_ <;> blk_ext [iblk, V, idx t]

theorem final_norm : (dats m 0 c).arrAt 6 cfg0.N = val_main_v30 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 6 _ (by decide +kernel) fun t _ y => ?_
  blk_simp
  rw [after0_6]
  obtain ⟨p, q, rfl⟩ : ∃ (p : Fin 256) (q : Fin 4096), y = ix2 p q := ⟨y 0, y 1, by funext a; fin_cases a <;> rfl⟩
  have ht := lt_points t
  have he : ((cfg0.win 6).blk t).view.emb (ix2 p q) = (ix2 ⟨t.val * 256 + p.val, by omega⟩ q : S10240x4096.Idx) := by
    blk_ext [idx t]
  rw [he]
  by_cases h : t.val < 32
  · rw [outsAt0_A m c t h (by omega)]
    frame_out
    rw [norm_apply]
    exact norm_ref m c t p q ht _ fun k => block_prompt m c t p k ht h
  · rw [outsAt0_B m c t h (by omega)]
    frame_out
    rw [norm_eq, norm_apply]
    exact norm_ref m c t p q ht _ fun k => block_sample m c t p k ht h

theorem final_norm_t : (dats m 0 c).arrAt 7 cfg0.N = val_main_v31 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 7 _ (by decide +kernel) fun t _ y => ?_
  blk_simp
  rw [after0_7]
  obtain ⟨q, p, rfl⟩ : ∃ (q : Fin 4096) (p : Fin 256), y = ix2 q p := ⟨y 0, y 1, by funext a; fin_cases a <;> rfl⟩
  have ht := lt_points t
  have he : ((cfg0.win 7).blk t).view.emb (ix2 q p) = (ix2 q ⟨t.val * 256 + p.val, by omega⟩ : S4096x10240.Idx) := by
    blk_ext [idx t]
  rw [he, ref_t_apply]
  by_cases h : t.val < 32
  · rw [outsAt0_A m c t h (by omega)]
    frame_out
    rw [norm_t_apply, norm_apply]
    exact norm_ref m c t p q ht _ fun k => block_prompt m c t p k ht h
  · rw [outsAt0_B m c t h (by omega)]
    frame_out
    rw [norm_t_eq, norm_t_apply, norm_apply]
    exact norm_ref m c t p q ht _ fun k => block_sample m c t p k ht h

theorem final_sum : (dats m 0 c).arrAt 8 cfg0.N = val_main_v3 (F := Ideal) (m ((c : Thread nD τ).loc main_arg0))
    (m ((c : Thread nD τ).loc main_arg1)) (m ((c : Thread nD τ).loc main_arg4)) := by
  refine (dats m 0 c).arrAt_eq_of_covers 8 _ (by decide +kernel) fun t _ y => ?_
  blk_simp
  rw [after0_8]
  obtain ⟨p, q, rfl⟩ : ∃ (p : Fin 256) (q : Fin 4096), y = ix2 p q := ⟨y 0, y 1, by funext a; fin_cases a <;> rfl⟩
  have ht := lt_points t
  have he : ((cfg0.win 8).blk t).view.emb (ix2 p q) = (ix2 ⟨t.val * 256 + p.val, by omega⟩ q : S10240x4096.Idx) := by
    blk_ext [idx t]
  rw [he]
  by_cases h : t.val < 32
  · rw [outsAt0_A m c t h (by omega)]
    frame_out
    rw [sum_apply]
    exact block_prompt m c t p q ht h
  · rw [outsAt0_B m c t h (by omega)]
    frame_out
    rw [sum_eq, sum_apply]
    exact block_sample m c t p q ht h

theorem algebraic [Cert.Kernel14Ideal.Facts] [Cert.Reference14Ideal.Facts] :
    Cert.algebraic_Kernel14Ideal_Reference14Ideal := by
  intro m g m' g' _ hagree
  refine ⟨fun c => (dats m 0 c).arrAt 6 cfg0.N, fun c => (dats m 0 c).arrAt 7 cfg0.N,
    fun c => (dats m 0 c).arrAt 8 cfg0.N, Cert.Kernel14Ideal.Value.run_blocks m g, ?_⟩
  refine (θ_run _ _ _).mono (fun r h c => ?_) (Cert.Reference14Ideal.Value.run m' g')
  obtain ⟨a0, a1, a2, a3, a4⟩ := hagree c
  obtain ⟨h0, h1, h2, kept⟩ := h c
  refine ⟨h0.trans ?_, h1.trans ?_, h2.trans ?_, kept⟩
  · rw [a0, a1, a2, a3, a4]
    exact (Cert.Reference14Ideal.Read.val_main_v30_eq ..).trans (final_norm m c).symm
  · rw [a0, a1, a2, a3, a4]
    exact (Cert.Reference14Ideal.Read.val_main_v31_eq ..).trans (final_norm_t m c).symm
  · rw [a0, a1, a4]
    exact (Cert.Reference14Ideal.Read.val_main_v3_eq ..).trans (final_sum m c).symm

end Cert.Norm2
-- ==== Proof.FinalPrompt.lean ====
/-
  The closing norm over the prompt streams' rows.
-/
module

public import proofs.«01_k».proof.Defs
public import proofs.«01_k».proof.Proof.Norm
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit
public import Idealize.ShloMosaic.Lib.Pointwise
public import Idealize.ShloMosaic.Lib.Claim

@[expose] public section

set_option maxRecDepth 16384

noncomputable section

namespace Cert.FinalPrompt

open Cert.Kernel15Ideal Cert.Kernel15Ideal.Gen Idealize.ShloMosaic Idealize.ShloMosaic.TcCoe Idealize.SL.Sem
open Cert.Reference15Ideal.Read
open Cert.Norm (rms closing closing_congr)

variable (m : (ℓ : Loc nD τ sig) → Buf (Elt Ideal) ℓ) (c : Dev nD)

/-- One block at an index. -/
theorem block_apply (y : Vec Ideal S4096x256 .f32) (x : Vec Ideal S256x4096 .f32) (z : Vec Ideal S4x1x4096 .f32)
    (g : Vec Ideal S1x4096 .f32) (p : Fin 256) (q : Fin 4096) :
    k0_pay1 (F := Ideal) y x z g (ix2 p q) = closing (fun k => x (ix2 p k)) (fun k => y (ix2 k p))
      (fun k => z (ix3 ⟨p.val / 64, by omega⟩ 0 k)) (g (ix2 0 q)) q := by
  unfold closing rms
  pointwise [k0_pay1]

/-- The reference at an index. -/
theorem ref_apply (x : FVec Ideal S10240x4096 .f32) (y : FVec Ideal S4096x10240 .f32) (z : FVec Ideal S160x1x24576 .f32)
    (g : FVec Ideal S4096 .f32) (r : Fin 8192) (q : Fin 4096) :
    val_main_v20 (F := Ideal) x y z g (ix2 r q) = closing (fun k => x (ix2 ⟨r.val, by omega⟩ k))
      (fun k => y (ix2 k ⟨r.val, by omega⟩)) (fun k => z (ix3 ⟨(r.val) / 64, by omega⟩ 0 ⟨20480 + k.val, by omega⟩))
      (g (ix1 q)) q := by
  unfold closing rms
  pointwise [
    val_main_v0, val_main_v1, val_main_v2, val_main_v3, val_main_v4, val_main_v5, val_main_v6, val_main_v7,
    val_main_v8, val_main_cst, val_main_v9, val_main_v10, val_main_cst_0, val_main_v11, val_main_v12, val_main_cst_1,
    val_main_v13, val_main_v14, val_main_v15, val_main_v16, val_main_v17, val_main_v18, val_main_v19, val_main_v20]

/-- The windows' block indices. -/
theorem idx : ∀ t : Fin cfg0.N, win0_0.index t = ![t.val, 0] ∧ win0_1.index t = ![0, t.val]
    ∧ win0_2.index t = ![t.val, 0, 5] ∧ win0_3.index t = ![0, 0] ∧ win0_4.index t = ![t.val, 0] :=
  (by decide +kernel : ∀ t : Fin grid0.N, _)

theorem lt_points (t : Fin cfg0.N) : t.val < 32 := t.isLt

theorem final : (dats m 0 c).arrAt 4 cfg0.N = val_main_v20 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  obtain ⟨p, q, rfl⟩ : ∃ (p : Fin 256) (q : Fin 4096), y = ix2 p q := ⟨y 0, y 1, by funext a; fin_cases a <;> rfl⟩
  have ht := lt_points t
  have he : ((cfg0.win 4).blk t).view.emb (ix2 p q) = (ix2 ⟨t.val * 256 + p.val, by omega⟩ q : S8192x4096.Idx) := by
    blk_ext [idx t]
  rw [he, ref_apply, block_apply]
  refine closing_congr q (fun k => ?_) (fun k => ?_) (fun k => ?_) ?_
  · blk_ext [iblk, V, idx t]
  · blk_ext [iblk, V, idx t]
  · blk_ext [iblk, V, idx t]
  · blk_simp [iblk]
    entry_read
    pointwise
    blk_ext [idx t]

theorem algebraic [Cert.Kernel15Ideal.Facts] [Cert.Reference15Ideal.Facts] :
    Cert.algebraic_Kernel15Ideal_Reference15Ideal := by
  intro m g m' g' _ hagree
  refine ⟨fun c => (dats m 0 c).arrAt 4 cfg0.N, Cert.Kernel15Ideal.Value.run_blocks m g, ?_⟩
  refine (θ_run _ _ _).mono (fun r h c => ?_) (Cert.Reference15Ideal.Value.run m' g')
  obtain ⟨a0, a1, a2, a3⟩ := hagree c
  obtain ⟨h0, kept⟩ := h c
  refine ⟨h0.trans ?_, kept⟩
  rw [a0, a1, a2, a3]
  exact (Cert.Reference15Ideal.Read.val_main_v20_eq ..).trans (final m c).symm

end Cert.FinalPrompt
-- ==== Proof.FinalSample.lean ====
/-
  The closing norm over the sample streams' rows, which follow the prompt streams'.
-/
module

public import proofs.«01_k».proof.Defs
public import proofs.«01_k».proof.Proof.Norm
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit
public import Idealize.ShloMosaic.Lib.Pointwise
public import Idealize.ShloMosaic.Lib.Claim

@[expose] public section

set_option maxRecDepth 16384

noncomputable section

namespace Cert.FinalSample

open Cert.Kernel16Ideal Cert.Kernel16Ideal.Gen Idealize.ShloMosaic Idealize.ShloMosaic.TcCoe Idealize.SL.Sem
open Cert.Reference16Ideal.Read
open Cert.Norm (rms closing closing_congr)

variable (m : (ℓ : Loc nD τ sig) → Buf (Elt Ideal) ℓ) (c : Dev nD)

/-- One block at an index. -/
theorem block_apply (y : Vec Ideal S4096x256 .f32) (x : Vec Ideal S256x4096 .f32) (z : Vec Ideal S4x1x4096 .f32)
    (g : Vec Ideal S1x4096 .f32) (p : Fin 256) (q : Fin 4096) :
    k0_pay1 (F := Ideal) y x z g (ix2 p q) = closing (fun k => x (ix2 p k)) (fun k => y (ix2 k p))
      (fun k => z (ix3 ⟨p.val / 64, by omega⟩ 0 k)) (g (ix2 0 q)) q := by
  unfold closing rms
  pointwise [k0_pay1]

/-- The reference at an index. -/
theorem ref_apply (x : FVec Ideal S10240x4096 .f32) (y : FVec Ideal S4096x10240 .f32) (z : FVec Ideal S160x1x24576 .f32)
    (g : FVec Ideal S4096 .f32) (r : Fin 2048) (q : Fin 4096) :
    val_main_v20 (F := Ideal) x y z g (ix2 r q) = closing (fun k => x (ix2 ⟨8192 + r.val, by omega⟩ k))
      (fun k => y (ix2 k ⟨8192 + r.val, by omega⟩)) (fun k => z (ix3 ⟨(8192 + r.val) / 64, by omega⟩ 0 ⟨20480 + k.val, by omega⟩))
      (g (ix1 q)) q := by
  unfold closing rms
  pointwise [
    val_main_v0, val_main_v1, val_main_v2, val_main_v3, val_main_v4, val_main_v5, val_main_v6, val_main_v7,
    val_main_v8, val_main_cst, val_main_v9, val_main_v10, val_main_cst_0, val_main_v11, val_main_v12, val_main_cst_1,
    val_main_v13, val_main_v14, val_main_v15, val_main_v16, val_main_v17, val_main_v18, val_main_v19, val_main_v20]

/-- The windows' block indices. -/
theorem idx : ∀ t : Fin cfg0.N, win0_0.index t = ![32 + t.val, 0] ∧ win0_1.index t = ![0, 32 + t.val]
    ∧ win0_2.index t = ![32 + t.val, 0, 5] ∧ win0_3.index t = ![0, 0] ∧ win0_4.index t = ![t.val, 0] :=
  (by decide +kernel : ∀ t : Fin grid0.N, _)

theorem lt_points (t : Fin cfg0.N) : t.val < 8 := t.isLt

theorem final : (dats m 0 c).arrAt 4 cfg0.N = val_main_v20 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  obtain ⟨p, q, rfl⟩ : ∃ (p : Fin 256) (q : Fin 4096), y = ix2 p q := ⟨y 0, y 1, by funext a; fin_cases a <;> rfl⟩
  have ht := lt_points t
  have he : ((cfg0.win 4).blk t).view.emb (ix2 p q) = (ix2 ⟨t.val * 256 + p.val, by omega⟩ q : S2048x4096.Idx) := by
    blk_ext [idx t]
  rw [he, ref_apply, block_apply]
  refine closing_congr q (fun k => ?_) (fun k => ?_) (fun k => ?_) ?_
  · blk_ext [iblk, V, idx t]
  · blk_ext [iblk, V, idx t]
  · blk_ext [iblk, V, idx t]
  · blk_simp [iblk]
    entry_read
    pointwise
    blk_ext [idx t]

theorem algebraic [Cert.Kernel16Ideal.Facts] [Cert.Reference16Ideal.Facts] :
    Cert.algebraic_Kernel16Ideal_Reference16Ideal := by
  intro m g m' g' _ hagree
  refine ⟨fun c => (dats m 0 c).arrAt 4 cfg0.N, Cert.Kernel16Ideal.Value.run_blocks m g, ?_⟩
  refine (θ_run _ _ _).mono (fun r h c => ?_) (Cert.Reference16Ideal.Value.run m' g')
  obtain ⟨a0, a1, a2, a3⟩ := hagree c
  obtain ⟨h0, kept⟩ := h c
  refine ⟨h0.trans ?_, kept⟩
  rw [a0, a1, a2, a3]
  exact (Cert.Reference16Ideal.Read.val_main_v20_eq ..).trans (final m c).symm

end Cert.FinalSample
-- ==== Proof.Stores.lean ====
/-
  Eight blocks of one buffer stored one after the other, as the attention stores its heads: blocks of columns, and blocks of rows.
-/
module

public import Idealize.ShloMosaic.Lib.Pipeline.ValueKit.Acc

@[expose] public section

noncomputable section

namespace Cert.Stores

open Idealize.ShloMosaic Idealize.SL.Sem

variable {Val : EltTy → Type} [∀ e, Nonempty (Val e)] {e : EltTy}

/-- An index that only store `i` reaches holds what that store put there. -/
theorem eight {S : Shape} (p : Fin 8 → View.Piece Val S e) (L : List (View.Piece Val S e)) (y : S.Idx) (i : Fin 8) (z : Val e)
    (hit : ∀ M, View.canon (p i :: M) y = z) (miss : ∀ j, i ≠ j → ∀ M, View.canon (p j :: M) y = View.canon M y) :
    View.canon (p 7 :: p 6 :: p 5 :: p 4 :: p 3 :: p 2 :: p 1 :: p 0 :: L) y = z := by
  have key : ∀ (j : Fin 8) (M : List (View.Piece Val S e)), (i ≠ j → View.canon M y = z) → View.canon (p j :: M) y = z := by
    intro j M hM
    by_cases h : i = j
    · rw [← h]
      exact hit M
    · rw [miss j h M]
      exact hM h
  refine key 7 _ fun h7 => key 6 _ fun h6 => key 5 _ fun h5 => key 4 _ fun h4 => key 3 _ fun h3 => key 2 _ fun h2 =>
    key 1 _ fun h1 => key 0 _ fun h0 => ?_
  exfalso
  omega

section Cols

/-- Columns: the output block. -/
abbrev Out : Shape := ⟨2, ![64, 1024]⟩
abbrev Col : Shape := ⟨2, ![64, 128]⟩

theorem colInb (i : Fin 8) : ∀ x, (![0, 128 * i.val] : Fin 2 → Nat) x + Col.size x ≤ Out.size x := by
  intro x
  fin_cases x
  · exact le_rfl
  · change 128 * i.val + 128 ≤ 1024
    omega

def colPiece (f : Fin 8 → Col.Idx → Val e) (i : Fin 8) : View.Piece Val Out e :=
  ⟨Rect.unit (s := Out) ![0, 128 * i.val] ![64, 128] (colInb i), f i⟩

def colOf (y : Out.Idx) : Fin 8 := ⟨(y 1).val / 128, by
  have : (y 1).val < 1024 := (y 1).isLt
  omega⟩

def inCol (y : Out.Idx) : Col.Idx := fun x => match x with
  | 0 => y 0
  | 1 => ⟨(y 1).val % 128, Nat.mod_lt _ (by decide)⟩

theorem col_hit (f : Fin 8 → Col.Idx → Val e) (i : Fin 8) (M : List (View.Piece Val Out e)) (y : Out.Idx)
    (h : colOf y = i) : View.canon (colPiece f i :: M) y = f i (inCol y) := by
  have hi : (colOf y).val = i.val := congrArg Fin.val h
  have hy : (colPiece f i).1.emb (inCol y) = y := by
    funext x
    apply Fin.ext
    fin_cases x
    · change 0 + 1 * (y 0).val = (y 0).val
      omega
    · change (y 1).val / 128 = i.val at hi
      change 128 * i.val + 1 * ((y 1).val % 128) = (y 1).val
      omega
  conv_lhs => rw [← hy]
  exact View.canon_cons_emb _ _ _ _

theorem canon_cols (f : Fin 8 → Col.Idx → Val e) (L : List (View.Piece Val Out e)) :
    View.canon (colPiece f 7 :: colPiece f 6 :: colPiece f 5 :: colPiece f 4 :: colPiece f 3 :: colPiece f 2 :: colPiece f 1 ::
      colPiece f 0 :: L) = fun y => f (colOf y) (inCol y) := by
  funext y
  refine eight (colPiece f) L y (colOf y) _ (fun M => ?_) fun j h M => ?_
  · exact col_hit f _ M y rfl
  · refine View.canon_cons_of_not_mem _ _ fun hm => ?_
    obtain ⟨k, hk, he⟩ := (LoadRect.mem_set _).mp hm (1 : Fin 2)
    apply h
    have hk' : k < 128 := hk
    have he' : (y 1).val = 128 * j.val + 1 * k := he
    apply Fin.ext
    change (y 1).val / 128 = j.val
    omega

end Cols

section Rows

/-- Rows: the scratch buffer of the absorbed queries. -/
abbrev Buf : Shape := ⟨2, ![512, 512]⟩
abbrev Row : Shape := ⟨2, ![64, 512]⟩

theorem rowInb (i : Fin 8) : ∀ x, (![64 * i.val, 0] : Fin 2 → Nat) x + Row.size x ≤ Buf.size x := by
  intro x
  fin_cases x
  · change 64 * i.val + 64 ≤ 512
    omega
  · exact le_rfl

def rowPiece (f : Fin 8 → Row.Idx → Val e) (i : Fin 8) : View.Piece Val Buf e :=
  ⟨Rect.unit (s := Buf) ![64 * i.val, 0] ![64, 512] (rowInb i), f i⟩

def rowOf (y : Buf.Idx) : Fin 8 := ⟨(y 0).val / 64, by
  have : (y 0).val < 512 := (y 0).isLt
  omega⟩

def inRow (y : Buf.Idx) : Row.Idx := fun x => match x with
  | 0 => ⟨(y 0).val % 64, Nat.mod_lt _ (by decide)⟩
  | 1 => y 1

theorem row_hit (f : Fin 8 → Row.Idx → Val e) (i : Fin 8) (M : List (View.Piece Val Buf e)) (y : Buf.Idx)
    (h : rowOf y = i) : View.canon (rowPiece f i :: M) y = f i (inRow y) := by
  have hi : (rowOf y).val = i.val := congrArg Fin.val h
  have hy : (rowPiece f i).1.emb (inRow y) = y := by
    funext x
    apply Fin.ext
    fin_cases x
    · change (y 0).val / 64 = i.val at hi
      change 64 * i.val + 1 * ((y 0).val % 64) = (y 0).val
      omega
    · change 0 + 1 * (y 1).val = (y 1).val
      omega
  conv_lhs => rw [← hy]
  exact View.canon_cons_emb _ _ _ _

theorem canon_rows (f : Fin 8 → Row.Idx → Val e) (L : List (View.Piece Val Buf e)) :
    View.canon (rowPiece f 7 :: rowPiece f 6 :: rowPiece f 5 :: rowPiece f 4 :: rowPiece f 3 :: rowPiece f 2 :: rowPiece f 1 ::
      rowPiece f 0 :: L) = fun y => f (rowOf y) (inRow y) := by
  funext y
  refine eight (rowPiece f) L y (rowOf y) _ (fun M => ?_) fun j h M => ?_
  · exact row_hit f _ M y rfl
  · refine View.canon_cons_of_not_mem _ _ fun hm => ?_
    obtain ⟨k, hk, he⟩ := (LoadRect.mem_set _).mp hm (0 : Fin 2)
    apply h
    have hk' : k < 64 := hk
    have he' : (y 0).val = 64 * j.val + 1 * k := he
    apply Fin.ext
    change (y 0).val / 64 = j.val
    omega

end Rows

end Cert.Stores
-- ==== Proof.AttnBlk.lean ====
/-
  The output block after the sample attention's body at one grid point: the absorbed queries of the eight heads stored one
  under another, the weighted means of their rows, and every head's output product stored beside the others.
-/
module

public import proofs.«01_k».proof.Proof.Gen.Kernel17Ideal.Value
public import proofs.«01_k».proof.Proof.Stores
public import Idealize.ShloMosaic.Lib.Pipeline.ValueKit

@[expose] public section

set_option maxRecDepth 16384

noncomputable section

namespace Cert.AttnBlk

open Cert.Kernel17Ideal Cert.Kernel17Ideal.Gen Idealize.ShloMosaic Idealize.ShloMosaic.TcCoe Idealize.SL.Sem Idealize.ShloMosaic.Tactic

variable {F : FTy → Type} [FloatOps F]

theorem queryInb (i : Fin 8) : ∀ x, (![i.val, 0, 0] : Fin 3 → Nat) x + S1x64x128.size x ≤ S8x64x192.size x := by
  intro x
  fin_cases x
  · change i.val + 1 ≤ 8
    omega
  · exact le_rfl
  · change 0 + 128 ≤ 192
    omega

theorem weightInb (i : Fin 8) : ∀ x, (![i.val, 0, 0] : Fin 3 → Nat) x + S1x512x128.size x ≤ S8x512x128.size x := by
  intro x
  fin_cases x
  · change i.val + 1 ≤ 8
    omega
  · exact le_rfl
  · exact le_rfl

/-- One head of the queries, its part for the latents, and one head of a weight. -/
def queryOf (q : Vec F S8x64x192 .bf16) (i : Fin 8) : Vec F S1x64x128 .bf16 :=
  View.ld (Val := Elt F) q (Rect.unit (s := S8x64x192) ![i.val, 0, 0] S1x64x128.size (queryInb i))
def weightOf (w : Vec F S8x512x128 .bf16) (i : Fin 8) : Vec F S1x512x128 .bf16 :=
  View.ld (Val := Elt F) w (Rect.unit (s := S8x512x128) ![i.val, 0, 0] S1x512x128.size (weightInb i))
/-- The rotary parts of the queries. -/
def rotOf (q : Vec F S8x64x192 .bf16) : Vec F S8x64x64 .bf16 :=
  View.ld (Val := Elt F) q (Rect.unit (s := S8x64x192) ![0, 0, 128] S8x64x64.size inb_S8x64x192_S8x64x64_0_0_128)

/-- The absorbed queries of all eight heads. -/
def absorbedBlk (q : Vec F S8x64x192 .bf16) (wk : Vec F S8x512x128 .bf16) : Vec F S512x512 .bf16 :=
  fun y => k0_pay4 (queryOf q (Stores.rowOf y)) (weightOf wk (Stores.rowOf y)) (Stores.inRow y)

/-- The weighted means of the latents, of all eight heads. -/
def meanBlk (q : Vec F S8x64x192 .bf16) (ck : Vec F S1x1024x512 .f32) (kr : Vec F S1x1024x64 .f32) (nk : Vec F S64x512 .f32)
    (nr : Vec F S64x64 .f32) (wk : Vec F S8x512x128 .bf16) : FVec F S512x512 .bf16 :=
  k0_pay17 (absorbedBlk q wk) (k0_pay12 (rotOf q)) (k0_pay13 ck) (k0_pay14 nk) (k0_pay15 (absorbedBlk q wk) ck) (k0_pay16 kr) nr

theorem rowsSlice (i : Fin 8) : S512x512.Slices ![64 * i.val, 0] S64x512 := by
  refine ⟨rfl, ?_⟩
  intro x
  fin_cases x
  · change 64 * i.val + 64 ≤ 512
    omega
  · exact le_rfl

/-- One head's output product. -/
def headOut (o : FVec F S512x512 .bf16) (w : Vec F S8x512x128 .bf16) (i : Fin 8) : FVec F S64x128 .bf16 :=
  k0_pay1 (extractStridedSlice S64x512 ![64 * i.val, 0] o (rowsSlice i)) (k0_pay24 (weightOf w i))
    (constant S64x128 .f32 0x00000000#32)

def outBlk (o : FVec F S512x512 .bf16) (w : Vec F S8x512x128 .bf16) : Vec F S64x1024 .bf16 :=
  fun y => headOut o w (Stores.colOf y) (Stores.inCol y)

theorem ldK (v : Vec F S1x1024x512 .f32) (h) : View.ld (Val := Elt F) v (Rect.unit (s := S1x1024x512) ![0, 0, 0] ![1, 1024, 512] h) = v :=
  View.ld_unit_lit' (S := S1x1024x512) h v (by decide)
theorem ldR (v : Vec F S1x1024x64 .f32) (h) : View.ld (Val := Elt F) v (Rect.unit (s := S1x1024x64) ![0, 0, 0] ![1, 1024, 64] h) = v :=
  View.ld_unit_lit' (S := S1x1024x64) h v (by decide)
theorem ldN (v : Vec F S64x512 .f32) (h) : View.ld (Val := Elt F) v (Rect.unit (s := S64x512) ![0, 0] ![64, 512] h) = v :=
  View.ld_unit_lit' (S := S64x512) h v (by decide)
theorem ldS (v : Vec F S64x64 .f32) (h) : View.ld (Val := Elt F) v (Rect.unit (s := S64x64) ![0, 0] ![64, 64] h) = v :=
  View.ld_unit_lit' (S := S64x64) h v (by decide)
theorem ldA (v : Vec F S512x512 .bf16) (h) : View.ld (Val := Elt F) v (Rect.unit (s := S512x512) ![0, 0] ![512, 512] h) = v :=
  View.ld_unit_lit' (S := S512x512) h v (by decide)

variable (m : (ℓ : Loc nD τ sig) → Buf (Elt F) ℓ)

/-- A load of the whole buffer after the stores of the eight heads. -/
theorem loaded (q : Vec F S8x64x192 .bf16) (wk : Vec F S8x512x128 .bf16) (L : List (View.Piece (Elt F) S512x512 .bf16)) (h) :
    (fun j => View.canon (Stores.rowPiece (fun i => k0_pay4 (queryOf q i) (weightOf wk i)) 7
      :: Stores.rowPiece (fun i => k0_pay4 (queryOf q i) (weightOf wk i)) 6
      :: Stores.rowPiece (fun i => k0_pay4 (queryOf q i) (weightOf wk i)) 5
      :: Stores.rowPiece (fun i => k0_pay4 (queryOf q i) (weightOf wk i)) 4
      :: Stores.rowPiece (fun i => k0_pay4 (queryOf q i) (weightOf wk i)) 3
      :: Stores.rowPiece (fun i => k0_pay4 (queryOf q i) (weightOf wk i)) 2
      :: Stores.rowPiece (fun i => k0_pay4 (queryOf q i) (weightOf wk i)) 1
      :: Stores.rowPiece (fun i => k0_pay4 (queryOf q i) (weightOf wk i)) 0 :: L)
      ((Rect.unit (s := S512x512) ![0, 0] S512x512.size h).idx j)) = absorbedBlk q wk := by
  rw [Stores.canon_rows]
  exact ldA (absorbedBlk q wk) h

variable (m : (ℓ : Loc nD τ sig) → Buf (Elt F) ℓ)

set_option maxHeartbeats 8000000 in
theorem out_eq (c : Dev nD) (t : Fin cfg0.N) : outsAt0 m c t
    = outBlk (meanBlk (iblk m c 0 t) (iblk m c 1 t) (iblk m c 2 t) (iblk m c 3 t) (iblk m c 4 t) (iblk m c 5 t)) (iblk m c 6 t) := by
  unfold outsAt0 out0_A_7
  rw [View.read_writes_eq_canon _ _ _ (cover0_A_7 c _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, View.readCov_eq_canon', ldK, ldR, ldN, ldS]
  have hl := loaded (F := F) (iblk m c 0 t) (iblk m c 5 t) [] inb_S512x512_S512x512_0_0
  generalize hA : absorbedBlk (F := F) (iblk m c 0 t) (iblk m c 5 t) = A at hl
  have hc := Stores.canon_cols (Val := Elt F) (e := .bf16) (headOut (meanBlk (iblk m c 0 t) (iblk m c 1 t) (iblk m c 2 t)
    (iblk m c 3 t) (iblk m c 4 t) (iblk m c 5 t)) (iblk m c 6 t)) []
  refine Eq.trans ?_ hc
  unfold meanBlk
  rw [hA, ← hl]
  rfl

end Cert.AttnBlk
-- ==== Proof.Soft.lean ====
/-
  Attention over the extended reals: a row's weights over two stretches of keys with one division at the end, against the
  softmax over all the keys. They agree where the scores are real numbers.
-/
module

public import Idealize.ShloMosaic.PureOps.Ideal

@[expose] public section

noncomputable section

namespace Cert.Soft

open Idealize.ShloMosaic

/-- The constants as both programs spell them: minus infinity and the scale of the scores. -/
abbrev negInf : EReal := Ideal.ofBits FTy.f32 4286578688#32
abbrev scale : EReal := Ideal.ofBits FTy.f32 1033096506#32

/-! ## Real numbers among the extended ones -/

def IsReal (x : EReal) : Prop := ∃ r : ℝ, x = r

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {n : Nat} {f : Fin n → EReal} (h : ∀ i, IsReal (f i)) : IsReal (∑ i, f i) := by
  refine Finset.sum_induction f IsReal (fun _ _ hx hy => hx.add hy) ⟨0, rfl⟩ fun i _ => h i

theorem isReal_of {x : EReal} (h : x ≠ ⊤) (h' : x ≠ ⊥) : IsReal x := ⟨x.toReal, (EReal.coe_toReal h h').symm⟩

/-! ## The softmax -/

section

variable {n : Nat}

/-- The largest score. -/
def top (s : Fin n → EReal) : EReal := Finset.univ.fold max negInf s

/-- The softmax's mean of `v`. -/
def mean (s v : Fin n → EReal) : EReal :=
  ∑ k, Ideal.div (Ideal.exp (s k - top s)) (∑ k', Ideal.exp (s k' - top s)) * v k

theorem negInf_eq : negInf = ⊥ := by
  simp [negInf, Ideal.ofBits, Ideal.ieee]

theorem top_real (s : Fin n → EReal) (k₀ : Fin n) (h : ∀ k, IsReal (s k)) : IsReal (top s) := by
  refine isReal_of (ne_of_lt ?_) (ne_of_gt ?_)
  · refine Finset.fold_max_lt _ |>.mpr ⟨by rw [negInf_eq]; exact bot_lt_top, fun k _ => ?_⟩
    obtain ⟨r, hr⟩ := h k
    rw [hr]
    exact EReal.coe_lt_top r
  · obtain ⟨r, hr⟩ := h k₀
    refine lt_of_lt_of_le (EReal.bot_lt_coe r) ?_
    rw [← hr]
    exact (Finset.le_fold_max _).mpr (Or.inr ⟨k₀, Finset.mem_univ _, le_rfl⟩)

/-- The division by a positive real number goes through a sum. -/
theorem div_sum (p v : Fin n → EReal) (l : ℝ) (hl : 0 < l) :
    ∑ k, Ideal.div (p k) l * v k = Ideal.div (∑ k, p k * v k) l := by
  have hc : (0 : EReal) ≤ ((1 / l : ℝ) : EReal) := EReal.coe_nonneg.mpr (one_div_pos.mpr hl).le
  have hs : ∀ f : Fin n → EReal, (∑ k, f k) * ((1 / l : ℝ) : EReal) = ∑ k, f k * ((1 / l : ℝ) : EReal) := by
    intro f
    induction (Finset.univ : Finset (Fin n)) using Finset.induction_on with
    | empty => simp
    | insert a t ha ih =>
      rw [Finset.sum_insert ha, Finset.sum_insert ha, EReal.right_distrib_of_nonneg_of_ne_top hc (EReal.coe_ne_top _), ih]
  rw [Ideal.div_coe hl.ne', hs]
  refine Finset.sum_congr rfl fun k _ => ?_
  rw [Ideal.div_coe hl.ne', mul_assoc, mul_assoc, mul_comm (v k)]

theorem exp_pos_real {x m : EReal} (hx : IsReal x) (hm : IsReal m) : ∃ r : ℝ, 0 < r ∧ Ideal.exp (x - m) = r := by
  obtain ⟨a, rfl⟩ := hx
  obtain ⟨b, rfl⟩ := hm
  refine ⟨Real.exp (a - b), Real.exp_pos _, ?_⟩
  rw [← EReal.coe_sub]
  rfl

/-- The sum of the weights is a positive real number. -/
theorem weights_real (s : Fin n → EReal) (k₀ : Fin n) (h : ∀ k, IsReal (s k)) :
    ∃ l : ℝ, 0 < l ∧ ∑ k, Ideal.exp (s k - top s) = l := by
  choose r hr he using fun k => exp_pos_real (h k) (top_real s k₀ h)
  refine ⟨∑ k, r k, Finset.sum_pos (fun k _ => hr k) ⟨k₀, Finset.mem_univ _⟩, ?_⟩
  rw [Finset.sum_congr rfl fun k _ => he k]
  exact (map_sum (⟨⟨Real.toEReal, EReal.coe_zero⟩, EReal.coe_add⟩ : ℝ →+ EReal) r Finset.univ).symm

theorem mean_eq (s v : Fin n → EReal) (k₀ : Fin n) (h : ∀ k, IsReal (s k)) :
    mean s v = Ideal.div (∑ k, Ideal.exp (s k - top s) * v k) (∑ k, Ideal.exp (s k - top s)) := by
  obtain ⟨l, hl, e⟩ := weights_real s k₀ h
  unfold mean
  rw [e]
  exact div_sum _ _ l hl

end

/-! ## Two stretches of keys -/

section

variable {n n' : Nat}

/-- One after the other. -/
def join {α : Type} (a : Fin n → α) (b : Fin n' → α) (k : Fin (n + n')) : α :=
  if h : k.val < n then a ⟨k.val, h⟩ else b ⟨k.val - n, by omega⟩

theorem join_left {α : Type} (a : Fin n → α) (b : Fin n' → α) (i : Fin n) : join a b (Fin.castAdd n' i) = a i := by
  simp [join]

theorem join_right {α : Type} (a : Fin n → α) (b : Fin n' → α) (i : Fin n') : join a b (Fin.natAdd n i) = b i := by
  simp [join]

theorem sum_join (f : Fin (n + n') → EReal) :
    ∑ k, f k = (∑ i : Fin n, f (Fin.castAdd n' i)) + ∑ i : Fin n', f (Fin.natAdd n i) := Fin.sum_univ_add f

theorem top_join (a : Fin n → EReal) (b : Fin n' → EReal) : top (join a b) = max (top a) (top b) := by
  unfold top
  apply le_antisymm
  · refine (Finset.fold_max_le _).mpr ⟨le_max_of_le_left ((Finset.le_fold_max _).mpr (Or.inl le_rfl)), fun k _ => ?_⟩
    unfold join
    split
    · exact le_max_of_le_left ((Finset.le_fold_max _).mpr (Or.inr ⟨_, Finset.mem_univ _, le_rfl⟩))
    · exact le_max_of_le_right ((Finset.le_fold_max _).mpr (Or.inr ⟨_, Finset.mem_univ _, le_rfl⟩))
  · refine max_le ?_ ?_
    · refine (Finset.fold_max_le _).mpr ⟨(Finset.le_fold_max _).mpr (Or.inl le_rfl), fun i _ => ?_⟩
      exact (Finset.le_fold_max _).mpr (Or.inr ⟨Fin.castAdd n' i, Finset.mem_univ _, (join_left a b i).ge⟩)
    · refine (Finset.fold_max_le _).mpr ⟨(Finset.le_fold_max _).mpr (Or.inl le_rfl), fun i _ => ?_⟩
      exact (Finset.le_fold_max _).mpr (Or.inr ⟨Fin.natAdd n i, Finset.mem_univ _, (join_right a b i).ge⟩)

/-- The weighted mean as the kernel takes it: over each stretch, then one division. -/
def split (a : Fin n → EReal) (b : Fin n' → EReal) (v : Fin n → EReal) (w : Fin n' → EReal) : EReal :=
  Ideal.div ((∑ i, Ideal.exp (a i - max (top a) (top b)) * v i) + ∑ i, Ideal.exp (b i - max (top a) (top b)) * w i)
    ((∑ i, Ideal.exp (a i - max (top a) (top b))) + ∑ i, Ideal.exp (b i - max (top a) (top b)))

theorem join_real {a : Fin n → EReal} {b : Fin n' → EReal} (ha : ∀ i, IsReal (a i)) (hb : ∀ i, IsReal (b i)) (k : Fin (n + n')) :
    IsReal (join a b k) := by
  unfold join
  split
  · exact ha _
  · exact hb _

theorem mean_join (a : Fin n → EReal) (b : Fin n' → EReal) (v : Fin n → EReal) (w : Fin n' → EReal) (k₀ : Fin (n + n'))
    (ha : ∀ i, IsReal (a i)) (hb : ∀ i, IsReal (b i)) : mean (join a b) (join v w) = split a b v w := by
  refine (mean_eq (join a b) (join v w) k₀ (join_real ha hb)).trans ?_
  unfold split
  rw [← top_join]
  refine congrArg₂ Ideal.div ((sum_join _).trans ?_) ((sum_join _).trans ?_)
  · simp only [join_left, join_right]
  · simp only [join_left, join_right]

end

/-! ## The scores -/

/-- One query's score at one key: the absorbed part against the latent, the rotary part against the rotary key. -/
def score (q : Fin 192 → EReal) (wk : Fin 512 → Fin 128 → EReal) (ck : Fin 512 → EReal) (kr : Fin 64 → EReal) : EReal :=
  ((∑ c, (∑ d : Fin 128, q ⟨d.val, by omega⟩ * wk c d) * ck c) + ∑ e : Fin 64, q ⟨128 + e.val, by omega⟩ * kr e) * scale

theorem scale_real : IsReal scale := by
  unfold scale Ideal.ofBits Ideal.ieee
  norm_num
  exact ⟨_, rfl⟩

theorem score_real {q : Fin 192 → EReal} {wk : Fin 512 → Fin 128 → EReal} {ck : Fin 512 → EReal} {kr : Fin 64 → EReal}
    (hq : ∀ i, IsReal (q i)) (hw : ∀ c d, IsReal (wk c d)) (hc : ∀ c, IsReal (ck c)) (hk : ∀ e, IsReal (kr e)) :
    IsReal (score q wk ck kr) :=
  ((IsReal.sum fun c => (IsReal.sum fun d => (hq _).mul (hw c d)).mul (hc c)).add (IsReal.sum fun e => (hq _).mul (hk e))).mul
    scale_real

/-- The score as one sum over the key's 576 numbers. -/
theorem score_join (q : Fin 192 → EReal) (wk : Fin 512 → Fin 128 → EReal) (ck : Fin 512 → EReal) (kr : Fin 64 → EReal) :
    (∑ x : Fin (512 + 64), join (fun c => ∑ d : Fin 128, q ⟨d.val, by omega⟩ * wk c d) (fun e => q ⟨128 + e.val, by omega⟩) x
      * join ck kr x) * scale = score q wk ck kr := by
  unfold score
  rw [sum_join]
  simp only [join_left, join_right]

end Cert.Soft
-- ==== Proof.AttnBody.lean ====
/-
  The sample attention's arithmetic at one index: the absorbed queries of a head, and the weighted mean of the latents over
  the cached and the new keys.
-/
module

public import proofs.«01_k».proof.Defs
public import proofs.«01_k».proof.Proof.Gen.Kernel17Ideal.Skeleton
public import proofs.«01_k».proof.Proof.Soft
public import Idealize.ShloMosaic.Lib.Pipeline.ValueKit
public import Idealize.ShloMosaic.Lib.Pointwise

@[expose] public section

set_option maxRecDepth 16384

noncomputable section

namespace Cert.AttnBody

open Cert.Kernel17Ideal Cert.Kernel17Ideal.Gen Idealize.ShloMosaic Idealize.ShloMosaic.TcCoe Idealize.SL.Sem

/-- The absorbed queries of one head. -/
theorem absorbed (v : Vec Ideal S1x64x128 .bf16) (w : Vec Ideal S1x512x128 .bf16) (p : Fin 64) (q : Fin 512) :
    k0_pay4 (F := Ideal) v w (ix2 p q) = ∑ d : Fin 128, v (ix3 0 p d) * w (ix3 0 q d) := by
  pointwise [k0_pay4]

/-- The weighted mean of the latents. -/
theorem mean_apply (qa : Vec Ideal S512x512 .bf16) (qr : FVec Ideal S512x64 .bf16) (ck : FVec Ideal S1024x512 .bf16)
    (nk : FVec Ideal S64x512 .bf16) (s : FVec Ideal S512x1024 .f32) (kr : FVec Ideal S1024x64 .bf16) (nr : Vec Ideal S64x64 .f32)
    (p q : Fin 512) :
    k0_pay17 (F := Ideal) qa qr ck nk s kr nr (ix2 p q)
      = Soft.split (fun k : Fin 1024 => (s (ix2 p k) + ∑ e : Fin 64, qr (ix2 p e) * kr (ix2 k e)) * Soft.scale)
          (fun k : Fin 64 => ((∑ c : Fin 512, qa (ix2 p c) * nk (ix2 k c)) + ∑ e : Fin 64, qr (ix2 p e) * nr (ix2 k e)) * Soft.scale)
          (fun k => ck (ix2 k q)) (fun k => nk (ix2 k q)) := by
  unfold Soft.split Soft.top
  pointwise [k0_pay17]

end Cert.AttnBody
-- ==== Proof.AttnHead.lean ====
/-
  The sample attention's output block at one index, from its windows' blocks.
-/
module

public import proofs.«01_k».proof.Proof.AttnBlk
public import proofs.«01_k».proof.Proof.AttnBody
public import Idealize.ShloMosaic.Lib.Pointwise

@[expose] public section

set_option maxRecDepth 16384

noncomputable section

namespace Cert.AttnBlk

open Cert.Kernel17Ideal Cert.Kernel17Ideal.Gen Idealize.ShloMosaic Idealize.ShloMosaic.TcCoe Idealize.SL.Sem

variable (q : Vec Ideal S8x64x192 .bf16) (ck : Vec Ideal S1x1024x512 .f32) (kr : Vec Ideal S1x1024x64 .f32) (nk : Vec Ideal S64x512 .f32)
  (nr : Vec Ideal S64x64 .f32) (wk w : Vec Ideal S8x512x128 .bf16) (i : Fin 8)

theorem query_apply (z : Fin 1) (p : Fin 64) (d : Fin 128) : queryOf (F := Ideal) q i (ix3 z p d) = q (ix3 i p ⟨d.val, by omega⟩) := by
  refine congrArg q (funext fun a => Fin.ext ?_)
  fin_cases a
  · change i.val + 1 * z.val = i.val
    omega
  · change 0 + 1 * p.val = p.val
    omega
  · change 0 + 1 * d.val = d.val
    omega

theorem weight_apply (z : Fin 1) (c : Fin 512) (d : Fin 128) : weightOf (F := Ideal) w i (ix3 z c d) = w (ix3 i c d) := by
  refine congrArg w (funext fun a => Fin.ext ?_)
  fin_cases a
  · change i.val + 1 * z.val = i.val
    omega
  · change 0 + 1 * c.val = c.val
    omega
  · change 0 + 1 * d.val = d.val
    omega

theorem rot_apply (p : Fin 64) (e : Fin 64) : rotOf (F := Ideal) q (ix3 i p e) = q (ix3 i p ⟨128 + e.val, by omega⟩) := by
  refine congrArg q (funext fun a => Fin.ext ?_)
  fin_cases a
  · change 0 + 1 * i.val = i.val
    omega
  · change 0 + 1 * p.val = p.val
    omega
  · change 128 + 1 * e.val = 128 + e.val
    omega

/-- Row `p` of head `i` among the stacked rows. -/
def at8 (i : Fin 8) (p : Fin 64) : Fin 512 := ⟨64 * i.val + p.val, by omega⟩

theorem absorbed_apply (p : Fin 64) (c : Fin 512) : absorbedBlk (F := Ideal) q wk (ix2 (at8 i p) c)
    = ∑ d : Fin 128, q (ix3 i p ⟨d.val, by omega⟩) * wk (ix3 i c d) := by
  have h1 : Stores.rowOf (ix2 (at8 i p) c) = i := by
    refine Fin.ext ?_
    change (64 * i.val + p.val) / 64 = i.val
    omega
  have h2 : Stores.inRow (ix2 (at8 i p) c) = ix2 p c := by
    funext a
    fin_cases a
    · refine Fin.ext ?_
      change (64 * i.val + p.val) % 64 = p.val
      omega
    · rfl
  unfold absorbedBlk
  rw [h1, h2, AttnBody.absorbed]
  refine Finset.sum_congr rfl fun d _ => ?_
  rw [query_apply, weight_apply]

theorem rots_apply (v : Vec Ideal S8x64x64 .bf16) (p e : Fin 64) : k0_pay12 (F := Ideal) v (ix2 (at8 i p) e) = v (ix3 i p e) := by
  have h1 : (64 * i.val + p.val) / 64 = i.val := by omega
  have h2 : (64 * i.val + p.val) % 64 = p.val := by omega
  unfold at8
  pointwise [k0_pay12]

theorem oldKeys_apply (k : Fin 1024) (c : Fin 512) : k0_pay13 (F := Ideal) ck (ix2 k c) = ck (ix3 0 k c) := by
  pointwise [k0_pay13]

theorem newKeys_apply (k : Fin 64) (c : Fin 512) : k0_pay14 (F := Ideal) nk (ix2 k c) = nk (ix2 k c) := by
  pointwise [k0_pay14]

theorem oldRots_apply (k : Fin 1024) (e : Fin 64) : k0_pay16 (F := Ideal) kr (ix2 k e) = kr (ix3 0 k e) := by
  pointwise [k0_pay16]

theorem oldDots_apply (a : Vec Ideal S512x512 .bf16) (r : Fin 512) (k : Fin 1024) : k0_pay15 (F := Ideal) a ck (ix2 r k)
    = ∑ c : Fin 512, a (ix2 r c) * ck (ix3 0 k c) := by
  pointwise [k0_pay15, k0_pay13]

/-- The weighted mean of the latents, of one head's row. -/
theorem mean_apply (p : Fin 64) (c : Fin 512) : meanBlk (F := Ideal) q ck kr nk nr wk (ix2 (at8 i p) c)
    = Soft.split (fun k : Fin 1024 => Soft.score (fun x => q (ix3 i p x)) (fun c d => wk (ix3 i c d)) (fun c => ck (ix3 0 k c)) (fun e => kr (ix3 0 k e)))
        (fun k : Fin 64 => Soft.score (fun x => q (ix3 i p x)) (fun c d => wk (ix3 i c d)) (fun c => nk (ix2 k c)) (fun e => nr (ix2 k e)))
        (fun k => ck (ix3 0 k c)) (fun k => nk (ix2 k c)) := by
  unfold meanBlk Soft.score
  rw [AttnBody.mean_apply]
  simp only [oldDots_apply, rots_apply, rot_apply, absorbed_apply, oldKeys_apply, newKeys_apply, oldRots_apply]

/-- One head's output product. -/
theorem product_apply (o : FVec Ideal S64x512 .bf16) (w : Vec Ideal S1x512x128 .bf16) (p : Fin 64) (v : Fin 128) :
    k0_pay1 (F := Ideal) o (k0_pay24 w) (constant S64x128 .f32 0x00000000#32) (ix2 p v) = ∑ c : Fin 512, o (ix2 p c) * w (ix3 0 c v) := by
  pointwise [k0_pay1, k0_pay24]

theorem slice_apply (o : FVec Ideal S512x512 .bf16) (p : Fin 64) (c : Fin 512) :
    extractStridedSlice S64x512 ![64 * i.val, 0] o (rowsSlice i) (ix2 p c) = o (ix2 (at8 i p) c) := by
  refine congrArg o (funext fun a => Fin.ext ?_)
  fin_cases a
  · change 64 * i.val + p.val = 64 * i.val + p.val
    rfl
  · change 0 + c.val = c.val
    omega

theorem out_apply (o : FVec Ideal S512x512 .bf16) (p : Fin 64) (v : Fin 128) :
    outBlk (F := Ideal) o w (ix2 p ⟨128 * i.val + v.val, by omega⟩) = ∑ c : Fin 512, o (ix2 (at8 i p) c) * w (ix3 i c v) := by
  have h1 : Stores.colOf (ix2 p ⟨128 * i.val + v.val, by omega⟩) = i := by
    refine Fin.ext ?_
    change (128 * i.val + v.val) / 128 = i.val
    omega
  have h2 : Stores.inCol (ix2 p ⟨128 * i.val + v.val, by omega⟩) = ix2 p v := by
    funext a
    fin_cases a
    · rfl
    · refine Fin.ext ?_
      change (128 * i.val + v.val) % 128 = v.val
      omega
  unfold outBlk headOut
  rw [h1, h2, product_apply]
  refine Finset.sum_congr rfl fun c _ => ?_
  rw [slice_apply, weight_apply]

end Cert.AttnBlk
-- ==== Proof.AttnMask.lean ====
/-
  Two parts of the sample attention of the reference: every key is allowed to every query, and the largest of a row's scores.
-/
module

public import proofs.«01_k».proof.Defs
public import proofs.«01_k».proof.Proof.Gen.Reference17Ideal.Read
public import proofs.«01_k».proof.Proof.Soft
public import Idealize.ShloMosaic.Lib.Pipeline.ValueKit
public import Idealize.ShloMosaic.Lib.Pointwise

@[expose] public section

set_option maxRecDepth 16384

noncomputable section

namespace Cert.AttnRef

open Cert.Reference17Ideal Cert.Reference17Ideal.Gen Idealize.ShloMosaic Idealize.ShloMosaic.TcCoe Idealize.SL.Sem
open Cert.Reference17Ideal.Read Cert.Soft

/-- The host's maximum over the last axis. -/
theorem hostTop {u : Shape} {n0 n1 n2 n3 : Nat} (x : FVec Ideal (⟨4, ![n0, n1, n2, n3]⟩ : Shape) .f32)
    (h : (⟨4, ![n0, n1, n2, n3]⟩ : Shape).ReducesTo [3] (⟨3, ![n0, n1, n2]⟩ : Shape)) (hu : 0 < u.numel)
    (a : Fin n0) (b : Fin n1) (c : Fin n2) :
    Host.reduce FloatOps.maximumf x (constant u .f32 0xFF800000#32) h hu (ix3 a b c) = top fun k : Fin n3 => x (ix4 a b c k) := by
  unfold top
  pointwise

/-! ## Every key is allowed -/

theorem key_chunk : ∀ k : Fin 1088, val_main_v28 (F := Ideal) (ix2 0 k) = BitVec.ofNat 32 (k.val / 64) := by
  decide +kernel

theorem query_chunk : ∀ s : Fin 64, val_main_v30 (F := Ideal) (ix2 s 0) = 16#32 := by
  decide +kernel

theorem chunk_le : ∀ k : Fin 1088, IntOp.cmpi .sle (BitVec.ofNat 32 (k.val / 64)) 16#32 = 1#1 := by
  decide +kernel

theorem allowed (b h : Fin 32) (s : Fin 64) (k : Fin 1088) : val_main_call2_v1 (F := Ideal) (ix4 b h s k) = 1#1 := by
  pointwise [val_main_call2_v1, val_main_v34, val_main_v33, val_main_v31, val_main_v32]
  rw [key_chunk k, query_chunk s]
  exact chunk_le k

end Cert.AttnRef
-- ==== Proof.AttnRef.lean ====
/-
  The sample attention of the reference at one index: the keys and queries joined, every key allowed, the softmax over all the
  keys, and the two products.
-/
module

public import proofs.«01_k».proof.Defs
public import proofs.«01_k».proof.Proof.Gen.Reference17Ideal.Read
public import proofs.«01_k».proof.Proof.AttnMask
public import Idealize.ShloMosaic.Lib.Pipeline.ValueKit
public import Idealize.ShloMosaic.Lib.Pointwise

@[expose] public section

set_option maxRecDepth 16384

noncomputable section

namespace Cert.AttnRef

open Cert.Reference17Ideal Cert.Reference17Ideal.Gen Idealize.ShloMosaic Idealize.ShloMosaic.TcCoe Idealize.SL.Sem
open Cert.Reference17Ideal.Read Cert.Soft

section

variable (x0 : FVec Ideal S32x10240x192 .bf16) (x1 : FVec Ideal S1x32x1024x512 .f32) (x2 : FVec Ideal S1x32x1024x64 .f32)
  (x3 : FVec Ideal S10240x512 .f32) (x4 : FVec Ideal S10240x64 .f32) (x5 x6 : FVec Ideal S1x512x32x128 .f32)
  (b h : Fin 32) (s : Fin 64)

/-- Row `s` of stream `b` among all the rows. -/
def row (b : Fin 32) (s : Fin 64) : Fin 10240 := ⟨8192 + 64 * b.val + s.val, by omega⟩

/-- A query, its absorbing weights, and the cached and the new keys. -/
def query (i : Fin 192) : EReal := x0 (ix3 h (row b s) i)
def absorb (c : Fin 512) (d : Fin 128) : EReal := x5 (ix4 0 c h d)
def oldKey (k : Fin 1024) (c : Fin 512) : EReal := x1 (ix4 0 b k c)
def oldRot (k : Fin 1024) (e : Fin 64) : EReal := x2 (ix4 0 b k e)
def newKey (k : Fin 64) (c : Fin 512) : EReal := x3 (ix2 (row b k) c)
def newRot (k : Fin 64) (e : Fin 64) : EReal := x4 (ix2 (row b k) e)

/-- The scores over the cached keys and over the new ones. -/
def oldScore (k : Fin 1024) : EReal := score (query x0 b h s) (absorb x5 h) (oldKey x1 b k) (oldRot x2 b k)
def newScore (k : Fin 64) : EReal := score (query x0 b h s) (absorb x5 h) (newKey x3 b k) (newRot x4 b k)

/-- What both programs compute. -/
def out (v : Fin 128) : EReal :=
  ∑ c : Fin 512, split (oldScore x0 x1 x2 x5 b h s) (newScore x0 x3 x4 x5 b h s) (oldKey x1 b · c) (newKey x3 b · c)
    * x6 (ix4 0 c h v)

theorem keys (k : Fin 1088) (c : Fin 512) :
    val_main_v9 (F := Ideal) x1 x3 (ix3 b k c) = join (oldKey x1 b · c) (newKey x3 b · c) k := by
  unfold join oldKey newKey row
  pointwise [val_main_v9, val_main_v6, val_main_v8, val_main_v7]
  simp only [Nat.add_assoc, Nat.mul_comm b.val 64]

theorem rots (k : Fin 1088) (e : Fin 64) :
    val_main_v13 (F := Ideal) x2 x4 (ix3 b k e) = join (oldRot x2 b · e) (newRot x4 b · e) k := by
  unfold join oldRot newRot row
  pointwise [val_main_v13, val_main_v10, val_main_v12, val_main_v11]
  simp only [Nat.add_assoc, Nat.mul_comm b.val 64]

theorem wholeKeys (k : Fin 1088) (x : Fin 576) :
    val_main_v19 (F := Ideal) x1 x2 x3 x4 (ix3 b k x)
      = join (fun c => val_main_v9 (F := Ideal) x1 x3 (ix3 b k c)) (fun e => val_main_v13 (F := Ideal) x2 x4 (ix3 b k e)) x := by
  unfold join
  pointwise [val_main_v19]
  done

theorem wholeQuery (x : Fin 576) :
    val_main_v18 (F := Ideal) x0 x5 (ix4 b s h x)
      = join (n := 512) (n' := 64) (fun c => ∑ d : Fin 128, query x0 b h s ⟨d.val, by omega⟩ * absorb x5 h c d)
          (fun e => query x0 b h s ⟨128 + e.val, by omega⟩) x := by
  unfold join query absorb row
  pointwise [val_main_v18, val_main_v17, val_main_v16, val_main_v15, val_main_v5, val_main_v4, val_main_v3, val_main_v2,
    val_main_v1, val_main_v0]
  simp only [Nat.add_assoc, Nat.mul_comm b.val 64, mul_comm (x5 _)]

theorem scores (k : Fin 1088) :
    val_main_v35 (F := Ideal) x0 x1 x2 x3 x4 x5 (ix4 b h s k) = join (oldScore x0 x1 x2 x5 b h s) (newScore x0 x3 x4 x5 b h s) k := by
  rw [val_main_v35_apply, allowed]
  pointwise [val_main_v26, val_main_v25, val_main_v24, val_main_v23, val_main_cst]
  have hb : ∀ x : Fin 576, val_main_v19 (F := Ideal) x1 x2 x3 x4 (ix3 b k x) * val_main_v18 (F := Ideal) x0 x5 (ix4 b s h x)
      = join (n := 512) (n' := 64) (fun c => ∑ d : Fin 128, query x0 b h s ⟨d.val, by omega⟩ * absorb x5 h c d)
          (fun e => query x0 b h s ⟨128 + e.val, by omega⟩) x
        * join (fun c => join (n := 1024) (n' := 64) (oldKey x1 b · c) (newKey x3 b · c) k)
            (fun e => join (n := 1024) (n' := 64) (oldRot x2 b · e) (newRot x4 b · e) k) x := by
    intro x
    rw [wholeKeys, wholeQuery, mul_comm]
    simp only [keys, rots]
  rw [Finset.sum_congr rfl fun x _ => hb x]
  refine (score_join (query x0 b h s) (absorb x5 h) _ _).trans ?_
  unfold join oldScore newScore
  split <;> rfl

theorem floor_apply : val_main_v37 (F := Ideal) (ix3 b h s) = negInf := by
  pointwise [val_main_v37, val_main_cst_4]

theorem top_apply :
    val_main_v38 (F := Ideal) x0 x1 x2 x3 x4 x5 (ix3 b h s)
      = top (join (n := 1024) (n' := 64) (oldScore x0 x1 x2 x5 b h s) (newScore x0 x3 x4 x5 b h s)) := by
  have h0 : val_main_v38 (F := Ideal) x0 x1 x2 x3 x4 x5 (ix3 b h s)
      = max negInf (top fun k : Fin 1088 => val_main_v35 (F := Ideal) x0 x1 x2 x3 x4 x5 (ix4 b h s k)) := by
    rw [val_main_v38_apply, floor_apply]
    unfold val_main_v36 val_main_cst_3
    generalize val_main_v35 (F := Ideal) x0 x1 x2 x3 x4 x5 = y
    rw [hostTop y]
    rfl
  rw [h0, negInf_eq, max_eq_right bot_le]
  exact congrArg (top (n := 1088)) (funext fun k => scores x0 x1 x2 x3 x4 x5 b h s k)

theorem exp_apply (k : Fin 1088) (z : EReal) (hz : val_main_v38 (F := Ideal) x0 x1 x2 x3 x4 x5 (ix3 b h s) = z) :
    val_main_v42 (F := Ideal) x0 x1 x2 x3 x4 x5 (ix4 b h s k)
      = Ideal.exp (val_main_v35 (F := Ideal) x0 x1 x2 x3 x4 x5 (ix4 b h s k) - z) := by
  rw [← hz]
  pointwise [val_main_v42, val_main_v41, val_main_v40, val_main_v39]

theorem weight_apply (k : Fin 1088) :
    val_main_v46 (F := Ideal) x0 x1 x2 x3 x4 x5 (ix4 b h s k)
      = Ideal.div (val_main_v42 (F := Ideal) x0 x1 x2 x3 x4 x5 (ix4 b h s k))
          (∑ k' : Fin 1088, val_main_v42 (F := Ideal) x0 x1 x2 x3 x4 x5 (ix4 b h s k')) := by
  pointwise [val_main_v46, val_main_v45, val_main_v44, val_main_v43, val_main_cst_5]

/-- The softmax's mean of the latents. -/
theorem latent (c : Fin 512) :
    val_main_v47 (F := Ideal) x0 x1 x2 x3 x4 x5 (ix4 b c h s)
      = mean (join (n := 1024) (n' := 64) (oldScore x0 x1 x2 x5 b h s) (newScore x0 x3 x4 x5 b h s))
          (join (oldKey x1 b · c) (newKey x3 b · c)) := by
  have h0 : val_main_v47 (F := Ideal) x0 x1 x2 x3 x4 x5 (ix4 b c h s)
      = ∑ k : Fin 1088, val_main_v9 (F := Ideal) x1 x3 (ix3 b k c) * val_main_v46 (F := Ideal) x0 x1 x2 x3 x4 x5 (ix4 b h s k) := by
    pointwise [val_main_v47]
  rw [h0]
  unfold mean
  refine Finset.sum_congr rfl fun k _ => ?_
  rw [mul_comm, keys, weight_apply]
  have hk := fun k : Fin 1088 => (exp_apply x0 x1 x2 x3 x4 x5 b h s k _ (top_apply x0 x1 x2 x3 x4 x5 b h s)).trans
    (congrArg (fun z => Ideal.exp (z - _)) (scores x0 x1 x2 x3 x4 x5 b h s k))
  rw [hk, Finset.sum_congr rfl fun k' _ => hk k']

theorem ref_apply (hm : ∀ c, mean (join (n := 1024) (n' := 64) (oldScore x0 x1 x2 x5 b h s) (newScore x0 x3 x4 x5 b h s))
      (join (oldKey x1 b · c) (newKey x3 b · c))
        = split (oldScore x0 x1 x2 x5 b h s) (newScore x0 x3 x4 x5 b h s) (oldKey x1 b · c) (newKey x3 b · c)) (v : Fin 128) :
    val_main_v53 (F := Ideal) x0 x1 x2 x3 x4 x5 x6 (ix2 ⟨64 * b.val + s.val, by omega⟩ ⟨128 * h.val + v.val, by omega⟩)
      = out x0 x1 x2 x3 x4 x5 x6 b h s v := by
  have e1 : (64 * b.val + s.val) / 64 = b.val := by omega
  have e2 : (64 * b.val + s.val) % 64 = s.val := by omega
  have e3 : (128 * h.val + v.val) / 128 = h.val := by omega
  have e4 : (128 * h.val + v.val) % 128 = v.val := by omega
  have h0 : val_main_v53 (F := Ideal) x0 x1 x2 x3 x4 x5 x6 (ix2 ⟨64 * b.val + s.val, by omega⟩ ⟨128 * h.val + v.val, by omega⟩)
      = ∑ c : Fin 512, x6 (ix4 0 c h v) * val_main_v47 (F := Ideal) x0 x1 x2 x3 x4 x5 (ix4 b c h s) := by
    pointwise [val_main_v53, val_main_v52, val_main_v51, val_main_v50, val_main_v49, val_main_v48]
  rw [h0]
  unfold out
  refine Finset.sum_congr rfl fun c _ => ?_
  rw [mul_comm, latent, hm]

end

end Cert.AttnRef
-- ==== Proof.AttnWin.lean ====
/-
  The sample attention's windows: which part of the arrays each block is.
-/
module

public import proofs.«01_k».proof.Proof.Gen.Kernel17Ideal.Value
public import proofs.«01_k».proof.Proof.AttnRef
public import Idealize.ShloMosaic.Lib.Pipeline.ValueKit
public import Idealize.ShloMosaic.Lib.Pointwise

@[expose] public section

set_option maxRecDepth 16384

noncomputable section

namespace Cert.AttnWin

open Cert.Kernel17Ideal Cert.Kernel17Ideal.Gen Idealize.ShloMosaic Idealize.ShloMosaic.TcCoe Idealize.SL.Sem
open Cert.AttnRef (row)

variable (m : (ℓ : Loc nD τ sig) → Buf (Elt Ideal) ℓ) (c : Dev nD)

theorem lt_points (t : Fin cfg0.N) : t.val < 128 := t.isLt

/-- The stream of a grid point, and its heads. -/
def stream (t : Fin cfg0.N) : Fin 32 := ⟨t.val / 4, by have := lt_points t; omega⟩
def head (t : Fin cfg0.N) (i : Fin 8) : Fin 32 := ⟨t.val % 4 * 8 + i.val, by omega⟩

theorem idx : ∀ t : Fin cfg0.N, win0_0.index t = ![t.val % 4, 128 + t.val / 4, 0] ∧ win0_1.index t = ![t.val / 4, 0, 0]
    ∧ win0_2.index t = ![t.val / 4, 0, 0] ∧ win0_3.index t = ![128 + t.val / 4, 0] ∧ win0_4.index t = ![128 + t.val / 4, 0]
    ∧ win0_5.index t = ![t.val % 4, 0, 0] ∧ win0_6.index t = ![t.val % 4, 0, 0] ∧ win0_7.index t = ![t.val / 4, t.val % 4] :=
  (by decide +kernel : ∀ t : Fin grid0.N, _)

theorem queries (t : Fin cfg0.N) (i : Fin 8) (p : Fin 64) (x : Fin 192) :
    iblk m c 0 t (ix3 i p x) = (m ((c : Thread nD τ).loc main_arg0)) (ix3 (head t i) (row (stream t) p) x) := by
  unfold head row stream
  blk_ext [iblk, V, idx t]

theorem newKeys (t : Fin cfg0.N) (k : Fin 64) (d : Fin 512) :
    iblk m c 3 t (ix2 k d) = (m ((c : Thread nD τ).loc main_arg3)) (ix2 (row (stream t) k) d) := by
  unfold row stream
  blk_ext [iblk, V, idx t]

theorem newRots (t : Fin cfg0.N) (k : Fin 64) (e : Fin 64) :
    iblk m c 4 t (ix2 k e) = (m ((c : Thread nD τ).loc main_arg4)) (ix2 (row (stream t) k) e) := by
  unfold row stream
  blk_ext [iblk, V, idx t]

theorem oldKeys (t : Fin cfg0.N) (z : Fin 1) (k : Fin 1024) (d : Fin 512) :
    iblk m c 1 t (ix3 z k d) = (m ((c : Thread nD τ).loc main_arg1)) (ix4 0 (stream t) k d) := by
  unfold stream
  blk_simp [iblk]
  entry_read
  pointwise
  blk_ext [idx t]

theorem oldRots (t : Fin cfg0.N) (z : Fin 1) (k : Fin 1024) (e : Fin 64) :
    iblk m c 2 t (ix3 z k e) = (m ((c : Thread nD τ).loc main_arg2)) (ix4 0 (stream t) k e) := by
  unfold stream
  blk_simp [iblk]
  entry_read
  pointwise
  blk_ext [idx t]

theorem absorbing (t : Fin cfg0.N) (i : Fin 8) (d : Fin 512) (v : Fin 128) :
    iblk m c 5 t (ix3 i d v) = (m ((c : Thread nD τ).loc main_arg5)) (ix4 0 d (head t i) v) := by
  unfold head
  blk_simp [iblk]
  entry_read
  pointwise
  blk_ext [idx t]

theorem values (t : Fin cfg0.N) (i : Fin 8) (d : Fin 512) (v : Fin 128) :
    iblk m c 6 t (ix3 i d v) = (m ((c : Thread nD τ).loc main_arg6)) (ix4 0 d (head t i) v) := by
  unfold head
  blk_simp [iblk]
  entry_read
  pointwise
  blk_ext [idx t]

end Cert.AttnWin
-- ==== Proof.AttnPre.lean ====
/-
  The precondition of the sample attention: where it holds, the numbers the scores are made of are real numbers.
-/
module

public import proofs.«01_k».proof.Defs
public import proofs.«01_k».proof.Proof.Soft

@[expose] public section

set_option maxRecDepth 16384

noncomputable section

namespace Cert.AttnPre

open Idealize.ShloMosaic Cert.Soft

theorem facts : Cert.Pre_finite.Facts where
  bitsLt_bf16_f32 := by decide
  bcast_S_S32x10240x192 := by decide
  bcast_S_S1x32x1024x512 := by decide
  bcast_S_S1x32x1024x64 := by decide
  bcast_S_S10240x512 := by decide
  bcast_S_S10240x64 := by decide
  bcast_S_S1x512x32x128 := by decide

theorem inf_eq : Ideal.ofBits FTy.f32 0x7F800000#32 = ⊤ := by
  simp [Ideal.ofBits, Ideal.ieee]

/-- A magnitude below infinity is a real number's. -/
theorem real_of {x : EReal} (h : Ideal.cmp .olt (max x (-x)) (Ideal.ofBits FTy.f32 0x7F800000#32) = 1#1) : IsReal x := by
  rw [inf_eq] at h
  have hlt : max x (-x) < ⊤ := by
    by_contra hn
    unfold Ideal.cmp at h
    simp only [hn, decide_false] at h
    exact absurd h (by decide)
  refine isReal_of (fun e => ?_) (fun e => ?_)
  · subst e
    exact absurd hlt (by simp)
  · subst e
    exact absurd hlt (by simp)

variable [hPre_finite : Cert.Pre_finite.Facts] (m : (ℓ : Loc Cert.Kernel17Ideal.nD Cert.Kernel17Ideal.τ Cert.Kernel17Ideal.sig) → Buf (Elt Ideal) ℓ)

theorem arg0 (h : Pre_Kernel17Ideal_finite m) (c : Dev Cert.Kernel17Ideal.nD) (y) :
    IsReal (m ((c.tc : Thread Cert.Kernel17Ideal.nD Cert.Kernel17Ideal.τ).loc Cert.Kernel17Ideal.main_arg0) y) :=
  real_of (congrFun (h c).1 y)
theorem arg1 (h : Pre_Kernel17Ideal_finite m) (c : Dev Cert.Kernel17Ideal.nD) (y) :
    IsReal (m ((c.tc : Thread Cert.Kernel17Ideal.nD Cert.Kernel17Ideal.τ).loc Cert.Kernel17Ideal.main_arg1) y) :=
  real_of (congrFun (h c).2.1 y)
theorem arg2 (h : Pre_Kernel17Ideal_finite m) (c : Dev Cert.Kernel17Ideal.nD) (y) :
    IsReal (m ((c.tc : Thread Cert.Kernel17Ideal.nD Cert.Kernel17Ideal.τ).loc Cert.Kernel17Ideal.main_arg2) y) :=
  real_of (congrFun (h c).2.2.1 y)
theorem arg3 (h : Pre_Kernel17Ideal_finite m) (c : Dev Cert.Kernel17Ideal.nD) (y) :
    IsReal (m ((c.tc : Thread Cert.Kernel17Ideal.nD Cert.Kernel17Ideal.τ).loc Cert.Kernel17Ideal.main_arg3) y) :=
  real_of (congrFun (h c).2.2.2.1 y)
theorem arg4 (h : Pre_Kernel17Ideal_finite m) (c : Dev Cert.Kernel17Ideal.nD) (y) :
    IsReal (m ((c.tc : Thread Cert.Kernel17Ideal.nD Cert.Kernel17Ideal.τ).loc Cert.Kernel17Ideal.main_arg4) y) :=
  real_of (congrFun (h c).2.2.2.2.1 y)
theorem arg5 (h : Pre_Kernel17Ideal_finite m) (c : Dev Cert.Kernel17Ideal.nD) (y) :
    IsReal (m ((c.tc : Thread Cert.Kernel17Ideal.nD Cert.Kernel17Ideal.τ).loc Cert.Kernel17Ideal.main_arg5) y) :=
  real_of (congrFun (h c).2.2.2.2.2 y)

end Cert.AttnPre
-- ==== Proof.AttnSample.lean ====
/-
  The sample attention: the kernel's result array is the reference's, where the numbers the scores are made of are finite.
-/
module

public import proofs.«01_k».proof.Defs
public import proofs.«01_k».proof.Proof.AttnHead
public import proofs.«01_k».proof.Proof.AttnWin
public import proofs.«01_k».proof.Proof.AttnPre
public import proofs.«01_k».proof.Proof.Gen.Reference17Ideal.Run
public import Idealize.ShloMosaic.Lib.Claim

@[expose] public section

set_option maxRecDepth 16384

noncomputable section

namespace Cert.AttnSample

open Cert.Kernel17Ideal Cert.Kernel17Ideal.Gen Idealize.ShloMosaic Idealize.ShloMosaic.TcCoe Idealize.SL.Sem
open Cert.Reference17Ideal.Read Cert.AttnWin

variable (m : (ℓ : Loc nD τ sig) → Buf (Elt Ideal) ℓ) (c : Dev nD)

/-- What both programs compute at one index of the output block. -/
theorem out_eq (t : Fin cfg0.N) (i : Fin 8) (p : Fin 64) (v : Fin 128) :
    outsAt0 m c t (ix2 p ⟨128 * i.val + v.val, by omega⟩)
      = AttnRef.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (stream t) (head t i) p v := by
  rw [AttnBlk.out_eq]
  refine (AttnBlk.out_apply _ i _ p v).trans ?_
  unfold AttnRef.out AttnRef.oldScore AttnRef.newScore AttnRef.query AttnRef.absorb AttnRef.oldKey AttnRef.oldRot AttnRef.newKey
    AttnRef.newRot
  refine Finset.sum_congr rfl fun d _ => ?_
  rw [AttnBlk.mean_apply]
  simp only [queries, oldKeys, oldRots, newKeys, newRots, absorbing, values]

/-- The reference's softmax over all the keys is the kernel's, the scores being real numbers. -/
theorem mean_eq [Cert.Pre_finite.Facts] (h : Pre_Kernel17Ideal_finite m) (b hd : Fin 32) (s : Fin 64) (d : Fin 512) :
    Soft.mean
        (Soft.join (n := 1024) (n' := 64)
          (AttnRef.oldScore (m ((c : Thread nD τ).loc main_arg0)) (m ((c : Thread nD τ).loc main_arg1))
            (m ((c : Thread nD τ).loc main_arg2)) (m ((c : Thread nD τ).loc main_arg5)) b hd s)
          (AttnRef.newScore (m ((c : Thread nD τ).loc main_arg0)) (m ((c : Thread nD τ).loc main_arg3))
            (m ((c : Thread nD τ).loc main_arg4)) (m ((c : Thread nD τ).loc main_arg5)) b hd s))
        (Soft.join (AttnRef.oldKey (m ((c : Thread nD τ).loc main_arg1)) b · d) (AttnRef.newKey (m ((c : Thread nD τ).loc main_arg3)) b · d))
      = Soft.split
          (AttnRef.oldScore (m ((c : Thread nD τ).loc main_arg0)) (m ((c : Thread nD τ).loc main_arg1))
            (m ((c : Thread nD τ).loc main_arg2)) (m ((c : Thread nD τ).loc main_arg5)) b hd s)
          (AttnRef.newScore (m ((c : Thread nD τ).loc main_arg0)) (m ((c : Thread nD τ).loc main_arg3))
            (m ((c : Thread nD τ).loc main_arg4)) (m ((c : Thread nD τ).loc main_arg5)) b hd s)
          (AttnRef.oldKey (m ((c : Thread nD τ).loc main_arg1)) b · d) (AttnRef.newKey (m ((c : Thread nD τ).loc main_arg3)) b · d) := by
  refine Soft.mean_join _ _ _ _ ⟨0, by decide⟩ (fun k => ?_) (fun k => ?_)
  · exact Soft.score_real (fun x => AttnPre.arg0 m h c _) (fun x y => AttnPre.arg5 m h c _) (fun x => AttnPre.arg1 m h c _)
      (fun x => AttnPre.arg2 m h c _)
  · exact Soft.score_real (fun x => AttnPre.arg0 m h c _) (fun x y => AttnPre.arg5 m h c _) (fun x => AttnPre.arg3 m h c _)
      (fun x => AttnPre.arg4 m h c _)

theorem final [Cert.Pre_finite.Facts] (h : Pre_Kernel17Ideal_finite m) : (dats m 0 c).arrAt 7 cfg0.N
    = val_main_v53 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 7 _ (by decide +kernel) fun t _ y => ?_
  blk_simp
  rw [after0_7]
  obtain ⟨p, i, v, rfl⟩ : ∃ (p : Fin 64) (i : Fin 8) (v : Fin 128), y = ix2 p ⟨128 * i.val + v.val, by omega⟩ := by
    have h1 : (y 1).val < 1024 := (y 1).isLt
    refine ⟨y 0, ⟨(y 1).val / 128, by omega⟩, ⟨(y 1).val % 128, by omega⟩, ?_⟩
    funext a
    fin_cases a
    · rfl
    · refine Fin.ext ?_
      change (y 1).val = 128 * ((y 1).val / 128) + (y 1).val % 128
      omega
  have ht := lt_points t
  have he : ((cfg0.win 7).blk t).view.emb (ix2 p ⟨128 * i.val + v.val, by omega⟩)
      = (ix2 ⟨64 * (stream t).val + p.val, by omega⟩ ⟨128 * (head t i).val + v.val, by omega⟩ : S2048x4096.Idx) := by
    unfold stream head
    blk_ext [idx t]
  rw [he, AttnRef.ref_apply _ _ _ _ _ _ _ _ _ _ (fun d => mean_eq m c h _ _ _ d)]
  exact out_eq m c t i p v

theorem algebraic [Cert.Kernel17Ideal.Facts] [Cert.Reference17Ideal.Facts] [Cert.Pre_finite.Facts] :
    Cert.algebraic_Kernel17Ideal_Reference17Ideal_pre_finite := by
  intro m g m' g' hpre hagree
  refine ⟨fun c => (dats m 0 c).arrAt 7 cfg0.N, Cert.Kernel17Ideal.Value.run_blocks m g, ?_⟩
  refine (θ_run _ _ _).mono (fun r h c => ?_) (Cert.Reference17Ideal.Value.run m' g')
  obtain ⟨a0, a1, a2, a3, a4, a5, a6⟩ := hagree c
  obtain ⟨h0, kept⟩ := h c
  refine ⟨(h0.trans (Cert.Reference17Ideal.Read.val_main_v53_eq ..)).trans ?_, kept⟩
  rw [a0, a1, a2, a3, a4, a5, a6]
  exact (final m c hpre).symm

end Cert.AttnSample
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.SampleClaim
public import proofs.«01_k».proof.Proof.PromptClaim
public import proofs.«01_k».proof.Proof.InMlstm
public import proofs.«01_k».proof.Proof.InGates
public import proofs.«01_k».proof.Proof.InSmall
public import proofs.«01_k».proof.Proof.BranchM
public import proofs.«01_k».proof.Proof.BranchA
public import proofs.«01_k».proof.Proof.Out
public import proofs.«01_k».proof.Proof.PeerQ
public import proofs.«01_k».proof.Proof.QUp
public import proofs.«01_k».proof.Proof.Adaln
public import proofs.«01_k».proof.Proof.SmallPost
public import proofs.«01_k».proof.Proof.Norm1
public import proofs.«01_k».proof.Proof.Norm2
public import proofs.«01_k».proof.Proof.FinalPrompt
public import proofs.«01_k».proof.Proof.FinalSample
public import proofs.«01_k».proof.Proof.AttnSample
public import Idealize.ShloMosaic.Adequacy
public import Idealize.ShloMosaic.Init
public import Idealize.ShloMosaic.Lib.Quiescent

@[expose] public section

noncomputable section

namespace Cert.Proof

open Idealize.ShloMosaic Idealize.SL.Sem Cert.Kernel

theorem claim : Cert.Claim := ⟨
  Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts,
  Cert.Kernel10Ideal.Gen.facts, Cert.Reference10Ideal.Gen.facts, Cert.Kernel11.Gen.facts,
  Cert.Kernel11Ideal.Gen.facts, Cert.Reference11Ideal.Gen.facts, Cert.Kernel12.Gen.facts,
  Cert.Kernel12Ideal.Gen.facts, Cert.Reference12Ideal.Gen.facts, Cert.Kernel13.Gen.facts,
  Cert.Kernel13Ideal.Gen.facts, Cert.Reference13Ideal.Gen.facts, Cert.Kernel14.Gen.facts,
  Cert.Kernel14Ideal.Gen.facts, Cert.Reference14Ideal.Gen.facts, Cert.Kernel15.Gen.facts,
  Cert.Kernel15Ideal.Gen.facts, Cert.Reference15Ideal.Gen.facts, Cert.Kernel16.Gen.facts,
  Cert.Kernel16Ideal.Gen.facts, Cert.Reference16Ideal.Gen.facts, Cert.Kernel17.Gen.facts,
  Cert.Kernel17Ideal.Gen.facts, Cert.Reference17Ideal.Gen.facts, Cert.AttnPre.facts,
  fun m ρ _ => Cert.Kernel.Gen.frame m ρ, fun m ρ _ => Cert.KernelIdeal.Gen.frame m ρ,
  fun m g _ => (θ_run Cert.ReferenceIdeal.defs _ _).mono (fun r h => ⟨fun c => (h c).2.2.2.2, sem_eq_zero_of_no_sems rfl r.2⟩)
    (Cert.ReferenceIdeal.Value.run m g),
  fun m ρ _ => Cert.Kernel2.Gen.frame m ρ, fun m ρ _ => Cert.Kernel2Ideal.Gen.frame m ρ,
  fun m g _ => (θ_run Cert.Reference2Ideal.defs _ _).mono (fun r h => ⟨fun c => (h c).2.2.2.2, sem_eq_zero_of_no_sems rfl r.2⟩)
    (Cert.Reference2Ideal.Value.run m g),
  fun m ρ _ => Cert.Kernel3.Gen.frame m ρ, fun m ρ _ => Cert.Kernel3Ideal.Gen.frame m ρ,
  fun m g _ => (θ_run Cert.Reference3Ideal.defs _ _).mono (fun r h => ⟨fun c => (h c).2, sem_eq_zero_of_no_sems rfl r.2⟩)
    (Cert.Reference3Ideal.Value.run m g),
  fun m ρ _ => Cert.Kernel4.Gen.frame m ρ, fun m ρ _ => Cert.Kernel4Ideal.Gen.frame m ρ,
  fun m g _ => (θ_run Cert.Reference4Ideal.defs _ _).mono (fun r h => ⟨fun c => (h c).2, sem_eq_zero_of_no_sems rfl r.2⟩)
    (Cert.Reference4Ideal.Value.run m g),
  fun m ρ _ => Cert.Kernel5.Gen.frame m ρ, fun m ρ _ => Cert.Kernel5Ideal.Gen.frame m ρ,
  fun m g _ => (θ_run Cert.Reference5Ideal.defs _ _).mono (fun r h => ⟨fun c => (h c).2, sem_eq_zero_of_no_sems rfl r.2⟩)
    (Cert.Reference5Ideal.Value.run m g),
  fun m ρ _ => Cert.Kernel6.Gen.frame m ρ, fun m ρ _ => Cert.Kernel6Ideal.Gen.frame m ρ,
  fun m g _ => (θ_run Cert.Reference6Ideal.defs _ _).mono (fun r h => ⟨fun c => (h c).2, sem_eq_zero_of_no_sems rfl r.2⟩)
    (Cert.Reference6Ideal.Value.run m g),
  fun m ρ _ => Cert.Kernel7.Gen.frame m ρ, fun m ρ _ => Cert.Kernel7Ideal.Gen.frame m ρ,
  fun m g _ => (θ_run Cert.Reference7Ideal.defs _ _).mono (fun r h => ⟨fun c => (h c).2, sem_eq_zero_of_no_sems rfl r.2⟩)
    (Cert.Reference7Ideal.Value.run m g),
  fun m ρ _ => Cert.Kernel8.Gen.frame m ρ, fun m ρ _ => Cert.Kernel8Ideal.Gen.frame m ρ,
  fun m g _ => (θ_run Cert.Reference8Ideal.defs _ _).mono (fun r h => ⟨fun c => (h c).2, sem_eq_zero_of_no_sems rfl r.2⟩)
    (Cert.Reference8Ideal.Value.run m g),
  fun m ρ _ => Cert.Kernel9.Gen.frame m ρ, fun m ρ _ => Cert.Kernel9Ideal.Gen.frame m ρ,
  fun m g _ => (θ_run Cert.Reference9Ideal.defs _ _).mono (fun r h => ⟨fun c => (h c).2, sem_eq_zero_of_no_sems rfl r.2⟩)
    (Cert.Reference9Ideal.Value.run m g),
  fun m ρ _ => Cert.Kernel10.Gen.frame m ρ, fun m ρ _ => Cert.Kernel10Ideal.Gen.frame m ρ,
  fun m g _ => (θ_run Cert.Reference10Ideal.defs _ _).mono (fun r h => ⟨fun c => (h c).2, sem_eq_zero_of_no_sems rfl r.2⟩)
    (Cert.Reference10Ideal.Value.run m g),
  fun m ρ _ => Cert.Kernel11.Gen.frame m ρ, fun m ρ _ => Cert.Kernel11Ideal.Gen.frame m ρ,
  fun m g _ => (θ_run Cert.Reference11Ideal.defs _ _).mono (fun r h => ⟨fun c => (h c).2, sem_eq_zero_of_no_sems rfl r.2⟩)
    (Cert.Reference11Ideal.Value.run m g),
  fun m ρ _ => Cert.Kernel12.Gen.frame m ρ, fun m ρ _ => Cert.Kernel12Ideal.Gen.frame m ρ,
  fun m g _ => (θ_run Cert.Reference12Ideal.defs _ _).mono (fun r h => ⟨fun c => (h c).2.2.2.2, sem_eq_zero_of_no_sems rfl r.2⟩)
    (Cert.Reference12Ideal.Value.run m g),
  fun m ρ _ => Cert.Kernel13.Gen.frame m ρ, fun m ρ _ => Cert.Kernel13Ideal.Gen.frame m ρ,
  fun m g _ => (θ_run Cert.Reference13Ideal.defs _ _).mono (fun r h => ⟨fun c => (h c).2, sem_eq_zero_of_no_sems rfl r.2⟩)
    (Cert.Reference13Ideal.Value.run m g),
  fun m ρ _ => Cert.Kernel14.Gen.frame m ρ, fun m ρ _ => Cert.Kernel14Ideal.Gen.frame m ρ,
  fun m g _ => (θ_run Cert.Reference14Ideal.defs _ _).mono (fun r h => ⟨fun c => (h c).2.2.2, sem_eq_zero_of_no_sems rfl r.2⟩)
    (Cert.Reference14Ideal.Value.run m g),
  fun m ρ _ => Cert.Kernel15.Gen.frame m ρ, fun m ρ _ => Cert.Kernel15Ideal.Gen.frame m ρ,
  fun m g _ => (θ_run Cert.Reference15Ideal.defs _ _).mono (fun r h => ⟨fun c => (h c).2, sem_eq_zero_of_no_sems rfl r.2⟩)
    (Cert.Reference15Ideal.Value.run m g),
  fun m ρ _ => Cert.Kernel16.Gen.frame m ρ, fun m ρ _ => Cert.Kernel16Ideal.Gen.frame m ρ,
  fun m g _ => (θ_run Cert.Reference16Ideal.defs _ _).mono (fun r h => ⟨fun c => (h c).2, sem_eq_zero_of_no_sems rfl r.2⟩)
    (Cert.Reference16Ideal.Value.run m g),
  fun m ρ _ => Cert.Kernel17.Gen.frame m ρ, fun m ρ _ => Cert.Kernel17Ideal.Gen.frame m ρ,
  fun m ρ _ => Cert.Kernel17Ideal.Gen.frame m ρ,
  fun m g _ => (θ_run Cert.Reference17Ideal.defs _ _).mono (fun r h => ⟨fun c => (h c).2, sem_eq_zero_of_no_sems rfl r.2⟩)
    (Cert.Reference17Ideal.Value.run m g),
  fun m g _ => (θ_run Cert.Reference17Ideal.defs _ _).mono (fun r h => ⟨fun c => (h c).2, sem_eq_zero_of_no_sems rfl r.2⟩)
    (Cert.Reference17Ideal.Value.run m g),
  trivial, Cert.KerSample.algebraic, trivial, Cert.KerPrompt.algebraic, trivial, Cert.InMlstm.algebraic, trivial,
  Cert.InGates.algebraic, trivial, Cert.InSmall.algebraic, trivial, Cert.BranchM.algebraic, trivial,
  Cert.BranchA.algebraic, trivial, Cert.Out.algebraic, trivial, Cert.PeerQ.algebraic, trivial, Cert.QUp.algebraic,
  trivial, Cert.Adaln.algebraic, trivial, Cert.SmallPost.algebraic, trivial, Cert.Norm1.algebraic, trivial,
  Cert.Norm2.algebraic, trivial, Cert.FinalPrompt.algebraic, trivial, Cert.FinalSample.algebraic,
  trivial, @Cert.AttnSample.algebraic _ _ Cert.AttnPre.facts⟩

end Cert.Proof

end
